-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_HiddenGrad (m : (ℓ : Loc Cert.HiddenGrad.nD Cert.HiddenGrad.τ Cert.HiddenGrad.sig) → Buf (Elt Bits) ℓ) : Prop :=
  True

def Pre_HiddenGradIdeal (m : (ℓ : Loc Cert.HiddenGradIdeal.nD Cert.HiddenGradIdeal.τ Cert.HiddenGradIdeal.sig) → Buf (Elt Ideal) ℓ) : Prop :=
  True

def Pre_HiddenGradReferenceIdeal (m : (ℓ : Loc Cert.HiddenGradReferenceIdeal.nD Cert.HiddenGradReferenceIdeal.τ Cert.HiddenGradReferenceIdeal.sig) → Buf (Elt Ideal) ℓ) : Prop :=
  True

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradReferenceIdeal (m : (ℓ : Loc Cert.InputGradReferenceIdeal.nD Cert.InputGradReferenceIdeal.τ Cert.InputGradReferenceIdeal.sig) → Buf (Elt Ideal) ℓ) : Prop :=
  True

def Pre_InWeightGrad (m : (ℓ : Loc Cert.InWeightGrad.nD Cert.InWeightGrad.τ Cert.InWeightGrad.sig) → Buf (Elt Bits) ℓ) : Prop :=
  True

def Pre_InWeightGradIdeal (m : (ℓ : Loc Cert.InWeightGradIdeal.nD Cert.InWeightGradIdeal.τ Cert.InWeightGradIdeal.sig) → Buf (Elt Ideal) ℓ) : Prop :=
  True

def Pre_InWeightGradReferenceIdeal (m : (ℓ : Loc Cert.InWeightGradReferenceIdeal.nD Cert.InWeightGradReferenceIdeal.τ Cert.InWeightGradReferenceIdeal.sig) → Buf (Elt Ideal) ℓ) : Prop :=
  True

def Pre_OutWeightGrad (m : (ℓ : Loc Cert.OutWeightGrad.nD Cert.OutWeightGrad.τ Cert.OutWeightGrad.sig) → Buf (Elt Bits) ℓ) : Prop :=
  True

def Pre_OutWeightGradIdeal (m : (ℓ : Loc Cert.OutWeightGradIdeal.nD Cert.OutWeightGradIdeal.τ Cert.OutWeightGradIdeal.sig) → Buf (Elt Ideal) ℓ) : Prop :=
  True

def Pre_OutWeightGradReferenceIdeal (m : (ℓ : Loc Cert.OutWeightGradReferenceIdeal.nD Cert.OutWeightGradReferenceIdeal.τ Cert.OutWeightGradReferenceIdeal.sig) → Buf (Elt Ideal) ℓ) : Prop :=
  True

def Pre_OutWeightGrads (m : (ℓ : Loc Cert.OutWeightGrads.nD Cert.OutWeightGrads.τ Cert.OutWeightGrads.sig) → Buf (Elt Bits) ℓ) : Prop :=
  True

def Pre_OutWeightGradsIdeal (m : (ℓ : Loc Cert.OutWeightGradsIdeal.nD Cert.OutWeightGradsIdeal.τ Cert.OutWeightGradsIdeal.sig) → Buf (Elt Ideal) ℓ) : Prop :=
  True

def Pre_OutWeightGradsReferenceIdeal (m : (ℓ : Loc Cert.OutWeightGradsReferenceIdeal.nD Cert.OutWeightGradsReferenceIdeal.τ Cert.OutWeightGradsReferenceIdeal.sig) → Buf (Elt Ideal) ℓ) : Prop :=
  True

def Pre_AttentionGrad (m : (ℓ : Loc Cert.AttentionGrad.nD Cert.AttentionGrad.τ Cert.AttentionGrad.sig) → Buf (Elt Bits) ℓ) : Prop :=
  True

def Pre_AttentionGradIdeal (m : (ℓ : Loc Cert.AttentionGradIdeal.nD Cert.AttentionGradIdeal.τ Cert.AttentionGradIdeal.sig) → Buf (Elt Ideal) ℓ) : Prop :=
  True

def Pre_AttentionGradReferenceIdeal (m : (ℓ : Loc Cert.AttentionGradReferenceIdeal.nD Cert.AttentionGradReferenceIdeal.τ Cert.AttentionGradReferenceIdeal.sig) → Buf (Elt Ideal) ℓ) : Prop :=
  True

def Pre_MixersGrad (m : (ℓ : Loc Cert.MixersGrad.nD Cert.MixersGrad.τ Cert.MixersGrad.sig) → Buf (Elt Bits) ℓ) : Prop :=
  True

def Pre_MixersGradIdeal (m : (ℓ : Loc Cert.MixersGradIdeal.nD Cert.MixersGradIdeal.τ Cert.MixersGradIdeal.sig) → Buf (Elt Ideal) ℓ) : Prop :=
  True

def Pre_MixersGradReferenceIdeal (m : (ℓ : Loc Cert.MixersGradReferenceIdeal.nD Cert.MixersGradReferenceIdeal.τ Cert.MixersGradReferenceIdeal.sig) → Buf (Elt Ideal) ℓ) : Prop :=
  True

def Pre_QkvWeightGrad (m : (ℓ : Loc Cert.QkvWeightGrad.nD Cert.QkvWeightGrad.τ Cert.QkvWeightGrad.sig) → Buf (Elt Bits) ℓ) : Prop :=
  True

def Pre_QkvWeightGradIdeal (m : (ℓ : Loc Cert.QkvWeightGradIdeal.nD Cert.QkvWeightGradIdeal.τ Cert.QkvWeightGradIdeal.sig) → Buf (Elt Ideal) ℓ) : Prop :=
  True

def Pre_QkvWeightGradReferenceIdeal (m : (ℓ : Loc Cert.QkvWeightGradReferenceIdeal.nD Cert.QkvWeightGradReferenceIdeal.τ Cert.QkvWeightGradReferenceIdeal.sig) → Buf (Elt Ideal) ℓ) : Prop :=
  True

def Pre_QkvGrad (m : (ℓ : Loc Cert.QkvGrad.nD Cert.QkvGrad.τ Cert.QkvGrad.sig) → Buf (Elt Bits) ℓ) : Prop :=
  True

def Pre_QkvGradIdeal (m : (ℓ : Loc Cert.QkvGradIdeal.nD Cert.QkvGradIdeal.τ Cert.QkvGradIdeal.sig) → Buf (Elt Ideal) ℓ) : Prop :=
  True

def Pre_QkvGradReferenceIdeal (m : (ℓ : Loc Cert.QkvGradReferenceIdeal.nD Cert.QkvGradReferenceIdeal.τ Cert.QkvGradReferenceIdeal.sig) → Buf (Elt Ideal) ℓ) : Prop :=
  True

def Pre_MixWeightGrad (m : (ℓ : Loc Cert.MixWeightGrad.nD Cert.MixWeightGrad.τ Cert.MixWeightGrad.sig) → Buf (Elt Bits) ℓ) : Prop :=
  True

def Pre_MixWeightGradIdeal (m : (ℓ : Loc Cert.MixWeightGradIdeal.nD Cert.MixWeightGradIdeal.τ Cert.MixWeightGradIdeal.sig) → Buf (Elt Ideal) ℓ) : Prop :=
  True

def Pre_MixWeightGradReferenceIdeal (m : (ℓ : Loc Cert.MixWeightGradReferenceIdeal.nD Cert.MixWeightGradReferenceIdeal.τ Cert.MixWeightGradReferenceIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradReferenceIdeal (m : (ℓ : Loc Cert.MixGradReferenceIdeal.nD Cert.MixGradReferenceIdeal.τ Cert.MixGradReferenceIdeal.sig) → Buf (Elt Ideal) ℓ) : Prop :=
  True

def Pre_HiddenOf (m : (ℓ : Loc Cert.HiddenOf.nD Cert.HiddenOf.τ Cert.HiddenOf.sig) → Buf (Elt Bits) ℓ) : Prop :=
  True

def Pre_HiddenOfIdeal (m : (ℓ : Loc Cert.HiddenOfIdeal.nD Cert.HiddenOfIdeal.τ Cert.HiddenOfIdeal.sig) → Buf (Elt Ideal) ℓ) : Prop :=
  True

def Pre_HiddenOfReferenceIdeal (m : (ℓ : Loc Cert.HiddenOfReferenceIdeal.nD Cert.HiddenOfReferenceIdeal.τ Cert.HiddenOfReferenceIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutReferenceIdeal (m : (ℓ : Loc Cert.MlpOutReferenceIdeal.nD Cert.MlpOutReferenceIdeal.τ Cert.MlpOutReferenceIdeal.sig) → Buf (Elt Ideal) ℓ) : Prop :=
  True

def Pre_QkvOf (m : (ℓ : Loc Cert.QkvOf.nD Cert.QkvOf.τ Cert.QkvOf.sig) → Buf (Elt Bits) ℓ) : Prop :=
  True

def Pre_QkvOfIdeal (m : (ℓ : Loc Cert.QkvOfIdeal.nD Cert.QkvOfIdeal.τ Cert.QkvOfIdeal.sig) → Buf (Elt Ideal) ℓ) : Prop :=
  True

def Pre_QkvOfReferenceIdeal (m : (ℓ : Loc Cert.QkvOfReferenceIdeal.nD Cert.QkvOfReferenceIdeal.τ Cert.QkvOfReferenceIdeal.sig) → Buf (Elt Ideal) ℓ) : Prop :=
  True

def Pre_MixOf (m : (ℓ : Loc Cert.MixOf.nD Cert.MixOf.τ Cert.MixOf.sig) → Buf (Elt Bits) ℓ) : Prop :=
  True

def Pre_MixOfIdeal (m : (ℓ : Loc Cert.MixOfIdeal.nD Cert.MixOfIdeal.τ Cert.MixOfIdeal.sig) → Buf (Elt Ideal) ℓ) : Prop :=
  True

def Pre_MixOfReferenceIdeal (m : (ℓ : Loc Cert.MixOfReferenceIdeal.nD Cert.MixOfReferenceIdeal.τ Cert.MixOfReferenceIdeal.sig) → Buf (Elt Ideal) ℓ) : Prop :=
  True

def Pre_OutOf (m : (ℓ : Loc Cert.OutOf.nD Cert.OutOf.τ Cert.OutOf.sig) → Buf (Elt Bits) ℓ) : Prop :=
  True

def Pre_OutOfIdeal (m : (ℓ : Loc Cert.OutOfIdeal.nD Cert.OutOfIdeal.τ Cert.OutOfIdeal.sig) → Buf (Elt Ideal) ℓ) : Prop :=
  True

def Pre_OutOfReferenceIdeal (m : (ℓ : Loc Cert.OutOfReferenceIdeal.nD Cert.OutOfReferenceIdeal.τ Cert.OutOfReferenceIdeal.sig) → Buf (Elt Ideal) ℓ) : Prop :=
  True

def Pre_NormOf (m : (ℓ : Loc Cert.NormOf.nD Cert.NormOf.τ Cert.NormOf.sig) → Buf (Elt Bits) ℓ) : Prop :=
  True

def Pre_NormOfIdeal (m : (ℓ : Loc Cert.NormOfIdeal.nD Cert.NormOfIdeal.τ Cert.NormOfIdeal.sig) → Buf (Elt Ideal) ℓ) : Prop :=
  True

def Pre_NormOfReferenceIdeal (m : (ℓ : Loc Cert.NormOfReferenceIdeal.nD Cert.NormOfReferenceIdeal.τ Cert.NormOfReferenceIdeal.sig) → Buf (Elt Ideal) ℓ) : Prop :=
  True

def Pre_NormsOf (m : (ℓ : Loc Cert.NormsOf.nD Cert.NormsOf.τ Cert.NormsOf.sig) → Buf (Elt Bits) ℓ) : Prop :=
  True

def Pre_NormsOfIdeal (m : (ℓ : Loc Cert.NormsOfIdeal.nD Cert.NormsOfIdeal.τ Cert.NormsOfIdeal.sig) → Buf (Elt Ideal) ℓ) : Prop :=
  True

def Pre_NormsOfReferenceIdeal (m : (ℓ : Loc Cert.NormsOfReferenceIdeal.nD Cert.NormsOfReferenceIdeal.τ Cert.NormsOfReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_HiddenGrad [hHiddenGrad : Cert.HiddenGrad.Facts] : Prop :=
  ∀ (m : (ℓ : Loc Cert.HiddenGrad.nD Cert.HiddenGrad.τ Cert.HiddenGrad.sig) → Buf (Elt Bits) ℓ) (g : Dev Cert.HiddenGrad.nD → PrngReg), Pre_HiddenGrad m →
    θ_run (Cert.HiddenGrad.defs (F := Bits)) (onTc (τ := Cert.HiddenGrad.τ) (Cert.HiddenGrad.main (F := Bits))) ⟨m, fun _ => 0, g⟩ (fun r => (∀ c : Dev Cert.HiddenGrad.nD,
      r.2.mem ((c.tc : Thread Cert.HiddenGrad.nD Cert.HiddenGrad.τ).loc Cert.HiddenGrad.main_arg0) = m ((c.tc : Thread Cert.HiddenGrad.nD Cert.HiddenGrad.τ).loc Cert.HiddenGrad.main_arg0)
      ∧ r.2.mem ((c.tc : Thread Cert.HiddenGrad.nD Cert.HiddenGrad.τ).loc Cert.HiddenGrad.main_arg1) = m ((c.tc : Thread Cert.HiddenGrad.nD Cert.HiddenGrad.τ).loc Cert.HiddenGrad.main_arg1)
      ∧ r.2.mem ((c.tc : Thread Cert.HiddenGrad.nD Cert.HiddenGrad.τ).loc Cert.HiddenGrad.main_arg2) = m ((c.tc : Thread Cert.HiddenGrad.nD Cert.HiddenGrad.τ).loc Cert.HiddenGrad.main_arg2)
      ∧ r.2.mem ((c.tc : Thread Cert.HiddenGrad.nD Cert.HiddenGrad.τ).loc Cert.HiddenGrad.main_arg3) = m ((c.tc : Thread Cert.HiddenGrad.nD Cert.HiddenGrad.τ).loc Cert.HiddenGrad.main_arg3))
      ∧ r.2.sem = fun _ => 0)

def quiescent_HiddenGradIdeal [hHiddenGradIdeal : Cert.HiddenGradIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg), Pre_HiddenGradIdeal m →
    θ_run (Cert.HiddenGradIdeal.defs (F := Ideal)) (onTc (τ := Cert.HiddenGradIdeal.τ) (Cert.HiddenGradIdeal.main (F := Ideal))) ⟨m, fun _ => 0, g⟩ (fun r => (∀ c : Dev Cert.HiddenGradIdeal.nD,
      r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
      ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1)
      ∧ r.2.mem ((c.tc : Thread Cert.HiddenGradIdeal.nD Cert.HiddenGradIdeal.τ).loc Cert.HiddenGradIdeal.main_arg2) = m ((c.tc : Thread Cert.HiddenGradIdeal.nD Cert.HiddenGradIdeal.τ).loc Cert.HiddenGradIdeal.main_arg2)
      ∧ r.2.mem ((c.tc : Thread Cert.HiddenGradIdeal.nD Cert.HiddenGradIdeal.τ).loc Cert.HiddenGradIdeal.main_arg3) = m ((c.tc : Thread Cert.HiddenGradIdeal.nD Cert.HiddenGradIdeal.τ).loc Cert.HiddenGradIdeal.main_arg3))
      ∧ r.2.sem = fun _ => 0)

def quiescent_HiddenGradReferenceIdeal [hHiddenGradReferenceIdeal : Cert.HiddenGradReferenceIdeal.Facts] : Prop :=
  ∀ (m : (ℓ : Loc Cert.HiddenGradReferenceIdeal.nD Cert.HiddenGradReferenceIdeal.τ Cert.HiddenGradReferenceIdeal.sig) → Buf (Elt Ideal) ℓ) (g : Dev Cert.HiddenGradReferenceIdeal.nD → PrngReg), Pre_HiddenGradReferenceIdeal m →
    θ_run (Cert.HiddenGradReferenceIdeal.defs (F := Ideal)) (onTc (τ := Cert.HiddenGradReferenceIdeal.τ) (Cert.HiddenGradReferenceIdeal.main (F := Ideal))) ⟨m, fun _ => 0, g⟩ (fun r => (∀ c : Dev Cert.HiddenGradReferenceIdeal.nD,
      r.2.mem ((c.tc : Thread Cert.HiddenGradReferenceIdeal.nD Cert.HiddenGradReferenceIdeal.τ).loc Cert.HiddenGradReferenceIdeal.main_arg0) = m ((c.tc : Thread Cert.HiddenGradReferenceIdeal.nD Cert.HiddenGradReferenceIdeal.τ).loc Cert.HiddenGradReferenceIdeal.main_arg0)
      ∧ r.2.mem ((c.tc : Thread Cert.HiddenGradReferenceIdeal.nD Cert.HiddenGradReferenceIdeal.τ).loc Cert.HiddenGradReferenceIdeal.main_arg1) = m ((c.tc : Thread Cert.HiddenGradReferenceIdeal.nD Cert.HiddenGradReferenceIdeal.τ).loc Cert.HiddenGradReferenceIdeal.main_arg1)
      ∧ r.2.mem ((c.tc : Thread Cert.HiddenGradReferenceIdeal.nD Cert.HiddenGradReferenceIdeal.τ).loc Cert.HiddenGradReferenceIdeal.main_arg2) = m ((c.tc : Thread Cert.HiddenGradReferenceIdeal.nD Cert.HiddenGradReferenceIdeal.τ).loc Cert.HiddenGradReferenceIdeal.main_arg2)
      ∧ r.2.mem ((c.tc : Thread Cert.HiddenGradReferenceIdeal.nD Cert.HiddenGradReferenceIdeal.τ).loc Cert.HiddenGradReferenceIdeal.main_arg3) = m ((c.tc : Thread Cert.HiddenGradReferenceIdeal.nD Cert.HiddenGradReferenceIdeal.τ).loc Cert.HiddenGradReferenceIdeal.main_arg3))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1))
      ∧ r.2.sem = fun _ => 0)

def quiescent_InputGradReferenceIdeal [hInputGradReferenceIdeal : Cert.InputGradReferenceIdeal.Facts] : Prop :=
  ∀ (m : (ℓ : Loc Cert.InputGradReferenceIdeal.nD Cert.InputGradReferenceIdeal.τ Cert.InputGradReferenceIdeal.sig) → Buf (Elt Ideal) ℓ) (g : Dev Cert.InputGradReferenceIdeal.nD → PrngReg), Pre_InputGradReferenceIdeal m →
    θ_run (Cert.InputGradReferenceIdeal.defs (F := Ideal)) (onTc (τ := Cert.InputGradReferenceIdeal.τ) (Cert.InputGradReferenceIdeal.main (F := Ideal))) ⟨m, fun _ => 0, g⟩ (fun r => (∀ c : Dev Cert.InputGradReferenceIdeal.nD,
      r.2.mem ((c.tc : Thread Cert.InputGradReferenceIdeal.nD Cert.InputGradReferenceIdeal.τ).loc Cert.InputGradReferenceIdeal.main_arg0) = m ((c.tc : Thread Cert.InputGradReferenceIdeal.nD Cert.InputGradReferenceIdeal.τ).loc Cert.InputGradReferenceIdeal.main_arg0)
      ∧ r.2.mem ((c.tc : Thread Cert.InputGradReferenceIdeal.nD Cert.InputGradReferenceIdeal.τ).loc Cert.InputGradReferenceIdeal.main_arg1) = m ((c.tc : Thread Cert.InputGradReferenceIdeal.nD Cert.InputGradReferenceIdeal.τ).loc Cert.InputGradReferenceIdeal.main_arg1))
      ∧ r.2.sem = fun _ => 0)

def quiescent_InWeightGrad [hInWeightGrad : Cert.InWeightGrad.Facts] : Prop :=
  ∀ (m : (ℓ : Loc Cert.InWeightGrad.nD Cert.InWeightGrad.τ Cert.InWeightGrad.sig) → Buf (Elt Bits) ℓ) (g : Dev Cert.InWeightGrad.nD → PrngReg), Pre_InWeightGrad m →
    θ_run (Cert.InWeightGrad.defs (F := Bits)) (onTc (τ := Cert.InWeightGrad.τ) (Cert.InWeightGrad.main (F := Bits))) ⟨m, fun _ => 0, g⟩ (fun r => (∀ c : Dev Cert.InWeightGrad.nD,
      r.2.mem ((c.tc : Thread Cert.InWeightGrad.nD Cert.InWeightGrad.τ).loc Cert.InWeightGrad.main_arg0) = m ((c.tc : Thread Cert.InWeightGrad.nD Cert.InWeightGrad.τ).loc Cert.InWeightGrad.main_arg0)
      ∧ r.2.mem ((c.tc : Thread Cert.InWeightGrad.nD Cert.InWeightGrad.τ).loc Cert.InWeightGrad.main_arg1) = m ((c.tc : Thread Cert.InWeightGrad.nD Cert.InWeightGrad.τ).loc Cert.InWeightGrad.main_arg1))
      ∧ r.2.sem = fun _ => 0)

def quiescent_InWeightGradIdeal [hInWeightGradIdeal : Cert.InWeightGradIdeal.Facts] : Prop :=
  ∀ (m : (ℓ : Loc Cert.InWeightGradIdeal.nD Cert.InWeightGradIdeal.τ Cert.InWeightGradIdeal.sig) → Buf (Elt Ideal) ℓ) (g : Dev Cert.InWeightGradIdeal.nD → PrngReg), Pre_InWeightGradIdeal m →
    θ_run (Cert.InWeightGradIdeal.defs (F := Ideal)) (onTc (τ := Cert.InWeightGradIdeal.τ) (Cert.InWeightGradIdeal.main (F := Ideal))) ⟨m, fun _ => 0, g⟩ (fun r => (∀ c : Dev Cert.InWeightGradIdeal.nD,
      r.2.mem ((c.tc : Thread Cert.InWeightGradIdeal.nD Cert.InWeightGradIdeal.τ).loc Cert.InWeightGradIdeal.main_arg0) = m ((c.tc : Thread Cert.InWeightGradIdeal.nD Cert.InWeightGradIdeal.τ).loc Cert.InWeightGradIdeal.main_arg0)
      ∧ r.2.mem ((c.tc : Thread Cert.InWeightGradIdeal.nD Cert.InWeightGradIdeal.τ).loc Cert.InWeightGradIdeal.main_arg1) = m ((c.tc : Thread Cert.InWeightGradIdeal.nD Cert.InWeightGradIdeal.τ).loc Cert.InWeightGradIdeal.main_arg1))
      ∧ r.2.sem = fun _ => 0)

def quiescent_InWeightGradReferenceIdeal [hInWeightGradReferenceIdeal : Cert.InWeightGradReferenceIdeal.Facts] : Prop :=
  ∀ (m : (ℓ : Loc Cert.InWeightGradReferenceIdeal.nD Cert.InWeightGradReferenceIdeal.τ Cert.InWeightGradReferenceIdeal.sig) → Buf (Elt Ideal) ℓ) (g : Dev Cert.InWeightGradReferenceIdeal.nD → PrngReg), Pre_InWeightGradReferenceIdeal m →
    θ_run (Cert.InWeightGradReferenceIdeal.defs (F := Ideal)) (onTc (τ := Cert.InWeightGradReferenceIdeal.τ) (Cert.InWeightGradReferenceIdeal.main (F := Ideal))) ⟨m, fun _ => 0, g⟩ (fun r => (∀ c : Dev Cert.InWeightGradReferenceIdeal.nD,
      r.2.mem ((c.tc : Thread Cert.InWeightGradReferenceIdeal.nD Cert.InWeightGradReferenceIdeal.τ).loc Cert.InWeightGradReferenceIdeal.main_arg0) = m ((c.tc : Thread Cert.InWeightGradReferenceIdeal.nD Cert.InWeightGradReferenceIdeal.τ).loc Cert.InWeightGradReferenceIdeal.main_arg0)
      ∧ r.2.mem ((c.tc : Thread Cert.InWeightGradReferenceIdeal.nD Cert.InWeightGradReferenceIdeal.τ).loc Cert.InWeightGradReferenceIdeal.main_arg1) = m ((c.tc : Thread Cert.InWeightGradReferenceIdeal.nD Cert.InWeightGradReferenceIdeal.τ).loc Cert.InWeightGradReferenceIdeal.main_arg1))
      ∧ r.2.sem = fun _ => 0)

def quiescent_OutWeightGrad [hOutWeightGrad : Cert.OutWeightGrad.Facts] : Prop :=
  ∀ (m : (ℓ : Loc Cert.OutWeightGrad.nD Cert.OutWeightGrad.τ Cert.OutWeightGrad.sig) → Buf (Elt Bits) ℓ) (g : Dev Cert.OutWeightGrad.nD → PrngReg), Pre_OutWeightGrad m →
    θ_run (Cert.OutWeightGrad.defs (F := Bits)) (onTc (τ := Cert.OutWeightGrad.τ) (Cert.OutWeightGrad.main (F := Bits))) ⟨m, fun _ => 0, g⟩ (fun r => (∀ c : Dev Cert.OutWeightGrad.nD,
      r.2.mem ((c.tc : Thread Cert.OutWeightGrad.nD Cert.OutWeightGrad.τ).loc Cert.OutWeightGrad.main_arg0) = m ((c.tc : Thread Cert.OutWeightGrad.nD Cert.OutWeightGrad.τ).loc Cert.OutWeightGrad.main_arg0)
      ∧ r.2.mem ((c.tc : Thread Cert.OutWeightGrad.nD Cert.OutWeightGrad.τ).loc Cert.OutWeightGrad.main_arg1) = m ((c.tc : Thread Cert.OutWeightGrad.nD Cert.OutWeightGrad.τ).loc Cert.OutWeightGrad.main_arg1))
      ∧ r.2.sem = fun _ => 0)

def quiescent_OutWeightGradIdeal [hOutWeightGradIdeal : Cert.OutWeightGradIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg), Pre_OutWeightGradIdeal m →
    θ_run (Cert.OutWeightGradIdeal.defs (F := Ideal)) (onTc (τ := Cert.OutWeightGradIdeal.τ) (Cert.OutWeightGradIdeal.main (F := Ideal))) ⟨m, fun _ => 0, g⟩ (fun r => (∀ c : Dev Cert.OutWeightGradIdeal.nD,
      r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
      ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ r.2.sem = fun _ => 0)

def quiescent_OutWeightGradReferenceIdeal [hOutWeightGradReferenceIdeal : Cert.OutWeightGradReferenceIdeal.Facts] : Prop :=
  ∀ (m : (ℓ : Loc Cert.OutWeightGradReferenceIdeal.nD Cert.OutWeightGradReferenceIdeal.τ Cert.OutWeightGradReferenceIdeal.sig) → Buf (Elt Ideal) ℓ) (g : Dev Cert.OutWeightGradReferenceIdeal.nD → PrngReg), Pre_OutWeightGradReferenceIdeal m →
    θ_run (Cert.OutWeightGradReferenceIdeal.defs (F := Ideal)) (onTc (τ := Cert.OutWeightGradReferenceIdeal.τ) (Cert.OutWeightGradReferenceIdeal.main (F := Ideal))) ⟨m, fun _ => 0, g⟩ (fun r => (∀ c : Dev Cert.OutWeightGradReferenceIdeal.nD,
      r.2.mem ((c.tc : Thread Cert.OutWeightGradReferenceIdeal.nD Cert.OutWeightGradReferenceIdeal.τ).loc Cert.OutWeightGradReferenceIdeal.main_arg0) = m ((c.tc : Thread Cert.OutWeightGradReferenceIdeal.nD Cert.OutWeightGradReferenceIdeal.τ).loc Cert.OutWeightGradReferenceIdeal.main_arg0)
      ∧ r.2.mem ((c.tc : Thread Cert.OutWeightGradReferenceIdeal.nD Cert.OutWeightGradReferenceIdeal.τ).loc Cert.OutWeightGradReferenceIdeal.main_arg1) = m ((c.tc : Thread Cert.OutWeightGradReferenceIdeal.nD Cert.OutWeightGradReferenceIdeal.τ).loc Cert.OutWeightGradReferenceIdeal.main_arg1))
      ∧ r.2.sem = fun _ => 0)

def quiescent_OutWeightGrads [hOutWeightGrads : Cert.OutWeightGrads.Facts] : Prop :=
  ∀ (m : (ℓ : Loc Cert.OutWeightGrads.nD Cert.OutWeightGrads.τ Cert.OutWeightGrads.sig) → Buf (Elt Bits) ℓ) (g : Dev Cert.OutWeightGrads.nD → PrngReg), Pre_OutWeightGrads m →
    θ_run (Cert.OutWeightGrads.defs (F := Bits)) (onTc (τ := Cert.OutWeightGrads.τ) (Cert.OutWeightGrads.main (F := Bits))) ⟨m, fun _ => 0, g⟩ (fun r => (∀ c : Dev Cert.OutWeightGrads.nD,
      r.2.mem ((c.tc : Thread Cert.OutWeightGrads.nD Cert.OutWeightGrads.τ).loc Cert.OutWeightGrads.main_arg0) = m ((c.tc : Thread Cert.OutWeightGrads.nD Cert.OutWeightGrads.τ).loc Cert.OutWeightGrads.main_arg0)
      ∧ r.2.mem ((c.tc : Thread Cert.OutWeightGrads.nD Cert.OutWeightGrads.τ).loc Cert.OutWeightGrads.main_arg1) = m ((c.tc : Thread Cert.OutWeightGrads.nD Cert.OutWeightGrads.τ).loc Cert.OutWeightGrads.main_arg1))
      ∧ r.2.sem = fun _ => 0)

def quiescent_OutWeightGradsIdeal [hOutWeightGradsIdeal : Cert.OutWeightGradsIdeal.Facts] : Prop :=
  ∀ (m : (ℓ : Loc Cert.OutWeightGradsIdeal.nD Cert.OutWeightGradsIdeal.τ Cert.OutWeightGradsIdeal.sig) → Buf (Elt Ideal) ℓ) (g : Dev Cert.OutWeightGradsIdeal.nD → PrngReg), Pre_OutWeightGradsIdeal m →
    θ_run (Cert.OutWeightGradsIdeal.defs (F := Ideal)) (onTc (τ := Cert.OutWeightGradsIdeal.τ) (Cert.OutWeightGradsIdeal.main (F := Ideal))) ⟨m, fun _ => 0, g⟩ (fun r => (∀ c : Dev Cert.OutWeightGradsIdeal.nD,
      r.2.mem ((c.tc : Thread Cert.OutWeightGradsIdeal.nD Cert.OutWeightGradsIdeal.τ).loc Cert.OutWeightGradsIdeal.main_arg0) = m ((c.tc : Thread Cert.OutWeightGradsIdeal.nD Cert.OutWeightGradsIdeal.τ).loc Cert.OutWeightGradsIdeal.main_arg0)
      ∧ r.2.mem ((c.tc : Thread Cert.OutWeightGradsIdeal.nD Cert.OutWeightGradsIdeal.τ).loc Cert.OutWeightGradsIdeal.main_arg1) = m ((c.tc : Thread Cert.OutWeightGradsIdeal.nD Cert.OutWeightGradsIdeal.τ).loc Cert.OutWeightGradsIdeal.main_arg1))
      ∧ r.2.sem = fun _ => 0)

def quiescent_OutWeightGradsReferenceIdeal [hOutWeightGradsReferenceIdeal : Cert.OutWeightGradsReferenceIdeal.Facts] : Prop :=
  ∀ (m : (ℓ : Loc Cert.OutWeightGradsReferenceIdeal.nD Cert.OutWeightGradsReferenceIdeal.τ Cert.OutWeightGradsReferenceIdeal.sig) → Buf (Elt Ideal) ℓ) (g : Dev Cert.OutWeightGradsReferenceIdeal.nD → PrngReg), Pre_OutWeightGradsReferenceIdeal m →
    θ_run (Cert.OutWeightGradsReferenceIdeal.defs (F := Ideal)) (onTc (τ := Cert.OutWeightGradsReferenceIdeal.τ) (Cert.OutWeightGradsReferenceIdeal.main (F := Ideal))) ⟨m, fun _ => 0, g⟩ (fun r => (∀ c : Dev Cert.OutWeightGradsReferenceIdeal.nD,
      r.2.mem ((c.tc : Thread Cert.OutWeightGradsReferenceIdeal.nD Cert.OutWeightGradsReferenceIdeal.τ).loc Cert.OutWeightGradsReferenceIdeal.main_arg0) = m ((c.tc : Thread Cert.OutWeightGradsReferenceIdeal.nD Cert.OutWeightGradsReferenceIdeal.τ).loc Cert.OutWeightGradsReferenceIdeal.main_arg0)
      ∧ r.2.mem ((c.tc : Thread Cert.OutWeightGradsReferenceIdeal.nD Cert.OutWeightGradsReferenceIdeal.τ).loc Cert.OutWeightGradsReferenceIdeal.main_arg1) = m ((c.tc : Thread Cert.OutWeightGradsReferenceIdeal.nD Cert.OutWeightGradsReferenceIdeal.τ).loc Cert.OutWeightGradsReferenceIdeal.main_arg1))
      ∧ r.2.sem = fun _ => 0)

def quiescent_AttentionGrad [hAttentionGrad : Cert.AttentionGrad.Facts] : Prop :=
  ∀ (m : (ℓ : Loc Cert.AttentionGrad.nD Cert.AttentionGrad.τ Cert.AttentionGrad.sig) → Buf (Elt Bits) ℓ) (g : Dev Cert.AttentionGrad.nD → PrngReg), Pre_AttentionGrad m →
    θ_run (Cert.AttentionGrad.defs (F := Bits)) (onTc (τ := Cert.AttentionGrad.τ) (Cert.AttentionGrad.main (F := Bits))) ⟨m, fun _ => 0, g⟩ (fun r => (∀ c : Dev Cert.AttentionGrad.nD,
      r.2.mem ((c.tc : Thread Cert.AttentionGrad.nD Cert.AttentionGrad.τ).loc Cert.AttentionGrad.main_arg0) = m ((c.tc : Thread Cert.AttentionGrad.nD Cert.AttentionGrad.τ).loc Cert.AttentionGrad.main_arg0)
      ∧ r.2.mem ((c.tc : Thread Cert.AttentionGrad.nD Cert.AttentionGrad.τ).loc Cert.AttentionGrad.main_arg1) = m ((c.tc : Thread Cert.AttentionGrad.nD Cert.AttentionGrad.τ).loc Cert.AttentionGrad.main_arg1))
      ∧ r.2.sem = fun _ => 0)

def quiescent_AttentionGradIdeal [hAttentionGradIdeal : Cert.AttentionGradIdeal.Facts] : Prop :=
  ∀ (m : (ℓ : Loc Cert.AttentionGradIdeal.nD Cert.AttentionGradIdeal.τ Cert.AttentionGradIdeal.sig) → Buf (Elt Ideal) ℓ) (g : Dev Cert.AttentionGradIdeal.nD → PrngReg), Pre_AttentionGradIdeal m →
    θ_run (Cert.AttentionGradIdeal.defs (F := Ideal)) (onTc (τ := Cert.AttentionGradIdeal.τ) (Cert.AttentionGradIdeal.main (F := Ideal))) ⟨m, fun _ => 0, g⟩ (fun r => (∀ c : Dev Cert.AttentionGradIdeal.nD,
      r.2.mem ((c.tc : Thread Cert.AttentionGradIdeal.nD Cert.AttentionGradIdeal.τ).loc Cert.AttentionGradIdeal.main_arg0) = m ((c.tc : Thread Cert.AttentionGradIdeal.nD Cert.AttentionGradIdeal.τ).loc Cert.AttentionGradIdeal.main_arg0)
      ∧ r.2.mem ((c.tc : Thread Cert.AttentionGradIdeal.nD Cert.AttentionGradIdeal.τ).loc Cert.AttentionGradIdeal.main_arg1) = m ((c.tc : Thread Cert.AttentionGradIdeal.nD Cert.AttentionGradIdeal.τ).loc Cert.AttentionGradIdeal.main_arg1))
      ∧ r.2.sem = fun _ => 0)

def quiescent_AttentionGradReferenceIdeal [hAttentionGradReferenceIdeal : Cert.AttentionGradReferenceIdeal.Facts] : Prop :=
  ∀ (m : (ℓ : Loc Cert.AttentionGradReferenceIdeal.nD Cert.AttentionGradReferenceIdeal.τ Cert.AttentionGradReferenceIdeal.sig) → Buf (Elt Ideal) ℓ) (g : Dev Cert.AttentionGradReferenceIdeal.nD → PrngReg), Pre_AttentionGradReferenceIdeal m →
    θ_run (Cert.AttentionGradReferenceIdeal.defs (F := Ideal)) (onTc (τ := Cert.AttentionGradReferenceIdeal.τ) (Cert.AttentionGradReferenceIdeal.main (F := Ideal))) ⟨m, fun _ => 0, g⟩ (fun r => (∀ c : Dev Cert.AttentionGradReferenceIdeal.nD,
      r.2.mem ((c.tc : Thread Cert.AttentionGradReferenceIdeal.nD Cert.AttentionGradReferenceIdeal.τ).loc Cert.AttentionGradReferenceIdeal.main_arg0) = m ((c.tc : Thread Cert.AttentionGradReferenceIdeal.nD Cert.AttentionGradReferenceIdeal.τ).loc Cert.AttentionGradReferenceIdeal.main_arg0)
      ∧ r.2.mem ((c.tc : Thread Cert.AttentionGradReferenceIdeal.nD Cert.AttentionGradReferenceIdeal.τ).loc Cert.AttentionGradReferenceIdeal.main_arg1) = m ((c.tc : Thread Cert.AttentionGradReferenceIdeal.nD Cert.AttentionGradReferenceIdeal.τ).loc Cert.AttentionGradReferenceIdeal.main_arg1))
      ∧ r.2.sem = fun _ => 0)

def quiescent_MixersGrad [hMixersGrad : Cert.MixersGrad.Facts] : Prop :=
  ∀ (m : (ℓ : Loc Cert.MixersGrad.nD Cert.MixersGrad.τ Cert.MixersGrad.sig) → Buf (Elt Bits) ℓ) (g : Dev Cert.MixersGrad.nD → PrngReg), Pre_MixersGrad m →
    θ_run (Cert.MixersGrad.defs (F := Bits)) (onTc (τ := Cert.MixersGrad.τ) (Cert.MixersGrad.main (F := Bits))) ⟨m, fun _ => 0, g⟩ (fun r => (∀ c : Dev Cert.MixersGrad.nD,
      r.2.mem ((c.tc : Thread Cert.MixersGrad.nD Cert.MixersGrad.τ).loc Cert.MixersGrad.main_arg0) = m ((c.tc : Thread Cert.MixersGrad.nD Cert.MixersGrad.τ).loc Cert.MixersGrad.main_arg0)
      ∧ r.2.mem ((c.tc : Thread Cert.MixersGrad.nD Cert.MixersGrad.τ).loc Cert.MixersGrad.main_arg1) = m ((c.tc : Thread Cert.MixersGrad.nD Cert.MixersGrad.τ).loc Cert.MixersGrad.main_arg1))
      ∧ r.2.sem = fun _ => 0)

def quiescent_MixersGradIdeal [hMixersGradIdeal : Cert.MixersGradIdeal.Facts] : Prop :=
  ∀ (m : (ℓ : Loc Cert.MixersGradIdeal.nD Cert.MixersGradIdeal.τ Cert.MixersGradIdeal.sig) → Buf (Elt Ideal) ℓ) (g : Dev Cert.MixersGradIdeal.nD → PrngReg), Pre_MixersGradIdeal m →
    θ_run (Cert.MixersGradIdeal.defs (F := Ideal)) (onTc (τ := Cert.MixersGradIdeal.τ) (Cert.MixersGradIdeal.main (F := Ideal))) ⟨m, fun _ => 0, g⟩ (fun r => (∀ c : Dev Cert.MixersGradIdeal.nD,
      r.2.mem ((c.tc : Thread Cert.MixersGradIdeal.nD Cert.MixersGradIdeal.τ).loc Cert.MixersGradIdeal.main_arg0) = m ((c.tc : Thread Cert.MixersGradIdeal.nD Cert.MixersGradIdeal.τ).loc Cert.MixersGradIdeal.main_arg0)
      ∧ r.2.mem ((c.tc : Thread Cert.MixersGradIdeal.nD Cert.MixersGradIdeal.τ).loc Cert.MixersGradIdeal.main_arg1) = m ((c.tc : Thread Cert.MixersGradIdeal.nD Cert.MixersGradIdeal.τ).loc Cert.MixersGradIdeal.main_arg1))
      ∧ r.2.sem = fun _ => 0)

def quiescent_MixersGradReferenceIdeal [hMixersGradReferenceIdeal : Cert.MixersGradReferenceIdeal.Facts] : Prop :=
  ∀ (m : (ℓ : Loc Cert.MixersGradReferenceIdeal.nD Cert.MixersGradReferenceIdeal.τ Cert.MixersGradReferenceIdeal.sig) → Buf (Elt Ideal) ℓ) (g : Dev Cert.MixersGradReferenceIdeal.nD → PrngReg), Pre_MixersGradReferenceIdeal m →
    θ_run (Cert.MixersGradReferenceIdeal.defs (F := Ideal)) (onTc (τ := Cert.MixersGradReferenceIdeal.τ) (Cert.MixersGradReferenceIdeal.main (F := Ideal))) ⟨m, fun _ => 0, g⟩ (fun r => (∀ c : Dev Cert.MixersGradReferenceIdeal.nD,
      r.2.mem ((c.tc : Thread Cert.MixersGradReferenceIdeal.nD Cert.MixersGradReferenceIdeal.τ).loc Cert.MixersGradReferenceIdeal.main_arg0) = m ((c.tc : Thread Cert.MixersGradReferenceIdeal.nD Cert.MixersGradReferenceIdeal.τ).loc Cert.MixersGradReferenceIdeal.main_arg0)
      ∧ r.2.mem ((c.tc : Thread Cert.MixersGradReferenceIdeal.nD Cert.MixersGradReferenceIdeal.τ).loc Cert.MixersGradReferenceIdeal.main_arg1) = m ((c.tc : Thread Cert.MixersGradReferenceIdeal.nD Cert.MixersGradReferenceIdeal.τ).loc Cert.MixersGradReferenceIdeal.main_arg1))
      ∧ r.2.sem = fun _ => 0)

def quiescent_QkvWeightGrad [hQkvWeightGrad : Cert.QkvWeightGrad.Facts] : Prop :=
  ∀ (m : (ℓ : Loc Cert.QkvWeightGrad.nD Cert.QkvWeightGrad.τ Cert.QkvWeightGrad.sig) → Buf (Elt Bits) ℓ) (g : Dev Cert.QkvWeightGrad.nD → PrngReg), Pre_QkvWeightGrad m →
    θ_run (Cert.QkvWeightGrad.defs (F := Bits)) (onTc (τ := Cert.QkvWeightGrad.τ) (Cert.QkvWeightGrad.main (F := Bits))) ⟨m, fun _ => 0, g⟩ (fun r => (∀ c : Dev Cert.QkvWeightGrad.nD,
      r.2.mem ((c.tc : Thread Cert.QkvWeightGrad.nD Cert.QkvWeightGrad.τ).loc Cert.QkvWeightGrad.main_arg0) = m ((c.tc : Thread Cert.QkvWeightGrad.nD Cert.QkvWeightGrad.τ).loc Cert.QkvWeightGrad.main_arg0)
      ∧ r.2.mem ((c.tc : Thread Cert.QkvWeightGrad.nD Cert.QkvWeightGrad.τ).loc Cert.QkvWeightGrad.main_arg1) = m ((c.tc : Thread Cert.QkvWeightGrad.nD Cert.QkvWeightGrad.τ).loc Cert.QkvWeightGrad.main_arg1))
      ∧ r.2.sem = fun _ => 0)

def quiescent_QkvWeightGradIdeal [hQkvWeightGradIdeal : Cert.QkvWeightGradIdeal.Facts] : Prop :=
  ∀ (m : (ℓ : Loc Cert.QkvWeightGradIdeal.nD Cert.QkvWeightGradIdeal.τ Cert.QkvWeightGradIdeal.sig) → Buf (Elt Ideal) ℓ) (g : Dev Cert.QkvWeightGradIdeal.nD → PrngReg), Pre_QkvWeightGradIdeal m →
    θ_run (Cert.QkvWeightGradIdeal.defs (F := Ideal)) (onTc (τ := Cert.QkvWeightGradIdeal.τ) (Cert.QkvWeightGradIdeal.main (F := Ideal))) ⟨m, fun _ => 0, g⟩ (fun r => (∀ c : Dev Cert.QkvWeightGradIdeal.nD,
      r.2.mem ((c.tc : Thread Cert.QkvWeightGradIdeal.nD Cert.QkvWeightGradIdeal.τ).loc Cert.QkvWeightGradIdeal.main_arg0) = m ((c.tc : Thread Cert.QkvWeightGradIdeal.nD Cert.QkvWeightGradIdeal.τ).loc Cert.QkvWeightGradIdeal.main_arg0)
      ∧ r.2.mem ((c.tc : Thread Cert.QkvWeightGradIdeal.nD Cert.QkvWeightGradIdeal.τ).loc Cert.QkvWeightGradIdeal.main_arg1) = m ((c.tc : Thread Cert.QkvWeightGradIdeal.nD Cert.QkvWeightGradIdeal.τ).loc Cert.QkvWeightGradIdeal.main_arg1))
      ∧ r.2.sem = fun _ => 0)

def quiescent_QkvWeightGradReferenceIdeal [hQkvWeightGradReferenceIdeal : Cert.QkvWeightGradReferenceIdeal.Facts] : Prop :=
  ∀ (m : (ℓ : Loc Cert.QkvWeightGradReferenceIdeal.nD Cert.QkvWeightGradReferenceIdeal.τ Cert.QkvWeightGradReferenceIdeal.sig) → Buf (Elt Ideal) ℓ) (g : Dev Cert.QkvWeightGradReferenceIdeal.nD → PrngReg), Pre_QkvWeightGradReferenceIdeal m →
    θ_run (Cert.QkvWeightGradReferenceIdeal.defs (F := Ideal)) (onTc (τ := Cert.QkvWeightGradReferenceIdeal.τ) (Cert.QkvWeightGradReferenceIdeal.main (F := Ideal))) ⟨m, fun _ => 0, g⟩ (fun r => (∀ c : Dev Cert.QkvWeightGradReferenceIdeal.nD,
      r.2.mem ((c.tc : Thread Cert.QkvWeightGradReferenceIdeal.nD Cert.QkvWeightGradReferenceIdeal.τ).loc Cert.QkvWeightGradReferenceIdeal.main_arg0) = m ((c.tc : Thread Cert.QkvWeightGradReferenceIdeal.nD Cert.QkvWeightGradReferenceIdeal.τ).loc Cert.QkvWeightGradReferenceIdeal.main_arg0)
      ∧ r.2.mem ((c.tc : Thread Cert.QkvWeightGradReferenceIdeal.nD Cert.QkvWeightGradReferenceIdeal.τ).loc Cert.QkvWeightGradReferenceIdeal.main_arg1) = m ((c.tc : Thread Cert.QkvWeightGradReferenceIdeal.nD Cert.QkvWeightGradReferenceIdeal.τ).loc Cert.QkvWeightGradReferenceIdeal.main_arg1))
      ∧ r.2.sem = fun _ => 0)

def quiescent_QkvGrad [hQkvGrad : Cert.QkvGrad.Facts] : Prop :=
  ∀ (m : (ℓ : Loc Cert.QkvGrad.nD Cert.QkvGrad.τ Cert.QkvGrad.sig) → Buf (Elt Bits) ℓ) (g : Dev Cert.QkvGrad.nD → PrngReg), Pre_QkvGrad m →
    θ_run (Cert.QkvGrad.defs (F := Bits)) (onTc (τ := Cert.QkvGrad.τ) (Cert.QkvGrad.main (F := Bits))) ⟨m, fun _ => 0, g⟩ (fun r => (∀ c : Dev Cert.QkvGrad.nD,
      r.2.mem ((c.tc : Thread Cert.QkvGrad.nD Cert.QkvGrad.τ).loc Cert.QkvGrad.main_arg0) = m ((c.tc : Thread Cert.QkvGrad.nD Cert.QkvGrad.τ).loc Cert.QkvGrad.main_arg0)
      ∧ r.2.mem ((c.tc : Thread Cert.QkvGrad.nD Cert.QkvGrad.τ).loc Cert.QkvGrad.main_arg1) = m ((c.tc : Thread Cert.QkvGrad.nD Cert.QkvGrad.τ).loc Cert.QkvGrad.main_arg1))
      ∧ r.2.sem = fun _ => 0)

def quiescent_QkvGradIdeal [hQkvGradIdeal : Cert.QkvGradIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg), Pre_QkvGradIdeal m →
    θ_run (Cert.QkvGradIdeal.defs (F := Ideal)) (onTc (τ := Cert.QkvGradIdeal.τ) (Cert.QkvGradIdeal.main (F := Ideal))) ⟨m, fun _ => 0, g⟩ (fun r => (∀ c : Dev Cert.QkvGradIdeal.nD,
      r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
      ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1))
      ∧ r.2.sem = fun _ => 0)

def quiescent_QkvGradReferenceIdeal [hQkvGradReferenceIdeal : Cert.QkvGradReferenceIdeal.Facts] : Prop :=
  ∀ (m : (ℓ : Loc Cert.QkvGradReferenceIdeal.nD Cert.QkvGradReferenceIdeal.τ Cert.QkvGradReferenceIdeal.sig) → Buf (Elt Ideal) ℓ) (g : Dev Cert.QkvGradReferenceIdeal.nD → PrngReg), Pre_QkvGradReferenceIdeal m →
    θ_run (Cert.QkvGradReferenceIdeal.defs (F := Ideal)) (onTc (τ := Cert.QkvGradReferenceIdeal.τ) (Cert.QkvGradReferenceIdeal.main (F := Ideal))) ⟨m, fun _ => 0, g⟩ (fun r => (∀ c : Dev Cert.QkvGradReferenceIdeal.nD,
      r.2.mem ((c.tc : Thread Cert.QkvGradReferenceIdeal.nD Cert.QkvGradReferenceIdeal.τ).loc Cert.QkvGradReferenceIdeal.main_arg0) = m ((c.tc : Thread Cert.QkvGradReferenceIdeal.nD Cert.QkvGradReferenceIdeal.τ).loc Cert.QkvGradReferenceIdeal.main_arg0)
      ∧ r.2.mem ((c.tc : Thread Cert.QkvGradReferenceIdeal.nD Cert.QkvGradReferenceIdeal.τ).loc Cert.QkvGradReferenceIdeal.main_arg1) = m ((c.tc : Thread Cert.QkvGradReferenceIdeal.nD Cert.QkvGradReferenceIdeal.τ).loc Cert.QkvGradReferenceIdeal.main_arg1))
      ∧ r.2.sem = fun _ => 0)

def quiescent_MixWeightGrad [hMixWeightGrad : Cert.MixWeightGrad.Facts] : Prop :=
  ∀ (m : (ℓ : Loc Cert.MixWeightGrad.nD Cert.MixWeightGrad.τ Cert.MixWeightGrad.sig) → Buf (Elt Bits) ℓ) (g : Dev Cert.MixWeightGrad.nD → PrngReg), Pre_MixWeightGrad m →
    θ_run (Cert.MixWeightGrad.defs (F := Bits)) (onTc (τ := Cert.MixWeightGrad.τ) (Cert.MixWeightGrad.main (F := Bits))) ⟨m, fun _ => 0, g⟩ (fun r => (∀ c : Dev Cert.MixWeightGrad.nD,
      r.2.mem ((c.tc : Thread Cert.MixWeightGrad.nD Cert.MixWeightGrad.τ).loc Cert.MixWeightGrad.main_arg0) = m ((c.tc : Thread Cert.MixWeightGrad.nD Cert.MixWeightGrad.τ).loc Cert.MixWeightGrad.main_arg0)
      ∧ r.2.mem ((c.tc : Thread Cert.MixWeightGrad.nD Cert.MixWeightGrad.τ).loc Cert.MixWeightGrad.main_arg1) = m ((c.tc : Thread Cert.MixWeightGrad.nD Cert.MixWeightGrad.τ).loc Cert.MixWeightGrad.main_arg1))
      ∧ r.2.sem = fun _ => 0)

def quiescent_MixWeightGradIdeal [hMixWeightGradIdeal : Cert.MixWeightGradIdeal.Facts] : Prop :=
  ∀ (m : (ℓ : Loc Cert.MixWeightGradIdeal.nD Cert.MixWeightGradIdeal.τ Cert.MixWeightGradIdeal.sig) → Buf (Elt Ideal) ℓ) (g : Dev Cert.MixWeightGradIdeal.nD → PrngReg), Pre_MixWeightGradIdeal m →
    θ_run (Cert.MixWeightGradIdeal.defs (F := Ideal)) (onTc (τ := Cert.MixWeightGradIdeal.τ) (Cert.MixWeightGradIdeal.main (F := Ideal))) ⟨m, fun _ => 0, g⟩ (fun r => (∀ c : Dev Cert.MixWeightGradIdeal.nD,
      r.2.mem ((c.tc : Thread Cert.MixWeightGradIdeal.nD Cert.MixWeightGradIdeal.τ).loc Cert.MixWeightGradIdeal.main_arg0) = m ((c.tc : Thread Cert.MixWeightGradIdeal.nD Cert.MixWeightGradIdeal.τ).loc Cert.MixWeightGradIdeal.main_arg0)
      ∧ r.2.mem ((c.tc : Thread Cert.MixWeightGradIdeal.nD Cert.MixWeightGradIdeal.τ).loc Cert.MixWeightGradIdeal.main_arg1) = m ((c.tc : Thread Cert.MixWeightGradIdeal.nD Cert.MixWeightGradIdeal.τ).loc Cert.MixWeightGradIdeal.main_arg1))
      ∧ r.2.sem = fun _ => 0)

def quiescent_MixWeightGradReferenceIdeal [hMixWeightGradReferenceIdeal : Cert.MixWeightGradReferenceIdeal.Facts] : Prop :=
  ∀ (m : (ℓ : Loc Cert.MixWeightGradReferenceIdeal.nD Cert.MixWeightGradReferenceIdeal.τ Cert.MixWeightGradReferenceIdeal.sig) → Buf (Elt Ideal) ℓ) (g : Dev Cert.MixWeightGradReferenceIdeal.nD → PrngReg), Pre_MixWeightGradReferenceIdeal m →
    θ_run (Cert.MixWeightGradReferenceIdeal.defs (F := Ideal)) (onTc (τ := Cert.MixWeightGradReferenceIdeal.τ) (Cert.MixWeightGradReferenceIdeal.main (F := Ideal))) ⟨m, fun _ => 0, g⟩ (fun r => (∀ c : Dev Cert.MixWeightGradReferenceIdeal.nD,
      r.2.mem ((c.tc : Thread Cert.MixWeightGradReferenceIdeal.nD Cert.MixWeightGradReferenceIdeal.τ).loc Cert.MixWeightGradReferenceIdeal.main_arg0) = m ((c.tc : Thread Cert.MixWeightGradReferenceIdeal.nD Cert.MixWeightGradReferenceIdeal.τ).loc Cert.MixWeightGradReferenceIdeal.main_arg0)
      ∧ r.2.mem ((c.tc : Thread Cert.MixWeightGradReferenceIdeal.nD Cert.MixWeightGradReferenceIdeal.τ).loc Cert.MixWeightGradReferenceIdeal.main_arg1) = m ((c.tc : Thread Cert.MixWeightGradReferenceIdeal.nD Cert.MixWeightGradReferenceIdeal.τ).loc Cert.MixWeightGradReferenceIdeal.main_arg1))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ r.2.sem = fun _ => 0)

def quiescent_MixGradReferenceIdeal [hMixGradReferenceIdeal : Cert.MixGradReferenceIdeal.Facts] : Prop :=
  ∀ (m : (ℓ : Loc Cert.MixGradReferenceIdeal.nD Cert.MixGradReferenceIdeal.τ Cert.MixGradReferenceIdeal.sig) → Buf (Elt Ideal) ℓ) (g : Dev Cert.MixGradReferenceIdeal.nD → PrngReg), Pre_MixGradReferenceIdeal m →
    θ_run (Cert.MixGradReferenceIdeal.defs (F := Ideal)) (onTc (τ := Cert.MixGradReferenceIdeal.τ) (Cert.MixGradReferenceIdeal.main (F := Ideal))) ⟨m, fun _ => 0, g⟩ (fun r => (∀ c : Dev Cert.MixGradReferenceIdeal.nD,
      r.2.mem ((c.tc : Thread Cert.MixGradReferenceIdeal.nD Cert.MixGradReferenceIdeal.τ).loc Cert.MixGradReferenceIdeal.main_arg0) = m ((c.tc : Thread Cert.MixGradReferenceIdeal.nD Cert.MixGradReferenceIdeal.τ).loc Cert.MixGradReferenceIdeal.main_arg0)
      ∧ r.2.mem ((c.tc : Thread Cert.MixGradReferenceIdeal.nD Cert.MixGradReferenceIdeal.τ).loc Cert.MixGradReferenceIdeal.main_arg1) = m ((c.tc : Thread Cert.MixGradReferenceIdeal.nD Cert.MixGradReferenceIdeal.τ).loc Cert.MixGradReferenceIdeal.main_arg1))
      ∧ r.2.sem = fun _ => 0)

def quiescent_HiddenOf [hHiddenOf : Cert.HiddenOf.Facts] : Prop :=
  ∀ (m : (ℓ : Loc Cert.HiddenOf.nD Cert.HiddenOf.τ Cert.HiddenOf.sig) → Buf (Elt Bits) ℓ) (g : Dev Cert.HiddenOf.nD → PrngReg), Pre_HiddenOf m →
    θ_run (Cert.HiddenOf.defs (F := Bits)) (onTc (τ := Cert.HiddenOf.τ) (Cert.HiddenOf.main (F := Bits))) ⟨m, fun _ => 0, g⟩ (fun r => (∀ c : Dev Cert.HiddenOf.nD,
      r.2.mem ((c.tc : Thread Cert.HiddenOf.nD Cert.HiddenOf.τ).loc Cert.HiddenOf.main_arg0) = m ((c.tc : Thread Cert.HiddenOf.nD Cert.HiddenOf.τ).loc Cert.HiddenOf.main_arg0)
      ∧ r.2.mem ((c.tc : Thread Cert.HiddenOf.nD Cert.HiddenOf.τ).loc Cert.HiddenOf.main_arg1) = m ((c.tc : Thread Cert.HiddenOf.nD Cert.HiddenOf.τ).loc Cert.HiddenOf.main_arg1))
      ∧ r.2.sem = fun _ => 0)

def quiescent_HiddenOfIdeal [hHiddenOfIdeal : Cert.HiddenOfIdeal.Facts] : Prop :=
  ∀ (m : (ℓ : Loc Cert.HiddenOfIdeal.nD Cert.HiddenOfIdeal.τ Cert.HiddenOfIdeal.sig) → Buf (Elt Ideal) ℓ) (g : Dev Cert.HiddenOfIdeal.nD → PrngReg), Pre_HiddenOfIdeal m →
    θ_run (Cert.HiddenOfIdeal.defs (F := Ideal)) (onTc (τ := Cert.HiddenOfIdeal.τ) (Cert.HiddenOfIdeal.main (F := Ideal))) ⟨m, fun _ => 0, g⟩ (fun r => (∀ c : Dev Cert.HiddenOfIdeal.nD,
      r.2.mem ((c.tc : Thread Cert.HiddenOfIdeal.nD Cert.HiddenOfIdeal.τ).loc Cert.HiddenOfIdeal.main_arg0) = m ((c.tc : Thread Cert.HiddenOfIdeal.nD Cert.HiddenOfIdeal.τ).loc Cert.HiddenOfIdeal.main_arg0)
      ∧ r.2.mem ((c.tc : Thread Cert.HiddenOfIdeal.nD Cert.HiddenOfIdeal.τ).loc Cert.HiddenOfIdeal.main_arg1) = m ((c.tc : Thread Cert.HiddenOfIdeal.nD Cert.HiddenOfIdeal.τ).loc Cert.HiddenOfIdeal.main_arg1))
      ∧ r.2.sem = fun _ => 0)

def quiescent_HiddenOfReferenceIdeal [hHiddenOfReferenceIdeal : Cert.HiddenOfReferenceIdeal.Facts] : Prop :=
  ∀ (m : (ℓ : Loc Cert.HiddenOfReferenceIdeal.nD Cert.HiddenOfReferenceIdeal.τ Cert.HiddenOfReferenceIdeal.sig) → Buf (Elt Ideal) ℓ) (g : Dev Cert.HiddenOfReferenceIdeal.nD → PrngReg), Pre_HiddenOfReferenceIdeal m →
    θ_run (Cert.HiddenOfReferenceIdeal.defs (F := Ideal)) (onTc (τ := Cert.HiddenOfReferenceIdeal.τ) (Cert.HiddenOfReferenceIdeal.main (F := Ideal))) ⟨m, fun _ => 0, g⟩ (fun r => (∀ c : Dev Cert.HiddenOfReferenceIdeal.nD,
      r.2.mem ((c.tc : Thread Cert.HiddenOfReferenceIdeal.nD Cert.HiddenOfReferenceIdeal.τ).loc Cert.HiddenOfReferenceIdeal.main_arg0) = m ((c.tc : Thread Cert.HiddenOfReferenceIdeal.nD Cert.HiddenOfReferenceIdeal.τ).loc Cert.HiddenOfReferenceIdeal.main_arg0)
      ∧ r.2.mem ((c.tc : Thread Cert.HiddenOfReferenceIdeal.nD Cert.HiddenOfReferenceIdeal.τ).loc Cert.HiddenOfReferenceIdeal.main_arg1) = m ((c.tc : Thread Cert.HiddenOfReferenceIdeal.nD Cert.HiddenOfReferenceIdeal.τ).loc Cert.HiddenOfReferenceIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ r.2.sem = fun _ => 0)

def quiescent_MlpOutReferenceIdeal [hMlpOutReferenceIdeal : Cert.MlpOutReferenceIdeal.Facts] : Prop :=
  ∀ (m : (ℓ : Loc Cert.MlpOutReferenceIdeal.nD Cert.MlpOutReferenceIdeal.τ Cert.MlpOutReferenceIdeal.sig) → Buf (Elt Ideal) ℓ) (g : Dev Cert.MlpOutReferenceIdeal.nD → PrngReg), Pre_MlpOutReferenceIdeal m →
    θ_run (Cert.MlpOutReferenceIdeal.defs (F := Ideal)) (onTc (τ := Cert.MlpOutReferenceIdeal.τ) (Cert.MlpOutReferenceIdeal.main (F := Ideal))) ⟨m, fun _ => 0, g⟩ (fun r => (∀ c : Dev Cert.MlpOutReferenceIdeal.nD,
      r.2.mem ((c.tc : Thread Cert.MlpOutReferenceIdeal.nD Cert.MlpOutReferenceIdeal.τ).loc Cert.MlpOutReferenceIdeal.main_arg0) = m ((c.tc : Thread Cert.MlpOutReferenceIdeal.nD Cert.MlpOutReferenceIdeal.τ).loc Cert.MlpOutReferenceIdeal.main_arg0)
      ∧ r.2.mem ((c.tc : Thread Cert.MlpOutReferenceIdeal.nD Cert.MlpOutReferenceIdeal.τ).loc Cert.MlpOutReferenceIdeal.main_arg1) = m ((c.tc : Thread Cert.MlpOutReferenceIdeal.nD Cert.MlpOutReferenceIdeal.τ).loc Cert.MlpOutReferenceIdeal.main_arg1))
      ∧ r.2.sem = fun _ => 0)

def quiescent_QkvOf [hQkvOf : Cert.QkvOf.Facts] : Prop :=
  ∀ (m : (ℓ : Loc Cert.QkvOf.nD Cert.QkvOf.τ Cert.QkvOf.sig) → Buf (Elt Bits) ℓ) (g : Dev Cert.QkvOf.nD → PrngReg), Pre_QkvOf m →
    θ_run (Cert.QkvOf.defs (F := Bits)) (onTc (τ := Cert.QkvOf.τ) (Cert.QkvOf.main (F := Bits))) ⟨m, fun _ => 0, g⟩ (fun r => (∀ c : Dev Cert.QkvOf.nD,
      r.2.mem ((c.tc : Thread Cert.QkvOf.nD Cert.QkvOf.τ).loc Cert.QkvOf.main_arg0) = m ((c.tc : Thread Cert.QkvOf.nD Cert.QkvOf.τ).loc Cert.QkvOf.main_arg0)
      ∧ r.2.mem ((c.tc : Thread Cert.QkvOf.nD Cert.QkvOf.τ).loc Cert.QkvOf.main_arg1) = m ((c.tc : Thread Cert.QkvOf.nD Cert.QkvOf.τ).loc Cert.QkvOf.main_arg1))
      ∧ r.2.sem = fun _ => 0)

def quiescent_QkvOfIdeal [hQkvOfIdeal : Cert.QkvOfIdeal.Facts] : Prop :=
  ∀ (m : (ℓ : Loc Cert.QkvOfIdeal.nD Cert.QkvOfIdeal.τ Cert.QkvOfIdeal.sig) → Buf (Elt Ideal) ℓ) (g : Dev Cert.QkvOfIdeal.nD → PrngReg), Pre_QkvOfIdeal m →
    θ_run (Cert.QkvOfIdeal.defs (F := Ideal)) (onTc (τ := Cert.QkvOfIdeal.τ) (Cert.QkvOfIdeal.main (F := Ideal))) ⟨m, fun _ => 0, g⟩ (fun r => (∀ c : Dev Cert.QkvOfIdeal.nD,
      r.2.mem ((c.tc : Thread Cert.QkvOfIdeal.nD Cert.QkvOfIdeal.τ).loc Cert.QkvOfIdeal.main_arg0) = m ((c.tc : Thread Cert.QkvOfIdeal.nD Cert.QkvOfIdeal.τ).loc Cert.QkvOfIdeal.main_arg0)
      ∧ r.2.mem ((c.tc : Thread Cert.QkvOfIdeal.nD Cert.QkvOfIdeal.τ).loc Cert.QkvOfIdeal.main_arg1) = m ((c.tc : Thread Cert.QkvOfIdeal.nD Cert.QkvOfIdeal.τ).loc Cert.QkvOfIdeal.main_arg1))
      ∧ r.2.sem = fun _ => 0)

def quiescent_QkvOfReferenceIdeal [hQkvOfReferenceIdeal : Cert.QkvOfReferenceIdeal.Facts] : Prop :=
  ∀ (m : (ℓ : Loc Cert.QkvOfReferenceIdeal.nD Cert.QkvOfReferenceIdeal.τ Cert.QkvOfReferenceIdeal.sig) → Buf (Elt Ideal) ℓ) (g : Dev Cert.QkvOfReferenceIdeal.nD → PrngReg), Pre_QkvOfReferenceIdeal m →
    θ_run (Cert.QkvOfReferenceIdeal.defs (F := Ideal)) (onTc (τ := Cert.QkvOfReferenceIdeal.τ) (Cert.QkvOfReferenceIdeal.main (F := Ideal))) ⟨m, fun _ => 0, g⟩ (fun r => (∀ c : Dev Cert.QkvOfReferenceIdeal.nD,
      r.2.mem ((c.tc : Thread Cert.QkvOfReferenceIdeal.nD Cert.QkvOfReferenceIdeal.τ).loc Cert.QkvOfReferenceIdeal.main_arg0) = m ((c.tc : Thread Cert.QkvOfReferenceIdeal.nD Cert.QkvOfReferenceIdeal.τ).loc Cert.QkvOfReferenceIdeal.main_arg0)
      ∧ r.2.mem ((c.tc : Thread Cert.QkvOfReferenceIdeal.nD Cert.QkvOfReferenceIdeal.τ).loc Cert.QkvOfReferenceIdeal.main_arg1) = m ((c.tc : Thread Cert.QkvOfReferenceIdeal.nD Cert.QkvOfReferenceIdeal.τ).loc Cert.QkvOfReferenceIdeal.main_arg1))
      ∧ r.2.sem = fun _ => 0)

def quiescent_MixOf [hMixOf : Cert.MixOf.Facts] : Prop :=
  ∀ (m : (ℓ : Loc Cert.MixOf.nD Cert.MixOf.τ Cert.MixOf.sig) → Buf (Elt Bits) ℓ) (g : Dev Cert.MixOf.nD → PrngReg), Pre_MixOf m →
    θ_run (Cert.MixOf.defs (F := Bits)) (onTc (τ := Cert.MixOf.τ) (Cert.MixOf.main (F := Bits))) ⟨m, fun _ => 0, g⟩ (fun r => (∀ c : Dev Cert.MixOf.nD,
      r.2.mem ((c.tc : Thread Cert.MixOf.nD Cert.MixOf.τ).loc Cert.MixOf.main_arg0) = m ((c.tc : Thread Cert.MixOf.nD Cert.MixOf.τ).loc Cert.MixOf.main_arg0)
      ∧ r.2.mem ((c.tc : Thread Cert.MixOf.nD Cert.MixOf.τ).loc Cert.MixOf.main_arg1) = m ((c.tc : Thread Cert.MixOf.nD Cert.MixOf.τ).loc Cert.MixOf.main_arg1))
      ∧ r.2.sem = fun _ => 0)

def quiescent_MixOfIdeal [hMixOfIdeal : Cert.MixOfIdeal.Facts] : Prop :=
  ∀ (m : (ℓ : Loc Cert.MixOfIdeal.nD Cert.MixOfIdeal.τ Cert.MixOfIdeal.sig) → Buf (Elt Ideal) ℓ) (g : Dev Cert.MixOfIdeal.nD → PrngReg), Pre_MixOfIdeal m →
    θ_run (Cert.MixOfIdeal.defs (F := Ideal)) (onTc (τ := Cert.MixOfIdeal.τ) (Cert.MixOfIdeal.main (F := Ideal))) ⟨m, fun _ => 0, g⟩ (fun r => (∀ c : Dev Cert.MixOfIdeal.nD,
      r.2.mem ((c.tc : Thread Cert.MixOfIdeal.nD Cert.MixOfIdeal.τ).loc Cert.MixOfIdeal.main_arg0) = m ((c.tc : Thread Cert.MixOfIdeal.nD Cert.MixOfIdeal.τ).loc Cert.MixOfIdeal.main_arg0)
      ∧ r.2.mem ((c.tc : Thread Cert.MixOfIdeal.nD Cert.MixOfIdeal.τ).loc Cert.MixOfIdeal.main_arg1) = m ((c.tc : Thread Cert.MixOfIdeal.nD Cert.MixOfIdeal.τ).loc Cert.MixOfIdeal.main_arg1))
      ∧ r.2.sem = fun _ => 0)

def quiescent_MixOfReferenceIdeal [hMixOfReferenceIdeal : Cert.MixOfReferenceIdeal.Facts] : Prop :=
  ∀ (m : (ℓ : Loc Cert.MixOfReferenceIdeal.nD Cert.MixOfReferenceIdeal.τ Cert.MixOfReferenceIdeal.sig) → Buf (Elt Ideal) ℓ) (g : Dev Cert.MixOfReferenceIdeal.nD → PrngReg), Pre_MixOfReferenceIdeal m →
    θ_run (Cert.MixOfReferenceIdeal.defs (F := Ideal)) (onTc (τ := Cert.MixOfReferenceIdeal.τ) (Cert.MixOfReferenceIdeal.main (F := Ideal))) ⟨m, fun _ => 0, g⟩ (fun r => (∀ c : Dev Cert.MixOfReferenceIdeal.nD,
      r.2.mem ((c.tc : Thread Cert.MixOfReferenceIdeal.nD Cert.MixOfReferenceIdeal.τ).loc Cert.MixOfReferenceIdeal.main_arg0) = m ((c.tc : Thread Cert.MixOfReferenceIdeal.nD Cert.MixOfReferenceIdeal.τ).loc Cert.MixOfReferenceIdeal.main_arg0)
      ∧ r.2.mem ((c.tc : Thread Cert.MixOfReferenceIdeal.nD Cert.MixOfReferenceIdeal.τ).loc Cert.MixOfReferenceIdeal.main_arg1) = m ((c.tc : Thread Cert.MixOfReferenceIdeal.nD Cert.MixOfReferenceIdeal.τ).loc Cert.MixOfReferenceIdeal.main_arg1))
      ∧ r.2.sem = fun _ => 0)

def quiescent_OutOf [hOutOf : Cert.OutOf.Facts] : Prop :=
  ∀ (m : (ℓ : Loc Cert.OutOf.nD Cert.OutOf.τ Cert.OutOf.sig) → Buf (Elt Bits) ℓ) (g : Dev Cert.OutOf.nD → PrngReg), Pre_OutOf m →
    θ_run (Cert.OutOf.defs (F := Bits)) (onTc (τ := Cert.OutOf.τ) (Cert.OutOf.main (F := Bits))) ⟨m, fun _ => 0, g⟩ (fun r => (∀ c : Dev Cert.OutOf.nD,
      r.2.mem ((c.tc : Thread Cert.OutOf.nD Cert.OutOf.τ).loc Cert.OutOf.main_arg0) = m ((c.tc : Thread Cert.OutOf.nD Cert.OutOf.τ).loc Cert.OutOf.main_arg0)
      ∧ r.2.mem ((c.tc : Thread Cert.OutOf.nD Cert.OutOf.τ).loc Cert.OutOf.main_arg1) = m ((c.tc : Thread Cert.OutOf.nD Cert.OutOf.τ).loc Cert.OutOf.main_arg1))
      ∧ r.2.sem = fun _ => 0)

def quiescent_OutOfIdeal [hOutOfIdeal : Cert.OutOfIdeal.Facts] : Prop :=
  ∀ (m : (ℓ : Loc Cert.OutOfIdeal.nD Cert.OutOfIdeal.τ Cert.OutOfIdeal.sig) → Buf (Elt Ideal) ℓ) (g : Dev Cert.OutOfIdeal.nD → PrngReg), Pre_OutOfIdeal m →
    θ_run (Cert.OutOfIdeal.defs (F := Ideal)) (onTc (τ := Cert.OutOfIdeal.τ) (Cert.OutOfIdeal.main (F := Ideal))) ⟨m, fun _ => 0, g⟩ (fun r => (∀ c : Dev Cert.OutOfIdeal.nD,
      r.2.mem ((c.tc : Thread Cert.OutOfIdeal.nD Cert.OutOfIdeal.τ).loc Cert.OutOfIdeal.main_arg0) = m ((c.tc : Thread Cert.OutOfIdeal.nD Cert.OutOfIdeal.τ).loc Cert.OutOfIdeal.main_arg0)
      ∧ r.2.mem ((c.tc : Thread Cert.OutOfIdeal.nD Cert.OutOfIdeal.τ).loc Cert.OutOfIdeal.main_arg1) = m ((c.tc : Thread Cert.OutOfIdeal.nD Cert.OutOfIdeal.τ).loc Cert.OutOfIdeal.main_arg1))
      ∧ r.2.sem = fun _ => 0)

def quiescent_OutOfReferenceIdeal [hOutOfReferenceIdeal : Cert.OutOfReferenceIdeal.Facts] : Prop :=
  ∀ (m : (ℓ : Loc Cert.OutOfReferenceIdeal.nD Cert.OutOfReferenceIdeal.τ Cert.OutOfReferenceIdeal.sig) → Buf (Elt Ideal) ℓ) (g : Dev Cert.OutOfReferenceIdeal.nD → PrngReg), Pre_OutOfReferenceIdeal m →
    θ_run (Cert.OutOfReferenceIdeal.defs (F := Ideal)) (onTc (τ := Cert.OutOfReferenceIdeal.τ) (Cert.OutOfReferenceIdeal.main (F := Ideal))) ⟨m, fun _ => 0, g⟩ (fun r => (∀ c : Dev Cert.OutOfReferenceIdeal.nD,
      r.2.mem ((c.tc : Thread Cert.OutOfReferenceIdeal.nD Cert.OutOfReferenceIdeal.τ).loc Cert.OutOfReferenceIdeal.main_arg0) = m ((c.tc : Thread Cert.OutOfReferenceIdeal.nD Cert.OutOfReferenceIdeal.τ).loc Cert.OutOfReferenceIdeal.main_arg0)
      ∧ r.2.mem ((c.tc : Thread Cert.OutOfReferenceIdeal.nD Cert.OutOfReferenceIdeal.τ).loc Cert.OutOfReferenceIdeal.main_arg1) = m ((c.tc : Thread Cert.OutOfReferenceIdeal.nD Cert.OutOfReferenceIdeal.τ).loc Cert.OutOfReferenceIdeal.main_arg1))
      ∧ r.2.sem = fun _ => 0)

def quiescent_NormOf [hNormOf : Cert.NormOf.Facts] : Prop :=
  ∀ (m : (ℓ : Loc Cert.NormOf.nD Cert.NormOf.τ Cert.NormOf.sig) → Buf (Elt Bits) ℓ) (g : Dev Cert.NormOf.nD → PrngReg), Pre_NormOf m →
    θ_run (Cert.NormOf.defs (F := Bits)) (onTc (τ := Cert.NormOf.τ) (Cert.NormOf.main (F := Bits))) ⟨m, fun _ => 0, g⟩ (fun r => (∀ c : Dev Cert.NormOf.nD,
      r.2.mem ((c.tc : Thread Cert.NormOf.nD Cert.NormOf.τ).loc Cert.NormOf.main_arg0) = m ((c.tc : Thread Cert.NormOf.nD Cert.NormOf.τ).loc Cert.NormOf.main_arg0)
      ∧ r.2.mem ((c.tc : Thread Cert.NormOf.nD Cert.NormOf.τ).loc Cert.NormOf.main_arg1) = m ((c.tc : Thread Cert.NormOf.nD Cert.NormOf.τ).loc Cert.NormOf.main_arg1))
      ∧ r.2.sem = fun _ => 0)

def quiescent_NormOfIdeal [hNormOfIdeal : Cert.NormOfIdeal.Facts] : Prop :=
  ∀ (m : (ℓ : Loc Cert.NormOfIdeal.nD Cert.NormOfIdeal.τ Cert.NormOfIdeal.sig) → Buf (Elt Ideal) ℓ) (g : Dev Cert.NormOfIdeal.nD → PrngReg), Pre_NormOfIdeal m →
    θ_run (Cert.NormOfIdeal.defs (F := Ideal)) (onTc (τ := Cert.NormOfIdeal.τ) (Cert.NormOfIdeal.main (F := Ideal))) ⟨m, fun _ => 0, g⟩ (fun r => (∀ c : Dev Cert.NormOfIdeal.nD,
      r.2.mem ((c.tc : Thread Cert.NormOfIdeal.nD Cert.NormOfIdeal.τ).loc Cert.NormOfIdeal.main_arg0) = m ((c.tc : Thread Cert.NormOfIdeal.nD Cert.NormOfIdeal.τ).loc Cert.NormOfIdeal.main_arg0)
      ∧ r.2.mem ((c.tc : Thread Cert.NormOfIdeal.nD Cert.NormOfIdeal.τ).loc Cert.NormOfIdeal.main_arg1) = m ((c.tc : Thread Cert.NormOfIdeal.nD Cert.NormOfIdeal.τ).loc Cert.NormOfIdeal.main_arg1))
      ∧ r.2.sem = fun _ => 0)

def quiescent_NormOfReferenceIdeal [hNormOfReferenceIdeal : Cert.NormOfReferenceIdeal.Facts] : Prop :=
  ∀ (m : (ℓ : Loc Cert.NormOfReferenceIdeal.nD Cert.NormOfReferenceIdeal.τ Cert.NormOfReferenceIdeal.sig) → Buf (Elt Ideal) ℓ) (g : Dev Cert.NormOfReferenceIdeal.nD → PrngReg), Pre_NormOfReferenceIdeal m →
    θ_run (Cert.NormOfReferenceIdeal.defs (F := Ideal)) (onTc (τ := Cert.NormOfReferenceIdeal.τ) (Cert.NormOfReferenceIdeal.main (F := Ideal))) ⟨m, fun _ => 0, g⟩ (fun r => (∀ c : Dev Cert.NormOfReferenceIdeal.nD,
      r.2.mem ((c.tc : Thread Cert.NormOfReferenceIdeal.nD Cert.NormOfReferenceIdeal.τ).loc Cert.NormOfReferenceIdeal.main_arg0) = m ((c.tc : Thread Cert.NormOfReferenceIdeal.nD Cert.NormOfReferenceIdeal.τ).loc Cert.NormOfReferenceIdeal.main_arg0)
      ∧ r.2.mem ((c.tc : Thread Cert.NormOfReferenceIdeal.nD Cert.NormOfReferenceIdeal.τ).loc Cert.NormOfReferenceIdeal.main_arg1) = m ((c.tc : Thread Cert.NormOfReferenceIdeal.nD Cert.NormOfReferenceIdeal.τ).loc Cert.NormOfReferenceIdeal.main_arg1))
      ∧ r.2.sem = fun _ => 0)

def quiescent_NormsOf [hNormsOf : Cert.NormsOf.Facts] : Prop :=
  ∀ (m : (ℓ : Loc Cert.NormsOf.nD Cert.NormsOf.τ Cert.NormsOf.sig) → Buf (Elt Bits) ℓ) (g : Dev Cert.NormsOf.nD → PrngReg), Pre_NormsOf m →
    θ_run (Cert.NormsOf.defs (F := Bits)) (onTc (τ := Cert.NormsOf.τ) (Cert.NormsOf.main (F := Bits))) ⟨m, fun _ => 0, g⟩ (fun r => (∀ c : Dev Cert.NormsOf.nD,
      r.2.mem ((c.tc : Thread Cert.NormsOf.nD Cert.NormsOf.τ).loc Cert.NormsOf.main_arg0) = m ((c.tc : Thread Cert.NormsOf.nD Cert.NormsOf.τ).loc Cert.NormsOf.main_arg0)
      ∧ r.2.mem ((c.tc : Thread Cert.NormsOf.nD Cert.NormsOf.τ).loc Cert.NormsOf.main_arg1) = m ((c.tc : Thread Cert.NormsOf.nD Cert.NormsOf.τ).loc Cert.NormsOf.main_arg1)
      ∧ r.2.mem ((c.tc : Thread Cert.NormsOf.nD Cert.NormsOf.τ).loc Cert.NormsOf.main_arg2) = m ((c.tc : Thread Cert.NormsOf.nD Cert.NormsOf.τ).loc Cert.NormsOf.main_arg2)
      ∧ r.2.mem ((c.tc : Thread Cert.NormsOf.nD Cert.NormsOf.τ).loc Cert.NormsOf.main_arg3) = m ((c.tc : Thread Cert.NormsOf.nD Cert.NormsOf.τ).loc Cert.NormsOf.main_arg3))
      ∧ r.2.sem = fun _ => 0)

def quiescent_NormsOfIdeal [hNormsOfIdeal : Cert.NormsOfIdeal.Facts] : Prop :=
  ∀ (m : (ℓ : Loc Cert.NormsOfIdeal.nD Cert.NormsOfIdeal.τ Cert.NormsOfIdeal.sig) → Buf (Elt Ideal) ℓ) (g : Dev Cert.NormsOfIdeal.nD → PrngReg), Pre_NormsOfIdeal m →
    θ_run (Cert.NormsOfIdeal.defs (F := Ideal)) (onTc (τ := Cert.NormsOfIdeal.τ) (Cert.NormsOfIdeal.main (F := Ideal))) ⟨m, fun _ => 0, g⟩ (fun r => (∀ c : Dev Cert.NormsOfIdeal.nD,
      r.2.mem ((c.tc : Thread Cert.NormsOfIdeal.nD Cert.NormsOfIdeal.τ).loc Cert.NormsOfIdeal.main_arg0) = m ((c.tc : Thread Cert.NormsOfIdeal.nD Cert.NormsOfIdeal.τ).loc Cert.NormsOfIdeal.main_arg0)
      ∧ r.2.mem ((c.tc : Thread Cert.NormsOfIdeal.nD Cert.NormsOfIdeal.τ).loc Cert.NormsOfIdeal.main_arg1) = m ((c.tc : Thread Cert.NormsOfIdeal.nD Cert.NormsOfIdeal.τ).loc Cert.NormsOfIdeal.main_arg1)
      ∧ r.2.mem ((c.tc : Thread Cert.NormsOfIdeal.nD Cert.NormsOfIdeal.τ).loc Cert.NormsOfIdeal.main_arg2) = m ((c.tc : Thread Cert.NormsOfIdeal.nD Cert.NormsOfIdeal.τ).loc Cert.NormsOfIdeal.main_arg2)
      ∧ r.2.mem ((c.tc : Thread Cert.NormsOfIdeal.nD Cert.NormsOfIdeal.τ).loc Cert.NormsOfIdeal.main_arg3) = m ((c.tc : Thread Cert.NormsOfIdeal.nD Cert.NormsOfIdeal.τ).loc Cert.NormsOfIdeal.main_arg3))
      ∧ r.2.sem = fun _ => 0)

def quiescent_NormsOfReferenceIdeal [hNormsOfReferenceIdeal : Cert.NormsOfReferenceIdeal.Facts] : Prop :=
  ∀ (m : (ℓ : Loc Cert.NormsOfReferenceIdeal.nD Cert.NormsOfReferenceIdeal.τ Cert.NormsOfReferenceIdeal.sig) → Buf (Elt Ideal) ℓ) (g : Dev Cert.NormsOfReferenceIdeal.nD → PrngReg), Pre_NormsOfReferenceIdeal m →
    θ_run (Cert.NormsOfReferenceIdeal.defs (F := Ideal)) (onTc (τ := Cert.NormsOfReferenceIdeal.τ) (Cert.NormsOfReferenceIdeal.main (F := Ideal))) ⟨m, fun _ => 0, g⟩ (fun r => (∀ c : Dev Cert.NormsOfReferenceIdeal.nD,
      r.2.mem ((c.tc : Thread Cert.NormsOfReferenceIdeal.nD Cert.NormsOfReferenceIdeal.τ).loc Cert.NormsOfReferenceIdeal.main_arg0) = m ((c.tc : Thread Cert.NormsOfReferenceIdeal.nD Cert.NormsOfReferenceIdeal.τ).loc Cert.NormsOfReferenceIdeal.main_arg0)
      ∧ r.2.mem ((c.tc : Thread Cert.NormsOfReferenceIdeal.nD Cert.NormsOfReferenceIdeal.τ).loc Cert.NormsOfReferenceIdeal.main_arg1) = m ((c.tc : Thread Cert.NormsOfReferenceIdeal.nD Cert.NormsOfReferenceIdeal.τ).loc Cert.NormsOfReferenceIdeal.main_arg1)
      ∧ r.2.mem ((c.tc : Thread Cert.NormsOfReferenceIdeal.nD Cert.NormsOfReferenceIdeal.τ).loc Cert.NormsOfReferenceIdeal.main_arg2) = m ((c.tc : Thread Cert.NormsOfReferenceIdeal.nD Cert.NormsOfReferenceIdeal.τ).loc Cert.NormsOfReferenceIdeal.main_arg2)
      ∧ r.2.mem ((c.tc : Thread Cert.NormsOfReferenceIdeal.nD Cert.NormsOfReferenceIdeal.τ).loc Cert.NormsOfReferenceIdeal.main_arg3) = m ((c.tc : Thread Cert.NormsOfReferenceIdeal.nD Cert.NormsOfReferenceIdeal.τ).loc Cert.NormsOfReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_HiddenGrad_HiddenGradIdeal : Prop :=
  True

def algebraic_HiddenGradIdeal_HiddenGradReferenceIdeal [hHiddenGradIdeal : Cert.HiddenGradIdeal.Facts] [hHiddenGradReferenceIdeal : Cert.HiddenGradReferenceIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg)
    (m' : (ℓ : Loc Cert.HiddenGradReferenceIdeal.nD Cert.HiddenGradReferenceIdeal.τ Cert.HiddenGradReferenceIdeal.sig) → Buf (Elt Ideal) ℓ) (g' : Dev Cert.HiddenGradReferenceIdeal.nD → PrngReg), Pre_HiddenGradIdeal m →
    (∀ c : Dev Cert.HiddenGradIdeal.nD,
      m' ((c.tc : Thread Cert.HiddenGradReferenceIdeal.nD Cert.HiddenGradReferenceIdeal.τ).loc Cert.HiddenGradReferenceIdeal.main_arg0) = m ((c.tc : Thread Cert.HiddenGradIdeal.nD Cert.HiddenGradIdeal.τ).loc Cert.HiddenGradIdeal.main_arg0)
      ∧ m' ((c.tc : Thread Cert.HiddenGradReferenceIdeal.nD Cert.HiddenGradReferenceIdeal.τ).loc Cert.HiddenGradReferenceIdeal.main_arg1) = m ((c.tc : Thread Cert.HiddenGradIdeal.nD Cert.HiddenGradIdeal.τ).loc Cert.HiddenGradIdeal.main_arg1)
      ∧ m' ((c.tc : Thread Cert.HiddenGradReferenceIdeal.nD Cert.HiddenGradReferenceIdeal.τ).loc Cert.HiddenGradReferenceIdeal.main_arg2) = m ((c.tc : Thread Cert.HiddenGradIdeal.nD Cert.HiddenGradIdeal.τ).loc Cert.HiddenGradIdeal.main_arg2)
      ∧ m' ((c.tc : Thread Cert.HiddenGradReferenceIdeal.nD Cert.HiddenGradReferenceIdeal.τ).loc Cert.HiddenGradReferenceIdeal.main_arg3) = m ((c.tc : Thread Cert.HiddenGradIdeal.nD Cert.HiddenGradIdeal.τ).loc Cert.HiddenGradIdeal.main_arg3)) →
    ∃ (v0 : (c : Dev Cert.HiddenGradIdeal.nD) → Buf (Elt Ideal) ((c.tc : Thread Cert.HiddenGradIdeal.nD Cert.HiddenGradIdeal.τ).loc Cert.HiddenGradIdeal.main_v7)),
      θ_run (Cert.HiddenGradIdeal.defs (F := Ideal)) (onTc (τ := Cert.HiddenGradIdeal.τ) (Cert.HiddenGradIdeal.main (F := Ideal))) ⟨m, fun _ => 0, g⟩ (fun r => ∀ c : Dev Cert.HiddenGradIdeal.nD,
          r.2.mem ((c.tc : Thread Cert.HiddenGradIdeal.nD Cert.HiddenGradIdeal.τ).loc Cert.HiddenGradIdeal.main_v7) = v0 c
          ∧ r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
          ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1)
          ∧ r.2.mem ((c.tc : Thread Cert.HiddenGradIdeal.nD Cert.HiddenGradIdeal.τ).loc Cert.HiddenGradIdeal.main_arg2) = m ((c.tc : Thread Cert.HiddenGradIdeal.nD Cert.HiddenGradIdeal.τ).loc Cert.HiddenGradIdeal.main_arg2)
          ∧ r.2.mem ((c.tc : Thread Cert.HiddenGradIdeal.nD Cert.HiddenGradIdeal.τ).loc Cert.HiddenGradIdeal.main_arg3) = m ((c.tc : Thread Cert.HiddenGradIdeal.nD Cert.HiddenGradIdeal.τ).loc Cert.HiddenGradIdeal.main_arg3))
      ∧ θ_run (Cert.HiddenGradReferenceIdeal.defs (F := Ideal)) (onTc (τ := Cert.HiddenGradReferenceIdeal.τ) (Cert.HiddenGradReferenceIdeal.main (F := Ideal))) ⟨m', fun _ => 0, g'⟩ (fun r => ∀ c : Dev Cert.HiddenGradReferenceIdeal.nD,
          r.2.mem ((c.tc : Thread Cert.HiddenGradReferenceIdeal.nD Cert.HiddenGradReferenceIdeal.τ).loc Cert.HiddenGradReferenceIdeal.main_v17) = v0 c
          ∧ r.2.mem ((c.tc : Thread Cert.HiddenGradReferenceIdeal.nD Cert.HiddenGradReferenceIdeal.τ).loc Cert.HiddenGradReferenceIdeal.main_arg0) = m' ((c.tc : Thread Cert.HiddenGradReferenceIdeal.nD Cert.HiddenGradReferenceIdeal.τ).loc Cert.HiddenGradReferenceIdeal.main_arg0)
          ∧ r.2.mem ((c.tc : Thread Cert.HiddenGradReferenceIdeal.nD Cert.HiddenGradReferenceIdeal.τ).loc Cert.HiddenGradReferenceIdeal.main_arg1) = m' ((c.tc : Thread Cert.HiddenGradReferenceIdeal.nD Cert.HiddenGradReferenceIdeal.τ).loc Cert.HiddenGradReferenceIdeal.main_arg1)
          ∧ r.2.mem ((c.tc : Thread Cert.HiddenGradReferenceIdeal.nD Cert.HiddenGradReferenceIdeal.τ).loc Cert.HiddenGradReferenceIdeal.main_arg2) = m' ((c.tc : Thread Cert.HiddenGradReferenceIdeal.nD Cert.HiddenGradReferenceIdeal.τ).loc Cert.HiddenGradReferenceIdeal.main_arg2)
          ∧ r.2.mem ((c.tc : Thread Cert.HiddenGradReferenceIdeal.nD Cert.HiddenGradReferenceIdeal.τ).loc Cert.HiddenGradReferenceIdeal.main_arg3) = m' ((c.tc : Thread Cert.HiddenGradReferenceIdeal.nD Cert.HiddenGradReferenceIdeal.τ).loc Cert.HiddenGradReferenceIdeal.main_arg3))

def preserves_InputGrad_InputGradIdeal : Prop :=
  True

def algebraic_InputGradIdeal_InputGradReferenceIdeal [hInputGradIdeal : Cert.InputGradIdeal.Facts] [hInputGradReferenceIdeal : Cert.InputGradReferenceIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradReferenceIdeal.nD Cert.InputGradReferenceIdeal.τ Cert.InputGradReferenceIdeal.sig) → Buf (Elt Ideal) ℓ) (g' : Dev Cert.InputGradReferenceIdeal.nD → PrngReg), Pre_InputGradIdeal m →
    (∀ c : Dev Cert.InputGradIdeal.nD,
      m' ((c.tc : Thread Cert.InputGradReferenceIdeal.nD Cert.InputGradReferenceIdeal.τ).loc Cert.InputGradReferenceIdeal.main_arg0) = m ((c.tc : Thread Cert.InputGradIdeal.nD Cert.InputGradIdeal.τ).loc Cert.InputGradIdeal.main_arg0)
      ∧ m' ((c.tc : Thread Cert.InputGradReferenceIdeal.nD Cert.InputGradReferenceIdeal.τ).loc Cert.InputGradReferenceIdeal.main_arg1) = m ((c.tc : Thread Cert.InputGradIdeal.nD Cert.InputGradIdeal.τ).loc Cert.InputGradIdeal.main_arg1)) →
    ∃ (v0 : (c : Dev Cert.InputGradIdeal.nD) → Buf (Elt Ideal) ((c.tc : Thread Cert.InputGradIdeal.nD Cert.InputGradIdeal.τ).loc Cert.InputGradIdeal.main_v0)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v0) = v0 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1))
      ∧ θ_run (Cert.InputGradReferenceIdeal.defs (F := Ideal)) (onTc (τ := Cert.InputGradReferenceIdeal.τ) (Cert.InputGradReferenceIdeal.main (F := Ideal))) ⟨m', fun _ => 0, g'⟩ (fun r => ∀ c : Dev Cert.InputGradReferenceIdeal.nD,
          r.2.mem ((c.tc : Thread Cert.InputGradReferenceIdeal.nD Cert.InputGradReferenceIdeal.τ).loc Cert.InputGradReferenceIdeal.main_v4) = v0 c
          ∧ r.2.mem ((c.tc : Thread Cert.InputGradReferenceIdeal.nD Cert.InputGradReferenceIdeal.τ).loc Cert.InputGradReferenceIdeal.main_arg0) = m' ((c.tc : Thread Cert.InputGradReferenceIdeal.nD Cert.InputGradReferenceIdeal.τ).loc Cert.InputGradReferenceIdeal.main_arg0)
          ∧ r.2.mem ((c.tc : Thread Cert.InputGradReferenceIdeal.nD Cert.InputGradReferenceIdeal.τ).loc Cert.InputGradReferenceIdeal.main_arg1) = m' ((c.tc : Thread Cert.InputGradReferenceIdeal.nD Cert.InputGradReferenceIdeal.τ).loc Cert.InputGradReferenceIdeal.main_arg1))

def preserves_InWeightGrad_InWeightGradIdeal : Prop :=
  True

def algebraic_InWeightGradIdeal_InWeightGradReferenceIdeal [hInWeightGradIdeal : Cert.InWeightGradIdeal.Facts] [hInWeightGradReferenceIdeal : Cert.InWeightGradReferenceIdeal.Facts] : Prop :=
  ∀ (m : (ℓ : Loc Cert.InWeightGradIdeal.nD Cert.InWeightGradIdeal.τ Cert.InWeightGradIdeal.sig) → Buf (Elt Ideal) ℓ) (g : Dev Cert.InWeightGradIdeal.nD → PrngReg)
    (m' : (ℓ : Loc Cert.InWeightGradReferenceIdeal.nD Cert.InWeightGradReferenceIdeal.τ Cert.InWeightGradReferenceIdeal.sig) → Buf (Elt Ideal) ℓ) (g' : Dev Cert.InWeightGradReferenceIdeal.nD → PrngReg), Pre_InWeightGradIdeal m →
    (∀ c : Dev Cert.InWeightGradIdeal.nD,
      m' ((c.tc : Thread Cert.InWeightGradReferenceIdeal.nD Cert.InWeightGradReferenceIdeal.τ).loc Cert.InWeightGradReferenceIdeal.main_arg0) = m ((c.tc : Thread Cert.InWeightGradIdeal.nD Cert.InWeightGradIdeal.τ).loc Cert.InWeightGradIdeal.main_arg0)
      ∧ m' ((c.tc : Thread Cert.InWeightGradReferenceIdeal.nD Cert.InWeightGradReferenceIdeal.τ).loc Cert.InWeightGradReferenceIdeal.main_arg1) = m ((c.tc : Thread Cert.InWeightGradIdeal.nD Cert.InWeightGradIdeal.τ).loc Cert.InWeightGradIdeal.main_arg1)) →
    ∃ (v0 : (c : Dev Cert.InWeightGradIdeal.nD) → Buf (Elt Ideal) ((c.tc : Thread Cert.InWeightGradIdeal.nD Cert.InWeightGradIdeal.τ).loc Cert.InWeightGradIdeal.main_v0)),
      θ_run (Cert.InWeightGradIdeal.defs (F := Ideal)) (onTc (τ := Cert.InWeightGradIdeal.τ) (Cert.InWeightGradIdeal.main (F := Ideal))) ⟨m, fun _ => 0, g⟩ (fun r => ∀ c : Dev Cert.InWeightGradIdeal.nD,
          r.2.mem ((c.tc : Thread Cert.InWeightGradIdeal.nD Cert.InWeightGradIdeal.τ).loc Cert.InWeightGradIdeal.main_v0) = v0 c
          ∧ r.2.mem ((c.tc : Thread Cert.InWeightGradIdeal.nD Cert.InWeightGradIdeal.τ).loc Cert.InWeightGradIdeal.main_arg0) = m ((c.tc : Thread Cert.InWeightGradIdeal.nD Cert.InWeightGradIdeal.τ).loc Cert.InWeightGradIdeal.main_arg0)
          ∧ r.2.mem ((c.tc : Thread Cert.InWeightGradIdeal.nD Cert.InWeightGradIdeal.τ).loc Cert.InWeightGradIdeal.main_arg1) = m ((c.tc : Thread Cert.InWeightGradIdeal.nD Cert.InWeightGradIdeal.τ).loc Cert.InWeightGradIdeal.main_arg1))
      ∧ θ_run (Cert.InWeightGradReferenceIdeal.defs (F := Ideal)) (onTc (τ := Cert.InWeightGradReferenceIdeal.τ) (Cert.InWeightGradReferenceIdeal.main (F := Ideal))) ⟨m', fun _ => 0, g'⟩ (fun r => ∀ c : Dev Cert.InWeightGradReferenceIdeal.nD,
          r.2.mem ((c.tc : Thread Cert.InWeightGradReferenceIdeal.nD Cert.InWeightGradReferenceIdeal.τ).loc Cert.InWeightGradReferenceIdeal.main_v6) = v0 c
          ∧ r.2.mem ((c.tc : Thread Cert.InWeightGradReferenceIdeal.nD Cert.InWeightGradReferenceIdeal.τ).loc Cert.InWeightGradReferenceIdeal.main_arg0) = m' ((c.tc : Thread Cert.InWeightGradReferenceIdeal.nD Cert.InWeightGradReferenceIdeal.τ).loc Cert.InWeightGradReferenceIdeal.main_arg0)
          ∧ r.2.mem ((c.tc : Thread Cert.InWeightGradReferenceIdeal.nD Cert.InWeightGradReferenceIdeal.τ).loc Cert.InWeightGradReferenceIdeal.main_arg1) = m' ((c.tc : Thread Cert.InWeightGradReferenceIdeal.nD Cert.InWeightGradReferenceIdeal.τ).loc Cert.InWeightGradReferenceIdeal.main_arg1))

def preserves_OutWeightGrad_OutWeightGradIdeal : Prop :=
  True

def algebraic_OutWeightGradIdeal_OutWeightGradReferenceIdeal [hOutWeightGradIdeal : Cert.OutWeightGradIdeal.Facts] [hOutWeightGradReferenceIdeal : Cert.OutWeightGradReferenceIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg)
    (m' : (ℓ : Loc Cert.OutWeightGradReferenceIdeal.nD Cert.OutWeightGradReferenceIdeal.τ Cert.OutWeightGradReferenceIdeal.sig) → Buf (Elt Ideal) ℓ) (g' : Dev Cert.OutWeightGradReferenceIdeal.nD → PrngReg), Pre_OutWeightGradIdeal m →
    (∀ c : Dev Cert.OutWeightGradIdeal.nD,
      m' ((c.tc : Thread Cert.OutWeightGradReferenceIdeal.nD Cert.OutWeightGradReferenceIdeal.τ).loc Cert.OutWeightGradReferenceIdeal.main_arg0) = m ((c.tc : Thread Cert.OutWeightGradIdeal.nD Cert.OutWeightGradIdeal.τ).loc Cert.OutWeightGradIdeal.main_arg0)
      ∧ m' ((c.tc : Thread Cert.OutWeightGradReferenceIdeal.nD Cert.OutWeightGradReferenceIdeal.τ).loc Cert.OutWeightGradReferenceIdeal.main_arg1) = m ((c.tc : Thread Cert.OutWeightGradIdeal.nD Cert.OutWeightGradIdeal.τ).loc Cert.OutWeightGradIdeal.main_arg1)) →
    ∃ (v0 : (c : Dev Cert.OutWeightGradIdeal.nD) → Buf (Elt Ideal) ((c.tc : Thread Cert.OutWeightGradIdeal.nD Cert.OutWeightGradIdeal.τ).loc Cert.OutWeightGradIdeal.main_v0)),
      θ_run (Cert.OutWeightGradIdeal.defs (F := Ideal)) (onTc (τ := Cert.OutWeightGradIdeal.τ) (Cert.OutWeightGradIdeal.main (F := Ideal))) ⟨m, fun _ => 0, g⟩ (fun r => ∀ c : Dev Cert.OutWeightGradIdeal.nD,
          r.2.mem ((c.tc : Thread Cert.OutWeightGradIdeal.nD Cert.OutWeightGradIdeal.τ).loc Cert.OutWeightGradIdeal.main_v0) = v0 c
          ∧ r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
          ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ θ_run (Cert.OutWeightGradReferenceIdeal.defs (F := Ideal)) (onTc (τ := Cert.OutWeightGradReferenceIdeal.τ) (Cert.OutWeightGradReferenceIdeal.main (F := Ideal))) ⟨m', fun _ => 0, g'⟩ (fun r => ∀ c : Dev Cert.OutWeightGradReferenceIdeal.nD,
          r.2.mem ((c.tc : Thread Cert.OutWeightGradReferenceIdeal.nD Cert.OutWeightGradReferenceIdeal.τ).loc Cert.OutWeightGradReferenceIdeal.main_v6) = v0 c
          ∧ r.2.mem ((c.tc : Thread Cert.OutWeightGradReferenceIdeal.nD Cert.OutWeightGradReferenceIdeal.τ).loc Cert.OutWeightGradReferenceIdeal.main_arg0) = m' ((c.tc : Thread Cert.OutWeightGradReferenceIdeal.nD Cert.OutWeightGradReferenceIdeal.τ).loc Cert.OutWeightGradReferenceIdeal.main_arg0)
          ∧ r.2.mem ((c.tc : Thread Cert.OutWeightGradReferenceIdeal.nD Cert.OutWeightGradReferenceIdeal.τ).loc Cert.OutWeightGradReferenceIdeal.main_arg1) = m' ((c.tc : Thread Cert.OutWeightGradReferenceIdeal.nD Cert.OutWeightGradReferenceIdeal.τ).loc Cert.OutWeightGradReferenceIdeal.main_arg1))

def preserves_OutWeightGrads_OutWeightGradsIdeal : Prop :=
  True

def algebraic_OutWeightGradsIdeal_OutWeightGradsReferenceIdeal [hOutWeightGradsIdeal : Cert.OutWeightGradsIdeal.Facts] [hOutWeightGradsReferenceIdeal : Cert.OutWeightGradsReferenceIdeal.Facts] : Prop :=
  ∀ (m : (ℓ : Loc Cert.OutWeightGradsIdeal.nD Cert.OutWeightGradsIdeal.τ Cert.OutWeightGradsIdeal.sig) → Buf (Elt Ideal) ℓ) (g : Dev Cert.OutWeightGradsIdeal.nD → PrngReg)
    (m' : (ℓ : Loc Cert.OutWeightGradsReferenceIdeal.nD Cert.OutWeightGradsReferenceIdeal.τ Cert.OutWeightGradsReferenceIdeal.sig) → Buf (Elt Ideal) ℓ) (g' : Dev Cert.OutWeightGradsReferenceIdeal.nD → PrngReg), Pre_OutWeightGradsIdeal m →
    (∀ c : Dev Cert.OutWeightGradsIdeal.nD,
      m' ((c.tc : Thread Cert.OutWeightGradsReferenceIdeal.nD Cert.OutWeightGradsReferenceIdeal.τ).loc Cert.OutWeightGradsReferenceIdeal.main_arg0) = m ((c.tc : Thread Cert.OutWeightGradsIdeal.nD Cert.OutWeightGradsIdeal.τ).loc Cert.OutWeightGradsIdeal.main_arg0)
      ∧ m' ((c.tc : Thread Cert.OutWeightGradsReferenceIdeal.nD Cert.OutWeightGradsReferenceIdeal.τ).loc Cert.OutWeightGradsReferenceIdeal.main_arg1) = m ((c.tc : Thread Cert.OutWeightGradsIdeal.nD Cert.OutWeightGradsIdeal.τ).loc Cert.OutWeightGradsIdeal.main_arg1)) →
    ∃ (v0 : (c : Dev Cert.OutWeightGradsIdeal.nD) → Buf (Elt Ideal) ((c.tc : Thread Cert.OutWeightGradsIdeal.nD Cert.OutWeightGradsIdeal.τ).loc Cert.OutWeightGradsIdeal.main_v0)),
      θ_run (Cert.OutWeightGradsIdeal.defs (F := Ideal)) (onTc (τ := Cert.OutWeightGradsIdeal.τ) (Cert.OutWeightGradsIdeal.main (F := Ideal))) ⟨m, fun _ => 0, g⟩ (fun r => ∀ c : Dev Cert.OutWeightGradsIdeal.nD,
          r.2.mem ((c.tc : Thread Cert.OutWeightGradsIdeal.nD Cert.OutWeightGradsIdeal.τ).loc Cert.OutWeightGradsIdeal.main_v0) = v0 c
          ∧ r.2.mem ((c.tc : Thread Cert.OutWeightGradsIdeal.nD Cert.OutWeightGradsIdeal.τ).loc Cert.OutWeightGradsIdeal.main_arg0) = m ((c.tc : Thread Cert.OutWeightGradsIdeal.nD Cert.OutWeightGradsIdeal.τ).loc Cert.OutWeightGradsIdeal.main_arg0)
          ∧ r.2.mem ((c.tc : Thread Cert.OutWeightGradsIdeal.nD Cert.OutWeightGradsIdeal.τ).loc Cert.OutWeightGradsIdeal.main_arg1) = m ((c.tc : Thread Cert.OutWeightGradsIdeal.nD Cert.OutWeightGradsIdeal.τ).loc Cert.OutWeightGradsIdeal.main_arg1))
      ∧ θ_run (Cert.OutWeightGradsReferenceIdeal.defs (F := Ideal)) (onTc (τ := Cert.OutWeightGradsReferenceIdeal.τ) (Cert.OutWeightGradsReferenceIdeal.main (F := Ideal))) ⟨m', fun _ => 0, g'⟩ (fun r => ∀ c : Dev Cert.OutWeightGradsReferenceIdeal.nD,
          r.2.mem ((c.tc : Thread Cert.OutWeightGradsReferenceIdeal.nD Cert.OutWeightGradsReferenceIdeal.τ).loc Cert.OutWeightGradsReferenceIdeal.main_v6) = v0 c
          ∧ r.2.mem ((c.tc : Thread Cert.OutWeightGradsReferenceIdeal.nD Cert.OutWeightGradsReferenceIdeal.τ).loc Cert.OutWeightGradsReferenceIdeal.main_arg0) = m' ((c.tc : Thread Cert.OutWeightGradsReferenceIdeal.nD Cert.OutWeightGradsReferenceIdeal.τ).loc Cert.OutWeightGradsReferenceIdeal.main_arg0)
          ∧ r.2.mem ((c.tc : Thread Cert.OutWeightGradsReferenceIdeal.nD Cert.OutWeightGradsReferenceIdeal.τ).loc Cert.OutWeightGradsReferenceIdeal.main_arg1) = m' ((c.tc : Thread Cert.OutWeightGradsReferenceIdeal.nD Cert.OutWeightGradsReferenceIdeal.τ).loc Cert.OutWeightGradsReferenceIdeal.main_arg1))

def preserves_AttentionGrad_AttentionGradIdeal : Prop :=
  True

def algebraic_AttentionGradIdeal_AttentionGradReferenceIdeal [hAttentionGradIdeal : Cert.AttentionGradIdeal.Facts] [hAttentionGradReferenceIdeal : Cert.AttentionGradReferenceIdeal.Facts] : Prop :=
  ∀ (m : (ℓ : Loc Cert.AttentionGradIdeal.nD Cert.AttentionGradIdeal.τ Cert.AttentionGradIdeal.sig) → Buf (Elt Ideal) ℓ) (g : Dev Cert.AttentionGradIdeal.nD → PrngReg)
    (m' : (ℓ : Loc Cert.AttentionGradReferenceIdeal.nD Cert.AttentionGradReferenceIdeal.τ Cert.AttentionGradReferenceIdeal.sig) → Buf (Elt Ideal) ℓ) (g' : Dev Cert.AttentionGradReferenceIdeal.nD → PrngReg), Pre_AttentionGradIdeal m →
    (∀ c : Dev Cert.AttentionGradIdeal.nD,
      m' ((c.tc : Thread Cert.AttentionGradReferenceIdeal.nD Cert.AttentionGradReferenceIdeal.τ).loc Cert.AttentionGradReferenceIdeal.main_arg0) = m ((c.tc : Thread Cert.AttentionGradIdeal.nD Cert.AttentionGradIdeal.τ).loc Cert.AttentionGradIdeal.main_arg0)
      ∧ m' ((c.tc : Thread Cert.AttentionGradReferenceIdeal.nD Cert.AttentionGradReferenceIdeal.τ).loc Cert.AttentionGradReferenceIdeal.main_arg1) = m ((c.tc : Thread Cert.AttentionGradIdeal.nD Cert.AttentionGradIdeal.τ).loc Cert.AttentionGradIdeal.main_arg1)) →
    ∃ (v0 : (c : Dev Cert.AttentionGradIdeal.nD) → Buf (Elt Ideal) ((c.tc : Thread Cert.AttentionGradIdeal.nD Cert.AttentionGradIdeal.τ).loc Cert.AttentionGradIdeal.main_v0)),
      θ_run (Cert.AttentionGradIdeal.defs (F := Ideal)) (onTc (τ := Cert.AttentionGradIdeal.τ) (Cert.AttentionGradIdeal.main (F := Ideal))) ⟨m, fun _ => 0, g⟩ (fun r => ∀ c : Dev Cert.AttentionGradIdeal.nD,
          r.2.mem ((c.tc : Thread Cert.AttentionGradIdeal.nD Cert.AttentionGradIdeal.τ).loc Cert.AttentionGradIdeal.main_v0) = v0 c
          ∧ r.2.mem ((c.tc : Thread Cert.AttentionGradIdeal.nD Cert.AttentionGradIdeal.τ).loc Cert.AttentionGradIdeal.main_arg0) = m ((c.tc : Thread Cert.AttentionGradIdeal.nD Cert.AttentionGradIdeal.τ).loc Cert.AttentionGradIdeal.main_arg0)
          ∧ r.2.mem ((c.tc : Thread Cert.AttentionGradIdeal.nD Cert.AttentionGradIdeal.τ).loc Cert.AttentionGradIdeal.main_arg1) = m ((c.tc : Thread Cert.AttentionGradIdeal.nD Cert.AttentionGradIdeal.τ).loc Cert.AttentionGradIdeal.main_arg1))
      ∧ θ_run (Cert.AttentionGradReferenceIdeal.defs (F := Ideal)) (onTc (τ := Cert.AttentionGradReferenceIdeal.τ) (Cert.AttentionGradReferenceIdeal.main (F := Ideal))) ⟨m', fun _ => 0, g'⟩ (fun r => ∀ c : Dev Cert.AttentionGradReferenceIdeal.nD,
          r.2.mem ((c.tc : Thread Cert.AttentionGradReferenceIdeal.nD Cert.AttentionGradReferenceIdeal.τ).loc Cert.AttentionGradReferenceIdeal.main_v5) = v0 c
          ∧ r.2.mem ((c.tc : Thread Cert.AttentionGradReferenceIdeal.nD Cert.AttentionGradReferenceIdeal.τ).loc Cert.AttentionGradReferenceIdeal.main_arg0) = m' ((c.tc : Thread Cert.AttentionGradReferenceIdeal.nD Cert.AttentionGradReferenceIdeal.τ).loc Cert.AttentionGradReferenceIdeal.main_arg0)
          ∧ r.2.mem ((c.tc : Thread Cert.AttentionGradReferenceIdeal.nD Cert.AttentionGradReferenceIdeal.τ).loc Cert.AttentionGradReferenceIdeal.main_arg1) = m' ((c.tc : Thread Cert.AttentionGradReferenceIdeal.nD Cert.AttentionGradReferenceIdeal.τ).loc Cert.AttentionGradReferenceIdeal.main_arg1))

def preserves_MixersGrad_MixersGradIdeal : Prop :=
  True

def algebraic_MixersGradIdeal_MixersGradReferenceIdeal [hMixersGradIdeal : Cert.MixersGradIdeal.Facts] [hMixersGradReferenceIdeal : Cert.MixersGradReferenceIdeal.Facts] : Prop :=
  ∀ (m : (ℓ : Loc Cert.MixersGradIdeal.nD Cert.MixersGradIdeal.τ Cert.MixersGradIdeal.sig) → Buf (Elt Ideal) ℓ) (g : Dev Cert.MixersGradIdeal.nD → PrngReg)
    (m' : (ℓ : Loc Cert.MixersGradReferenceIdeal.nD Cert.MixersGradReferenceIdeal.τ Cert.MixersGradReferenceIdeal.sig) → Buf (Elt Ideal) ℓ) (g' : Dev Cert.MixersGradReferenceIdeal.nD → PrngReg), Pre_MixersGradIdeal m →
    (∀ c : Dev Cert.MixersGradIdeal.nD,
      m' ((c.tc : Thread Cert.MixersGradReferenceIdeal.nD Cert.MixersGradReferenceIdeal.τ).loc Cert.MixersGradReferenceIdeal.main_arg0) = m ((c.tc : Thread Cert.MixersGradIdeal.nD Cert.MixersGradIdeal.τ).loc Cert.MixersGradIdeal.main_arg0)
      ∧ m' ((c.tc : Thread Cert.MixersGradReferenceIdeal.nD Cert.MixersGradReferenceIdeal.τ).loc Cert.MixersGradReferenceIdeal.main_arg1) = m ((c.tc : Thread Cert.MixersGradIdeal.nD Cert.MixersGradIdeal.τ).loc Cert.MixersGradIdeal.main_arg1)) →
    ∃ (v0 : (c : Dev Cert.MixersGradIdeal.nD) → Buf (Elt Ideal) ((c.tc : Thread Cert.MixersGradIdeal.nD Cert.MixersGradIdeal.τ).loc Cert.MixersGradIdeal.main_v0)),
      θ_run (Cert.MixersGradIdeal.defs (F := Ideal)) (onTc (τ := Cert.MixersGradIdeal.τ) (Cert.MixersGradIdeal.main (F := Ideal))) ⟨m, fun _ => 0, g⟩ (fun r => ∀ c : Dev Cert.MixersGradIdeal.nD,
          r.2.mem ((c.tc : Thread Cert.MixersGradIdeal.nD Cert.MixersGradIdeal.τ).loc Cert.MixersGradIdeal.main_v0) = v0 c
          ∧ r.2.mem ((c.tc : Thread Cert.MixersGradIdeal.nD Cert.MixersGradIdeal.τ).loc Cert.MixersGradIdeal.main_arg0) = m ((c.tc : Thread Cert.MixersGradIdeal.nD Cert.MixersGradIdeal.τ).loc Cert.MixersGradIdeal.main_arg0)
          ∧ r.2.mem ((c.tc : Thread Cert.MixersGradIdeal.nD Cert.MixersGradIdeal.τ).loc Cert.MixersGradIdeal.main_arg1) = m ((c.tc : Thread Cert.MixersGradIdeal.nD Cert.MixersGradIdeal.τ).loc Cert.MixersGradIdeal.main_arg1))
      ∧ θ_run (Cert.MixersGradReferenceIdeal.defs (F := Ideal)) (onTc (τ := Cert.MixersGradReferenceIdeal.τ) (Cert.MixersGradReferenceIdeal.main (F := Ideal))) ⟨m', fun _ => 0, g'⟩ (fun r => ∀ c : Dev Cert.MixersGradReferenceIdeal.nD,
          r.2.mem ((c.tc : Thread Cert.MixersGradReferenceIdeal.nD Cert.MixersGradReferenceIdeal.τ).loc Cert.MixersGradReferenceIdeal.main_v4) = v0 c
          ∧ r.2.mem ((c.tc : Thread Cert.MixersGradReferenceIdeal.nD Cert.MixersGradReferenceIdeal.τ).loc Cert.MixersGradReferenceIdeal.main_arg0) = m' ((c.tc : Thread Cert.MixersGradReferenceIdeal.nD Cert.MixersGradReferenceIdeal.τ).loc Cert.MixersGradReferenceIdeal.main_arg0)
          ∧ r.2.mem ((c.tc : Thread Cert.MixersGradReferenceIdeal.nD Cert.MixersGradReferenceIdeal.τ).loc Cert.MixersGradReferenceIdeal.main_arg1) = m' ((c.tc : Thread Cert.MixersGradReferenceIdeal.nD Cert.MixersGradReferenceIdeal.τ).loc Cert.MixersGradReferenceIdeal.main_arg1))

def preserves_QkvWeightGrad_QkvWeightGradIdeal : Prop :=
  True

def algebraic_QkvWeightGradIdeal_QkvWeightGradReferenceIdeal [hQkvWeightGradIdeal : Cert.QkvWeightGradIdeal.Facts] [hQkvWeightGradReferenceIdeal : Cert.QkvWeightGradReferenceIdeal.Facts] : Prop :=
  ∀ (m : (ℓ : Loc Cert.QkvWeightGradIdeal.nD Cert.QkvWeightGradIdeal.τ Cert.QkvWeightGradIdeal.sig) → Buf (Elt Ideal) ℓ) (g : Dev Cert.QkvWeightGradIdeal.nD → PrngReg)
    (m' : (ℓ : Loc Cert.QkvWeightGradReferenceIdeal.nD Cert.QkvWeightGradReferenceIdeal.τ Cert.QkvWeightGradReferenceIdeal.sig) → Buf (Elt Ideal) ℓ) (g' : Dev Cert.QkvWeightGradReferenceIdeal.nD → PrngReg), Pre_QkvWeightGradIdeal m →
    (∀ c : Dev Cert.QkvWeightGradIdeal.nD,
      m' ((c.tc : Thread Cert.QkvWeightGradReferenceIdeal.nD Cert.QkvWeightGradReferenceIdeal.τ).loc Cert.QkvWeightGradReferenceIdeal.main_arg0) = m ((c.tc : Thread Cert.QkvWeightGradIdeal.nD Cert.QkvWeightGradIdeal.τ).loc Cert.QkvWeightGradIdeal.main_arg0)
      ∧ m' ((c.tc : Thread Cert.QkvWeightGradReferenceIdeal.nD Cert.QkvWeightGradReferenceIdeal.τ).loc Cert.QkvWeightGradReferenceIdeal.main_arg1) = m ((c.tc : Thread Cert.QkvWeightGradIdeal.nD Cert.QkvWeightGradIdeal.τ).loc Cert.QkvWeightGradIdeal.main_arg1)) →
    ∃ (v0 : (c : Dev Cert.QkvWeightGradIdeal.nD) → Buf (Elt Ideal) ((c.tc : Thread Cert.QkvWeightGradIdeal.nD Cert.QkvWeightGradIdeal.τ).loc Cert.QkvWeightGradIdeal.main_v0)),
      θ_run (Cert.QkvWeightGradIdeal.defs (F := Ideal)) (onTc (τ := Cert.QkvWeightGradIdeal.τ) (Cert.QkvWeightGradIdeal.main (F := Ideal))) ⟨m, fun _ => 0, g⟩ (fun r => ∀ c : Dev Cert.QkvWeightGradIdeal.nD,
          r.2.mem ((c.tc : Thread Cert.QkvWeightGradIdeal.nD Cert.QkvWeightGradIdeal.τ).loc Cert.QkvWeightGradIdeal.main_v0) = v0 c
          ∧ r.2.mem ((c.tc : Thread Cert.QkvWeightGradIdeal.nD Cert.QkvWeightGradIdeal.τ).loc Cert.QkvWeightGradIdeal.main_arg0) = m ((c.tc : Thread Cert.QkvWeightGradIdeal.nD Cert.QkvWeightGradIdeal.τ).loc Cert.QkvWeightGradIdeal.main_arg0)
          ∧ r.2.mem ((c.tc : Thread Cert.QkvWeightGradIdeal.nD Cert.QkvWeightGradIdeal.τ).loc Cert.QkvWeightGradIdeal.main_arg1) = m ((c.tc : Thread Cert.QkvWeightGradIdeal.nD Cert.QkvWeightGradIdeal.τ).loc Cert.QkvWeightGradIdeal.main_arg1))
      ∧ θ_run (Cert.QkvWeightGradReferenceIdeal.defs (F := Ideal)) (onTc (τ := Cert.QkvWeightGradReferenceIdeal.τ) (Cert.QkvWeightGradReferenceIdeal.main (F := Ideal))) ⟨m', fun _ => 0, g'⟩ (fun r => ∀ c : Dev Cert.QkvWeightGradReferenceIdeal.nD,
          r.2.mem ((c.tc : Thread Cert.QkvWeightGradReferenceIdeal.nD Cert.QkvWeightGradReferenceIdeal.τ).loc Cert.QkvWeightGradReferenceIdeal.main_v6) = v0 c
          ∧ r.2.mem ((c.tc : Thread Cert.QkvWeightGradReferenceIdeal.nD Cert.QkvWeightGradReferenceIdeal.τ).loc Cert.QkvWeightGradReferenceIdeal.main_arg0) = m' ((c.tc : Thread Cert.QkvWeightGradReferenceIdeal.nD Cert.QkvWeightGradReferenceIdeal.τ).loc Cert.QkvWeightGradReferenceIdeal.main_arg0)
          ∧ r.2.mem ((c.tc : Thread Cert.QkvWeightGradReferenceIdeal.nD Cert.QkvWeightGradReferenceIdeal.τ).loc Cert.QkvWeightGradReferenceIdeal.main_arg1) = m' ((c.tc : Thread Cert.QkvWeightGradReferenceIdeal.nD Cert.QkvWeightGradReferenceIdeal.τ).loc Cert.QkvWeightGradReferenceIdeal.main_arg1))

def preserves_QkvGrad_QkvGradIdeal : Prop :=
  True

def algebraic_QkvGradIdeal_QkvGradReferenceIdeal [hQkvGradIdeal : Cert.QkvGradIdeal.Facts] [hQkvGradReferenceIdeal : Cert.QkvGradReferenceIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg)
    (m' : (ℓ : Loc Cert.QkvGradReferenceIdeal.nD Cert.QkvGradReferenceIdeal.τ Cert.QkvGradReferenceIdeal.sig) → Buf (Elt Ideal) ℓ) (g' : Dev Cert.QkvGradReferenceIdeal.nD → PrngReg), Pre_QkvGradIdeal m →
    (∀ c : Dev Cert.QkvGradIdeal.nD,
      m' ((c.tc : Thread Cert.QkvGradReferenceIdeal.nD Cert.QkvGradReferenceIdeal.τ).loc Cert.QkvGradReferenceIdeal.main_arg0) = m ((c.tc : Thread Cert.QkvGradIdeal.nD Cert.QkvGradIdeal.τ).loc Cert.QkvGradIdeal.main_arg0)
      ∧ m' ((c.tc : Thread Cert.QkvGradReferenceIdeal.nD Cert.QkvGradReferenceIdeal.τ).loc Cert.QkvGradReferenceIdeal.main_arg1) = m ((c.tc : Thread Cert.QkvGradIdeal.nD Cert.QkvGradIdeal.τ).loc Cert.QkvGradIdeal.main_arg1)) →
    ∃ (v0 : (c : Dev Cert.QkvGradIdeal.nD) → Buf (Elt Ideal) ((c.tc : Thread Cert.QkvGradIdeal.nD Cert.QkvGradIdeal.τ).loc Cert.QkvGradIdeal.main_v0)),
      θ_run (Cert.QkvGradIdeal.defs (F := Ideal)) (onTc (τ := Cert.QkvGradIdeal.τ) (Cert.QkvGradIdeal.main (F := Ideal))) ⟨m, fun _ => 0, g⟩ (fun r => ∀ c : Dev Cert.QkvGradIdeal.nD,
          r.2.mem ((c.tc : Thread Cert.QkvGradIdeal.nD Cert.QkvGradIdeal.τ).loc Cert.QkvGradIdeal.main_v0) = v0 c
          ∧ r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
          ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1))
      ∧ θ_run (Cert.QkvGradReferenceIdeal.defs (F := Ideal)) (onTc (τ := Cert.QkvGradReferenceIdeal.τ) (Cert.QkvGradReferenceIdeal.main (F := Ideal))) ⟨m', fun _ => 0, g'⟩ (fun r => ∀ c : Dev Cert.QkvGradReferenceIdeal.nD,
          r.2.mem ((c.tc : Thread Cert.QkvGradReferenceIdeal.nD Cert.QkvGradReferenceIdeal.τ).loc Cert.QkvGradReferenceIdeal.main_v4) = v0 c
          ∧ r.2.mem ((c.tc : Thread Cert.QkvGradReferenceIdeal.nD Cert.QkvGradReferenceIdeal.τ).loc Cert.QkvGradReferenceIdeal.main_arg0) = m' ((c.tc : Thread Cert.QkvGradReferenceIdeal.nD Cert.QkvGradReferenceIdeal.τ).loc Cert.QkvGradReferenceIdeal.main_arg0)
          ∧ r.2.mem ((c.tc : Thread Cert.QkvGradReferenceIdeal.nD Cert.QkvGradReferenceIdeal.τ).loc Cert.QkvGradReferenceIdeal.main_arg1) = m' ((c.tc : Thread Cert.QkvGradReferenceIdeal.nD Cert.QkvGradReferenceIdeal.τ).loc Cert.QkvGradReferenceIdeal.main_arg1))

def preserves_MixWeightGrad_MixWeightGradIdeal : Prop :=
  True

def algebraic_MixWeightGradIdeal_MixWeightGradReferenceIdeal [hMixWeightGradIdeal : Cert.MixWeightGradIdeal.Facts] [hMixWeightGradReferenceIdeal : Cert.MixWeightGradReferenceIdeal.Facts] : Prop :=
  ∀ (m : (ℓ : Loc Cert.MixWeightGradIdeal.nD Cert.MixWeightGradIdeal.τ Cert.MixWeightGradIdeal.sig) → Buf (Elt Ideal) ℓ) (g : Dev Cert.MixWeightGradIdeal.nD → PrngReg)
    (m' : (ℓ : Loc Cert.MixWeightGradReferenceIdeal.nD Cert.MixWeightGradReferenceIdeal.τ Cert.MixWeightGradReferenceIdeal.sig) → Buf (Elt Ideal) ℓ) (g' : Dev Cert.MixWeightGradReferenceIdeal.nD → PrngReg), Pre_MixWeightGradIdeal m →
    (∀ c : Dev Cert.MixWeightGradIdeal.nD,
      m' ((c.tc : Thread Cert.MixWeightGradReferenceIdeal.nD Cert.MixWeightGradReferenceIdeal.τ).loc Cert.MixWeightGradReferenceIdeal.main_arg0) = m ((c.tc : Thread Cert.MixWeightGradIdeal.nD Cert.MixWeightGradIdeal.τ).loc Cert.MixWeightGradIdeal.main_arg0)
      ∧ m' ((c.tc : Thread Cert.MixWeightGradReferenceIdeal.nD Cert.MixWeightGradReferenceIdeal.τ).loc Cert.MixWeightGradReferenceIdeal.main_arg1) = m ((c.tc : Thread Cert.MixWeightGradIdeal.nD Cert.MixWeightGradIdeal.τ).loc Cert.MixWeightGradIdeal.main_arg1)) →
    ∃ (v0 : (c : Dev Cert.MixWeightGradIdeal.nD) → Buf (Elt Ideal) ((c.tc : Thread Cert.MixWeightGradIdeal.nD Cert.MixWeightGradIdeal.τ).loc Cert.MixWeightGradIdeal.main_v0)),
      θ_run (Cert.MixWeightGradIdeal.defs (F := Ideal)) (onTc (τ := Cert.MixWeightGradIdeal.τ) (Cert.MixWeightGradIdeal.main (F := Ideal))) ⟨m, fun _ => 0, g⟩ (fun r => ∀ c : Dev Cert.MixWeightGradIdeal.nD,
          r.2.mem ((c.tc : Thread Cert.MixWeightGradIdeal.nD Cert.MixWeightGradIdeal.τ).loc Cert.MixWeightGradIdeal.main_v0) = v0 c
          ∧ r.2.mem ((c.tc : Thread Cert.MixWeightGradIdeal.nD Cert.MixWeightGradIdeal.τ).loc Cert.MixWeightGradIdeal.main_arg0) = m ((c.tc : Thread Cert.MixWeightGradIdeal.nD Cert.MixWeightGradIdeal.τ).loc Cert.MixWeightGradIdeal.main_arg0)
          ∧ r.2.mem ((c.tc : Thread Cert.MixWeightGradIdeal.nD Cert.MixWeightGradIdeal.τ).loc Cert.MixWeightGradIdeal.main_arg1) = m ((c.tc : Thread Cert.MixWeightGradIdeal.nD Cert.MixWeightGradIdeal.τ).loc Cert.MixWeightGradIdeal.main_arg1))
      ∧ θ_run (Cert.MixWeightGradReferenceIdeal.defs (F := Ideal)) (onTc (τ := Cert.MixWeightGradReferenceIdeal.τ) (Cert.MixWeightGradReferenceIdeal.main (F := Ideal))) ⟨m', fun _ => 0, g'⟩ (fun r => ∀ c : Dev Cert.MixWeightGradReferenceIdeal.nD,
          r.2.mem ((c.tc : Thread Cert.MixWeightGradReferenceIdeal.nD Cert.MixWeightGradReferenceIdeal.τ).loc Cert.MixWeightGradReferenceIdeal.main_v6) = v0 c
          ∧ r.2.mem ((c.tc : Thread Cert.MixWeightGradReferenceIdeal.nD Cert.MixWeightGradReferenceIdeal.τ).loc Cert.MixWeightGradReferenceIdeal.main_arg0) = m' ((c.tc : Thread Cert.MixWeightGradReferenceIdeal.nD Cert.MixWeightGradReferenceIdeal.τ).loc Cert.MixWeightGradReferenceIdeal.main_arg0)
          ∧ r.2.mem ((c.tc : Thread Cert.MixWeightGradReferenceIdeal.nD Cert.MixWeightGradReferenceIdeal.τ).loc Cert.MixWeightGradReferenceIdeal.main_arg1) = m' ((c.tc : Thread Cert.MixWeightGradReferenceIdeal.nD Cert.MixWeightGradReferenceIdeal.τ).loc Cert.MixWeightGradReferenceIdeal.main_arg1))

def preserves_MixGrad_MixGradIdeal : Prop :=
  True

def algebraic_MixGradIdeal_MixGradReferenceIdeal [hMixGradIdeal : Cert.MixGradIdeal.Facts] [hMixGradReferenceIdeal : Cert.MixGradReferenceIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradReferenceIdeal.nD Cert.MixGradReferenceIdeal.τ Cert.MixGradReferenceIdeal.sig) → Buf (Elt Ideal) ℓ) (g' : Dev Cert.MixGradReferenceIdeal.nD → PrngReg), Pre_MixGradIdeal m →
    (∀ c : Dev Cert.MixGradIdeal.nD,
      m' ((c.tc : Thread Cert.MixGradReferenceIdeal.nD Cert.MixGradReferenceIdeal.τ).loc Cert.MixGradReferenceIdeal.main_arg0) = m ((c.tc : Thread Cert.MixGradIdeal.nD Cert.MixGradIdeal.τ).loc Cert.MixGradIdeal.main_arg0)
      ∧ m' ((c.tc : Thread Cert.MixGradReferenceIdeal.nD Cert.MixGradReferenceIdeal.τ).loc Cert.MixGradReferenceIdeal.main_arg1) = m ((c.tc : Thread Cert.MixGradIdeal.nD Cert.MixGradIdeal.τ).loc Cert.MixGradIdeal.main_arg1)) →
    ∃ (v0 : (c : Dev Cert.MixGradIdeal.nD) → Buf (Elt Ideal) ((c.tc : Thread Cert.MixGradIdeal.nD Cert.MixGradIdeal.τ).loc Cert.MixGradIdeal.main_v0)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v0) = v0 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ θ_run (Cert.MixGradReferenceIdeal.defs (F := Ideal)) (onTc (τ := Cert.MixGradReferenceIdeal.τ) (Cert.MixGradReferenceIdeal.main (F := Ideal))) ⟨m', fun _ => 0, g'⟩ (fun r => ∀ c : Dev Cert.MixGradReferenceIdeal.nD,
          r.2.mem ((c.tc : Thread Cert.MixGradReferenceIdeal.nD Cert.MixGradReferenceIdeal.τ).loc Cert.MixGradReferenceIdeal.main_v4) = v0 c
          ∧ r.2.mem ((c.tc : Thread Cert.MixGradReferenceIdeal.nD Cert.MixGradReferenceIdeal.τ).loc Cert.MixGradReferenceIdeal.main_arg0) = m' ((c.tc : Thread Cert.MixGradReferenceIdeal.nD Cert.MixGradReferenceIdeal.τ).loc Cert.MixGradReferenceIdeal.main_arg0)
          ∧ r.2.mem ((c.tc : Thread Cert.MixGradReferenceIdeal.nD Cert.MixGradReferenceIdeal.τ).loc Cert.MixGradReferenceIdeal.main_arg1) = m' ((c.tc : Thread Cert.MixGradReferenceIdeal.nD Cert.MixGradReferenceIdeal.τ).loc Cert.MixGradReferenceIdeal.main_arg1))

def preserves_HiddenOf_HiddenOfIdeal : Prop :=
  True

def algebraic_HiddenOfIdeal_HiddenOfReferenceIdeal [hHiddenOfIdeal : Cert.HiddenOfIdeal.Facts] [hHiddenOfReferenceIdeal : Cert.HiddenOfReferenceIdeal.Facts] : Prop :=
  ∀ (m : (ℓ : Loc Cert.HiddenOfIdeal.nD Cert.HiddenOfIdeal.τ Cert.HiddenOfIdeal.sig) → Buf (Elt Ideal) ℓ) (g : Dev Cert.HiddenOfIdeal.nD → PrngReg)
    (m' : (ℓ : Loc Cert.HiddenOfReferenceIdeal.nD Cert.HiddenOfReferenceIdeal.τ Cert.HiddenOfReferenceIdeal.sig) → Buf (Elt Ideal) ℓ) (g' : Dev Cert.HiddenOfReferenceIdeal.nD → PrngReg), Pre_HiddenOfIdeal m →
    (∀ c : Dev Cert.HiddenOfIdeal.nD,
      m' ((c.tc : Thread Cert.HiddenOfReferenceIdeal.nD Cert.HiddenOfReferenceIdeal.τ).loc Cert.HiddenOfReferenceIdeal.main_arg0) = m ((c.tc : Thread Cert.HiddenOfIdeal.nD Cert.HiddenOfIdeal.τ).loc Cert.HiddenOfIdeal.main_arg0)
      ∧ m' ((c.tc : Thread Cert.HiddenOfReferenceIdeal.nD Cert.HiddenOfReferenceIdeal.τ).loc Cert.HiddenOfReferenceIdeal.main_arg1) = m ((c.tc : Thread Cert.HiddenOfIdeal.nD Cert.HiddenOfIdeal.τ).loc Cert.HiddenOfIdeal.main_arg1)) →
    ∃ (v0 : (c : Dev Cert.HiddenOfIdeal.nD) → Buf (Elt Ideal) ((c.tc : Thread Cert.HiddenOfIdeal.nD Cert.HiddenOfIdeal.τ).loc Cert.HiddenOfIdeal.main_v0_0)) (v1 : (c : Dev Cert.HiddenOfIdeal.nD) → Buf (Elt Ideal) ((c.tc : Thread Cert.HiddenOfIdeal.nD Cert.HiddenOfIdeal.τ).loc Cert.HiddenOfIdeal.main_v0_1)),
      θ_run (Cert.HiddenOfIdeal.defs (F := Ideal)) (onTc (τ := Cert.HiddenOfIdeal.τ) (Cert.HiddenOfIdeal.main (F := Ideal))) ⟨m, fun _ => 0, g⟩ (fun r => ∀ c : Dev Cert.HiddenOfIdeal.nD,
          r.2.mem ((c.tc : Thread Cert.HiddenOfIdeal.nD Cert.HiddenOfIdeal.τ).loc Cert.HiddenOfIdeal.main_v0_0) = v0 c
          ∧ r.2.mem ((c.tc : Thread Cert.HiddenOfIdeal.nD Cert.HiddenOfIdeal.τ).loc Cert.HiddenOfIdeal.main_v0_1) = v1 c
          ∧ r.2.mem ((c.tc : Thread Cert.HiddenOfIdeal.nD Cert.HiddenOfIdeal.τ).loc Cert.HiddenOfIdeal.main_arg0) = m ((c.tc : Thread Cert.HiddenOfIdeal.nD Cert.HiddenOfIdeal.τ).loc Cert.HiddenOfIdeal.main_arg0)
          ∧ r.2.mem ((c.tc : Thread Cert.HiddenOfIdeal.nD Cert.HiddenOfIdeal.τ).loc Cert.HiddenOfIdeal.main_arg1) = m ((c.tc : Thread Cert.HiddenOfIdeal.nD Cert.HiddenOfIdeal.τ).loc Cert.HiddenOfIdeal.main_arg1))
      ∧ θ_run (Cert.HiddenOfReferenceIdeal.defs (F := Ideal)) (onTc (τ := Cert.HiddenOfReferenceIdeal.τ) (Cert.HiddenOfReferenceIdeal.main (F := Ideal))) ⟨m', fun _ => 0, g'⟩ (fun r => ∀ c : Dev Cert.HiddenOfReferenceIdeal.nD,
          r.2.mem ((c.tc : Thread Cert.HiddenOfReferenceIdeal.nD Cert.HiddenOfReferenceIdeal.τ).loc Cert.HiddenOfReferenceIdeal.main_v5) = v0 c
          ∧ r.2.mem ((c.tc : Thread Cert.HiddenOfReferenceIdeal.nD Cert.HiddenOfReferenceIdeal.τ).loc Cert.HiddenOfReferenceIdeal.main_v8) = v1 c
          ∧ r.2.mem ((c.tc : Thread Cert.HiddenOfReferenceIdeal.nD Cert.HiddenOfReferenceIdeal.τ).loc Cert.HiddenOfReferenceIdeal.main_arg0) = m' ((c.tc : Thread Cert.HiddenOfReferenceIdeal.nD Cert.HiddenOfReferenceIdeal.τ).loc Cert.HiddenOfReferenceIdeal.main_arg0)
          ∧ r.2.mem ((c.tc : Thread Cert.HiddenOfReferenceIdeal.nD Cert.HiddenOfReferenceIdeal.τ).loc Cert.HiddenOfReferenceIdeal.main_arg1) = m' ((c.tc : Thread Cert.HiddenOfReferenceIdeal.nD Cert.HiddenOfReferenceIdeal.τ).loc Cert.HiddenOfReferenceIdeal.main_arg1))

def preserves_MlpOut_MlpOutIdeal : Prop :=
  True

def algebraic_MlpOutIdeal_MlpOutReferenceIdeal [hMlpOutIdeal : Cert.MlpOutIdeal.Facts] [hMlpOutReferenceIdeal : Cert.MlpOutReferenceIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutReferenceIdeal.nD Cert.MlpOutReferenceIdeal.τ Cert.MlpOutReferenceIdeal.sig) → Buf (Elt Ideal) ℓ) (g' : Dev Cert.MlpOutReferenceIdeal.nD → PrngReg), Pre_MlpOutIdeal m →
    (∀ c : Dev Cert.MlpOutIdeal.nD,
      m' ((c.tc : Thread Cert.MlpOutReferenceIdeal.nD Cert.MlpOutReferenceIdeal.τ).loc Cert.MlpOutReferenceIdeal.main_arg0) = m ((c.tc : Thread Cert.MlpOutIdeal.nD Cert.MlpOutIdeal.τ).loc Cert.MlpOutIdeal.main_arg0)
      ∧ m' ((c.tc : Thread Cert.MlpOutReferenceIdeal.nD Cert.MlpOutReferenceIdeal.τ).loc Cert.MlpOutReferenceIdeal.main_arg1) = m ((c.tc : Thread Cert.MlpOutIdeal.nD Cert.MlpOutIdeal.τ).loc Cert.MlpOutIdeal.main_arg1)) →
    ∃ (v0 : (c : Dev Cert.MlpOutIdeal.nD) → Buf (Elt Ideal) ((c.tc : Thread Cert.MlpOutIdeal.nD Cert.MlpOutIdeal.τ).loc Cert.MlpOutIdeal.main_v0)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ θ_run (Cert.MlpOutReferenceIdeal.defs (F := Ideal)) (onTc (τ := Cert.MlpOutReferenceIdeal.τ) (Cert.MlpOutReferenceIdeal.main (F := Ideal))) ⟨m', fun _ => 0, g'⟩ (fun r => ∀ c : Dev Cert.MlpOutReferenceIdeal.nD,
          r.2.mem ((c.tc : Thread Cert.MlpOutReferenceIdeal.nD Cert.MlpOutReferenceIdeal.τ).loc Cert.MlpOutReferenceIdeal.main_v2) = v0 c
          ∧ r.2.mem ((c.tc : Thread Cert.MlpOutReferenceIdeal.nD Cert.MlpOutReferenceIdeal.τ).loc Cert.MlpOutReferenceIdeal.main_arg0) = m' ((c.tc : Thread Cert.MlpOutReferenceIdeal.nD Cert.MlpOutReferenceIdeal.τ).loc Cert.MlpOutReferenceIdeal.main_arg0)
          ∧ r.2.mem ((c.tc : Thread Cert.MlpOutReferenceIdeal.nD Cert.MlpOutReferenceIdeal.τ).loc Cert.MlpOutReferenceIdeal.main_arg1) = m' ((c.tc : Thread Cert.MlpOutReferenceIdeal.nD Cert.MlpOutReferenceIdeal.τ).loc Cert.MlpOutReferenceIdeal.main_arg1))

def preserves_QkvOf_QkvOfIdeal : Prop :=
  True

def algebraic_QkvOfIdeal_QkvOfReferenceIdeal [hQkvOfIdeal : Cert.QkvOfIdeal.Facts] [hQkvOfReferenceIdeal : Cert.QkvOfReferenceIdeal.Facts] : Prop :=
  ∀ (m : (ℓ : Loc Cert.QkvOfIdeal.nD Cert.QkvOfIdeal.τ Cert.QkvOfIdeal.sig) → Buf (Elt Ideal) ℓ) (g : Dev Cert.QkvOfIdeal.nD → PrngReg)
    (m' : (ℓ : Loc Cert.QkvOfReferenceIdeal.nD Cert.QkvOfReferenceIdeal.τ Cert.QkvOfReferenceIdeal.sig) → Buf (Elt Ideal) ℓ) (g' : Dev Cert.QkvOfReferenceIdeal.nD → PrngReg), Pre_QkvOfIdeal m →
    (∀ c : Dev Cert.QkvOfIdeal.nD,
      m' ((c.tc : Thread Cert.QkvOfReferenceIdeal.nD Cert.QkvOfReferenceIdeal.τ).loc Cert.QkvOfReferenceIdeal.main_arg0) = m ((c.tc : Thread Cert.QkvOfIdeal.nD Cert.QkvOfIdeal.τ).loc Cert.QkvOfIdeal.main_arg0)
      ∧ m' ((c.tc : Thread Cert.QkvOfReferenceIdeal.nD Cert.QkvOfReferenceIdeal.τ).loc Cert.QkvOfReferenceIdeal.main_arg1) = m ((c.tc : Thread Cert.QkvOfIdeal.nD Cert.QkvOfIdeal.τ).loc Cert.QkvOfIdeal.main_arg1)) →
    ∃ (v0 : (c : Dev Cert.QkvOfIdeal.nD) → Buf (Elt Ideal) ((c.tc : Thread Cert.QkvOfIdeal.nD Cert.QkvOfIdeal.τ).loc Cert.QkvOfIdeal.main_v0)),
      θ_run (Cert.QkvOfIdeal.defs (F := Ideal)) (onTc (τ := Cert.QkvOfIdeal.τ) (Cert.QkvOfIdeal.main (F := Ideal))) ⟨m, fun _ => 0, g⟩ (fun r => ∀ c : Dev Cert.QkvOfIdeal.nD,
          r.2.mem ((c.tc : Thread Cert.QkvOfIdeal.nD Cert.QkvOfIdeal.τ).loc Cert.QkvOfIdeal.main_v0) = v0 c
          ∧ r.2.mem ((c.tc : Thread Cert.QkvOfIdeal.nD Cert.QkvOfIdeal.τ).loc Cert.QkvOfIdeal.main_arg0) = m ((c.tc : Thread Cert.QkvOfIdeal.nD Cert.QkvOfIdeal.τ).loc Cert.QkvOfIdeal.main_arg0)
          ∧ r.2.mem ((c.tc : Thread Cert.QkvOfIdeal.nD Cert.QkvOfIdeal.τ).loc Cert.QkvOfIdeal.main_arg1) = m ((c.tc : Thread Cert.QkvOfIdeal.nD Cert.QkvOfIdeal.τ).loc Cert.QkvOfIdeal.main_arg1))
      ∧ θ_run (Cert.QkvOfReferenceIdeal.defs (F := Ideal)) (onTc (τ := Cert.QkvOfReferenceIdeal.τ) (Cert.QkvOfReferenceIdeal.main (F := Ideal))) ⟨m', fun _ => 0, g'⟩ (fun r => ∀ c : Dev Cert.QkvOfReferenceIdeal.nD,
          r.2.mem ((c.tc : Thread Cert.QkvOfReferenceIdeal.nD Cert.QkvOfReferenceIdeal.τ).loc Cert.QkvOfReferenceIdeal.main_v9) = v0 c
          ∧ r.2.mem ((c.tc : Thread Cert.QkvOfReferenceIdeal.nD Cert.QkvOfReferenceIdeal.τ).loc Cert.QkvOfReferenceIdeal.main_arg0) = m' ((c.tc : Thread Cert.QkvOfReferenceIdeal.nD Cert.QkvOfReferenceIdeal.τ).loc Cert.QkvOfReferenceIdeal.main_arg0)
          ∧ r.2.mem ((c.tc : Thread Cert.QkvOfReferenceIdeal.nD Cert.QkvOfReferenceIdeal.τ).loc Cert.QkvOfReferenceIdeal.main_arg1) = m' ((c.tc : Thread Cert.QkvOfReferenceIdeal.nD Cert.QkvOfReferenceIdeal.τ).loc Cert.QkvOfReferenceIdeal.main_arg1))

def preserves_MixOf_MixOfIdeal : Prop :=
  True

def algebraic_MixOfIdeal_MixOfReferenceIdeal [hMixOfIdeal : Cert.MixOfIdeal.Facts] [hMixOfReferenceIdeal : Cert.MixOfReferenceIdeal.Facts] : Prop :=
  ∀ (m : (ℓ : Loc Cert.MixOfIdeal.nD Cert.MixOfIdeal.τ Cert.MixOfIdeal.sig) → Buf (Elt Ideal) ℓ) (g : Dev Cert.MixOfIdeal.nD → PrngReg)
    (m' : (ℓ : Loc Cert.MixOfReferenceIdeal.nD Cert.MixOfReferenceIdeal.τ Cert.MixOfReferenceIdeal.sig) → Buf (Elt Ideal) ℓ) (g' : Dev Cert.MixOfReferenceIdeal.nD → PrngReg), Pre_MixOfIdeal m →
    (∀ c : Dev Cert.MixOfIdeal.nD,
      m' ((c.tc : Thread Cert.MixOfReferenceIdeal.nD Cert.MixOfReferenceIdeal.τ).loc Cert.MixOfReferenceIdeal.main_arg0) = m ((c.tc : Thread Cert.MixOfIdeal.nD Cert.MixOfIdeal.τ).loc Cert.MixOfIdeal.main_arg0)
      ∧ m' ((c.tc : Thread Cert.MixOfReferenceIdeal.nD Cert.MixOfReferenceIdeal.τ).loc Cert.MixOfReferenceIdeal.main_arg1) = m ((c.tc : Thread Cert.MixOfIdeal.nD Cert.MixOfIdeal.τ).loc Cert.MixOfIdeal.main_arg1)) →
    ∃ (v0 : (c : Dev Cert.MixOfIdeal.nD) → Buf (Elt Ideal) ((c.tc : Thread Cert.MixOfIdeal.nD Cert.MixOfIdeal.τ).loc Cert.MixOfIdeal.main_v0)),
      θ_run (Cert.MixOfIdeal.defs (F := Ideal)) (onTc (τ := Cert.MixOfIdeal.τ) (Cert.MixOfIdeal.main (F := Ideal))) ⟨m, fun _ => 0, g⟩ (fun r => ∀ c : Dev Cert.MixOfIdeal.nD,
          r.2.mem ((c.tc : Thread Cert.MixOfIdeal.nD Cert.MixOfIdeal.τ).loc Cert.MixOfIdeal.main_v0) = v0 c
          ∧ r.2.mem ((c.tc : Thread Cert.MixOfIdeal.nD Cert.MixOfIdeal.τ).loc Cert.MixOfIdeal.main_arg0) = m ((c.tc : Thread Cert.MixOfIdeal.nD Cert.MixOfIdeal.τ).loc Cert.MixOfIdeal.main_arg0)
          ∧ r.2.mem ((c.tc : Thread Cert.MixOfIdeal.nD Cert.MixOfIdeal.τ).loc Cert.MixOfIdeal.main_arg1) = m ((c.tc : Thread Cert.MixOfIdeal.nD Cert.MixOfIdeal.τ).loc Cert.MixOfIdeal.main_arg1))
      ∧ θ_run (Cert.MixOfReferenceIdeal.defs (F := Ideal)) (onTc (τ := Cert.MixOfReferenceIdeal.τ) (Cert.MixOfReferenceIdeal.main (F := Ideal))) ⟨m', fun _ => 0, g'⟩ (fun r => ∀ c : Dev Cert.MixOfReferenceIdeal.nD,
          r.2.mem ((c.tc : Thread Cert.MixOfReferenceIdeal.nD Cert.MixOfReferenceIdeal.τ).loc Cert.MixOfReferenceIdeal.main_v2) = v0 c
          ∧ r.2.mem ((c.tc : Thread Cert.MixOfReferenceIdeal.nD Cert.MixOfReferenceIdeal.τ).loc Cert.MixOfReferenceIdeal.main_arg0) = m' ((c.tc : Thread Cert.MixOfReferenceIdeal.nD Cert.MixOfReferenceIdeal.τ).loc Cert.MixOfReferenceIdeal.main_arg0)
          ∧ r.2.mem ((c.tc : Thread Cert.MixOfReferenceIdeal.nD Cert.MixOfReferenceIdeal.τ).loc Cert.MixOfReferenceIdeal.main_arg1) = m' ((c.tc : Thread Cert.MixOfReferenceIdeal.nD Cert.MixOfReferenceIdeal.τ).loc Cert.MixOfReferenceIdeal.main_arg1))

def preserves_OutOf_OutOfIdeal : Prop :=
  True

def algebraic_OutOfIdeal_OutOfReferenceIdeal [hOutOfIdeal : Cert.OutOfIdeal.Facts] [hOutOfReferenceIdeal : Cert.OutOfReferenceIdeal.Facts] : Prop :=
  ∀ (m : (ℓ : Loc Cert.OutOfIdeal.nD Cert.OutOfIdeal.τ Cert.OutOfIdeal.sig) → Buf (Elt Ideal) ℓ) (g : Dev Cert.OutOfIdeal.nD → PrngReg)
    (m' : (ℓ : Loc Cert.OutOfReferenceIdeal.nD Cert.OutOfReferenceIdeal.τ Cert.OutOfReferenceIdeal.sig) → Buf (Elt Ideal) ℓ) (g' : Dev Cert.OutOfReferenceIdeal.nD → PrngReg), Pre_OutOfIdeal m →
    (∀ c : Dev Cert.OutOfIdeal.nD,
      m' ((c.tc : Thread Cert.OutOfReferenceIdeal.nD Cert.OutOfReferenceIdeal.τ).loc Cert.OutOfReferenceIdeal.main_arg0) = m ((c.tc : Thread Cert.OutOfIdeal.nD Cert.OutOfIdeal.τ).loc Cert.OutOfIdeal.main_arg0)
      ∧ m' ((c.tc : Thread Cert.OutOfReferenceIdeal.nD Cert.OutOfReferenceIdeal.τ).loc Cert.OutOfReferenceIdeal.main_arg1) = m ((c.tc : Thread Cert.OutOfIdeal.nD Cert.OutOfIdeal.τ).loc Cert.OutOfIdeal.main_arg1)) →
    ∃ (v0 : (c : Dev Cert.OutOfIdeal.nD) → Buf (Elt Ideal) ((c.tc : Thread Cert.OutOfIdeal.nD Cert.OutOfIdeal.τ).loc Cert.OutOfIdeal.main_v0)),
      θ_run (Cert.OutOfIdeal.defs (F := Ideal)) (onTc (τ := Cert.OutOfIdeal.τ) (Cert.OutOfIdeal.main (F := Ideal))) ⟨m, fun _ => 0, g⟩ (fun r => ∀ c : Dev Cert.OutOfIdeal.nD,
          r.2.mem ((c.tc : Thread Cert.OutOfIdeal.nD Cert.OutOfIdeal.τ).loc Cert.OutOfIdeal.main_v0) = v0 c
          ∧ r.2.mem ((c.tc : Thread Cert.OutOfIdeal.nD Cert.OutOfIdeal.τ).loc Cert.OutOfIdeal.main_arg0) = m ((c.tc : Thread Cert.OutOfIdeal.nD Cert.OutOfIdeal.τ).loc Cert.OutOfIdeal.main_arg0)
          ∧ r.2.mem ((c.tc : Thread Cert.OutOfIdeal.nD Cert.OutOfIdeal.τ).loc Cert.OutOfIdeal.main_arg1) = m ((c.tc : Thread Cert.OutOfIdeal.nD Cert.OutOfIdeal.τ).loc Cert.OutOfIdeal.main_arg1))
      ∧ θ_run (Cert.OutOfReferenceIdeal.defs (F := Ideal)) (onTc (τ := Cert.OutOfReferenceIdeal.τ) (Cert.OutOfReferenceIdeal.main (F := Ideal))) ⟨m', fun _ => 0, g'⟩ (fun r => ∀ c : Dev Cert.OutOfReferenceIdeal.nD,
          r.2.mem ((c.tc : Thread Cert.OutOfReferenceIdeal.nD Cert.OutOfReferenceIdeal.τ).loc Cert.OutOfReferenceIdeal.main_v2) = v0 c
          ∧ r.2.mem ((c.tc : Thread Cert.OutOfReferenceIdeal.nD Cert.OutOfReferenceIdeal.τ).loc Cert.OutOfReferenceIdeal.main_arg0) = m' ((c.tc : Thread Cert.OutOfReferenceIdeal.nD Cert.OutOfReferenceIdeal.τ).loc Cert.OutOfReferenceIdeal.main_arg0)
          ∧ r.2.mem ((c.tc : Thread Cert.OutOfReferenceIdeal.nD Cert.OutOfReferenceIdeal.τ).loc Cert.OutOfReferenceIdeal.main_arg1) = m' ((c.tc : Thread Cert.OutOfReferenceIdeal.nD Cert.OutOfReferenceIdeal.τ).loc Cert.OutOfReferenceIdeal.main_arg1))

def preserves_NormOf_NormOfIdeal : Prop :=
  True

def algebraic_NormOfIdeal_NormOfReferenceIdeal [hNormOfIdeal : Cert.NormOfIdeal.Facts] [hNormOfReferenceIdeal : Cert.NormOfReferenceIdeal.Facts] : Prop :=
  ∀ (m : (ℓ : Loc Cert.NormOfIdeal.nD Cert.NormOfIdeal.τ Cert.NormOfIdeal.sig) → Buf (Elt Ideal) ℓ) (g : Dev Cert.NormOfIdeal.nD → PrngReg)
    (m' : (ℓ : Loc Cert.NormOfReferenceIdeal.nD Cert.NormOfReferenceIdeal.τ Cert.NormOfReferenceIdeal.sig) → Buf (Elt Ideal) ℓ) (g' : Dev Cert.NormOfReferenceIdeal.nD → PrngReg), Pre_NormOfIdeal m →
    (∀ c : Dev Cert.NormOfIdeal.nD,
      m' ((c.tc : Thread Cert.NormOfReferenceIdeal.nD Cert.NormOfReferenceIdeal.τ).loc Cert.NormOfReferenceIdeal.main_arg0) = m ((c.tc : Thread Cert.NormOfIdeal.nD Cert.NormOfIdeal.τ).loc Cert.NormOfIdeal.main_arg0)
      ∧ m' ((c.tc : Thread Cert.NormOfReferenceIdeal.nD Cert.NormOfReferenceIdeal.τ).loc Cert.NormOfReferenceIdeal.main_arg1) = m ((c.tc : Thread Cert.NormOfIdeal.nD Cert.NormOfIdeal.τ).loc Cert.NormOfIdeal.main_arg1)) →
    ∃ (v0 : (c : Dev Cert.NormOfIdeal.nD) → Buf (Elt Ideal) ((c.tc : Thread Cert.NormOfIdeal.nD Cert.NormOfIdeal.τ).loc Cert.NormOfIdeal.main_v0)),
      θ_run (Cert.NormOfIdeal.defs (F := Ideal)) (onTc (τ := Cert.NormOfIdeal.τ) (Cert.NormOfIdeal.main (F := Ideal))) ⟨m, fun _ => 0, g⟩ (fun r => ∀ c : Dev Cert.NormOfIdeal.nD,
          r.2.mem ((c.tc : Thread Cert.NormOfIdeal.nD Cert.NormOfIdeal.τ).loc Cert.NormOfIdeal.main_v0) = v0 c
          ∧ r.2.mem ((c.tc : Thread Cert.NormOfIdeal.nD Cert.NormOfIdeal.τ).loc Cert.NormOfIdeal.main_arg0) = m ((c.tc : Thread Cert.NormOfIdeal.nD Cert.NormOfIdeal.τ).loc Cert.NormOfIdeal.main_arg0)
          ∧ r.2.mem ((c.tc : Thread Cert.NormOfIdeal.nD Cert.NormOfIdeal.τ).loc Cert.NormOfIdeal.main_arg1) = m ((c.tc : Thread Cert.NormOfIdeal.nD Cert.NormOfIdeal.τ).loc Cert.NormOfIdeal.main_arg1))
      ∧ θ_run (Cert.NormOfReferenceIdeal.defs (F := Ideal)) (onTc (τ := Cert.NormOfReferenceIdeal.τ) (Cert.NormOfReferenceIdeal.main (F := Ideal))) ⟨m', fun _ => 0, g'⟩ (fun r => ∀ c : Dev Cert.NormOfReferenceIdeal.nD,
          r.2.mem ((c.tc : Thread Cert.NormOfReferenceIdeal.nD Cert.NormOfReferenceIdeal.τ).loc Cert.NormOfReferenceIdeal.main_v14) = v0 c
          ∧ r.2.mem ((c.tc : Thread Cert.NormOfReferenceIdeal.nD Cert.NormOfReferenceIdeal.τ).loc Cert.NormOfReferenceIdeal.main_arg0) = m' ((c.tc : Thread Cert.NormOfReferenceIdeal.nD Cert.NormOfReferenceIdeal.τ).loc Cert.NormOfReferenceIdeal.main_arg0)
          ∧ r.2.mem ((c.tc : Thread Cert.NormOfReferenceIdeal.nD Cert.NormOfReferenceIdeal.τ).loc Cert.NormOfReferenceIdeal.main_arg1) = m' ((c.tc : Thread Cert.NormOfReferenceIdeal.nD Cert.NormOfReferenceIdeal.τ).loc Cert.NormOfReferenceIdeal.main_arg1))

def preserves_NormsOf_NormsOfIdeal : Prop :=
  True

def algebraic_NormsOfIdeal_NormsOfReferenceIdeal [hNormsOfIdeal : Cert.NormsOfIdeal.Facts] [hNormsOfReferenceIdeal : Cert.NormsOfReferenceIdeal.Facts] : Prop :=
  ∀ (m : (ℓ : Loc Cert.NormsOfIdeal.nD Cert.NormsOfIdeal.τ Cert.NormsOfIdeal.sig) → Buf (Elt Ideal) ℓ) (g : Dev Cert.NormsOfIdeal.nD → PrngReg)
    (m' : (ℓ : Loc Cert.NormsOfReferenceIdeal.nD Cert.NormsOfReferenceIdeal.τ Cert.NormsOfReferenceIdeal.sig) → Buf (Elt Ideal) ℓ) (g' : Dev Cert.NormsOfReferenceIdeal.nD → PrngReg), Pre_NormsOfIdeal m →
    (∀ c : Dev Cert.NormsOfIdeal.nD,
      m' ((c.tc : Thread Cert.NormsOfReferenceIdeal.nD Cert.NormsOfReferenceIdeal.τ).loc Cert.NormsOfReferenceIdeal.main_arg0) = m ((c.tc : Thread Cert.NormsOfIdeal.nD Cert.NormsOfIdeal.τ).loc Cert.NormsOfIdeal.main_arg0)
      ∧ m' ((c.tc : Thread Cert.NormsOfReferenceIdeal.nD Cert.NormsOfReferenceIdeal.τ).loc Cert.NormsOfReferenceIdeal.main_arg1) = m ((c.tc : Thread Cert.NormsOfIdeal.nD Cert.NormsOfIdeal.τ).loc Cert.NormsOfIdeal.main_arg1)
      ∧ m' ((c.tc : Thread Cert.NormsOfReferenceIdeal.nD Cert.NormsOfReferenceIdeal.τ).loc Cert.NormsOfReferenceIdeal.main_arg2) = m ((c.tc : Thread Cert.NormsOfIdeal.nD Cert.NormsOfIdeal.τ).loc Cert.NormsOfIdeal.main_arg2)
      ∧ m' ((c.tc : Thread Cert.NormsOfReferenceIdeal.nD Cert.NormsOfReferenceIdeal.τ).loc Cert.NormsOfReferenceIdeal.main_arg3) = m ((c.tc : Thread Cert.NormsOfIdeal.nD Cert.NormsOfIdeal.τ).loc Cert.NormsOfIdeal.main_arg3)) →
    ∃ (v0 : (c : Dev Cert.NormsOfIdeal.nD) → Buf (Elt Ideal) ((c.tc : Thread Cert.NormsOfIdeal.nD Cert.NormsOfIdeal.τ).loc Cert.NormsOfIdeal.main_v0_0)) (v1 : (c : Dev Cert.NormsOfIdeal.nD) → Buf (Elt Ideal) ((c.tc : Thread Cert.NormsOfIdeal.nD Cert.NormsOfIdeal.τ).loc Cert.NormsOfIdeal.main_v0_1)),
      θ_run (Cert.NormsOfIdeal.defs (F := Ideal)) (onTc (τ := Cert.NormsOfIdeal.τ) (Cert.NormsOfIdeal.main (F := Ideal))) ⟨m, fun _ => 0, g⟩ (fun r => ∀ c : Dev Cert.NormsOfIdeal.nD,
          r.2.mem ((c.tc : Thread Cert.NormsOfIdeal.nD Cert.NormsOfIdeal.τ).loc Cert.NormsOfIdeal.main_v0_0) = v0 c
          ∧ r.2.mem ((c.tc : Thread Cert.NormsOfIdeal.nD Cert.NormsOfIdeal.τ).loc Cert.NormsOfIdeal.main_v0_1) = v1 c
          ∧ r.2.mem ((c.tc : Thread Cert.NormsOfIdeal.nD Cert.NormsOfIdeal.τ).loc Cert.NormsOfIdeal.main_arg0) = m ((c.tc : Thread Cert.NormsOfIdeal.nD Cert.NormsOfIdeal.τ).loc Cert.NormsOfIdeal.main_arg0)
          ∧ r.2.mem ((c.tc : Thread Cert.NormsOfIdeal.nD Cert.NormsOfIdeal.τ).loc Cert.NormsOfIdeal.main_arg1) = m ((c.tc : Thread Cert.NormsOfIdeal.nD Cert.NormsOfIdeal.τ).loc Cert.NormsOfIdeal.main_arg1)
          ∧ r.2.mem ((c.tc : Thread Cert.NormsOfIdeal.nD Cert.NormsOfIdeal.τ).loc Cert.NormsOfIdeal.main_arg2) = m ((c.tc : Thread Cert.NormsOfIdeal.nD Cert.NormsOfIdeal.τ).loc Cert.NormsOfIdeal.main_arg2)
          ∧ r.2.mem ((c.tc : Thread Cert.NormsOfIdeal.nD Cert.NormsOfIdeal.τ).loc Cert.NormsOfIdeal.main_arg3) = m ((c.tc : Thread Cert.NormsOfIdeal.nD Cert.NormsOfIdeal.τ).loc Cert.NormsOfIdeal.main_arg3))
      ∧ θ_run (Cert.NormsOfReferenceIdeal.defs (F := Ideal)) (onTc (τ := Cert.NormsOfReferenceIdeal.τ) (Cert.NormsOfReferenceIdeal.main (F := Ideal))) ⟨m', fun _ => 0, g'⟩ (fun r => ∀ c : Dev Cert.NormsOfReferenceIdeal.nD,
          r.2.mem ((c.tc : Thread Cert.NormsOfReferenceIdeal.nD Cert.NormsOfReferenceIdeal.τ).loc Cert.NormsOfReferenceIdeal.main_v14) = v0 c
          ∧ r.2.mem ((c.tc : Thread Cert.NormsOfReferenceIdeal.nD Cert.NormsOfReferenceIdeal.τ).loc Cert.NormsOfReferenceIdeal.main_v29) = v1 c
          ∧ r.2.mem ((c.tc : Thread Cert.NormsOfReferenceIdeal.nD Cert.NormsOfReferenceIdeal.τ).loc Cert.NormsOfReferenceIdeal.main_arg0) = m' ((c.tc : Thread Cert.NormsOfReferenceIdeal.nD Cert.NormsOfReferenceIdeal.τ).loc Cert.NormsOfReferenceIdeal.main_arg0)
          ∧ r.2.mem ((c.tc : Thread Cert.NormsOfReferenceIdeal.nD Cert.NormsOfReferenceIdeal.τ).loc Cert.NormsOfReferenceIdeal.main_arg1) = m' ((c.tc : Thread Cert.NormsOfReferenceIdeal.nD Cert.NormsOfReferenceIdeal.τ).loc Cert.NormsOfReferenceIdeal.main_arg1)
          ∧ r.2.mem ((c.tc : Thread Cert.NormsOfReferenceIdeal.nD Cert.NormsOfReferenceIdeal.τ).loc Cert.NormsOfReferenceIdeal.main_arg2) = m' ((c.tc : Thread Cert.NormsOfReferenceIdeal.nD Cert.NormsOfReferenceIdeal.τ).loc Cert.NormsOfReferenceIdeal.main_arg2)
          ∧ r.2.mem ((c.tc : Thread Cert.NormsOfReferenceIdeal.nD Cert.NormsOfReferenceIdeal.τ).loc Cert.NormsOfReferenceIdeal.main_arg3) = m' ((c.tc : Thread Cert.NormsOfReferenceIdeal.nD Cert.NormsOfReferenceIdeal.τ).loc Cert.NormsOfReferenceIdeal.main_arg3))

def Claim : Prop :=
  ∃ (hKernel : Cert.Kernel.Facts) (hKernelIdeal : Cert.KernelIdeal.Facts) (hReferenceIdeal : Cert.ReferenceIdeal.Facts) (hHiddenGrad : Cert.HiddenGrad.Facts) (hHiddenGradIdeal : Cert.HiddenGradIdeal.Facts) (hHiddenGradReferenceIdeal : Cert.HiddenGradReferenceIdeal.Facts) (hInputGrad : Cert.InputGrad.Facts) (hInputGradIdeal : Cert.InputGradIdeal.Facts) (hInputGradReferenceIdeal : Cert.InputGradReferenceIdeal.Facts) (hInWeightGrad : Cert.InWeightGrad.Facts) (hInWeightGradIdeal : Cert.InWeightGradIdeal.Facts) (hInWeightGradReferenceIdeal : Cert.InWeightGradReferenceIdeal.Facts) (hOutWeightGrad : Cert.OutWeightGrad.Facts) (hOutWeightGradIdeal : Cert.OutWeightGradIdeal.Facts) (hOutWeightGradReferenceIdeal : Cert.OutWeightGradReferenceIdeal.Facts) (hOutWeightGrads : Cert.OutWeightGrads.Facts) (hOutWeightGradsIdeal : Cert.OutWeightGradsIdeal.Facts) (hOutWeightGradsReferenceIdeal : Cert.OutWeightGradsReferenceIdeal.Facts) (hAttentionGrad : Cert.AttentionGrad.Facts) (hAttentionGradIdeal : Cert.AttentionGradIdeal.Facts) (hAttentionGradReferenceIdeal : Cert.AttentionGradReferenceIdeal.Facts) (hMixersGrad : Cert.MixersGrad.Facts) (hMixersGradIdeal : Cert.MixersGradIdeal.Facts) (hMixersGradReferenceIdeal : Cert.MixersGradReferenceIdeal.Facts) (hQkvWeightGrad : Cert.QkvWeightGrad.Facts) (hQkvWeightGradIdeal : Cert.QkvWeightGradIdeal.Facts) (hQkvWeightGradReferenceIdeal : Cert.QkvWeightGradReferenceIdeal.Facts) (hQkvGrad : Cert.QkvGrad.Facts) (hQkvGradIdeal : Cert.QkvGradIdeal.Facts) (hQkvGradReferenceIdeal : Cert.QkvGradReferenceIdeal.Facts) (hMixWeightGrad : Cert.MixWeightGrad.Facts) (hMixWeightGradIdeal : Cert.MixWeightGradIdeal.Facts) (hMixWeightGradReferenceIdeal : Cert.MixWeightGradReferenceIdeal.Facts) (hMixGrad : Cert.MixGrad.Facts) (hMixGradIdeal : Cert.MixGradIdeal.Facts) (hMixGradReferenceIdeal : Cert.MixGradReferenceIdeal.Facts) (hHiddenOf : Cert.HiddenOf.Facts) (hHiddenOfIdeal : Cert.HiddenOfIdeal.Facts) (hHiddenOfReferenceIdeal : Cert.HiddenOfReferenceIdeal.Facts) (hMlpOut : Cert.MlpOut.Facts) (hMlpOutIdeal : Cert.MlpOutIdeal.Facts) (hMlpOutReferenceIdeal : Cert.MlpOutReferenceIdeal.Facts) (hQkvOf : Cert.QkvOf.Facts) (hQkvOfIdeal : Cert.QkvOfIdeal.Facts) (hQkvOfReferenceIdeal : Cert.QkvOfReferenceIdeal.Facts) (hMixOf : Cert.MixOf.Facts) (hMixOfIdeal : Cert.MixOfIdeal.Facts) (hMixOfReferenceIdeal : Cert.MixOfReferenceIdeal.Facts) (hOutOf : Cert.OutOf.Facts) (hOutOfIdeal : Cert.OutOfIdeal.Facts) (hOutOfReferenceIdeal : Cert.OutOfReferenceIdeal.Facts) (hNormOf : Cert.NormOf.Facts) (hNormOfIdeal : Cert.NormOfIdeal.Facts) (hNormOfReferenceIdeal : Cert.NormOfReferenceIdeal.Facts) (hNormsOf : Cert.NormsOf.Facts) (hNormsOfIdeal : Cert.NormsOfIdeal.Facts) (hNormsOfReferenceIdeal : Cert.NormsOfReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_HiddenGrad (hHiddenGrad := hHiddenGrad)
    ∧ quiescent_HiddenGradIdeal (hHiddenGradIdeal := hHiddenGradIdeal)
    ∧ quiescent_HiddenGradReferenceIdeal (hHiddenGradReferenceIdeal := hHiddenGradReferenceIdeal)
    ∧ quiescent_InputGrad (hInputGrad := hInputGrad)
    ∧ quiescent_InputGradIdeal (hInputGradIdeal := hInputGradIdeal)
    ∧ quiescent_InputGradReferenceIdeal (hInputGradReferenceIdeal := hInputGradReferenceIdeal)
    ∧ quiescent_InWeightGrad (hInWeightGrad := hInWeightGrad)
    ∧ quiescent_InWeightGradIdeal (hInWeightGradIdeal := hInWeightGradIdeal)
    ∧ quiescent_InWeightGradReferenceIdeal (hInWeightGradReferenceIdeal := hInWeightGradReferenceIdeal)
    ∧ quiescent_OutWeightGrad (hOutWeightGrad := hOutWeightGrad)
    ∧ quiescent_OutWeightGradIdeal (hOutWeightGradIdeal := hOutWeightGradIdeal)
    ∧ quiescent_OutWeightGradReferenceIdeal (hOutWeightGradReferenceIdeal := hOutWeightGradReferenceIdeal)
    ∧ quiescent_OutWeightGrads (hOutWeightGrads := hOutWeightGrads)
    ∧ quiescent_OutWeightGradsIdeal (hOutWeightGradsIdeal := hOutWeightGradsIdeal)
    ∧ quiescent_OutWeightGradsReferenceIdeal (hOutWeightGradsReferenceIdeal := hOutWeightGradsReferenceIdeal)
    ∧ quiescent_AttentionGrad (hAttentionGrad := hAttentionGrad)
    ∧ quiescent_AttentionGradIdeal (hAttentionGradIdeal := hAttentionGradIdeal)
    ∧ quiescent_AttentionGradReferenceIdeal (hAttentionGradReferenceIdeal := hAttentionGradReferenceIdeal)
    ∧ quiescent_MixersGrad (hMixersGrad := hMixersGrad)
    ∧ quiescent_MixersGradIdeal (hMixersGradIdeal := hMixersGradIdeal)
    ∧ quiescent_MixersGradReferenceIdeal (hMixersGradReferenceIdeal := hMixersGradReferenceIdeal)
    ∧ quiescent_QkvWeightGrad (hQkvWeightGrad := hQkvWeightGrad)
    ∧ quiescent_QkvWeightGradIdeal (hQkvWeightGradIdeal := hQkvWeightGradIdeal)
    ∧ quiescent_QkvWeightGradReferenceIdeal (hQkvWeightGradReferenceIdeal := hQkvWeightGradReferenceIdeal)
    ∧ quiescent_QkvGrad (hQkvGrad := hQkvGrad)
    ∧ quiescent_QkvGradIdeal (hQkvGradIdeal := hQkvGradIdeal)
    ∧ quiescent_QkvGradReferenceIdeal (hQkvGradReferenceIdeal := hQkvGradReferenceIdeal)
    ∧ quiescent_MixWeightGrad (hMixWeightGrad := hMixWeightGrad)
    ∧ quiescent_MixWeightGradIdeal (hMixWeightGradIdeal := hMixWeightGradIdeal)
    ∧ quiescent_MixWeightGradReferenceIdeal (hMixWeightGradReferenceIdeal := hMixWeightGradReferenceIdeal)
    ∧ quiescent_MixGrad (hMixGrad := hMixGrad)
    ∧ quiescent_MixGradIdeal (hMixGradIdeal := hMixGradIdeal)
    ∧ quiescent_MixGradReferenceIdeal (hMixGradReferenceIdeal := hMixGradReferenceIdeal)
    ∧ quiescent_HiddenOf (hHiddenOf := hHiddenOf)
    ∧ quiescent_HiddenOfIdeal (hHiddenOfIdeal := hHiddenOfIdeal)
    ∧ quiescent_HiddenOfReferenceIdeal (hHiddenOfReferenceIdeal := hHiddenOfReferenceIdeal)
    ∧ quiescent_MlpOut (hMlpOut := hMlpOut)
    ∧ quiescent_MlpOutIdeal (hMlpOutIdeal := hMlpOutIdeal)
    ∧ quiescent_MlpOutReferenceIdeal (hMlpOutReferenceIdeal := hMlpOutReferenceIdeal)
    ∧ quiescent_QkvOf (hQkvOf := hQkvOf)
    ∧ quiescent_QkvOfIdeal (hQkvOfIdeal := hQkvOfIdeal)
    ∧ quiescent_QkvOfReferenceIdeal (hQkvOfReferenceIdeal := hQkvOfReferenceIdeal)
    ∧ quiescent_MixOf (hMixOf := hMixOf)
    ∧ quiescent_MixOfIdeal (hMixOfIdeal := hMixOfIdeal)
    ∧ quiescent_MixOfReferenceIdeal (hMixOfReferenceIdeal := hMixOfReferenceIdeal)
    ∧ quiescent_OutOf (hOutOf := hOutOf)
    ∧ quiescent_OutOfIdeal (hOutOfIdeal := hOutOfIdeal)
    ∧ quiescent_OutOfReferenceIdeal (hOutOfReferenceIdeal := hOutOfReferenceIdeal)
    ∧ quiescent_NormOf (hNormOf := hNormOf)
    ∧ quiescent_NormOfIdeal (hNormOfIdeal := hNormOfIdeal)
    ∧ quiescent_NormOfReferenceIdeal (hNormOfReferenceIdeal := hNormOfReferenceIdeal)
    ∧ quiescent_NormsOf (hNormsOf := hNormsOf)
    ∧ quiescent_NormsOfIdeal (hNormsOfIdeal := hNormsOfIdeal)
    ∧ quiescent_NormsOfReferenceIdeal (hNormsOfReferenceIdeal := hNormsOfReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_HiddenGrad_HiddenGradIdeal
    ∧ algebraic_HiddenGradIdeal_HiddenGradReferenceIdeal (hHiddenGradIdeal := hHiddenGradIdeal) (hHiddenGradReferenceIdeal := hHiddenGradReferenceIdeal)
    ∧ preserves_InputGrad_InputGradIdeal
    ∧ algebraic_InputGradIdeal_InputGradReferenceIdeal (hInputGradIdeal := hInputGradIdeal) (hInputGradReferenceIdeal := hInputGradReferenceIdeal)
    ∧ preserves_InWeightGrad_InWeightGradIdeal
    ∧ algebraic_InWeightGradIdeal_InWeightGradReferenceIdeal (hInWeightGradIdeal := hInWeightGradIdeal) (hInWeightGradReferenceIdeal := hInWeightGradReferenceIdeal)
    ∧ preserves_OutWeightGrad_OutWeightGradIdeal
    ∧ algebraic_OutWeightGradIdeal_OutWeightGradReferenceIdeal (hOutWeightGradIdeal := hOutWeightGradIdeal) (hOutWeightGradReferenceIdeal := hOutWeightGradReferenceIdeal)
    ∧ preserves_OutWeightGrads_OutWeightGradsIdeal
    ∧ algebraic_OutWeightGradsIdeal_OutWeightGradsReferenceIdeal (hOutWeightGradsIdeal := hOutWeightGradsIdeal) (hOutWeightGradsReferenceIdeal := hOutWeightGradsReferenceIdeal)
    ∧ preserves_AttentionGrad_AttentionGradIdeal
    ∧ algebraic_AttentionGradIdeal_AttentionGradReferenceIdeal (hAttentionGradIdeal := hAttentionGradIdeal) (hAttentionGradReferenceIdeal := hAttentionGradReferenceIdeal)
    ∧ preserves_MixersGrad_MixersGradIdeal
    ∧ algebraic_MixersGradIdeal_MixersGradReferenceIdeal (hMixersGradIdeal := hMixersGradIdeal) (hMixersGradReferenceIdeal := hMixersGradReferenceIdeal)
    ∧ preserves_QkvWeightGrad_QkvWeightGradIdeal
    ∧ algebraic_QkvWeightGradIdeal_QkvWeightGradReferenceIdeal (hQkvWeightGradIdeal := hQkvWeightGradIdeal) (hQkvWeightGradReferenceIdeal := hQkvWeightGradReferenceIdeal)
    ∧ preserves_QkvGrad_QkvGradIdeal
    ∧ algebraic_QkvGradIdeal_QkvGradReferenceIdeal (hQkvGradIdeal := hQkvGradIdeal) (hQkvGradReferenceIdeal := hQkvGradReferenceIdeal)
    ∧ preserves_MixWeightGrad_MixWeightGradIdeal
    ∧ algebraic_MixWeightGradIdeal_MixWeightGradReferenceIdeal (hMixWeightGradIdeal := hMixWeightGradIdeal) (hMixWeightGradReferenceIdeal := hMixWeightGradReferenceIdeal)
    ∧ preserves_MixGrad_MixGradIdeal
    ∧ algebraic_MixGradIdeal_MixGradReferenceIdeal (hMixGradIdeal := hMixGradIdeal) (hMixGradReferenceIdeal := hMixGradReferenceIdeal)
    ∧ preserves_HiddenOf_HiddenOfIdeal
    ∧ algebraic_HiddenOfIdeal_HiddenOfReferenceIdeal (hHiddenOfIdeal := hHiddenOfIdeal) (hHiddenOfReferenceIdeal := hHiddenOfReferenceIdeal)
    ∧ preserves_MlpOut_MlpOutIdeal
    ∧ algebraic_MlpOutIdeal_MlpOutReferenceIdeal (hMlpOutIdeal := hMlpOutIdeal) (hMlpOutReferenceIdeal := hMlpOutReferenceIdeal)
    ∧ preserves_QkvOf_QkvOfIdeal
    ∧ algebraic_QkvOfIdeal_QkvOfReferenceIdeal (hQkvOfIdeal := hQkvOfIdeal) (hQkvOfReferenceIdeal := hQkvOfReferenceIdeal)
    ∧ preserves_MixOf_MixOfIdeal
    ∧ algebraic_MixOfIdeal_MixOfReferenceIdeal (hMixOfIdeal := hMixOfIdeal) (hMixOfReferenceIdeal := hMixOfReferenceIdeal)
    ∧ preserves_OutOf_OutOfIdeal
    ∧ algebraic_OutOfIdeal_OutOfReferenceIdeal (hOutOfIdeal := hOutOfIdeal) (hOutOfReferenceIdeal := hOutOfReferenceIdeal)
    ∧ preserves_NormOf_NormOfIdeal
    ∧ algebraic_NormOfIdeal_NormOfReferenceIdeal (hNormOfIdeal := hNormOfIdeal) (hNormOfReferenceIdeal := hNormOfReferenceIdeal)
    ∧ preserves_NormsOf_NormsOfIdeal
    ∧ algebraic_NormsOfIdeal_NormsOfReferenceIdeal (hNormsOfIdeal := hNormsOfIdeal) (hNormsOfReferenceIdeal := hNormsOfReferenceIdeal)
-- ==== Pre_finite.lean ====
abbrev S4096x6144 : Shape := ⟨2, ![4096, 6144]⟩
abbrev S4096x2048 : Shape := ⟨2, ![4096, 2048]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x6144 .bf16) (main_arg1 : FVec F S4096x2048 .bf16) : IVec S_ 1 :=
  let main_v0 : FVec F S4096x6144 .bf16 := Host.absf main_arg0
  let main_cst : FVec F S_ .bf16 := constant S_ .bf16 0x7F80#16
  let main_v1 : FVec F S4096x6144 .bf16 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  let main_v4 : FVec F S4096x2048 .bf16 := Host.absf main_arg1
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x6144 : Shape := ⟨2, ![4096, 6144]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x4096 : Shape := ⟨2, ![16, 4096]⟩
abbrev S4096x16 : Shape := ⟨2, ![4096, 16]⟩
abbrev S4096x16x1 : Shape := ⟨3, ![4096, 16, 1]⟩
abbrev S16x16x128x256 : Shape := ⟨4, ![16, 16, 128, 256]⟩
abbrev S1024x128 : Shape := ⟨2, ![1024, 128]⟩
abbrev S4096x128 : Shape := ⟨2, ![4096, 128]⟩
abbrev S1x16x128x256 : Shape := ⟨4, ![1, 16, 128, 256]⟩
abbrev S128x1024 : Shape := ⟨2, ![128, 1024]⟩
abbrev S16x128x256 : Shape := ⟨3, ![16, 128, 256]⟩
abbrev S256x256 : Shape := ⟨2, ![256, 256]⟩
abbrev S256x128 : Shape := ⟨2, ![256, 128]⟩
abbrev S1024x256 : Shape := ⟨2, ![1024, 256]⟩
abbrev S1x1x128x256 : Shape := ⟨4, ![1, 1, 128, 256]⟩
abbrev S128x256 : Shape := ⟨2, ![128, 256]⟩
abbrev S768x256 : Shape := ⟨2, ![768, 256]⟩
abbrev S768x128 : Shape := ⟨2, ![768, 128]⟩
abbrev S128x768 : Shape := ⟨2, ![128, 768]⟩
abbrev S512x256 : Shape := ⟨2, ![512, 256]⟩
abbrev S512x128 : Shape := ⟨2, ![512, 128]⟩
abbrev S128x512 : Shape := ⟨2, ![128, 512]⟩

abbrev nBuf : Space → Nat
  | .hbm => 52
  | .vmem => 20
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S4096x16x128, .f32⟩
  | .hbm, ⟨7, _⟩ => ⟨S16x4096x128, .f32⟩
  | .hbm, ⟨8, _⟩ => ⟨S4096x2048, .f32⟩
  | .hbm, ⟨9, _⟩ => ⟨S4096x16x128, .f32⟩
  | .hbm, ⟨10, _⟩ => ⟨S16x4096x128, .f32⟩
  | .hbm, ⟨11, _⟩ => ⟨S4096x2048, .f32⟩
  | .hbm, ⟨12, _⟩ => ⟨S4096x16x128, .f32⟩
  | .hbm, ⟨13, _⟩ => ⟨S16x4096x128, .f32⟩
  | .hbm, ⟨14, _⟩ => ⟨S16x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S16x4096x4096, .f32⟩
  | .hbm, ⟨22, _⟩ => ⟨S16x4096x4096, .f32⟩
  | .hbm, ⟨23, _⟩ => ⟨S_, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S4096x16, .f32⟩
  | .hbm, ⟨46, _⟩ => ⟨S4096x16x1, .f32⟩
  | .hbm, ⟨47, _⟩ => ⟨S4096x16x128, .f32⟩
  | .hbm, ⟨48, _⟩ => ⟨S4096x2048, .f32⟩
  | .hbm, ⟨49, _⟩ => ⟨S4096x2048, .f32⟩
  | .hbm, ⟨50, _⟩ => ⟨S16x16x128x256, .f32⟩
  | .hbm, ⟨51, _⟩ => ⟨S16x16x128x256, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x16x128x256, .f32⟩
  | .local _ .vmem, ⟨13, _⟩ => ⟨S1x16x128x256, .f32⟩
  | .local _ .vmem, ⟨14, _⟩ => ⟨S1x16x128x256, .f32⟩
  | .local _ .vmem, ⟨15, _⟩ => ⟨S1x16x128x256, .f32⟩
  | .local _ .vmem, ⟨16, _⟩ => ⟨S128x1024, .bf16⟩
  | .local _ .vmem, ⟨17, _⟩ => ⟨S128x1024, .bf16⟩
  | .local _ .vmem, ⟨18, _⟩ => ⟨S1024x128, .f32⟩
  | .local _ .vmem, ⟨19, _⟩ => ⟨S1024x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27_0 : Ref sig .tc := ⟨.hbm, 49, rfl⟩
abbrev main_v27_1 : Ref sig .tc := ⟨.hbm, 50, rfl⟩
abbrev main_v27_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_28 : BitVec 32 := 0#32
  let arg1 : BitVec 32 := BitVec.ofNat 32 (i 1).val
  let v77 : BitVec 32 := Scalar.subi arg1 c0_i32_28
  let c1_i32_30 : BitVec 32 := 1#32
  let v79 : BitVec 32 := Scalar.divsi v77 c1_i32_30
  let v80 : BitVec 32 := Scalar.muli v79 c1_i32_30
  let v81 : BitVec 32 := Scalar.addi c0_i32_28 v80
  let c1_i32_31 : BitVec 32 := 1#32
  ⟨c0_i32_28, v81, c1_i32_31⟩
def k0_mult1 (i : grid0.Coords) (k0_t1 : Fin (k0_t1_loop i).trips) : BitVec 32 :=
  let c0_i32_28 : BitVec 32 := 0#32
  let c1_i32_31 : BitVec 32 := 1#32
  let arg14 : BitVec 32 := Scf.iv c0_i32_28 c1_i32_31 k0_t1
  let c4_i32_242 : BitVec 32 := 4#32
  let v584 : BitVec 32 := Scalar.muli arg14 c4_i32_242
  let c0_i32_243 : BitVec 32 := 0#32
  let v585 : BitVec 32 := Scalar.addi v584 c0_i32_243
  let c256_i32_244 : BitVec 32 := 256#32
  let v586 : BitVec 32 := Scalar.muli v585 c256_i32_244
  v586
def k0_off1 (i : grid0.Coords) (k0_t1 : Fin (k0_t1_loop i).trips) (c0_i32_243 : BitVec 32) : Fin 2 → Nat :=
  let c0_i32_28 : BitVec 32 := 0#32
  let c1_i32_31 : BitVec 32 := 1#32
  let arg14 : BitVec 32 := Scf.iv c0_i32_28 c1_i32_31 k0_t1
  let c4_i32_242 : BitVec 32 := 4#32
  let v584 : BitVec 32 := Scalar.muli arg14 c4_i32_242
  let v585 : BitVec 32 := Scalar.addi v584 c0_i32_243
  let c256_i32_244 : BitVec 32 := 256#32
  let v586 : BitVec 32 := Scalar.muli v585 c256_i32_244
  let v587 : BitVec 32 := v586
  let v588 : Index := Scalar.indexCast v587
  let c0_245 : Index := 0#32
  ![v588.toNat, 0]
def k0_off2 (i : grid0.Coords) (k0_t1 : Fin (k0_t1_loop i).trips) (c0_i32_243 : BitVec 32) : Fin 4 → Nat :=
  let c0_266 : Index := 0#32
  let c0_i32_28 : BitVec 32 := 0#32
  let c1_i32_31 : BitVec 32 := 1#32
  let arg14 : BitVec 32 := Scf.iv c0_i32_28 c1_i32_31 k0_t1
  let c4_i32_242 : BitVec 32 := 4#32
  let v584 : BitVec 32 := Scalar.muli arg14 c4_i32_242
  let v585 : BitVec 32 := Scalar.addi v584 c0_i32_243
  let v664 : Index := Scalar.indexCast v585
  let c0_267 : Index := 0#32
  let c0_268 : Index := 0#32
  ![0, v664.toNat, 0, 0]
def k0_mult2 (i : grid0.Coords) (k0_t1 : Fin (k0_t1_loop i).trips) : BitVec 32 :=
  let c0_i32_28 : BitVec 32 := 0#32
  let c1_i32_31 : BitVec 32 := 1#32
  let arg14 : BitVec 32 := Scf.iv c0_i32_28 c1_i32_31 k0_t1
  let c4_i32_293 : BitVec 32 := 4#32
  let v700 : BitVec 32 := Scalar.muli arg14 c4_i32_293
  let c1_i32_294 : BitVec 32 := 1#32
  let v701 : BitVec 32 := Scalar.addi v700 c1_i32_294
  let c256_i32_295 : BitVec 32 := 256#32
  let v702 : BitVec 32 := Scalar.muli v701 c256_i32_295
  v702
def k0_mult3 (i : grid0.Coords) (k0_t1 : Fin (k0_t1_loop i).trips) : BitVec 32 :=
  let c0_i32_28 : BitVec 32 := 0#32
  let c1_i32_31 : BitVec 32 := 1#32
  let arg14 : BitVec 32 := Scf.iv c0_i32_28 c1_i32_31 k0_t1
  let c4_i32_344 : BitVec 32 := 4#32
  let v816 : BitVec 32 := Scalar.muli arg14 c4_i32_344
  let c2_i32_345 : BitVec 32 := 2#32
  let v817 : BitVec 32 := Scalar.addi v816 c2_i32_345
  let c256_i32_346 : BitVec 32 := 256#32
  let v818 : BitVec 32 := Scalar.muli v817 c256_i32_346
  v818
def k0_mult4 (i : grid0.Coords) (k0_t1 : Fin (k0_t1_loop i).trips) : BitVec 32 :=
  let c0_i32_28 : BitVec 32 := 0#32
  let c1_i32_31 : BitVec 32 := 1#32
  let arg14 : BitVec 32 := Scf.iv c0_i32_28 c1_i32_31 k0_t1
  let c4_i32_395 : BitVec 32 := 4#32
  let v932 : BitVec 32 := Scalar.muli arg14 c4_i32_395
  let c3_i32_396 : BitVec 32 := 3#32
  let v933 : BitVec 32 := Scalar.addi v932 c3_i32_396
  let c256_i32_397 : BitVec 32 := 256#32
  let v934 : BitVec 32 := Scalar.muli v933 c256_i32_397
  v934
@[reducible] def k0_t2_loop (i : grid0.Coords) : Scf.Loop 32 :=
  let c0_i32_28 : BitVec 32 := 0#32
  let arg1 : BitVec 32 := BitVec.ofNat 32 (i 1).val
  let v77 : BitVec 32 := Scalar.subi arg1 c0_i32_28
  let c1_i32_30 : BitVec 32 := 1#32
  let v79 : BitVec 32 := Scalar.divsi v77 c1_i32_30
  let v80 : BitVec 32 := Scalar.muli v79 c1_i32_30
  let v81 : BitVec 32 := Scalar.addi c0_i32_28 v80
  let v78 : BitVec 32 := Scalar.addi c0_i32_28 v77
  let c1_i32_32 : BitVec 32 := 1#32
  ⟨v81, v78, c1_i32_32⟩
def k0_mult5 (i : grid0.Coords) (k0_t2 : Fin (k0_t2_loop i).trips) : BitVec 32 :=
  let c0_i32_28 : BitVec 32 := 0#32
  let arg1 : BitVec 32 := BitVec.ofNat 32 (i 1).val
  let v77 : BitVec 32 := Scalar.subi arg1 c0_i32_28
  let c1_i32_30 : BitVec 32 := 1#32
  let v79 : BitVec 32 := Scalar.divsi v77 c1_i32_30
  let v80 : BitVec 32 := Scalar.muli v79 c1_i32_30
  let v81 : BitVec 32 := Scalar.addi c0_i32_28 v80
  let c1_i32_32 : BitVec 32 := 1#32
  let arg14 : BitVec 32 := Scf.iv v81 c1_i32_32 k0_t2
  let c4_i32_242 : BitVec 32 := 4#32
  let v584 : BitVec 32 := Scalar.muli arg14 c4_i32_242
  let c0_i32_243 : BitVec 32 := 0#32
  let v585 : BitVec 32 := Scalar.addi v584 c0_i32_243
  let c256_i32_244 : BitVec 32 := 256#32
  let v586 : BitVec 32 := Scalar.muli v585 c256_i32_244
  v586
def k0_off3 (i : grid0.Coords) (k0_t2 : Fin (k0_t2_loop i).trips) (c0_i32_243 : BitVec 32) : Fin 2 → Nat :=
  let c0_i32_28 : BitVec 32 := 0#32
  let arg1 : BitVec 32 := BitVec.ofNat 32 (i 1).val
  let v77 : BitVec 32 := Scalar.subi arg1 c0_i32_28
  let c1_i32_30 : BitVec 32 := 1#32
  let v79 : BitVec 32 := Scalar.divsi v77 c1_i32_30
  let v80 : BitVec 32 := Scalar.muli v79 c1_i32_30
  let v81 : BitVec 32 := Scalar.addi c0_i32_28 v80
  let c1_i32_32 : BitVec 32 := 1#32
  let arg14 : BitVec 32 := Scf.iv v81 c1_i32_32 k0_t2
  let c4_i32_242 : BitVec 32 := 4#32
  let v584 : BitVec 32 := Scalar.muli arg14 c4_i32_242
  let v585 : BitVec 32 := Scalar.addi v584 c0_i32_243
  let c256_i32_244 : BitVec 32 := 256#32
  let v586 : BitVec 32 := Scalar.muli v585 c256_i32_244
  let v587 : BitVec 32 := v586
  let v588 : Index := Scalar.indexCast v587
  let c0_245 : Index := 0#32
  ![v588.toNat, 0]
def k0_off4 (i : grid0.Coords) (k0_t2 : Fin (k0_t2_loop i).trips) (c0_i32_243 : BitVec 32) : Fin 4 → Nat :=
  let c0_266 : Index := 0#32
  let c0_i32_28 : BitVec 32 := 0#32
  let arg1 : BitVec 32 := BitVec.ofNat 32 (i 1).val
  let v77 : BitVec 32 := Scalar.subi arg1 c0_i32_28
  let c1_i32_30 : BitVec 32 := 1#32
  let v79 : BitVec 32 := Scalar.divsi v77 c1_i32_30
  let v80 : BitVec 32 := Scalar.muli v79 c1_i32_30
  let v81 : BitVec 32 := Scalar.addi c0_i32_28 v80
  let c1_i32_32 : BitVec 32 := 1#32
  let arg14 : BitVec 32 := Scf.iv v81 c1_i32_32 k0_t2
  let c4_i32_242 : BitVec 32 := 4#32
  let v584 : BitVec 32 := Scalar.muli arg14 c4_i32_242
  let v585 : BitVec 32 := Scalar.addi v584 c0_i32_243
  let v664 : Index := Scalar.indexCast v585
  let c0_267 : Index := 0#32
  let c0_268 : Index := 0#32
  ![0, v664.toNat, 0, 0]
def k0_mult6 (i : grid0.Coords) (k0_t2 : Fin (k0_t2_loop i).trips) : BitVec 32 :=
  let c0_i32_28 : BitVec 32 := 0#32
  let arg1 : BitVec 32 := BitVec.ofNat 32 (i 1).val
  let v77 : BitVec 32 := Scalar.subi arg1 c0_i32_28
  let c1_i32_30 : BitVec 32 := 1#32
  let v79 : BitVec 32 := Scalar.divsi v77 c1_i32_30
  let v80 : BitVec 32 := Scalar.muli v79 c1_i32_30
  let v81 : BitVec 32 := Scalar.addi c0_i32_28 v80
  let c1_i32_32 : BitVec 32 := 1#32
  let arg14 : BitVec 32 := Scf.iv v81 c1_i32_32 k0_t2
  let c4_i32_293 : BitVec 32 := 4#32
  let v700 : BitVec 32 := Scalar.muli arg14 c4_i32_293
  let c1_i32_294 : BitVec 32 := 1#32
  let v701 : BitVec 32 := Scalar.addi v700 c1_i32_294
  let c256_i32_295 : BitVec 32 := 256#32
  let v702 : BitVec 32 := Scalar.muli v701 c256_i32_295
  v702
def k0_mult7 (i : grid0.Coords) (k0_t2 : Fin (k0_t2_loop i).trips) : BitVec 32 :=
  let c0_i32_28 : BitVec 32 := 0#32
  let arg1 : BitVec 32 := BitVec.ofNat 32 (i 1).val
  let v77 : BitVec 32 := Scalar.subi arg1 c0_i32_28
  let c1_i32_30 : BitVec 32 := 1#32
  let v79 : BitVec 32 := Scalar.divsi v77 c1_i32_30
  let v80 : BitVec 32 := Scalar.muli v79 c1_i32_30
  let v81 : BitVec 32 := Scalar.addi c0_i32_28 v80
  let c1_i32_32 : BitVec 32 := 1#32
  let arg14 : BitVec 32 := Scf.iv v81 c1_i32_32 k0_t2
  let c4_i32_344 : BitVec 32 := 4#32
  let v816 : BitVec 32 := Scalar.muli arg14 c4_i32_344
  let c2_i32_345 : BitVec 32 := 2#32
  let v817 : BitVec 32 := Scalar.addi v816 c2_i32_345
  let c256_i32_346 : BitVec 32 := 256#32
  let v818 : BitVec 32 := Scalar.muli v817 c256_i32_346
  v818
def k0_mult8 (i : grid0.Coords) (k0_t2 : Fin (k0_t2_loop i).trips) : BitVec 32 :=
  let c0_i32_28 : BitVec 32 := 0#32
  let arg1 : BitVec 32 := BitVec.ofNat 32 (i 1).val
  let v77 : BitVec 32 := Scalar.subi arg1 c0_i32_28
  let c1_i32_30 : BitVec 32 := 1#32
  let v79 : BitVec 32 := Scalar.divsi v77 c1_i32_30
  let v80 : BitVec 32 := Scalar.muli v79 c1_i32_30
  let v81 : BitVec 32 := Scalar.addi c0_i32_28 v80
  let c1_i32_32 : BitVec 32 := 1#32
  let arg14 : BitVec 32 := Scf.iv v81 c1_i32_32 k0_t2
  let c4_i32_395 : BitVec 32 := 4#32
  let v932 : BitVec 32 := Scalar.muli arg14 c4_i32_395
  let c3_i32_396 : BitVec 32 := 3#32
  let v933 : BitVec 32 := Scalar.addi v932 c3_i32_396
  let c256_i32_397 : BitVec 32 := 256#32
  let v934 : BitVec 32 := Scalar.muli v933 c256_i32_397
  v934
def k0_mult9 (i : grid0.Coords) : BitVec 32 :=
  let arg1 : BitVec 32 := BitVec.ofNat 32 (i 1).val
  let c4_i32 : BitVec 32 := 4#32
  let v84 : BitVec 32 := Scalar.muli arg1 c4_i32
  let c0_i32_33 : BitVec 32 := 0#32
  let v85 : BitVec 32 := Scalar.addi v84 c0_i32_33
  let c256_i32 : BitVec 32 := 256#32
  let v89 : BitVec 32 := Scalar.muli v85 c256_i32
  v89
def k0_off5 (i : grid0.Coords) (c0_i32_33 : BitVec 32) : Fin 2 → Nat :=
  let arg1 : BitVec 32 := BitVec.ofNat 32 (i 1).val
  let c4_i32 : BitVec 32 := 4#32
  let v84 : BitVec 32 := Scalar.muli arg1 c4_i32
  let v85 : BitVec 32 := Scalar.addi v84 c0_i32_33
  let c256_i32 : BitVec 32 := 256#32
  let v89 : BitVec 32 := Scalar.muli v85 c256_i32
  let v90 : BitVec 32 := v89
  let v91 : Index := Scalar.indexCast v90
  let c0_34 : Index := 0#32
  ![v91.toNat, 0]
def k0_off6 (i : grid0.Coords) (c0_i32_33 : BitVec 32) : Fin 4 → Nat :=
  let c0_58 : Index := 0#32
  let arg1 : BitVec 32 := BitVec.ofNat 32 (i 1).val
  let c4_i32 : BitVec 32 := 4#32
  let v84 : BitVec 32 := Scalar.muli arg1 c4_i32
  let v85 : BitVec 32 := Scalar.addi v84 c0_i32_33
  let v173 : Index := Scalar.indexCast v85
  let c0_59 : Index := 0#32
  let c0_60 : Index := 0#32
  ![0, v173.toNat, 0, 0]
def k0_mult10 (i : grid0.Coords) : BitVec 32 :=
  let arg1 : BitVec 32 := BitVec.ofNat 32 (i 1).val
  let c4_i32_85 : BitVec 32 := 4#32
  let v209 : BitVec 32 := Scalar.muli arg1 c4_i32_85
  let c1_i32_86 : BitVec 32 := 1#32
  let v210 : BitVec 32 := Scalar.addi v209 c1_i32_86
  let c256_i32_87 : BitVec 32 := 256#32
  let v214 : BitVec 32 := Scalar.muli v210 c256_i32_87
  v214
def k0_mult11 (i : grid0.Coords) : BitVec 32 :=
  let arg1 : BitVec 32 := BitVec.ofNat 32 (i 1).val
  let c4_i32_138 : BitVec 32 := 4#32
  let v334 : BitVec 32 := Scalar.muli arg1 c4_i32_138
  let c2_i32 : BitVec 32 := 2#32
  let v335 : BitVec 32 := Scalar.addi v334 c2_i32
  let c256_i32_139 : BitVec 32 := 256#32
  let v339 : BitVec 32 := Scalar.muli v335 c256_i32_139
  v339
def k0_mult12 (i : grid0.Coords) : BitVec 32 :=
  let arg1 : BitVec 32 := BitVec.ofNat 32 (i 1).val
  let c4_i32_190 : BitVec 32 := 4#32
  let v459 : BitVec 32 := Scalar.muli arg1 c4_i32_190
  let c3_i32 : BitVec 32 := 3#32
  let v460 : BitVec 32 := Scalar.addi v459 c3_i32
  let c256_i32_191 : BitVec 32 := 256#32
  let v464 : BitVec 32 := Scalar.muli v460 c256_i32_191
  v464
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x6144 : Shape := ⟨2, ![4096, 6144]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x4096x4095 : Shape := ⟨3, ![16, 4096, 4095]⟩
abbrev S16x4096x1 : Shape := ⟨3, ![16, 4096, 1]⟩
abbrev S16x128x4096 : Shape := ⟨3, ![16, 128, 4096]⟩
abbrev S16x16x256x128 : Shape := ⟨4, ![16, 16, 256, 128]⟩
abbrev S16x16x128x256 : Shape := ⟨4, ![16, 16, 128, 256]⟩

abbrev nBuf : Space → Nat
  | .hbm => 181
  | .vmem => 0
  | .smem => 0
  | _ => 0

abbrev hbmTy0_0 (i : Nat) : BufTy := match i % 128 with
  | 0 => ⟨S4096x6144, .bf16⟩
  | 1 => ⟨S4096x2048, .bf16⟩
  | 2 => ⟨S4096x2048, .bf16⟩
  | 3 => ⟨S4096x2048, .bf16⟩
  | 4 => ⟨S4096x2048, .bf16⟩
  | 5 => ⟨S4096x2048, .f32⟩
  | 6 => ⟨S4096x16x128, .f32⟩
  | 7 => ⟨S16x4096x128, .f32⟩
  | 8 => ⟨S4096x2048, .f32⟩
  | 9 => ⟨S4096x16x128, .f32⟩
  | 10 => ⟨S16x4096x128, .f32⟩
  | 11 => ⟨S4096x2048, .f32⟩
  | 12 => ⟨S4096x16x128, .f32⟩
  | 13 => ⟨S16x4096x128, .f32⟩
  | 14 => ⟨S16x4096x4096, .f32⟩
  | 15 => ⟨S4096, .i32⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S16x4096x4096, .f32⟩
  | 22 => ⟨S16x4096x4096, .f32⟩
  | 23 => ⟨S_, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .i1⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .i1⟩
  | 40 => ⟨S_, .f32⟩
  | 41 => ⟨S16x4096x4096, .f32⟩
  | 42 => ⟨S16x4096x4096, .f32⟩
  | 43 => ⟨S_, .f32⟩
  | 44 => ⟨S16x4096x4096, .f32⟩
  | 45 => ⟨S16x4096x4096, .i1⟩
  | 46 => ⟨S_, .f32⟩
  | 47 => ⟨S16x4096x4096, .f32⟩
  | 48 => ⟨S16x4096x4096, .f32⟩
  | 49 => ⟨S16x4096x4096, .f32⟩
  | 50 => ⟨S16x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x4096x4096, .f32⟩
  | 59 => ⟨S16x4096x4096, .i1⟩
  | 60 => ⟨S_, .f32⟩
  | 61 => ⟨S16x4096x4096, .f32⟩
  | 62 => ⟨S16x4096x4096, .f32⟩
  | 63 => ⟨S16x4096x4096, .f32⟩
  | 64 => ⟨S16x4096x4096, .f32⟩
  | 65 => ⟨S16x4096x4096, .f32⟩
  | 66 => ⟨S_, .f32⟩
  | 67 => ⟨S16x4096x4096, .f32⟩
  | 68 => ⟨S16x4096x4096, .f32⟩
  | 69 => ⟨S16x4096x4096, .f32⟩
  | 70 => ⟨S_, .f32⟩
  | 71 => ⟨S_, .f32⟩
  | 72 => ⟨S16x4096x4096, .i1⟩
  | 73 => ⟨S16x4096x4096, .f32⟩
  | 74 => ⟨S16x4096x4096, .f32⟩
  | 75 => ⟨S_, .f32⟩
  | 76 => ⟨S16x4096x4096, .f32⟩
  | 77 => ⟨S_, .f32⟩
  | 78 => ⟨S_, .f32⟩
  | 79 => ⟨S16x4096x4096, .f32⟩
  | 80 => ⟨S16x4096x4095, .f32⟩
  | 81 => ⟨S16x4096x1, .f32⟩
  | 82 => ⟨S_, .f32⟩
  | 83 => ⟨S16x4096x1, .f32⟩
  | 84 => ⟨S16x4096x4096, .f32⟩
  | 85 => ⟨S_, .f32⟩
  | 86 => ⟨S16x4096x1, .f32⟩
  | 87 => ⟨S16x4096x4096, .f32⟩
  | 88 => ⟨S_, .f32⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .i1⟩
  | 94 => ⟨S16x4096x4096, .f32⟩
  | 95 => ⟨S16x4096x4096, .f32⟩
  | 96 => ⟨S16x4096x4096, .f32⟩
  | 97 => ⟨S16x4096x4096, .f32⟩
  | 98 => ⟨S16x4096x4096, .f32⟩
  | 99 => ⟨S16x4096x4096, .f32⟩
  | 100 => ⟨S16x4096x4096, .f32⟩
  | 101 => ⟨S16x4096x4096, .f32⟩
  | 102 => ⟨S_, .f32⟩
  | 103 => ⟨S16x4096x4096, .f32⟩
  | 104 => ⟨S16x4096x4096, .i1⟩
  | 105 => ⟨S_, .f32⟩
  | 106 => ⟨S16x4096x4096, .f32⟩
  | 107 => ⟨S16x4096x4096, .f32⟩
  | 108 => ⟨S_, .f32⟩
  | 109 => ⟨S16x4096x4096, .f32⟩
  | 110 => ⟨S16x4096x4096, .i1⟩
  | 111 => ⟨S_, .f32⟩
  | 112 => ⟨S16x4096x4096, .f32⟩
  | 113 => ⟨S16x4096x4096, .f32⟩
  | 114 => ⟨S16x4096x4096, .f32⟩
  | 115 => ⟨S16x4096x4096, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S16x4096x4096, .f32⟩
  | 124 => ⟨S16x4096x4096, .i1⟩
  | 125 => ⟨S_, .f32⟩
  | 126 => ⟨S16x4096x4096, .f32⟩
  | 127 => ⟨S16x4096x4096, .f32⟩
  | _ => ⟨S4096x6144, .bf16⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S_, .f32⟩
  | 4 => ⟨S16x4096x4096, .f32⟩
  | 5 => ⟨S16x4096x4096, .f32⟩
  | 6 => ⟨S16x4096x4096, .f32⟩
  | 7 => ⟨S16x4096x4096, .f32⟩
  | 8 => ⟨S16x4096x4096, .f32⟩
  | 9 => ⟨S_, .f32⟩
  | 10 => ⟨S_, .f32⟩
  | 11 => ⟨S16x4096x4096, .i1⟩
  | 12 => ⟨S16x4096x4096, .f32⟩
  | 13 => ⟨S16x4096x4096, .f32⟩
  | 14 => ⟨S_, .f32⟩
  | 15 => ⟨S16x4096x4096, .f32⟩
  | 16 => ⟨S16x4096x128, .f32⟩
  | 17 => ⟨S4096x2048, .f32⟩
  | 18 => ⟨S4096x16x128, .f32⟩
  | 19 => ⟨S16x4096x128, .f32⟩
  | 20 => ⟨S16x128x4096, .f32⟩
  | 21 => ⟨S16x4096x128, .f32⟩
  | 22 => ⟨S16x4096x4096, .f32⟩
  | 23 => ⟨S_, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4095, .f32⟩
  | 31 => ⟨S16x4096x1, .f32⟩
  | 32 => ⟨S_, .f32⟩
  | 33 => ⟨S16x4096x4096, .f32⟩
  | 34 => ⟨S_, .f32⟩
  | 35 => ⟨S_, .f32⟩
  | 36 => ⟨S16x4096x4096, .f32⟩
  | 37 => ⟨S_, .f32⟩
  | 38 => ⟨S16x4096x4096, .f32⟩
  | 39 => ⟨S16x4096x4096, .f32⟩
  | 40 => ⟨S16x4096x4096, .f32⟩
  | 41 => ⟨S16x4096x4096, .f32⟩
  | 42 => ⟨S16x4096x4096, .f32⟩
  | 43 => ⟨S16x4096x4096, .f32⟩
  | 44 => ⟨S16x4096x4096, .f32⟩
  | 45 => ⟨S16x4096x128, .f32⟩
  | 46 => ⟨S16x4096x128, .f32⟩
  | 47 => ⟨S4096x16x128, .f32⟩
  | 48 => ⟨S4096x2048, .f32⟩
  | 49 => ⟨S16x16x256x128, .f32⟩
  | 50 => ⟨S16x16x128x256, .f32⟩
  | 51 => ⟨S16x16x256x128, .f32⟩
  | 52 => ⟨S16x16x128x256, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v20_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v20_2 : Ref sig .tc := ⟨.hbm, 68, rfl⟩
abbrev main_v20_0 : Ref sig .tc := ⟨.hbm, 69, rfl⟩
abbrev main_cst : Ref sig .tc := ⟨.hbm, 70, rfl⟩
abbrev main_call1_v0 : Ref sig .tc := ⟨.hbm, 71, rfl⟩
abbrev main_v21_1 : Ref sig .tc := ⟨.hbm, 72, rfl⟩
abbrev main_call1_v2 : Ref sig .tc := ⟨.hbm, 73, rfl⟩
abbrev main_v21_0 : Ref sig .tc := ⟨.hbm, 74, rfl⟩
abbrev main_call1_cst : Ref sig .tc := ⟨.hbm, 75, rfl⟩
abbrev main_v21_2 : Ref sig .tc := ⟨.hbm, 76, rfl⟩
abbrev main_call2_cst : Ref sig .tc := ⟨.hbm, 77, rfl⟩
abbrev main_call2_v0 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_cst_0 : Ref sig .tc := ⟨.hbm, 82, rfl⟩
abbrev main_v25 : Ref sig .tc := ⟨.hbm, 83, rfl⟩
abbrev main_v26 : Ref sig .tc := ⟨.hbm, 84, rfl⟩
abbrev main_cst_1 : Ref sig .tc := ⟨.hbm, 85, rfl⟩
abbrev main_v27 : Ref sig .tc := ⟨.hbm, 86, rfl⟩
abbrev main_call3_v0 : Ref sig .tc := ⟨.hbm, 87, rfl⟩
abbrev main_call3_call0_cst : Ref sig .tc := ⟨.hbm, 88, rfl⟩
abbrev main_call3_call0_v0 : Ref sig .tc := ⟨.hbm, 89, rfl⟩
abbrev main_call3_call0_v1 : Ref sig .tc := ⟨.hbm, 90, rfl⟩
abbrev main_call3_call0_v2 : Ref sig .tc := ⟨.hbm, 91, rfl⟩
abbrev main_call3_call0_v3 : Ref sig .tc := ⟨.hbm, 92, rfl⟩
abbrev main_call3_call0_v4 : Ref sig .tc := ⟨.hbm, 93, rfl⟩
abbrev main_call3_call0_v5 : Ref sig .tc := ⟨.hbm, 94, rfl⟩
abbrev main_call3_call0_v6 : Ref sig .tc := ⟨.hbm, 95, rfl⟩
abbrev main_call3_call0_v7 : Ref sig .tc := ⟨.hbm, 96, rfl⟩
abbrev main_call3_call0_v8 : Ref sig .tc := ⟨.hbm, 97, rfl⟩
abbrev main_call3_call0_v9 : Ref sig .tc := ⟨.hbm, 98, rfl⟩
abbrev main_call3_call0_v10 : Ref sig .tc := ⟨.hbm, 99, rfl⟩
abbrev main_call3_call0_v11 : Ref sig .tc := ⟨.hbm, 100, rfl⟩
abbrev main_call3_v1_0 : Ref sig .tc := ⟨.hbm, 101, rfl⟩
abbrev main_call3_call0_cst_0 : Ref sig .tc := ⟨.hbm, 102, rfl⟩
abbrev main_call3_call0_v13 : Ref sig .tc := ⟨.hbm, 103, rfl⟩
abbrev main_call3_call0_v14 : Ref sig .tc := ⟨.hbm, 104, rfl⟩
abbrev main_call3_call0_cst_1 : Ref sig .tc := ⟨.hbm, 105, rfl⟩
abbrev main_call3_call0_v15 : Ref sig .tc := ⟨.hbm, 106, rfl⟩
abbrev main_call3_call0_v16 : Ref sig .tc := ⟨.hbm, 107, rfl⟩
abbrev main_call3_call0_cst_2 : Ref sig .tc := ⟨.hbm, 108, rfl⟩
abbrev main_call3_call0_v17 : Ref sig .tc := ⟨.hbm, 109, rfl⟩
abbrev main_call3_call0_v18 : Ref sig .tc := ⟨.hbm, 110, rfl⟩
abbrev main_call3_call0_cst_3 : Ref sig .tc := ⟨.hbm, 111, rfl⟩
abbrev main_call3_call0_v19 : Ref sig .tc := ⟨.hbm, 112, rfl⟩
abbrev main_call3_call0_v20 : Ref sig .tc := ⟨.hbm, 113, rfl⟩
abbrev main_call3_call0_v21 : Ref sig .tc := ⟨.hbm, 114, rfl⟩
abbrev main_v28_1 : Ref sig .tc := ⟨.hbm, 115, rfl⟩
abbrev main_call3_call0_cst_4 : Ref sig .tc := ⟨.hbm, 116, rfl⟩
abbrev main_call3_call0_cst_5 : Ref sig .tc := ⟨.hbm, 117, rfl⟩
abbrev main_call3_call0_v23 : Ref sig .tc := ⟨.hbm, 118, rfl⟩
abbrev main_call3_call0_cst_6 : Ref sig .tc := ⟨.hbm, 119, rfl⟩
abbrev main_call3_call0_cst_7 : Ref sig .tc := ⟨.hbm, 120, rfl⟩
abbrev main_call3_call0_v24 : Ref sig .tc := ⟨.hbm, 121, rfl⟩
abbrev main_call3_call0_cst_8 : Ref sig .tc := ⟨.hbm, 122, rfl⟩
abbrev main_call3_call0_v25 : Ref sig .tc := ⟨.hbm, 123, rfl⟩
abbrev main_call3_call0_v26 : Ref sig .tc := ⟨.hbm, 124, rfl⟩
abbrev main_call3_call0_cst_9 : Ref sig .tc := ⟨.hbm, 125, rfl⟩
abbrev main_call3_call0_v27 : Ref sig .tc := ⟨.hbm, 126, rfl⟩
abbrev main_call3_call0_v28 : Ref sig .tc := ⟨.hbm, 127, rfl⟩
abbrev main_call3_call0_v29 : Ref sig .tc := ⟨.hbm, 128, rfl⟩
abbrev main_call3_call0_v30 : Ref sig .tc := ⟨.hbm, 129, rfl⟩
abbrev main_call3_call0_v31 : Ref sig .tc := ⟨.hbm, 130, rfl⟩
abbrev main_call3_call0_cst_10 : Ref sig .tc := ⟨.hbm, 131, rfl⟩
abbrev main_call3_call0_v32 : Ref sig .tc := ⟨.hbm, 132, rfl⟩
abbrev main_v28_2 : Ref sig .tc := ⟨.hbm, 133, rfl⟩
abbrev main_v28_0 : Ref sig .tc := ⟨.hbm, 134, rfl⟩
abbrev main_v29 : Ref sig .tc := ⟨.hbm, 135, rfl⟩
abbrev main_v30 : Ref sig .tc := ⟨.hbm, 136, rfl⟩
abbrev main_cst_2 : Ref sig .tc := ⟨.hbm, 137, rfl⟩
abbrev main_call4_v0 : Ref sig .tc := ⟨.hbm, 138, rfl⟩
abbrev main_v31_1 : Ref sig .tc := ⟨.hbm, 139, rfl⟩
abbrev main_call4_v2 : Ref sig .tc := ⟨.hbm, 140, rfl⟩
abbrev main_v31_0 : Ref sig .tc := ⟨.hbm, 141, rfl⟩
abbrev main_call4_cst : Ref sig .tc := ⟨.hbm, 142, rfl⟩
abbrev main_v31_2 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_call5_cst : Ref sig .tc := ⟨.hbm, 151, rfl⟩
abbrev main_call5_v0 : Ref sig .tc := ⟨.hbm, 152, rfl⟩
abbrev main_v39 : Ref sig .tc := ⟨.hbm, 153, rfl⟩
abbrev main_v40 : Ref sig .tc := ⟨.hbm, 154, rfl⟩
abbrev main_call6_v0 : Ref sig .tc := ⟨.hbm, 155, rfl⟩
abbrev main_call6_v1 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_cst_3 : Ref sig .tc := ⟨.hbm, 160, rfl⟩
abbrev main_v44 : Ref sig .tc := ⟨.hbm, 161, rfl⟩
abbrev main_call7_cst : Ref sig .tc := ⟨.hbm, 162, rfl⟩
abbrev main_call7_v0 : Ref sig .tc := ⟨.hbm, 163, rfl⟩
abbrev main_v45 : Ref sig .tc := ⟨.hbm, 164, rfl⟩
abbrev main_call8_cst : Ref sig .tc := ⟨.hbm, 165, rfl⟩
abbrev main_call8_v0 : Ref sig .tc := ⟨.hbm, 166, rfl⟩
abbrev main_v46 : Ref sig .tc := ⟨.hbm, 167, rfl⟩
abbrev main_call9_v0 : Ref sig .tc := ⟨.hbm, 168, rfl⟩
abbrev main_call9_v1 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩

abbrev nD : Nat := 1
abbrev τ : Topo := Topo.v7x

variable {F : FTy → Type} [FloatOps F]
-- ==== HiddenGrad.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .bf16⟩
  | .hbm, ⟨14, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HiddenGradReferenceIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S8192x2048, .f32⟩
  | .hbm, ⟨20, _⟩ => ⟨S4096x2048, .f32⟩
  | .hbm, ⟨21, _⟩ => ⟨S4096x2048, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== InputGrad.lean ====
abbrev S2048x8192 : Shape := ⟨2, ![2048, 8192]⟩
abbrev S4096x8192 : Shape := ⟨2, ![4096, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S4096x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InputGradReferenceIdeal.lean ====
abbrev S2048x8192 : Shape := ⟨2, ![2048, 8192]⟩
abbrev S4096x8192 : Shape := ⟨2, ![4096, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4096x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InWeightGrad.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightGradReferenceIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWeightGrad.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightGradReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWeightGrads.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightGradsReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttentionGrad.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttentionGradReferenceIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixersGrad.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixersGradReferenceIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QkvWeightGrad.lean ====
abbrev S4096x2048 : Shape := ⟨2, ![4096, 2048]⟩
abbrev S4096x6144 : Shape := ⟨2, ![4096, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvWeightGradReferenceIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QkvGrad.lean ====
abbrev S2048x6144 : Shape := ⟨2, ![2048, 6144]⟩
abbrev S4096x6144 : Shape := ⟨2, ![4096, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S4096x6144, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvGradReferenceIdeal.lean ====
abbrev S2048x6144 : Shape := ⟨2, ![2048, 6144]⟩
abbrev S4096x6144 : Shape := ⟨2, ![4096, 6144]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S4096x6144, .bf16⟩
  | .hbm, ⟨2, _⟩ => ⟨S_, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S4096x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixWeightGrad.lean ====
abbrev S4096x2048 : Shape := ⟨2, ![4096, 2048]⟩
abbrev S4096x5120 : Shape := ⟨2, ![4096, 5120]⟩
abbrev S2048x5120 : Shape := ⟨2, ![2048, 5120]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S2048x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWeightGradReferenceIdeal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S_, .f32⟩
  | .hbm, ⟨3, _⟩ => ⟨S2048x5120, .f32⟩
  | .hbm, ⟨4, _⟩ => ⟨S4096x2048, .f32⟩
  | .hbm, ⟨5, _⟩ => ⟨S4096x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixGrad.lean ====
abbrev S2048x5120 : Shape := ⟨2, ![2048, 5120]⟩
abbrev S4096x5120 : Shape := ⟨2, ![4096, 5120]⟩
abbrev S4096x2048 : Shape := ⟨2, ![4096, 2048]⟩
abbrev S1024x1280 : Shape := ⟨2, ![1024, 1280]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S4096x5120, .bf16⟩
  | .hbm, ⟨2, _⟩ => ⟨S4096x2048, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixGradReferenceIdeal.lean ====
abbrev S2048x5120 : Shape := ⟨2, ![2048, 5120]⟩
abbrev S4096x5120 : Shape := ⟨2, ![4096, 5120]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S4096x5120, .bf16⟩
  | .hbm, ⟨2, _⟩ => ⟨S_, .f32⟩
  | .hbm, ⟨3, _⟩ => ⟨S4096x2048, .f32⟩
  | .hbm, ⟨4, _⟩ => ⟨S2048x5120, .f32⟩
  | .hbm, ⟨5, _⟩ => ⟨S4096x5120, .f32⟩
  | .hbm, ⟨6, _⟩ => ⟨S4096x5120, .f32⟩
  | .hbm, ⟨7, _⟩ => ⟨S4096x2048, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== HiddenOf.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HiddenOfReferenceIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlpOut.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutReferenceIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QkvOf.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvOfReferenceIdeal.lean ====
abbrev S4096x2048 : Shape := ⟨2, ![4096, 2048]⟩
abbrev S2048x6144 : Shape := ⟨2, ![2048, 6144]⟩
abbrev S4096x6144 : Shape := ⟨2, ![4096, 6144]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x6144, .f32⟩
  | .hbm, ⟨12, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== MixOf.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOfReferenceIdeal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x2048, .f32⟩
  | .hbm, ⟨3, _⟩ => ⟨S2048x5120, .f32⟩
  | .hbm, ⟨4, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutOf.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutOfReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormOf.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormOfReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormsOf.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormsOfReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Frames.lean ====
/- The frames of the three programs: each terminates without a fault, leaves its arguments as they were and every
   semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The kernel at the machine's floats. -/
theorem frame_kernel : Cert.quiescent_Kernel := fun m ρ _ => Cert.Kernel.Gen.frame m ρ

/-- The kernel over the extended reals. -/
theorem frame_kernelIdeal : Cert.quiescent_KernelIdeal := fun m ρ _ => Cert.KernelIdeal.Gen.frame m ρ

/-- The reference over the extended reals: it declares no semaphore. -/
theorem frame_referenceIdeal : Cert.quiescent_ReferenceIdeal := fun m ρ _ =>
  (θ_run Cert.ReferenceIdeal.defs _ _).mono
    (fun r h => ⟨fun c => ⟨(h c).2.2.2.1, (h c).2.2.2.2⟩, sem_eq_zero_of_no_sems (by decide) r.2⟩)
    (Cert.ReferenceIdeal.Value.run (F := Ideal) m ρ)

end Cert.Proof

end
-- ==== Proof.Reals.lean ====
/- Matrices of extended reals that hold reals, entry by entry, and what each operation of the kernel does to the reals. -/
module

public import Idealize.ShloMosaic.PureOps.Ideal
public import Idealize.ShloMosaic.PureOps.Ideal.Laws
public import Idealize.ShloMosaic.Lib.MatmulPlain
public import Idealize.ShloMosaic.Lib.IdealHost
public import Idealize.ShloMosaic.Lib.Pipeline.Value

@[expose] public section

noncomputable section

namespace Cert.Proof

open Idealize.ShloMosaic Idealize.ShloMosaic.ValueIdx
open scoped BigOperators

/-- An `n × m` matrix. -/
abbrev Mat (n m : ℕ) : Shape := ⟨2, ![n, m]⟩

/-- The matrix holds the reals `f`, entry by entry. -/
def Rl {n m : ℕ} (x : (Mat n m).Idx → EReal) (f : ℕ → ℕ → ℝ) : Prop :=
  ∀ y, x y = ((f (y 0).val (y 1).val : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_fin_coe (K : ℕ) (f g : ℕ → ℝ) :
    (0 : EReal) + ∑ k : Fin K, ((f k.val : ℝ) : EReal) * ((g k.val : ℝ) : EReal)
      = ((∑ k ∈ Finset.range K, f k * g k : ℝ) : EReal) := by
  rw [zero_add, Finset.sum_range, coe_sum]
  exact Finset.sum_congr rfl fun k _ => (EReal.coe_mul _ _).symm

namespace Rl

variable {n m : ℕ} {φ ψ : FTy}

theorem ix {x : (Mat n m).Idx → EReal} {f : ℕ → ℕ → ℝ} (h : Rl x f) (r : Fin n) (c : Fin m) :
    x (ix2 r c) = ((f r.val c.val : ℝ) : EReal) := h (ix2 r c)

theorem congr {x : (Mat n m).Idx → EReal} {f g : ℕ → ℕ → ℝ} (h : Rl x f)
    (e : ∀ r < n, ∀ c < m, f r c = g r c) : Rl x g := fun y => by
  rw [h y, e _ (idx2_lt0 y) _ (idx2_lt1 y)]

variable {x y : FVec Ideal (Mat n m) φ} {f g : ℕ → ℕ → ℝ}

theorem addf (hx : Rl x f) (hy : Rl y g) : Rl (addf x y) fun r c => f r c + g r c := fun j => by
  show (x j : EReal) + (y j : EReal) = _
  rw [hx j, hy j, ← EReal.coe_add]

theorem subf (hx : Rl x f) (hy : Rl y g) : Rl (subf x y) fun r c => f r c - g r c := fun j => by
  show (x j : EReal) - (y j : EReal) = _
  rw [hx j, hy j, ← EReal.coe_sub]

theorem mulf (hx : Rl x f) (hy : Rl y g) : Rl (mulf x y) fun r c => f r c * g r c := fun j => by
  show (x j : EReal) * (y j : EReal) = _
  rw [hx j, hy j, ← EReal.coe_mul]

theorem minimumf (hx : Rl x f) (hy : Rl y g) : Rl (minimumf x y) fun r c => min (f r c) (g r c) := fun j => by
  show min (x j : EReal) (y j : EReal) = _
  rw [hx j, hy j]
  exact (EReal.coe_strictMono.monotone.map_min).symm

theorem absf (hx : Rl x f) : Rl (absf x) fun r c => max (f r c) (-(f r c)) := fun j => by
  show max (x j : EReal) (-(x j : EReal)) = _
  rw [hx j, ← EReal.coe_neg]
  exact (EReal.coe_strictMono.monotone.map_max).symm

theorem exp (hx : Rl x f) : Rl (exp x) fun r c => Real.exp (f r c) := fun j => by
  show Ideal.exp (x j : EReal) = _
  rw [hx j]
  rfl

theorem log (hx : Rl x f) (hp : ∀ r < n, ∀ c < m, 0 < f r c) : Rl (log x) fun r c => Real.log (f r c) := fun j => by
  show Ideal.log (x j : EReal) = _
  rw [hx j]
  exact if_neg (not_le.mpr (hp _ (idx2_lt0 j) _ (idx2_lt1 j)))

theorem truncf (h : ψ.bits < φ.bits) (hx : Rl x f) : Rl (truncf ψ x h) f := hx

theorem extf (h : φ.bits < ψ.bits) (hx : Rl x f) : Rl (extf ψ x h) f := hx

theorem zero : Rl (broadcast (Mat n m) (Scalar.ofBits (F := Ideal) .f32 0x00000000#32)) fun _ _ => 0 := fun _ =>
  Ideal.ofBits_zero_f32

theorem const_zero : Rl (constant (F := Ideal) (Mat n m) .f32 0x00000000#32) fun _ _ => 0 := fun _ =>
  Ideal.ofBits_zero_f32

theorem one : Rl (broadcast (Mat n m) (Scalar.ofBits (F := Ideal) .f32 0x3F800000#32)) fun _ _ => 1 := fun _ => by
  show Ideal.ofBits .f32 0x3F800000#32 = _
  rw [Ideal.ofBits_one_f32]
  exact EReal.coe_one.symm

theorem select {p : IVec (Mat n m) 1} {P : ℕ → ℕ → Prop} [∀ r c, Decidable (P r c)] (hx : Rl x f) (hy : Rl y g)
    (hp : ∀ j : (Mat n m).Idx, p j = if P (j 0).val (j 1).val then 1#1 else 0#1) :
    Rl (select p x y) fun r c => if P r c then f r c else g r c := fun j => by
  rw [select_apply, hp j]
  by_cases h : P (j 0).val (j 1).val
  · rw [if_pos h, select_one, hx j]; exact congrArg _ (if_pos h).symm
  · rw [if_neg h, select_zero, hy j]; exact congrArg _ (if_neg h).symm

theorem shapeCast (h : (Mat n m).ShapeCasts (Mat n m)) (hx : Rl x f) : Rl (shapeCast (Mat n m) x h) f := by
  rw [shapeCast_self]; exact hx

theorem slice {n' m' o p : ℕ} (h : (Mat n m).Slices ![o, p] (Mat n' m')) (hx : Rl x f) :
    Rl (extractStridedSlice (Mat n' m') ![o, p] x h) fun r c => f (o + r) (p + c) := fun j => by
  have b0 : o + n' ≤ n := h.2 0
  have b1 : p + m' ≤ m := h.2 1
  have l0 := idx2_lt0 j
  have l1 := idx2_lt1 j
  rw [extractStridedSlice_apply ![o, p] x h j (ix2 ⟨o + (j 0).val, by omega⟩ ⟨p + (j 1).val, by omega⟩)
    (fun a => by match a with | ⟨0, _⟩ => rfl | ⟨1, _⟩ => rfl)]
  exact hx _

theorem transpose (h : (Mat n m).Transposes [1, 0] (Mat m n)) (hx : Rl x f) :
    Rl (transpose (Mat m n) [1, 0] x h) fun r c => f c r := fun j => by
  rw [transpose_apply [1, 0] x h j (ix2 (j 1) (j 0)) (fun b => by match b with | ⟨0, _⟩ => rfl | ⟨1, _⟩ => rfl)]
  exact hx _

theorem concat {m' : ℕ} {z : FVec Ideal (Mat n m) φ} (h : Shape.Concatenates [Mat n m, Mat n m] (Mat n m') 1)
    (hm : m' = m + m) (hx : Rl x f) (hz : Rl z g) :
    Rl (concatenate (Mat n m') 1 [⟨Mat n m, x⟩, ⟨Mat n m, z⟩] h) fun r c => if c < m then f r c else g r (c - m) :=
  fun j => by
    by_cases hc : (j 1).val < m
    · rw [concatenate_pair_apply_left (s₁ := Mat n m) (s₂ := Mat n m) 1 x z h j rfl (ix2 (j 0) ⟨(j 1).val, hc⟩)
        (fun b => by match b with | ⟨0, _⟩ => rfl | ⟨1, _⟩ => rfl)]
      exact (hx _).trans (congrArg _ (if_pos hc).symm)
    · have l1 := idx2_lt1 j
      rw [concatenate_pair_apply_right (s₁ := Mat n m) (s₂ := Mat n m) 1 x z h j rfl rfl
        (ix2 (j 0) ⟨(j 1).val - m, by omega⟩)
        (fun b hb => by match b with | ⟨0, _⟩ => rfl | ⟨1, _⟩ => exact absurd rfl hb)
        (by show (j 1).val - m + m = (j 1).val; omega)]
      exact (hz _).trans (congrArg _ (if_neg hc).symm)

theorem matmul {K : ℕ} {x : FVec Ideal (Mat n K) φ} {y : FVec Ideal (Mat K m) ψ} (hx : Rl x f) (hy : Rl y g) :
    Rl (matmul (DotDims.plain n K m) none x y (constant (F := Ideal) (Mat n m) .f32 0x00000000#32))
      fun r c => ∑ k ∈ Finset.range K, f r k * g k c := fun j => by
  rw [eq_ix2 j]
  refine (Ideal.matmul_plain_apply none x y _ (j 0) (j 1)).trans ?_
  refine (congrArg₂ (· + ·) (const_zero (ix2 (j 0) (j 1))) (Finset.sum_congr rfl fun k _ =>
    congrArg₂ (· * ·) (hx.ix (j 0) k) (hy.ix k (j 1)))).trans ?_
  exact sum_fin_coe K (fun k => f (j 0).val k) (fun k => g k (j 1).val)

theorem matmulT {K : ℕ} {x : FVec Ideal (Mat n K) φ} {y : FVec Ideal (Mat m K) ψ} (hx : Rl x f) (hy : Rl y g) :
    Rl (Idealize.ShloMosaic.matmul (DotDims.transposedRhs n K m) none x y (constant (F := Ideal) (Mat n m) .f32 0x00000000#32))
      fun r c => ∑ k ∈ Finset.range K, f r k * g c k := fun j => by
  rw [eq_ix2 j]
  refine (Ideal.matmul_transposedRhs_apply none x y _ (j 0) (j 1)).trans ?_
  refine (congrArg₂ (· + ·) (const_zero (ix2 (j 0) (j 1))) (Finset.sum_congr rfl fun k _ =>
    congrArg₂ (· * ·) (hx.ix (j 0) k) (hy.ix (j 1) k))).trans ?_
  exact sum_fin_coe K (fun k => f (j 0).val k) (fun k => g (j 1).val k)

end Rl

end Cert.Proof

end
-- ==== Proof.Tile.lean ====
/- One key tile of the backward pass, as the kernel computes it for `n` query rows and 256 keys, and what it is over the
   reals: the running sums, the attention weights and the two gradients of the plain mathematics. -/
module

public import proofs.«01_k».proof.Proof.Reals

@[expose] public section

noncomputable section

namespace Cert.Proof

open Idealize.ShloMosaic Idealize.ShloMosaic.ValueIdx
open scoped BigOperators

/-! ### The kernel's tile -/

/-- The shape facts of a tile of `n` rows. -/
structure TileFacts (n : ℕ) : Prop where
  sl0 : (Mat n 256).Slices ![0, 0] (Mat n 128)
  sl1 : (Mat n 256).Slices ![0, 128] (Mat n 128)
  cc : Shape.Concatenates [Mat n 128, Mat n 128] (Mat n 256) 1
  sc : (Mat n 128).ShapeCasts (Mat n 128)
  bl : FTy.bits .bf16 < FTy.bits .f32

namespace Tile

variable {F : FTy → Type} [FloatOps F] {n : ℕ}

/-- The scores. -/
def z (q : FVec F (Mat n 128) .bf16) (k : FVec F (Mat 256 128) .bf16) : FVec F (Mat n 256) .f32 :=
  matmul (DotDims.transposedRhs n 128 256) none q k (constant (Mat n 256) .f32 0x00000000#32)

/-- The logarithm of the sigmoid of the scores. -/
def ls (z : FVec F (Mat n 256) .f32) : FVec F (Mat n 256) .f32 :=
  subf (minimumf z (broadcast (Mat n 256) (Scalar.ofBits .f32 0x00000000#32)))
    (log (addf (broadcast (Mat n 256) (Scalar.ofBits .f32 0x3F800000#32))
      (exp (subf (broadcast (Mat n 256) (Scalar.ofBits .f32 0x00000000#32)) (absf z)))))

/-- The logarithm of what is left. -/
def lm (z : FVec F (Mat n 256) .f32) : FVec F (Mat n 256) .f32 := subf (ls z) z

/-- Half a tile, in two halves of its precision, times a matrix of ones. -/
def pref (H : TileFacts n) (p : FVec F (Mat n 128) .f32) (u : FVec F (Mat 256 256) .bf16) : FVec F (Mat n 256) .f32 :=
  matmul (DotDims.plain n 256 256) none
    (concatenate (Mat n 256) 1 [⟨Mat n 128, truncf .bf16 p H.bl⟩,
      ⟨Mat n 128, truncf .bf16 (subf p (extf .f32 (truncf .bf16 p H.bl) H.bl)) H.bl⟩] H.cc)
    u (constant (Mat n 256) .f32 0x00000000#32)

/-- The left half of a tile. -/
def lh (H : TileFacts n) (x : FVec F (Mat n 256) .f32) : FVec F (Mat n 128) .f32 :=
  extractStridedSlice (Mat n 128) ![0, 0] x H.sl0

/-- The right half of a tile. -/
def rh (H : TileFacts n) (x : FVec F (Mat n 256) .f32) : FVec F (Mat n 128) .f32 :=
  extractStridedSlice (Mat n 128) ![0, 128] x H.sl1

/-- The sum before the right half. -/
def mid (H : TileFacts n) (e : FVec F (Mat n 128) .f32) (x : FVec F (Mat n 256) .f32) (u : FVec F (Mat 256 256) .bf16) :
    FVec F (Mat n 128) .f32 :=
  addf e (rh H (pref H (lh H x) u))

/-- The running sums along the keys. -/
def run (H : TileFacts n) (e : FVec F (Mat n 128) .f32) (x : FVec F (Mat n 256) .f32) (u : FVec F (Mat 256 256) .bf16) :
    FVec F (Mat n 256) .f32 :=
  concatenate (Mat n 256) 1 [⟨Mat n 128, addf (lh H (pref H (lh H x) u)) e⟩,
    ⟨Mat n 128, addf (lh H (pref H (rh H x) u)) (mid H e x u)⟩] H.cc

/-- The sum at the tile's end. -/
def fin (H : TileFacts n) (e : FVec F (Mat n 128) .f32) (x : FVec F (Mat n 256) .f32) (u : FVec F (Mat 256 256) .bf16) :
    FVec F (Mat n 128) .f32 :=
  shapeCast (Mat n 128) (addf (mid H e x u) (rh H (pref H (rh H x) u))) H.sc

/-- The attention weights before the mask. -/
def att (H : TileFacts n) (l : FVec F (Mat n 256) .f32) (lt : FVec F (Mat n 128) .f32) (seen : FVec F (Mat n 256) .f32) :
    FVec F (Mat n 256) .f32 :=
  exp (addf l (subf (concatenate (Mat n 256) 1 [⟨Mat n 128, shapeCast (Mat n 128) lt H.sc⟩,
    ⟨Mat n 128, shapeCast (Mat n 128) lt H.sc⟩] H.cc) seen))

/-- The weights times the gradients of the weights. -/
def gg (a : FVec F (Mat n 256) .f32) (d : FVec F (Mat n 128) .bf16) (v : FVec F (Mat 256 128) .bf16) :
    FVec F (Mat n 256) .f32 :=
  mulf a (matmul (DotDims.transposedRhs n 128 256) none d v (constant (Mat n 256) .f32 0x00000000#32))

/-- The gradient of the scores before the mask. -/
def dzr (g m gsum l : FVec F (Mat n 256) .f32) : FVec F (Mat n 256) .f32 :=
  subf (mulf g (exp m)) (mulf gsum (exp l))

/-- The masked logarithms of what is left. -/
def lmm (mk : FVec F (Mat n 256) .f32 → FVec F (Mat n 256) .f32) (q : FVec F (Mat n 128) .bf16)
    (k : FVec F (Mat 256 128) .bf16) : FVec F (Mat n 256) .f32 := mk (lm (z q k))

/-- The attention weights. -/
def a (H : TileFacts n) (mk : FVec F (Mat n 256) .f32 → FVec F (Mat n 256) .f32) (q : FVec F (Mat n 128) .bf16)
    (k : FVec F (Mat 256 128) .bf16) (lt e : FVec F (Mat n 128) .f32) (u : FVec F (Mat 256 256) .bf16) :
    FVec F (Mat n 256) .f32 := mk (att H (ls (z q k)) lt (run H e (lmm mk q k) u))

/-- The gradients that the running sums add up. -/
def g (H : TileFacts n) (mk : FVec F (Mat n 256) .f32 → FVec F (Mat n 256) .f32) (q d : FVec F (Mat n 128) .bf16)
    (k v : FVec F (Mat 256 128) .bf16) (lt e : FVec F (Mat n 128) .f32) (u : FVec F (Mat 256 256) .bf16) :
    FVec F (Mat n 256) .f32 := gg (a H mk q k lt e u) d v

/-- The gradient of the scores. -/
def dz (H : TileFacts n) (mk : FVec F (Mat n 256) .f32 → FVec F (Mat n 256) .f32) (q d : FVec F (Mat n 128) .bf16)
    (k v : FVec F (Mat 256 128) .bf16) (lt e b : FVec F (Mat n 128) .f32) (u w : FVec F (Mat 256 256) .bf16) :
    FVec F (Mat n 256) .bf16 :=
  truncf .bf16 (mk (dzr (g H mk q d k v lt e u) (lm (z q k)) (run H b (g H mk q d k v lt e u) w) (ls (z q k)))) H.bl

/-- The query gradient with this tile's part. -/
def dq (H : TileFacts n) (x : FVec F (Mat n 256) .bf16) (k : FVec F (Mat 256 128) .bf16) (old : FVec F (Mat n 128) .f32) :
    FVec F (Mat n 128) .f32 :=
  addf (shapeCast (Mat n 128) old H.sc)
    (matmul (DotDims.plain n 256 128) none x k (constant (Mat n 128) .f32 0x00000000#32))

/-- A transposed key or value gradient with these rows' part. -/
def kt (y : FVec F (Mat 128 n) .bf16) (x : FVec F (Mat n 256) .bf16) (old : FVec F (Mat 128 256) .f32) :
    FVec F (Mat 128 256) .f32 :=
  addf old (matmul (DotDims.plain 128 n 256) none y x (constant (Mat 128 256) .f32 0x00000000#32))

end Tile

/-! ### The mathematics -/

/-- The logarithm of the sigmoid. -/
def lsg (x : ℝ) : ℝ := min x 0 - Real.log (1 + Real.exp (0 - max x (-x)))

/-- One head's matrices: queries, keys, values, output gradients, and the row sums of the logarithms of what is left. -/
structure Head where
  Q : ℕ → ℕ → ℝ
  K : ℕ → ℕ → ℝ
  V : ℕ → ℕ → ℝ
  D : ℕ → ℕ → ℝ
  T : ℕ → ℝ

namespace Head

variable (h : Head)

/-- The score of a query and a key. -/
def Z (r c : ℕ) : ℝ := ∑ e ∈ Finset.range 128, h.Q r e * h.K c e
/-- The masked logarithm of what is left. -/
def L (r c : ℕ) : ℝ := if c < r then lsg (h.Z r c) - h.Z r c else 0
/-- Its sum over the keys before `C`. -/
def PL (r C : ℕ) : ℝ := ∑ c ∈ Finset.range C, h.L r c
/-- The attention weight. -/
def A (r c : ℕ) : ℝ := if c < r then Real.exp (lsg (h.Z r c) + (h.T r - h.PL r (c + 1))) else 0
/-- The weight times its gradient. -/
def G (r c : ℕ) : ℝ := h.A r c * ∑ e ∈ Finset.range 128, h.D r e * h.V c e
/-- Its sum over the keys before `C`. -/
def PG (r C : ℕ) : ℝ := ∑ c ∈ Finset.range C, h.G r c
/-- The gradient of the score. -/
def DZ (r c : ℕ) : ℝ :=
  if c < r then h.G r c * Real.exp (lsg (h.Z r c) - h.Z r c) - h.PG r c * Real.exp (lsg (h.Z r c)) else 0
/-- The query gradient from the keys before `C`. -/
def DQ (C r e : ℕ) : ℝ := ∑ c ∈ Finset.range C, h.DZ r c * h.K c e

end Head

/-! ### The one over the reals is the other -/

/-- A matrix of ones that adds up the entries before each, `δ` more of them, and in its right half all. -/
def ones (δ : ℕ) (k c : ℕ) : ℝ := if 128 ≤ c ∨ k % 128 < c + δ then 1 else 0

theorem sum_ones_lt (f : ℕ → ℝ) (s N : ℕ) (hs : s ≤ N) :
    ∑ k ∈ Finset.range N, f k * (if k < s then (1 : ℝ) else 0) = ∑ k ∈ Finset.range s, f k := by
  rw [← Nat.add_sub_cancel' hs, Finset.sum_range_add]
  rw [Finset.sum_congr rfl (g := f) (fun k hk => by rw [if_pos (Finset.mem_range.1 hk), mul_one])]
  rw [Finset.sum_eq_zero (s := Finset.range (N - s)) (fun k _ => by rw [if_neg (by omega), mul_zero]), add_zero]

section Sums

variable {n : ℕ} (H : TileFacts n) {δ : ℕ} {u : FVec Ideal (Mat 256 256) .bf16}

theorem rl_pref (hu : Rl u (ones δ)) {p : FVec Ideal (Mat n 128) .f32} {f : ℕ → ℕ → ℝ} (hp : Rl p f) :
    Rl (Tile.pref H p u) fun r c => ∑ k ∈ Finset.range 128, f r k * ones δ k c := by
  refine (((hp.truncf H.bl).concat H.cc rfl ((hp.subf hp).truncf H.bl)).matmul hu).congr fun r _ c _ => ?_
  rw [show 256 = 128 + 128 from rfl, Finset.sum_range_add]
  rw [Finset.sum_eq_zero (s := Finset.range 128) (f := fun k => _ * ones δ (128 + k) c)
    (fun k _ => by rw [if_neg (by omega), sub_self, zero_mul]), add_zero]
  exact Finset.sum_congr rfl fun k hk => by rw [if_pos (Finset.mem_range.1 hk)]

theorem rl_lh {x : FVec Ideal (Mat n 256) .f32} {f : ℕ → ℕ → ℝ} (hx : Rl x f) : Rl (Tile.lh H x) f :=
  (hx.slice H.sl0).congr fun r _ c _ => by rw [Nat.zero_add, Nat.zero_add]

theorem rl_rh {x : FVec Ideal (Mat n 256) .f32} {f : ℕ → ℕ → ℝ} (hx : Rl x f) :
    Rl (Tile.rh H x) fun r c => f r (128 + c) :=
  (hx.slice H.sl1).congr fun r _ c _ => by rw [Nat.zero_add]

theorem rl_pref_lh (hδ : δ ≤ 1) (hu : Rl u (ones δ)) {p : FVec Ideal (Mat n 128) .f32} {f : ℕ → ℕ → ℝ} (hp : Rl p f) :
    Rl (Tile.lh H (Tile.pref H p u)) fun r c => ∑ k ∈ Finset.range (c + δ), f r k :=
  (rl_lh H (rl_pref H hu hp)).congr fun r _ c hc => by
    rw [← sum_ones_lt (f r) (c + δ) 128 (by omega)]
    refine Finset.sum_congr rfl fun k hk => ?_
    have := Finset.mem_range.1 hk
    rw [ones, Nat.mod_eq_of_lt this]
    by_cases h : k < c + δ
    · rw [if_pos (Or.inr h), if_pos h]
    · rw [if_neg (by omega), if_neg h]

theorem rl_pref_rh (hu : Rl u (ones δ)) {p : FVec Ideal (Mat n 128) .f32} {f : ℕ → ℕ → ℝ} (hp : Rl p f) :
    Rl (Tile.rh H (Tile.pref H p u)) fun r _ => ∑ k ∈ Finset.range 128, f r k :=
  (rl_rh H (rl_pref H hu hp)).congr fun r _ c _ => Finset.sum_congr rfl fun k _ => by
    rw [ones, if_pos (Or.inl (by omega)), mul_one]

variable {e : FVec Ideal (Mat n 128) .f32} {x : FVec Ideal (Mat n 256) .f32} {s : ℕ → ℝ} {f : ℕ → ℕ → ℝ}

theorem rl_mid (hu : Rl u (ones δ)) (he : Rl e fun r _ => s r) (hx : Rl x f) :
    Rl (Tile.mid H e x u) fun r _ => s r + ∑ k ∈ Finset.range 128, f r k :=
  he.addf (rl_pref_rh H hu (rl_lh H hx))

theorem rl_run (hδ : δ ≤ 1) (hu : Rl u (ones δ)) (he : Rl e fun r _ => s r) (hx : Rl x f) :
    Rl (Tile.run H e x u) fun r c => s r + ∑ k ∈ Finset.range (c + δ), f r k :=
  (((rl_pref_lh H hδ hu (rl_lh H hx)).addf he).concat H.cc rfl
    ((rl_pref_lh H hδ hu (rl_rh H hx)).addf (rl_mid H hu he hx))).congr fun r _ c _ => by
      by_cases h : c < 128
      · rw [if_pos h, add_comm]
      · rw [if_neg h, show c + δ = 128 + (c - 128 + δ) by omega, Finset.sum_range_add _ 128 (c - 128 + δ)]
        ring

theorem rl_fin (hu : Rl u (ones δ)) (he : Rl e fun r _ => s r) (hx : Rl x f) :
    Rl (Tile.fin H e x u) fun r _ => s r + ∑ k ∈ Finset.range 256, f r k :=
  (((rl_mid H hu he hx).addf (rl_pref_rh H hu (rl_rh H hx))).shapeCast H.sc).congr fun r _ c _ => by
    rw [show 256 = 128 + 128 from rfl, Finset.sum_range_add]
    ring

end Sums

theorem rl_ls {n : ℕ} {z : FVec Ideal (Mat n 256) .f32} {f : ℕ → ℕ → ℝ} (hz : Rl z f) :
    Rl (Tile.ls z) fun r c => lsg (f r c) :=
  (hz.minimumf Rl.zero).subf ((Rl.one.addf (Rl.zero.subf hz.absf).exp).log fun r _ c _ => by positivity)

/-- What a tile of rows `R + r` and keys `C + c` is given, over the reals. -/
structure TileIn {n : ℕ} (h : Head) (R C : ℕ) (mk : FVec Ideal (Mat n 256) .f32 → FVec Ideal (Mat n 256) .f32)
    (q d : FVec Ideal (Mat n 128) .bf16) (k v : FVec Ideal (Mat 256 128) .bf16) (lt e b : FVec Ideal (Mat n 128) .f32)
    (u w : FVec Ideal (Mat 256 256) .bf16) : Prop where
  hq : Rl q fun r e => h.Q (R + r) e
  hd : Rl d fun r e => h.D (R + r) e
  hk : Rl k fun c e => h.K (C + c) e
  hv : Rl v fun c e => h.V (C + c) e
  hlt : Rl lt fun r _ => h.T (R + r)
  he : Rl e fun r _ => h.PL (R + r) C
  hb : Rl b fun r _ => h.PG (R + r) C
  hu : Rl u (ones 1)
  hw : Rl w (ones 0)
  hmk : ∀ (x : FVec Ideal (Mat n 256) .f32) (f : ℕ → ℕ → ℝ), Rl x f →
    Rl (mk x) fun r c => if C + c < R + r then f r c else 0

namespace TileIn

variable {n : ℕ} (H : TileFacts n) {h : Head} {R C : ℕ} {mk : FVec Ideal (Mat n 256) .f32 → FVec Ideal (Mat n 256) .f32}
  {q d : FVec Ideal (Mat n 128) .bf16} {k v : FVec Ideal (Mat 256 128) .bf16} {lt e b : FVec Ideal (Mat n 128) .f32}
  {u w : FVec Ideal (Mat 256 256) .bf16} (I : TileIn h R C mk q d k v lt e b u w)

include I

theorem z : Rl (Tile.z q k) fun r c => h.Z (R + r) (C + c) := I.hq.matmulT I.hk

theorem ls : Rl (Tile.ls (Tile.z q k)) fun r c => lsg (h.Z (R + r) (C + c)) := rl_ls I.z

theorem lm : Rl (Tile.lm (Tile.z q k)) fun r c => lsg (h.Z (R + r) (C + c)) - h.Z (R + r) (C + c) := I.ls.subf I.z

theorem lmm : Rl (Tile.lmm mk q k) fun r c => h.L (R + r) (C + c) := I.hmk _ _ I.lm

theorem runL : Rl (Tile.run H e (Tile.lmm mk q k) u) fun r c => h.PL (R + r) (C + c + 1) :=
  (rl_run H le_rfl I.hu I.he I.lmm).congr fun r _ c _ => by
    rw [Head.PL, Head.PL, add_assoc, Finset.sum_range_add _ C (c + 1)]

/-- The sums of the logarithms after the tile. -/
theorem finL : Rl (Tile.fin H e (Tile.lmm mk q k) u) fun r _ => h.PL (R + r) (C + 256) :=
  (rl_fin H I.hu I.he I.lmm).congr fun r _ c _ => by
    rw [Head.PL, Head.PL, Finset.sum_range_add]

theorem a : Rl (Tile.a H mk q k lt e u) fun r c => h.A (R + r) (C + c) :=
  I.hmk _ _ (I.ls.addf (Rl.subf ((Rl.concat (φ := .f32) H.cc rfl (I.hlt.shapeCast H.sc) (I.hlt.shapeCast H.sc)).congr
    (g := fun r _ => h.T (R + r)) fun r _ c _ => ite_self _) (I.runL H))).exp

theorem g : Rl (Tile.g H mk q d k v lt e u) fun r c => h.G (R + r) (C + c) := (I.a H).mulf (I.hd.matmulT I.hv)

theorem runG : Rl (Tile.run H b (Tile.g H mk q d k v lt e u) w) fun r c => h.PG (R + r) (C + c) :=
  (rl_run H (Nat.zero_le 1) I.hw I.hb (I.g H)).congr fun r _ c _ => by
    rw [Head.PG, Head.PG, Nat.add_zero, Finset.sum_range_add _ C c]

/-- The sums of the gradients after the tile. -/
theorem finG : Rl (Tile.fin H b (Tile.g H mk q d k v lt e u) w) fun r _ => h.PG (R + r) (C + 256) :=
  (rl_fin H I.hw I.hb (I.g H)).congr fun r _ c _ => by
    rw [Head.PG, Head.PG, Finset.sum_range_add]

theorem dz : Rl (Tile.dz H mk q d k v lt e b u w) fun r c => h.DZ (R + r) (C + c) :=
  I.hmk _ _ (((I.g H).mulf I.lm.exp).subf ((I.runG H).mulf I.ls.exp))

/-- The query gradient after the tile. -/
theorem dq {old : FVec Ideal (Mat n 128) .f32} (ho : Rl old fun r e => h.DQ C (R + r) e) :
    Rl (Tile.dq H (Tile.dz H mk q d k v lt e b u w) k old) fun r e => h.DQ (C + 256) (R + r) e :=
  ((ho.shapeCast H.sc).addf ((I.dz H).matmul I.hk)).congr fun r _ e _ => by
    rw [Head.DQ, Head.DQ, Finset.sum_range_add]

/-- The key gradient with the tile's part. -/
theorem dk {qt : FVec Ideal (Mat 128 n) .bf16} (hqt : Rl qt fun e r => h.Q (R + r) e)
    {old : FVec Ideal (Mat 128 256) .f32} {o : ℕ → ℕ → ℝ} (ho : Rl old o) :
    Rl (Tile.kt qt (Tile.dz H mk q d k v lt e b u w) old)
      fun e c => o e c + ∑ r ∈ Finset.range n, h.Q (R + r) e * h.DZ (R + r) (C + c) :=
  ho.addf (hqt.matmul (I.dz H))

/-- The value gradient with the tile's part. -/
theorem dv {dt : FVec Ideal (Mat 128 n) .bf16} (hdt : Rl dt fun e r => h.D (R + r) e)
    {old : FVec Ideal (Mat 128 256) .f32} {o : ℕ → ℕ → ℝ} (ho : Rl old o) :
    Rl (Tile.kt dt (truncf .bf16 (Tile.a H mk q k lt e u) H.bl) old)
      fun e c => o e c + ∑ r ∈ Finset.range n, h.D (R + r) e * h.A (R + r) (C + c) :=
  ho.addf (hdt.matmul ((I.a H).truncf H.bl))

end TileIn

end Cert.Proof

end
-- ==== Proof.Mem.lean ====
/- Buffers that hold reals: what a load of some rows or of one tile reads, and what a store leaves. -/
module

public import proofs.«01_k».proof.Proof.Tile
public import Idealize.ShloMosaic.Lib.WritesUnit
public import Idealize.ShloMosaic.Lib.VecWindow

@[expose] public section

noncomputable section

namespace Cert.Proof

open Idealize.ShloMosaic Idealize.ShloMosaic.ValueIdx
open scoped BigOperators

/-- Sixteen transposed tiles of 256 keys. -/
abbrev Tiles : Shape := ⟨4, ![1, 16, 128, 256]⟩

/-- One of them. -/
abbrev OneTile : Shape := ⟨4, ![1, 1, 128, 256]⟩

/-- The tiles hold the reals `o`, entry by entry. -/
def Rl4 (x : Tiles.Idx → EReal) (o : ℕ → ℕ → ℕ → ℝ) : Prop :=
  ∀ y, x y = ((o (y 1).val (y 2).val (y 3).val : ℝ) : EReal)

theorem Rl4.congr {x : Tiles.Idx → EReal} {o o' : ℕ → ℕ → ℕ → ℝ} (h : Rl4 x o)
    (e : ∀ j < 16, ∀ a < 128, ∀ b < 256, o j a b = o' j a b) : Rl4 x o' := fun y => by
  rw [h y, e _ (y 1).isLt _ (y 2).isLt _ (y 3).isLt]

section Rows

variable {sig : RefSig} {κ : Kind} {sp : Space} {e : EltTy} {Val : EltTy → Type} {N M n m : ℕ}
  (v : View sig κ sp (Mat N M) e) (f : v.ty.Contents Val) (E : Val e → EReal)

/-- What a load of a rectangle reads. -/
theorem load_rows {off : Fin 2 → ℕ} (o p : ℕ) (ho : off = ![o, p])
    (inb : ∀ a, off a + (Mat n m).size a ≤ (Mat N M).size a) {G : ℕ → ℕ → ℝ}
    (h : Rl (fun y => E (v.read Val f y)) G) :
    Rl (n := n) (m := m) (fun y => E (v.readAt Val (Rect.unit (s := Mat N M) off (Mat n m).size inb).toLoadRect f y))
      fun r c => G (o + r) (p + c) := fun y => by
  subst ho
  refine (h _).trans (congrArg Real.toEReal ?_)
  exact congrArg₂ G (congrArg (o + ·) (Nat.one_mul (y 0).val)) (congrArg (p + ·) (Nat.one_mul (y 1).val))

/-- What a load of all reads. -/
theorem load_all {off : Fin 2 → ℕ} (ho : off = ![0, 0]) (inb : ∀ a, off a + (Mat N M).size a ≤ (Mat N M).size a)
    {G : ℕ → ℕ → ℝ} (h : Rl (fun y => E (v.read Val f y)) G) :
    Rl (n := N) (m := M) (fun y => E (v.readAt Val (Rect.unit (s := Mat N M) off (Mat N M).size inb).toLoadRect f y)) G :=
  (load_rows v f E 0 0 ho inb h).congr fun r _ c _ => by rw [Nat.zero_add, Nat.zero_add]

/-- What a store of the rows from `o` on leaves. -/
theorem store_rows {off : Fin 2 → ℕ} (o : ℕ) (ho : off = ![o, 0]) (hN : N ≤ o + n)
    (inb : ∀ a, off a + (Mat n M).size a ≤ (Mat N M).size a)
    (w : (Rect.unit (s := Mat N M) off (Mat n M).size inb).shape.Idx → Val e) (L : List (View.Piece Val (Mat N M) e))
    {G : ℕ → ℕ → ℝ} (hw : Rl (n := n) (m := M) (fun y => E (w y)) fun r c => G (o + r) c)
    (hL : ∀ y, (y 0).val < o → E (v.read Val (v.writes Val f L) y) = ((G (y 0).val (y 1).val : ℝ) : EReal)) :
    Rl (fun y => E (v.read Val (v.writes Val f (⟨Rect.unit (s := Mat N M) off (Mat n M).size inb, w⟩ :: L)) y)) G :=
  fun y => by
    have l0 := idx2_lt0 y
    have l1 := idx2_lt1 y
    show E (v.read Val (v.writes Val f (⟨Rect.unit (s := Mat N M) off (Mat n M).size inb, w⟩ :: L)) y) = _
    by_cases h : (y 0).val < o
    · rw [View.read_writes_cons_unit_of_not_mem v f inb w L y ho 0 (Or.inl h)]
      exact hL y h
    · rw [View.read_writes_cons_unit_of_mem v f inb w L y (ix2 ⟨(y 0).val - o, by omega⟩ ⟨(y 1).val, l1⟩) ho
        (fun a => by match a with
          | ⟨0, _⟩ => show (y 0).val = o + ((y 0).val - o); omega
          | ⟨1, _⟩ => show (y 1).val = 0 + (y 1).val; omega)]
      refine (hw _).trans (congrArg Real.toEReal ?_)
      show G (o + ((y 0).val - o)) (y 1).val = _
      rw [Nat.add_sub_cancel' (Nat.le_of_not_lt h)]

/-- What a store of all rows leaves. -/
theorem store_all {off : Fin 2 → ℕ} (ho : off = ![0, 0]) (inb : ∀ a, off a + (Mat N M).size a ≤ (Mat N M).size a)
    (w : (Rect.unit (s := Mat N M) off (Mat N M).size inb).shape.Idx → Val e) (L : List (View.Piece Val (Mat N M) e))
    {G : ℕ → ℕ → ℝ} (hw : Rl (n := N) (m := M) (fun y => E (w y)) G) :
    Rl (fun y => E (v.read Val (v.writes Val f (⟨Rect.unit (s := Mat N M) off (Mat N M).size inb, w⟩ :: L)) y)) G :=
  store_rows v f E 0 ho (by omega) inb w L (hw.congr fun r _ c _ => by rw [Nat.zero_add])
    fun y hy => absurd hy (Nat.not_lt_zero _)

/-- What a load of all rows reads after a store of all. -/
theorem load_store_all {off off' : Fin 2 → ℕ} (ho : off = ![0, 0]) (ho' : off' = ![0, 0])
    (inb : ∀ a, off a + (Mat N M).size a ≤ (Mat N M).size a) (inb' : ∀ a, off' a + (Mat N M).size a ≤ (Mat N M).size a)
    (w : (Rect.unit (s := Mat N M) off (Mat N M).size inb).shape.Idx → Val e) (L : List (View.Piece Val (Mat N M) e))
    {G : ℕ → ℕ → ℝ} (hw : Rl (n := N) (m := M) (fun y => E (w y)) G) :
    Rl (n := N) (m := M) (fun y => E (v.readAt Val (Rect.unit (s := Mat N M) off' (Mat N M).size inb').toLoadRect
      (v.writes Val f (⟨Rect.unit (s := Mat N M) off (Mat N M).size inb, w⟩ :: L)) y)) G :=
  (load_rows v _ E 0 0 ho' inb' (store_all v f E ho inb w L hw)).congr fun r _ c _ => by
    rw [Nat.zero_add, Nat.zero_add]

end Rows

section Floats

variable {sig : RefSig} {κ : Kind} {sp : Space} {N M : ℕ} (v : View sig κ sp (Mat N M) .f32)
  {f : v.ty.Contents (Elt Ideal)}

theorem stored {inb : ∀ a, (![0, 0] : Fin 2 → ℕ) a + (Mat N M).size a ≤ (Mat N M).size a} {w : FVec Ideal (Mat N M) .f32}
    {L : List (View.Piece (Elt Ideal) (Mat N M) .f32)} {G : ℕ → ℕ → ℝ} (hw : Rl w G) :
    Rl (v.read (Elt Ideal) (v.writes (Elt Ideal) f
      (⟨Rect.unit (s := Mat N M) ![0, 0] (Mat N M).size inb, w⟩ :: L))) G :=
  store_all v f (fun x => x) rfl inb w L hw

theorem reload {inb inb' : ∀ a, (![0, 0] : Fin 2 → ℕ) a + (Mat N M).size a ≤ (Mat N M).size a}
    {w : FVec Ideal (Mat N M) .f32}
    {L : List (View.Piece (Elt Ideal) (Mat N M) .f32)} {G : ℕ → ℕ → ℝ} (hw : Rl w G) :
    Rl (n := N) (m := M) (v.readAt (Elt Ideal) (Rect.unit (s := Mat N M) ![0, 0] (Mat N M).size inb').toLoadRect
      (v.writes (Elt Ideal) f (⟨Rect.unit (s := Mat N M) ![0, 0] (Mat N M).size inb, w⟩ :: L))) G :=
  load_store_all v f (fun x => x) rfl rfl inb inb' w L hw

end Floats

section Tiles

variable {sig : RefSig} {κ : Kind} {sp : Space} (v : View sig κ sp Tiles .f32) (f : v.ty.Contents (Elt Ideal))

theorem tile_place (a : Fin 128) (b : Fin 256) :
    (OneTile.rowMajor (ix4 0 0 a b)).val = ((Mat 128 256).rowMajor (ix2 a b)).val := by
  rw [Shape.rowMajor_val_four, Shape.rowMajor_val_two]
  show ((0 * 1 + 0) * 128 + a.val) * 256 + b.val = a.val * 256 + b.val
  omega

theorem drop_units (x : FVec Ideal OneTile .f32) (h : OneTile.ShapeCasts (Mat 128 256)) {g : ℕ → ℕ → ℝ}
    (hx : ∀ a b, x (ix4 0 0 a b) = ((g a.val b.val : ℝ) : EReal)) : Rl (shapeCast (Mat 128 256) x h) g := fun j => by
  rw [eq_ix2 j]
  exact (shapeCast_apply x h (ix2 (j 0) (j 1)) (ix4 0 0 (j 0) (j 1)) (tile_place _ _)).trans (hx _ _)

/-- What a load of a tile reads. -/
theorem load_tile {off : Fin 4 → ℕ} (j : ℕ) (ho : off = ![0, j, 0, 0])
    (inb : ∀ a, off a + OneTile.size a ≤ Tiles.size a) (hc : OneTile.ShapeCasts (Mat 128 256))
    {o : ℕ → ℕ → ℕ → ℝ} (h : Rl4 (v.read (Elt Ideal) f) o) :
    Rl (shapeCast (Mat 128 256)
      (v.readAt (Elt Ideal) (Rect.unit (s := Tiles) off OneTile.size inb).toLoadRect f) hc) (o j) := by
  subst ho
  refine drop_units _ hc fun a b => (h _).trans (congrArg Real.toEReal ?_)
  show o (j + 1 * 0) (0 + 1 * a.val) (0 + 1 * b.val) = _
  rw [Nat.mul_zero, Nat.one_mul, Nat.one_mul, Nat.zero_add, Nat.zero_add, Nat.add_zero]

/-- What a store of a tile leaves. -/
theorem store_tile {off : Fin 4 → ℕ} (j : ℕ) (ho : off = ![0, j, 0, 0])
    (inb : ∀ a, off a + OneTile.size a ≤ Tiles.size a) (hc : (Mat 128 256).ShapeCasts OneTile)
    (p : FVec Ideal (Mat 128 256) .f32) (L : List (View.Piece (Elt Ideal) Tiles .f32)) {g : ℕ → ℕ → ℝ}
    {o : ℕ → ℕ → ℕ → ℝ} (hp : Rl p g) (h : Rl4 (v.read (Elt Ideal) (v.writes (Elt Ideal) f L)) o) :
    Rl4 (v.read (Elt Ideal) (v.writes (Elt Ideal) f
      (⟨Rect.unit (s := Tiles) off OneTile.size inb, shapeCast OneTile p hc⟩ :: L))) fun j' => if j' = j then g else o j' :=
  fun y => by
    by_cases hj : (y 1).val = j
    · rw [View.read_writes_cons_unit_of_mem v f inb (shapeCast OneTile p hc) L y
        (ix4 0 0 ⟨(y 2).val, (y 2).isLt⟩ ⟨(y 3).val, (y 3).isLt⟩) ho
        (fun a => by match a with
          | ⟨0, _⟩ => show (y 0).val = 0 + 0; have : (y 0).val < 1 := (y 0).isLt; omega
          | ⟨1, _⟩ => show (y 1).val = j + 0; omega
          | ⟨2, _⟩ => show (y 2).val = 0 + (y 2).val; omega
          | ⟨3, _⟩ => show (y 3).val = 0 + (y 3).val; omega)]
      refine (shapeCast_apply p hc _ (ix2 ⟨(y 2).val, (y 2).isLt⟩ ⟨(y 3).val, (y 3).isLt⟩)
        (tile_place _ _).symm).trans ((hp _).trans (congrArg Real.toEReal ?_))
      exact congrFun (congrFun (if_pos hj).symm _) _
    · rw [View.read_writes_cons_unit_of_not_mem v f inb (shapeCast OneTile p hc) L y ho 1
        (show (y 1).val < j ∨ j + 1 ≤ (y 1).val by omega)]
      exact (h y).trans (congrArg Real.toEReal (congrFun (congrFun (if_neg hj).symm _) _))

/-- What a store of all tiles leaves. -/
theorem store_tiles {off : Fin 4 → ℕ} (ho : off = ![0, 0, 0, 0]) (inb : ∀ a, off a + Tiles.size a ≤ Tiles.size a)
    (w : (Rect.unit (s := Tiles) off Tiles.size inb).shape.Idx → Elt Ideal .f32)
    (L : List (View.Piece (Elt Ideal) Tiles .f32)) {o : ℕ → ℕ → ℕ → ℝ} (hw : Rl4 w o) :
    Rl4 (v.read (Elt Ideal) (v.writes (Elt Ideal) f (⟨Rect.unit (s := Tiles) off Tiles.size inb, w⟩ :: L))) o :=
  fun y => by
    rw [View.read_writes_cons_unit_of_mem v f inb w L y y ho
      (fun a => by match a with
        | ⟨0, _⟩ => show (y 0).val = 0 + (y 0).val; omega
        | ⟨1, _⟩ => show (y 1).val = 0 + (y 1).val; omega
        | ⟨2, _⟩ => show (y 2).val = 0 + (y 2).val; omega
        | ⟨3, _⟩ => show (y 3).val = 0 + (y 3).val; omega)]
    exact hw y

end Tiles

end Cert.Proof

end
-- ==== Proof.Block.lean ====
/- One block of 1024 queries: what it is given, what holds after some of its key tiles, and the tiles it runs over. -/
module

public import proofs.«01_k».proof.Proof.Mem
public import proofs.«01_k».proof.Proof.Gen.KernelIdeal.Value

@[expose] public section

set_option maxRecDepth 16384

noncomputable section

namespace Cert.Proof

open Idealize.ShloMosaic Idealize.ShloMosaic.ValueIdx
open Cert.KernelIdeal Cert.KernelIdeal.Gen
open scoped BigOperators

theorem facts1024 : TileFacts 1024 :=
  ⟨slices_S1024x256_o0_0_S1024x128, slices_S1024x256_o0_128_S1024x128, concatenates_S1024x128_S1024x128_S1024x256_d1,
    shapeCasts_S1024x128_S1024x128, bitsLt_bf16_f32⟩

theorem facts768 : TileFacts 768 :=
  ⟨slices_S768x256_o0_0_S768x128, slices_S768x256_o0_128_S768x128, concatenates_S768x128_S768x128_S768x256_d1,
    shapeCasts_S768x128_S768x128, bitsLt_bf16_f32⟩

theorem facts512 : TileFacts 512 :=
  ⟨slices_S512x256_o0_0_S512x128, slices_S512x256_o0_128_S512x128, concatenates_S512x128_S512x128_S512x256_d1,
    shapeCasts_S512x128_S512x128, bitsLt_bf16_f32⟩

theorem facts256 : TileFacts 256 :=
  ⟨slices_S256x256_o0_0_S256x128, slices_S256x256_o0_128_S256x128, concatenates_S256x128_S256x128_S256x256_d1,
    shapeCasts_S256x128_S256x128, bitsLt_bf16_f32⟩

/-- Tiles `P`, with `U` added to the first `J`. -/
def part (P U : ℕ → ℕ → ℕ → ℝ) (J j e c : ℕ) : ℝ := P j e c + if j < J then U j e c else 0

namespace Head

variable (h : Head)

/-- The key gradient from the queries before `M`, tile by tile and transposed. -/
def DK (M j e c : ℕ) : ℝ := ∑ r ∈ Finset.range M, h.Q r e * h.DZ r (256 * j + c)
/-- The value gradient from the queries before `M`, tile by tile and transposed. -/
def DV (M j e c : ℕ) : ℝ := ∑ r ∈ Finset.range M, h.D r e * h.A r (256 * j + c)

/-- What a block of 1024 queries adds to the key gradient. -/
def UK (i j e c : ℕ) : ℝ := ∑ r ∈ Finset.range 1024, h.Q (1024 * i + r) e * h.DZ (1024 * i + r) (256 * j + c)
/-- What a block of 1024 queries adds to the value gradient. -/
def UV (i j e c : ℕ) : ℝ := ∑ r ∈ Finset.range 1024, h.D (1024 * i + r) e * h.A (1024 * i + r) (256 * j + c)

end Head

section Tiles

variable {sig : RefSig} {κ : Kind} {sp : Space} (v : View sig κ sp Tiles .f32) {f : v.ty.Contents (Elt Ideal)}
  {P U : ℕ → ℕ → ℕ → ℝ} {J J' : ℕ}

/-- A tile that is still to be added to. -/
theorem load_part {off : Fin 4 → ℕ} (ho : off = ![0, J', 0, 0]) {inb : ∀ a, off a + OneTile.size a ≤ Tiles.size a}
    {hc : OneTile.ShapeCasts (Mat 128 256)} (h : Rl4 (v.read (Elt Ideal) f) (part P U J)) (hJ : J ≤ J') :
    Rl (shapeCast (Mat 128 256)
      (v.readAt (Elt Ideal) (Rect.unit (s := Tiles) off OneTile.size inb).toLoadRect f) hc) (P J') :=
  (load_tile v f J' ho inb hc h).congr fun r _ c _ => by rw [part, if_neg (by omega), add_zero]

/-- The store of a tile that has been added to. -/
theorem store_part {off : Fin 4 → ℕ} (ho : off = ![0, J, 0, 0]) {inb : ∀ a, off a + OneTile.size a ≤ Tiles.size a}
    {hc : (Mat 128 256).ShapeCasts OneTile} {p : FVec Ideal (Mat 128 256) .f32}
    {L : List (View.Piece (Elt Ideal) Tiles .f32)} (hp : Rl p fun e c => P J e c + U J e c)
    (h : Rl4 (v.read (Elt Ideal) (v.writes (Elt Ideal) f L)) (part P U J)) :
    Rl4 (v.read (Elt Ideal) (v.writes (Elt Ideal) f
      (⟨Rect.unit (s := Tiles) off OneTile.size inb, shapeCast OneTile p hc⟩ :: L))) (part P U (J + 1)) :=
  (store_tile v f J ho inb hc p L hp h).congr fun j _ e _ c _ => by
    by_cases hj : j = J
    · rw [if_pos hj, hj, part, if_pos (by omega)]
    · rw [if_neg hj, part, part]
      by_cases hJ : j < J
      · rw [if_pos hJ, if_pos (by omega)]
      · rw [if_neg hJ, if_neg (by omega)]

end Tiles

/-- What holds of the query gradient, the tiles of the key and value gradients and the two running sums after `J` key
    tiles of the block of queries `i`. -/
structure St (h : Head) (i J : ℕ) (x7 : (Mat 1024 128).Idx → EReal) (x8 x9 : Tiles.Idx → EReal)
    (x12 x13 : (Mat 1024 128).Idx → EReal) : Prop where
  dq : Rl x7 fun r e => h.DQ (256 * J) (1024 * i + r) e
  dk : Rl4 x8 (part (h.DK (1024 * i)) (h.UK i) J)
  dv : Rl4 x9 (part (h.DV (1024 * i)) (h.UV i) J)
  pl : Rl x12 fun r _ => h.PL (1024 * i + r) (256 * J)
  pg : Rl x13 fun r _ => h.PG (1024 * i + r) (256 * J)

/-- What the block of queries `i` is given: the queries and the output gradients, as they are and transposed, the keys
    and the values, the row sums, and the matrices of ones. -/
structure In (h : Head) (i : ℕ) (x2 x5 : (Mat 1024 128).Idx → EReal) (x3 x4 : (Mat 4096 128).Idx → EReal)
    (x6 : (Mat 1024 128).Idx → EReal) (x10 x11 : (Mat 128 1024).Idx → EReal) (u w : (Mat 256 256).Idx → EReal) : Prop where
  q : Rl x2 fun r e => h.Q (1024 * i + r) e
  d : Rl x5 fun r e => h.D (1024 * i + r) e
  k : Rl x3 h.K
  v : Rl x4 h.V
  lt : Rl x6 fun r _ => h.T (1024 * i + r)
  qt : Rl x10 fun e r => h.Q (1024 * i + r) e
  dt : Rl x11 fun e r => h.D (1024 * i + r) e
  u : Rl u (ones 1)
  w : Rl w (ones 0)

/-- What the tiles of a block of `n` rows compute with: the key and value tiles are numbered. -/
structure Ops (F : FTy → Type) (n : ℕ) where
  q : FVec F (Mat n 128) .bf16
  d : FVec F (Mat n 128) .bf16
  lt : FVec F (Mat n 128) .f32
  k : ℕ → FVec F (Mat 256 128) .bf16
  v : ℕ → FVec F (Mat 256 128) .bf16
  u : FVec F (Mat 256 256) .bf16
  w : FVec F (Mat 256 256) .bf16
  m : FVec F (Mat n 256) .f32 → FVec F (Mat n 256) .f32

namespace Ops

variable {F : FTy → Type} [FloatOps F] {n : ℕ} (O : Ops F n) (H : TileFacts n) (s : ℕ) (e b old : FVec F (Mat n 128) .f32)
  (t : FVec F (Mat 128 n) .bf16) (x : FVec F OneTile .f32)

/-- The next sums of the logarithms. -/
abbrev fl : FVec F (Mat n 128) .f32 := Tile.fin H e (Tile.lmm O.m O.q (O.k s)) O.u
/-- The next sums of the gradients. -/
abbrev fg : FVec F (Mat n 128) .f32 := Tile.fin H b (Tile.g H O.m O.q O.d (O.k s) (O.v s) O.lt e O.u) O.w
/-- The gradient of the scores. -/
abbrev dz : FVec F (Mat n 256) .bf16 := Tile.dz H O.m O.q O.d (O.k s) (O.v s) O.lt e b O.u O.w
/-- The next query gradient. -/
abbrev dq : FVec F (Mat n 128) .f32 := Tile.dq H (O.dz H s e b) (O.k s) old
/-- The next tile of the key gradient. -/
abbrev dk : FVec F OneTile .f32 :=
  shapeCast OneTile (Tile.kt t (O.dz H s e b) (shapeCast (Mat 128 256) x shapeCasts_S1x1x128x256_S128x256))
    shapeCasts_S128x256_S1x1x128x256
/-- The next tile of the value gradient. -/
abbrev dv : FVec F OneTile .f32 :=
  shapeCast OneTile (Tile.kt t (truncf .bf16 (Tile.a H O.m O.q (O.k s) O.lt e O.u) H.bl)
    (shapeCast (Mat 128 256) x shapeCasts_S1x1x128x256_S128x256)) shapeCasts_S128x256_S1x1x128x256

end Ops

end Cert.Proof

end
-- ==== Proof.Trip.lean ====
/- One trip of the loop over the key tiles before the diagonal: four tiles of all rows, without a mask. -/
module

public import proofs.«01_k».proof.Proof.Block

@[expose] public section

set_option maxRecDepth 16384

noncomputable section

namespace Cert.Proof

open Idealize.ShloMosaic Idealize.ShloMosaic.ValueIdx
open Cert.KernelIdeal Cert.KernelIdeal.Gen
open scoped BigOperators

/-- The loop runs over the blocks before its own. -/
theorem trips_t1 (i : grid0.Coords) : (k0_t1_loop i).trips = (i 1).val := by
  have : ∀ a : Fin 4, Scf.trips (w := 32) 0#32 (Scalar.addi 0#32 (Scalar.muli (Scalar.divsi
      (Scalar.subi (BitVec.ofNat 32 a.val) 0#32) 1#32) 1#32)) 1#32 = a.val := by decide +kernel
  exact this (i 1)

theorem lt_block (i : grid0.Coords) (k : Fin (k0_t1_loop i).trips) : k.val < (i 1).val :=
  lt_of_lt_of_eq k.isLt (trips_t1 i)

theorem off1_eq (i : grid0.Coords) (k : Fin (k0_t1_loop i).trips) {o : BitVec 32} {s : ℕ} (hs : s < 4)
    (ho : o = BitVec.ofNat 32 s) : k0_off1 i k o = ![256 * (4 * k.val + s), 0] := by
  have hk : k.val < 4 := by have h1 := lt_block i k; have h2 : (i 1).val < 4 := (i 1).isLt; omega
  have : ∀ a s : Fin 4, (Scalar.indexCast (Scalar.muli (Scalar.addi (Scalar.muli (Scf.iv 0#32 1#32 a.val) 4#32)
      (BitVec.ofNat 32 s.val)) 256#32)).toNat = 256 * (4 * a.val + s.val) := by decide +kernel
  subst ho
  exact congrArg (fun n => ![n, 0]) (this ⟨k.val, hk⟩ ⟨s, hs⟩)

theorem off2_eq (i : grid0.Coords) (k : Fin (k0_t1_loop i).trips) {o : BitVec 32} {s : ℕ} (hs : s < 4)
    (ho : o = BitVec.ofNat 32 s) : k0_off2 i k o = ![0, 4 * k.val + s, 0, 0] := by
  have hk : k.val < 4 := by have h1 := lt_block i k; have h2 : (i 1).val < 4 := (i 1).isLt; omega
  have : ∀ a s : Fin 4, (Scalar.indexCast (Scalar.addi (Scalar.muli (Scf.iv 0#32 1#32 a.val) 4#32)
      (BitVec.ofNat 32 s.val))).toNat = 4 * a.val + s.val := by decide +kernel
  subst ho
  exact congrArg (fun n => ![0, n, 0, 0]) (this ⟨k.val, hk⟩ ⟨s, hs⟩)

/-- A whole array of 1024 rows. -/
abbrev ld {F : FTy → Type} {e : EltTy} (a : Memref sig .tc .vmem S1024x128 e) (X : a.view.ty.Contents (Elt F)) :
    (Mat 1024 128).Idx → Elt F e :=
  a.view.readAt (Elt F) (Rect.unit (s := S1024x128) ![0, 0] S1024x128.size inb_S1024x128_S1024x128_0_0).toLoadRect X

/-- A whole transposed array. -/
abbrev ldt {F : FTy → Type} {e : EltTy} (a : Memref sig .tc .vmem S128x1024 e) (X : a.view.ty.Contents (Elt F)) :
    (Mat 128 1024).Idx → Elt F e :=
  a.view.readAt (Elt F) (Rect.unit (s := S128x1024) ![0, 0] S128x1024.size inb_S128x1024_S128x1024_0_0).toLoadRect X

section Trip

variable {F : FTy → Type} [FloatOps F] (i : grid0.Coords) (arg2 : Memref sig .tc .vmem S1024x128 .bf16)
  (arg3 arg4 : Memref sig .tc .vmem S4096x128 .bf16)
  (arg5 : Memref sig .tc .vmem S1024x128 .bf16) (arg6 arg7 : Memref sig .tc .vmem S1024x128 .f32)
  (arg8 arg9 : Memref sig .tc .vmem S1x16x128x256 .f32) (arg10 arg11 : Memref sig .tc .vmem S128x1024 .bf16)
  (arg12 arg13 : Memref sig .tc .vmem S1024x128 .f32) (v41 v66 : FVec F S256x256 .bf16)
  (X2 : arg2.view.ty.Contents (Elt F)) (X3 : arg3.view.ty.Contents (Elt F)) (X4 : arg4.view.ty.Contents (Elt F))
  (X5 : arg5.view.ty.Contents (Elt F)) (X6 : arg6.view.ty.Contents (Elt F)) (X10 : arg10.view.ty.Contents (Elt F))
  (X11 : arg11.view.ty.Contents (Elt F)) (k : Fin (k0_t1_loop i).trips) (f7 : arg7.view.ty.Contents (Elt F))
  (f8 : arg8.view.ty.Contents (Elt F)) (f9 : arg9.view.ty.Contents (Elt F))
  (f12 : arg12.view.ty.Contents (Elt F)) (f13 : arg13.view.ty.Contents (Elt F))

/-- What the trip's tiles compute with. -/
abbrev ops : Ops F 1024 where
  q := ld arg2 X2
  d := ld arg5 X5
  lt := ld arg6 X6
  k s := arg3.view.readAt (Elt F) (Rect.unit (s := S4096x128) (k0_off1 i k (BitVec.ofNat 32 (Fin.ofNat 4 s).val))
    S256x128.size (k0_off1_inb i k (Fin.ofNat 4 s))).toLoadRect X3
  v s := arg4.view.readAt (Elt F) (Rect.unit (s := S4096x128) (k0_off1 i k (BitVec.ofNat 32 (Fin.ofNat 4 s).val))
    S256x128.size (k0_off1_inb i k (Fin.ofNat 4 s))).toLoadRect X4
  u := v41
  w := v66
  m x := x

theorem l1 : trip_k0_t1.sl.HW_arg12_1 i arg2 arg3 arg12 v41 X2 X3 k f12 =
    [⟨Rect.unit (s := S1024x128) ![0, 0] S1024x128.size inb_S1024x128_S1024x128_0_0,
      (ops i arg2 arg3 arg4 arg5 arg6 v41 v66 X2 X3 X4 X5 X6 k).fl facts1024 0 (ld arg12 f12)⟩] := rfl

theorem g1 : trip_k0_t1.sl.HW_arg13_1 i arg2 arg3 arg4 arg5 arg6 arg12 arg13 v41 v66 X2 X3 X4 X5 X6 k f12 f13 =
    [⟨Rect.unit (s := S1024x128) ![0, 0] S1024x128.size inb_S1024x128_S1024x128_0_0,
      (ops i arg2 arg3 arg4 arg5 arg6 v41 v66 X2 X3 X4 X5 X6 k).fg facts1024 0 (ld arg12 f12) (ld arg13 f13)⟩] := rfl

theorem q1 : trip_k0_t1.sl.HW_arg7_1 i arg2 arg3 arg4 arg5 arg6 arg7 arg12 arg13 v41 v66 X2 X3 X4 X5 X6 k f7 f12 f13 =
    [⟨Rect.unit (s := S1024x128) ![0, 0] S1024x128.size inb_S1024x128_S1024x128_0_0,
      (ops i arg2 arg3 arg4 arg5 arg6 v41 v66 X2 X3 X4 X5 X6 k).dq facts1024 0 (ld arg12 f12) (ld arg13 f13) (ld arg7 f7)⟩] :=
  rfl

theorem l2 : trip_k0_t1.sl.HW_arg12_2 i arg2 arg3 arg12 v41 X2 X3 k f12 =
    ⟨Rect.unit (s := S1024x128) ![0, 0] S1024x128.size inb_S1024x128_S1024x128_0_0,
      (ops i arg2 arg3 arg4 arg5 arg6 v41 v66 X2 X3 X4 X5 X6 k).fl facts1024 1
        (trip_k0_t1.sl.v722 i arg2 arg3 arg12 v41 X2 X3 k f12)⟩ ::
      trip_k0_t1.sl.HW_arg12_1 i arg2 arg3 arg12 v41 X2 X3 k f12 := rfl

theorem g2 : trip_k0_t1.sl.HW_arg13_2 i arg2 arg3 arg4 arg5 arg6 arg12 arg13 v41 v66 X2 X3 X4 X5 X6 k f12 f13 =
    ⟨Rect.unit (s := S1024x128) ![0, 0] S1024x128.size inb_S1024x128_S1024x128_0_0,
      (ops i arg2 arg3 arg4 arg5 arg6 v41 v66 X2 X3 X4 X5 X6 k).fg facts1024 1
        (trip_k0_t1.sl.v722 i arg2 arg3 arg12 v41 X2 X3 k f12)
        (trip_k0_t1.sl.v753 i arg2 arg3 arg4 arg5 arg6 arg12 arg13 v41 v66 X2 X3 X4 X5 X6 k f12 f13)⟩ ::
      trip_k0_t1.sl.HW_arg13_1 i arg2 arg3 arg4 arg5 arg6 arg12 arg13 v41 v66 X2 X3 X4 X5 X6 k f12 f13 := rfl

theorem q2 : trip_k0_t1.sl.HW_arg7_2 i arg2 arg3 arg4 arg5 arg6 arg7 arg12 arg13 v41 v66 X2 X3 X4 X5 X6 k f7 f12 f13 =
    ⟨Rect.unit (s := S1024x128) ![0, 0] S1024x128.size inb_S1024x128_S1024x128_0_0,
      (ops i arg2 arg3 arg4 arg5 arg6 v41 v66 X2 X3 X4 X5 X6 k).dq facts1024 1
        (trip_k0_t1.sl.v722 i arg2 arg3 arg12 v41 X2 X3 k f12)
        (trip_k0_t1.sl.v753 i arg2 arg3 arg4 arg5 arg6 arg12 arg13 v41 v66 X2 X3 X4 X5 X6 k f12 f13)
        (trip_k0_t1.sl.v801 i arg2 arg3 arg4 arg5 arg6 arg7 arg12 arg13 v41 v66 X2 X3 X4 X5 X6 k f7 f12 f13)⟩ ::
      trip_k0_t1.sl.HW_arg7_1 i arg2 arg3 arg4 arg5 arg6 arg7 arg12 arg13 v41 v66 X2 X3 X4 X5 X6 k f7 f12 f13 := rfl

theorem l3 : trip_k0_t1.sl.HW_arg12_3 i arg2 arg3 arg12 v41 X2 X3 k f12 =
    ⟨Rect.unit (s := S1024x128) ![0, 0] S1024x128.size inb_S1024x128_S1024x128_0_0,
      (ops i arg2 arg3 arg4 arg5 arg6 v41 v66 X2 X3 X4 X5 X6 k).fl facts1024 2
        (trip_k0_t1.sl.v838 i arg2 arg3 arg12 v41 X2 X3 k f12)⟩ ::
      trip_k0_t1.sl.HW_arg12_2 i arg2 arg3 arg12 v41 X2 X3 k f12 := rfl

theorem g3 : trip_k0_t1.sl.HW_arg13_3 i arg2 arg3 arg4 arg5 arg6 arg12 arg13 v41 v66 X2 X3 X4 X5 X6 k f12 f13 =
    ⟨Rect.unit (s := S1024x128) ![0, 0] S1024x128.size inb_S1024x128_S1024x128_0_0,
      (ops i arg2 arg3 arg4 arg5 arg6 v41 v66 X2 X3 X4 X5 X6 k).fg facts1024 2
        (trip_k0_t1.sl.v838 i arg2 arg3 arg12 v41 X2 X3 k f12)
        (trip_k0_t1.sl.v869 i arg2 arg3 arg4 arg5 arg6 arg12 arg13 v41 v66 X2 X3 X4 X5 X6 k f12 f13)⟩ ::
      trip_k0_t1.sl.HW_arg13_2 i arg2 arg3 arg4 arg5 arg6 arg12 arg13 v41 v66 X2 X3 X4 X5 X6 k f12 f13 := rfl

theorem q3 : trip_k0_t1.sl.HW_arg7_3 i arg2 arg3 arg4 arg5 arg6 arg7 arg12 arg13 v41 v66 X2 X3 X4 X5 X6 k f7 f12 f13 =
    ⟨Rect.unit (s := S1024x128) ![0, 0] S1024x128.size inb_S1024x128_S1024x128_0_0,
      (ops i arg2 arg3 arg4 arg5 arg6 v41 v66 X2 X3 X4 X5 X6 k).dq facts1024 2
        (trip_k0_t1.sl.v838 i arg2 arg3 arg12 v41 X2 X3 k f12)
        (trip_k0_t1.sl.v869 i arg2 arg3 arg4 arg5 arg6 arg12 arg13 v41 v66 X2 X3 X4 X5 X6 k f12 f13)
        (trip_k0_t1.sl.v917 i arg2 arg3 arg4 arg5 arg6 arg7 arg12 arg13 v41 v66 X2 X3 X4 X5 X6 k f7 f12 f13)⟩ ::
      trip_k0_t1.sl.HW_arg7_2 i arg2 arg3 arg4 arg5 arg6 arg7 arg12 arg13 v41 v66 X2 X3 X4 X5 X6 k f7 f12 f13 := rfl

variable (𝒱 : Variants) (c : Dev nD) (bd : Option 𝒱.V) (harg2 : arg2.IsWhole) (harg3 : arg3.IsWhole)
  (harg4 : arg4.IsWhole) (harg5 : arg5.IsWhole) (harg6 : arg6.IsWhole) (harg7 : arg7.IsWhole) (harg8 : arg8.IsWhole)
  (harg9 : arg9.IsWhole) (harg10 : arg10.IsWhole) (harg11 : arg11.IsWhole) (harg12 : arg12.IsWhole)
  (harg13 : arg13.IsWhole) (arg1 c0_i32_28 c0_i32_29 acc : BitVec 32)

theorem l4 : (tripL_k0_t1 𝒱 c bd i arg2 harg2 arg3 harg3 arg4 harg4 arg5 harg5 arg6 harg6 arg7 harg7 arg8 harg8 arg9
      harg9 arg10 harg10 arg11 harg11 arg12 harg12 arg13 harg13 arg1 v41 v66 c0_i32_28 c0_i32_29 X2 X3 X4 X5 X6 X10 X11 k
      acc f7 f8 f9 f12 f13).2.2.2.1 =
    ⟨Rect.unit (s := S1024x128) ![0, 0] S1024x128.size inb_S1024x128_S1024x128_0_0,
      (ops i arg2 arg3 arg4 arg5 arg6 v41 v66 X2 X3 X4 X5 X6 k).fl facts1024 3
        (trip_k0_t1.sl.v954 i arg2 arg3 arg12 v41 X2 X3 k f12)⟩ ::
      trip_k0_t1.sl.HW_arg12_3 i arg2 arg3 arg12 v41 X2 X3 k f12 := by
  unfold tripL_k0_t1 trip_k0_t1
  rfl

theorem g4 : (tripL_k0_t1 𝒱 c bd i arg2 harg2 arg3 harg3 arg4 harg4 arg5 harg5 arg6 harg6 arg7 harg7 arg8 harg8 arg9
      harg9 arg10 harg10 arg11 harg11 arg12 harg12 arg13 harg13 arg1 v41 v66 c0_i32_28 c0_i32_29 X2 X3 X4 X5 X6 X10 X11 k
      acc f7 f8 f9 f12 f13).2.2.2.2 =
    ⟨Rect.unit (s := S1024x128) ![0, 0] S1024x128.size inb_S1024x128_S1024x128_0_0,
      (ops i arg2 arg3 arg4 arg5 arg6 v41 v66 X2 X3 X4 X5 X6 k).fg facts1024 3
        (trip_k0_t1.sl.v954 i arg2 arg3 arg12 v41 X2 X3 k f12)
        (trip_k0_t1.sl.v985 i arg2 arg3 arg4 arg5 arg6 arg12 arg13 v41 v66 X2 X3 X4 X5 X6 k f12 f13)⟩ ::
      trip_k0_t1.sl.HW_arg13_3 i arg2 arg3 arg4 arg5 arg6 arg12 arg13 v41 v66 X2 X3 X4 X5 X6 k f12 f13 := by
  unfold tripL_k0_t1 trip_k0_t1
  rfl

theorem q4 : (tripL_k0_t1 𝒱 c bd i arg2 harg2 arg3 harg3 arg4 harg4 arg5 harg5 arg6 harg6 arg7 harg7 arg8 harg8 arg9
      harg9 arg10 harg10 arg11 harg11 arg12 harg12 arg13 harg13 arg1 v41 v66 c0_i32_28 c0_i32_29 X2 X3 X4 X5 X6 X10 X11 k
      acc f7 f8 f9 f12 f13).1 =
    ⟨Rect.unit (s := S1024x128) ![0, 0] S1024x128.size inb_S1024x128_S1024x128_0_0,
      (ops i arg2 arg3 arg4 arg5 arg6 v41 v66 X2 X3 X4 X5 X6 k).dq facts1024 3
        (trip_k0_t1.sl.v954 i arg2 arg3 arg12 v41 X2 X3 k f12)
        (trip_k0_t1.sl.v985 i arg2 arg3 arg4 arg5 arg6 arg12 arg13 v41 v66 X2 X3 X4 X5 X6 k f12 f13)
        (trip_k0_t1.sl.v1033 i arg2 arg3 arg4 arg5 arg6 arg7 arg12 arg13 v41 v66 X2 X3 X4 X5 X6 k f7 f12 f13)⟩ ::
      trip_k0_t1.sl.HW_arg7_3 i arg2 arg3 arg4 arg5 arg6 arg7 arg12 arg13 v41 v66 X2 X3 X4 X5 X6 k f7 f12 f13 := by
  unfold tripL_k0_t1 trip_k0_t1
  rfl

theorem k4 : (tripL_k0_t1 𝒱 c bd i arg2 harg2 arg3 harg3 arg4 harg4 arg5 harg5 arg6 harg6 arg7 harg7 arg8 harg8 arg9
      harg9 arg10 harg10 arg11 harg11 arg12 harg12 arg13 harg13 arg1 v41 v66 c0_i32_28 c0_i32_29 X2 X3 X4 X5 X6 X10 X11 k
      acc f7 f8 f9 f12 f13).2.1 =
    [⟨Rect.unit (s := S1x16x128x256) (k0_off2 i k 3#32) S1x1x128x256.size (k0_off2_inb i k 3),
        (ops i arg2 arg3 arg4 arg5 arg6 v41 v66 X2 X3 X4 X5 X6 k).dk facts1024 3
        (trip_k0_t1.sl.v954 i arg2 arg3 arg12 v41 X2 X3 k f12)
        (trip_k0_t1.sl.v985 i arg2 arg3 arg4 arg5 arg6 arg12 arg13 v41 v66 X2 X3 X4 X5 X6 k f12 f13) (ldt arg10 X10)
        (arg8.view.readAt (Elt F) (Rect.unit (s := S1x16x128x256) (k0_off2 i k 3#32) S1x1x128x256.size
          (k0_off2_inb i k 3)).toLoadRect f8)⟩,
      ⟨Rect.unit (s := S1x16x128x256) (k0_off2 i k 2#32) S1x1x128x256.size (k0_off2_inb i k 2),
        (ops i arg2 arg3 arg4 arg5 arg6 v41 v66 X2 X3 X4 X5 X6 k).dk facts1024 2
        (trip_k0_t1.sl.v838 i arg2 arg3 arg12 v41 X2 X3 k f12)
        (trip_k0_t1.sl.v869 i arg2 arg3 arg4 arg5 arg6 arg12 arg13 v41 v66 X2 X3 X4 X5 X6 k f12 f13) (ldt arg10 X10)
        (arg8.view.readAt (Elt F) (Rect.unit (s := S1x16x128x256) (k0_off2 i k 2#32) S1x1x128x256.size
          (k0_off2_inb i k 2)).toLoadRect f8)⟩,
      ⟨Rect.unit (s := S1x16x128x256) (k0_off2 i k 1#32) S1x1x128x256.size (k0_off2_inb i k 1),
        (ops i arg2 arg3 arg4 arg5 arg6 v41 v66 X2 X3 X4 X5 X6 k).dk facts1024 1
        (trip_k0_t1.sl.v722 i arg2 arg3 arg12 v41 X2 X3 k f12)
        (trip_k0_t1.sl.v753 i arg2 arg3 arg4 arg5 arg6 arg12 arg13 v41 v66 X2 X3 X4 X5 X6 k f12 f13) (ldt arg10 X10)
        (arg8.view.readAt (Elt F) (Rect.unit (s := S1x16x128x256) (k0_off2 i k 1#32) S1x1x128x256.size
          (k0_off2_inb i k 1)).toLoadRect f8)⟩,
      ⟨Rect.unit (s := S1x16x128x256) (k0_off2 i k 0#32) S1x1x128x256.size (k0_off2_inb i k 0),
        (ops i arg2 arg3 arg4 arg5 arg6 v41 v66 X2 X3 X4 X5 X6 k).dk facts1024 0
        (ld arg12 f12)
        (ld arg13 f13) (ldt arg10 X10)
        (arg8.view.readAt (Elt F) (Rect.unit (s := S1x16x128x256) (k0_off2 i k 0#32) S1x1x128x256.size
          (k0_off2_inb i k 0)).toLoadRect f8)⟩] := by
  unfold tripL_k0_t1 trip_k0_t1
  rfl

theorem v4 : (tripL_k0_t1 𝒱 c bd i arg2 harg2 arg3 harg3 arg4 harg4 arg5 harg5 arg6 harg6 arg7 harg7 arg8 harg8 arg9
      harg9 arg10 harg10 arg11 harg11 arg12 harg12 arg13 harg13 arg1 v41 v66 c0_i32_28 c0_i32_29 X2 X3 X4 X5 X6 X10 X11 k
      acc f7 f8 f9 f12 f13).2.2.1 =
    [⟨Rect.unit (s := S1x16x128x256) (k0_off2 i k 3#32) S1x1x128x256.size (k0_off2_inb i k 3),
        (ops i arg2 arg3 arg4 arg5 arg6 v41 v66 X2 X3 X4 X5 X6 k).dv facts1024 3
        (trip_k0_t1.sl.v954 i arg2 arg3 arg12 v41 X2 X3 k f12) (ldt arg11 X11)
        (arg9.view.readAt (Elt F) (Rect.unit (s := S1x16x128x256) (k0_off2 i k 3#32) S1x1x128x256.size
          (k0_off2_inb i k 3)).toLoadRect f9)⟩,
      ⟨Rect.unit (s := S1x16x128x256) (k0_off2 i k 2#32) S1x1x128x256.size (k0_off2_inb i k 2),
        (ops i arg2 arg3 arg4 arg5 arg6 v41 v66 X2 X3 X4 X5 X6 k).dv facts1024 2
        (trip_k0_t1.sl.v838 i arg2 arg3 arg12 v41 X2 X3 k f12) (ldt arg11 X11)
        (arg9.view.readAt (Elt F) (Rect.unit (s := S1x16x128x256) (k0_off2 i k 2#32) S1x1x128x256.size
          (k0_off2_inb i k 2)).toLoadRect f9)⟩,
      ⟨Rect.unit (s := S1x16x128x256) (k0_off2 i k 1#32) S1x1x128x256.size (k0_off2_inb i k 1),
        (ops i arg2 arg3 arg4 arg5 arg6 v41 v66 X2 X3 X4 X5 X6 k).dv facts1024 1
        (trip_k0_t1.sl.v722 i arg2 arg3 arg12 v41 X2 X3 k f12) (ldt arg11 X11)
        (arg9.view.readAt (Elt F) (Rect.unit (s := S1x16x128x256) (k0_off2 i k 1#32) S1x1x128x256.size
          (k0_off2_inb i k 1)).toLoadRect f9)⟩,
      ⟨Rect.unit (s := S1x16x128x256) (k0_off2 i k 0#32) S1x1x128x256.size (k0_off2_inb i k 0),
        (ops i arg2 arg3 arg4 arg5 arg6 v41 v66 X2 X3 X4 X5 X6 k).dv facts1024 0
        (ld arg12 f12) (ldt arg11 X11)
        (arg9.view.readAt (Elt F) (Rect.unit (s := S1x16x128x256) (k0_off2 i k 0#32) S1x1x128x256.size
          (k0_off2_inb i k 0)).toLoadRect f9)⟩] := by
  unfold tripL_k0_t1 trip_k0_t1
  rfl

end Trip

end Cert.Proof

end
-- ==== Proof.Loop.lean ====
/- The loop over the key tiles before the diagonal, over the reals. -/
module

public import proofs.«01_k».proof.Proof.Trip

@[expose] public section

set_option maxRecDepth 16384

noncomputable section

namespace Cert.Proof

open Idealize.ShloMosaic Idealize.ShloMosaic.ValueIdx
open Cert.KernelIdeal Cert.KernelIdeal.Gen
open scoped BigOperators

section

variable {i : grid0.Coords} {arg2 : Memref sig .tc .vmem S1024x128 .bf16} {arg3 arg4 : Memref sig .tc .vmem S4096x128 .bf16}
  {arg5 : Memref sig .tc .vmem S1024x128 .bf16} {arg6 arg7 : Memref sig .tc .vmem S1024x128 .f32}
  {arg8 arg9 : Memref sig .tc .vmem S1x16x128x256 .f32} {arg10 arg11 : Memref sig .tc .vmem S128x1024 .bf16}
  {arg12 arg13 : Memref sig .tc .vmem S1024x128 .f32} {v41 v66 : FVec Ideal S256x256 .bf16}
  {X2 : arg2.view.ty.Contents (Elt Ideal)} {X3 : arg3.view.ty.Contents (Elt Ideal)}
  {X4 : arg4.view.ty.Contents (Elt Ideal)} {X5 : arg5.view.ty.Contents (Elt Ideal)}
  {X6 : arg6.view.ty.Contents (Elt Ideal)} {X10 : arg10.view.ty.Contents (Elt Ideal)}
  {X11 : arg11.view.ty.Contents (Elt Ideal)} {f7 : arg7.view.ty.Contents (Elt Ideal)}
  {f8 : arg8.view.ty.Contents (Elt Ideal)} {f9 : arg9.view.ty.Contents (Elt Ideal)}
  {f12 : arg12.view.ty.Contents (Elt Ideal)} {f13 : arg13.view.ty.Contents (Elt Ideal)} {h : Head}
  {k : Fin (k0_t1_loop i).trips}
  (B : In h (i 1).val (arg2.view.read (Elt Ideal) X2) (arg5.view.read (Elt Ideal) X5) (arg3.view.read (Elt Ideal) X3)
    (arg4.view.read (Elt Ideal) X4) (arg6.view.read (Elt Ideal) X6) (arg10.view.read (Elt Ideal) X10)
    (arg11.view.read (Elt Ideal) X11) v41 v66)
  (S : St h (i 1).val (4 * k.val) (arg7.view.read (Elt Ideal) f7) (arg8.view.read (Elt Ideal) f8)
    (arg9.view.read (Elt Ideal) f9) (arg12.view.read (Elt Ideal) f12) (arg13.view.read (Elt Ideal) f13))

include B

/-- The trip's tile `s`, given its running sums. -/
theorem tileIn {s : ℕ} (hs : s < 4) {e b : FVec Ideal (Mat 1024 128) .f32}
    (he : Rl e fun r _ => h.PL (1024 * (i 1).val + r) (256 * (4 * k.val + s)))
    (hb : Rl b fun r _ => h.PG (1024 * (i 1).val + r) (256 * (4 * k.val + s))) :
    TileIn h (1024 * (i 1).val) (256 * (4 * k.val + s)) (fun x => x)
      (ops i arg2 arg3 arg4 arg5 arg6 v41 v66 X2 X3 X4 X5 X6 k).q
      (ops i arg2 arg3 arg4 arg5 arg6 v41 v66 X2 X3 X4 X5 X6 k).d
      ((ops i arg2 arg3 arg4 arg5 arg6 v41 v66 X2 X3 X4 X5 X6 k).k s)
      ((ops i arg2 arg3 arg4 arg5 arg6 v41 v66 X2 X3 X4 X5 X6 k).v s)
      (ops i arg2 arg3 arg4 arg5 arg6 v41 v66 X2 X3 X4 X5 X6 k).lt e b v41 v66 where
  hq := load_all arg2.view X2 id rfl _ B.q
  hd := load_all arg5.view X5 id rfl _ B.d
  hk := (load_rows (n := 256) (m := 128) arg3.view X3 id _ 0
    (off1_eq i k hs (congrArg (BitVec.ofNat 32) (Nat.mod_eq_of_lt hs))) _ B.k).congr fun r _ c _ => by rw [Nat.zero_add]
  hv := (load_rows (n := 256) (m := 128) arg4.view X4 id _ 0
    (off1_eq i k hs (congrArg (BitVec.ofNat 32) (Nat.mod_eq_of_lt hs))) _ B.v).congr fun r _ c _ => by rw [Nat.zero_add]
  hlt := load_all arg6.view X6 id rfl _ B.lt
  he := he
  hb := hb
  hu := B.u
  hw := B.w
  hmk := fun x f hx => hx.congr fun r _ c hc => by
    have h1 := lt_block i k
    exact (if_pos (by omega)).symm

include S

theorem rl_e0 : Rl (ld arg12 f12) fun r _ => h.PL (1024 * (i 1).val + r) (256 * (4 * k.val + 0)) :=
  load_all arg12.view f12 id rfl _ S.pl

theorem rl_b0 : Rl (ld arg13 f13) fun r _ => h.PG (1024 * (i 1).val + r) (256 * (4 * k.val + 0)) :=
  load_all arg13.view f13 id rfl _ S.pg

theorem rl_q0 : Rl (ld arg7 f7) fun r e => h.DQ (256 * (4 * k.val + 0)) (1024 * (i 1).val + r) e :=
  load_all arg7.view f7 id rfl _ S.dq

theorem rl_e1 : Rl (trip_k0_t1.sl.v722 i arg2 arg3 arg12 v41 X2 X3 k f12)
    fun r _ => h.PL (1024 * (i 1).val + r) (256 * (4 * k.val + 1)) := by
  unfold trip_k0_t1.sl.v722
  rw [l1 i arg2 arg3 arg4 arg5 arg6 arg12 v41 v66 X2 X3 X4 X5 X6]
  exact reload _ ((tileIn B (by omega : 0 < 4) (rl_e0 B S) (rl_b0 B S)).finL facts1024)

theorem rl_b1 : Rl (trip_k0_t1.sl.v753 i arg2 arg3 arg4 arg5 arg6 arg12 arg13 v41 v66 X2 X3 X4 X5 X6 k f12 f13)
    fun r _ => h.PG (1024 * (i 1).val + r) (256 * (4 * k.val + 1)) := by
  unfold trip_k0_t1.sl.v753
  rw [g1]
  exact reload _ ((tileIn B (by omega : 0 < 4) (rl_e0 B S) (rl_b0 B S)).finG facts1024)

theorem rl_q1 : Rl (trip_k0_t1.sl.v801 i arg2 arg3 arg4 arg5 arg6 arg7 arg12 arg13 v41 v66 X2 X3 X4 X5 X6 k f7 f12 f13)
    fun r e => h.DQ (256 * (4 * k.val + 1)) (1024 * (i 1).val + r) e := by
  unfold trip_k0_t1.sl.v801
  rw [q1]
  exact reload _ ((tileIn B (by omega : 0 < 4) (rl_e0 B S) (rl_b0 B S)).dq facts1024 (rl_q0 B S))

theorem rl_e2 : Rl (trip_k0_t1.sl.v838 i arg2 arg3 arg12 v41 X2 X3 k f12)
    fun r _ => h.PL (1024 * (i 1).val + r) (256 * (4 * k.val + 2)) := by
  unfold trip_k0_t1.sl.v838
  rw [l2 i arg2 arg3 arg4 arg5 arg6 arg12 v41 v66 X2 X3 X4 X5 X6]
  exact reload _ ((tileIn B (by omega : 1 < 4) (rl_e1 B S) (rl_b1 B S)).finL facts1024)

theorem rl_b2 : Rl (trip_k0_t1.sl.v869 i arg2 arg3 arg4 arg5 arg6 arg12 arg13 v41 v66 X2 X3 X4 X5 X6 k f12 f13)
    fun r _ => h.PG (1024 * (i 1).val + r) (256 * (4 * k.val + 2)) := by
  unfold trip_k0_t1.sl.v869
  rw [g2]
  exact reload _ ((tileIn B (by omega : 1 < 4) (rl_e1 B S) (rl_b1 B S)).finG facts1024)

theorem rl_q2 : Rl (trip_k0_t1.sl.v917 i arg2 arg3 arg4 arg5 arg6 arg7 arg12 arg13 v41 v66 X2 X3 X4 X5 X6 k f7 f12 f13)
    fun r e => h.DQ (256 * (4 * k.val + 2)) (1024 * (i 1).val + r) e := by
  unfold trip_k0_t1.sl.v917
  rw [q2]
  exact reload _ ((tileIn B (by omega : 1 < 4) (rl_e1 B S) (rl_b1 B S)).dq facts1024 (rl_q1 B S))

theorem rl_e3 : Rl (trip_k0_t1.sl.v954 i arg2 arg3 arg12 v41 X2 X3 k f12)
    fun r _ => h.PL (1024 * (i 1).val + r) (256 * (4 * k.val + 3)) := by
  unfold trip_k0_t1.sl.v954
  rw [l3 i arg2 arg3 arg4 arg5 arg6 arg12 v41 v66 X2 X3 X4 X5 X6]
  exact reload _ ((tileIn B (by omega : 2 < 4) (rl_e2 B S) (rl_b2 B S)).finL facts1024)

theorem rl_b3 : Rl (trip_k0_t1.sl.v985 i arg2 arg3 arg4 arg5 arg6 arg12 arg13 v41 v66 X2 X3 X4 X5 X6 k f12 f13)
    fun r _ => h.PG (1024 * (i 1).val + r) (256 * (4 * k.val + 3)) := by
  unfold trip_k0_t1.sl.v985
  rw [g3]
  exact reload _ ((tileIn B (by omega : 2 < 4) (rl_e2 B S) (rl_b2 B S)).finG facts1024)

theorem rl_q3 : Rl (trip_k0_t1.sl.v1033 i arg2 arg3 arg4 arg5 arg6 arg7 arg12 arg13 v41 v66 X2 X3 X4 X5 X6 k f7 f12 f13)
    fun r e => h.DQ (256 * (4 * k.val + 3)) (1024 * (i 1).val + r) e := by
  unfold trip_k0_t1.sl.v1033
  rw [q3]
  exact reload _ ((tileIn B (by omega : 2 < 4) (rl_e2 B S) (rl_b2 B S)).dq facts1024 (rl_q2 B S))

/-- A trip leaves what holds after four more tiles. -/
theorem trip_St (𝒱 : Variants) (c : Dev nD) (bd : Option 𝒱.V) (harg2 : arg2.IsWhole) (harg3 : arg3.IsWhole)
    (harg4 : arg4.IsWhole) (harg5 : arg5.IsWhole) (harg6 : arg6.IsWhole) (harg7 : arg7.IsWhole) (harg8 : arg8.IsWhole)
    (harg9 : arg9.IsWhole) (harg10 : arg10.IsWhole) (harg11 : arg11.IsWhole) (harg12 : arg12.IsWhole)
    (harg13 : arg13.IsWhole) (arg1 c0_i32_28 c0_i32_29 acc : BitVec 32) :
    St h (i 1).val (4 * (k.val + 1))
      (arg7.view.read (Elt Ideal) (arg7.view.writes (Elt Ideal) f7 (tripL_k0_t1 𝒱 c bd i arg2 harg2 arg3 harg3
        arg4 harg4 arg5 harg5 arg6 harg6 arg7 harg7 arg8 harg8 arg9 harg9 arg10 harg10 arg11 harg11 arg12 harg12 arg13
        harg13 arg1 v41 v66 c0_i32_28 c0_i32_29 X2 X3 X4 X5 X6 X10 X11 k acc f7 f8 f9 f12 f13).1))
      (arg8.view.read (Elt Ideal) (arg8.view.writes (Elt Ideal) f8 (tripL_k0_t1 𝒱 c bd i arg2 harg2 arg3 harg3
        arg4 harg4 arg5 harg5 arg6 harg6 arg7 harg7 arg8 harg8 arg9 harg9 arg10 harg10 arg11 harg11 arg12 harg12 arg13
        harg13 arg1 v41 v66 c0_i32_28 c0_i32_29 X2 X3 X4 X5 X6 X10 X11 k acc f7 f8 f9 f12 f13).2.1))
      (arg9.view.read (Elt Ideal) (arg9.view.writes (Elt Ideal) f9 (tripL_k0_t1 𝒱 c bd i arg2 harg2 arg3 harg3
        arg4 harg4 arg5 harg5 arg6 harg6 arg7 harg7 arg8 harg8 arg9 harg9 arg10 harg10 arg11 harg11 arg12 harg12 arg13
        harg13 arg1 v41 v66 c0_i32_28 c0_i32_29 X2 X3 X4 X5 X6 X10 X11 k acc f7 f8 f9 f12 f13).2.2.1))
      (arg12.view.read (Elt Ideal) (arg12.view.writes (Elt Ideal) f12 (tripL_k0_t1 𝒱 c bd i arg2 harg2 arg3 harg3
        arg4 harg4 arg5 harg5 arg6 harg6 arg7 harg7 arg8 harg8 arg9 harg9 arg10 harg10 arg11 harg11 arg12 harg12 arg13
        harg13 arg1 v41 v66 c0_i32_28 c0_i32_29 X2 X3 X4 X5 X6 X10 X11 k acc f7 f8 f9 f12 f13).2.2.2.1))
      (arg13.view.read (Elt Ideal) (arg13.view.writes (Elt Ideal) f13 (tripL_k0_t1 𝒱 c bd i arg2 harg2 arg3 harg3
        arg4 harg4 arg5 harg5 arg6 harg6 arg7 harg7 arg8 harg8 arg9 harg9 arg10 harg10 arg11 harg11 arg12 harg12 arg13
        harg13 arg1 v41 v66 c0_i32_28 c0_i32_29 X2 X3 X4 X5 X6 X10 X11 k acc f7 f8 f9 f12 f13).2.2.2.2)) where
  dq := by
    rw [q4]
    exact stored _ ((tileIn B (by omega : 3 < 4) (rl_e3 B S) (rl_b3 B S)).dq facts1024 (rl_q3 B S))
  dk := by
    rw [k4]
    have ht : Rl (ldt arg10 X10) fun e r => h.Q (1024 * (i 1).val + r) e := load_all arg10.view X10 id rfl _ B.qt
    exact store_part _ (off2_eq i k (by omega : 3 < 4) rfl)
      ((tileIn B (by omega : 3 < 4) (rl_e3 B S) (rl_b3 B S)).dk facts1024 ht (load_part _ (off2_eq i k (by omega : 3 < 4) rfl) S.dk (by omega)))
      (store_part _ (off2_eq i k (by omega : 2 < 4) rfl)
        ((tileIn B (by omega : 2 < 4) (rl_e2 B S) (rl_b2 B S)).dk facts1024 ht (load_part _ (off2_eq i k (by omega : 2 < 4) rfl) S.dk (by omega)))
        (store_part _ (off2_eq i k (by omega : 1 < 4) rfl)
          ((tileIn B (by omega : 1 < 4) (rl_e1 B S) (rl_b1 B S)).dk facts1024 ht (load_part _ (off2_eq i k (by omega : 1 < 4) rfl) S.dk (by omega)))
          (store_part _ (off2_eq i k (by omega : 0 < 4) rfl)
            ((tileIn B (by omega : 0 < 4) (rl_e0 B S) (rl_b0 B S)).dk facts1024 ht (load_part _ (off2_eq i k (by omega : 0 < 4) rfl) S.dk (by omega))) S.dk)))
  dv := by
    rw [v4]
    have ht : Rl (ldt arg11 X11) fun e r => h.D (1024 * (i 1).val + r) e := load_all arg11.view X11 id rfl _ B.dt
    exact store_part _ (off2_eq i k (by omega : 3 < 4) rfl)
      ((tileIn B (by omega : 3 < 4) (rl_e3 B S) (rl_b3 B S)).dv facts1024 ht (load_part _ (off2_eq i k (by omega : 3 < 4) rfl) S.dv (by omega)))
      (store_part _ (off2_eq i k (by omega : 2 < 4) rfl)
        ((tileIn B (by omega : 2 < 4) (rl_e2 B S) (rl_b2 B S)).dv facts1024 ht (load_part _ (off2_eq i k (by omega : 2 < 4) rfl) S.dv (by omega)))
        (store_part _ (off2_eq i k (by omega : 1 < 4) rfl)
          ((tileIn B (by omega : 1 < 4) (rl_e1 B S) (rl_b1 B S)).dv facts1024 ht (load_part _ (off2_eq i k (by omega : 1 < 4) rfl) S.dv (by omega)))
          (store_part _ (off2_eq i k (by omega : 0 < 4) rfl)
            ((tileIn B (by omega : 0 < 4) (rl_e0 B S) (rl_b0 B S)).dv facts1024 ht (load_part _ (off2_eq i k (by omega : 0 < 4) rfl) S.dv (by omega))) S.dv)))
  pl := by
    rw [l4]
    exact stored _ ((tileIn B (by omega : 3 < 4) (rl_e3 B S) (rl_b3 B S)).finL facts1024)
  pg := by
    rw [g4]
    exact stored _ ((tileIn B (by omega : 3 < 4) (rl_e3 B S) (rl_b3 B S)).finG facts1024)

end

end Cert.Proof

end
-- ==== Proof.Diag.lean ====
/- The loop before the diagonal over all its trips, and one masked key tile on the diagonal: the rows from `ρ` on. -/
module

public import proofs.«01_k».proof.Proof.Loop

@[expose] public section

set_option maxRecDepth 16384

noncomputable section

namespace Cert.Proof

open Idealize.ShloMosaic Idealize.ShloMosaic.ValueIdx
open Cert.KernelIdeal Cert.KernelIdeal.Gen
open scoped BigOperators

theorem rows_inb {n ρ m : ℕ} (hn : ρ + n = m) :
    ∀ a, (![ρ, 0] : Fin 2 → ℕ) a + (Mat n 128).size a ≤ (Mat m 128).size a := fun a => by
  match a with
  | ⟨0, _⟩ => exact hn.le
  | ⟨1, _⟩ => exact le_rfl

theorem cols_inb {n ρ m : ℕ} (hn : ρ + n = m) :
    ∀ a, (![0, ρ] : Fin 2 → ℕ) a + (Mat 128 n).size a ≤ (Mat 128 m).size a := fun a => by
  match a with
  | ⟨0, _⟩ => exact le_rfl
  | ⟨1, _⟩ => exact hn.le

/-- The rows from `ρ` on. -/
abbrev ldr {F : FTy → Type} {e : EltTy} {n ρ : ℕ} (hn : ρ + n = 1024) (a : Memref sig .tc .vmem S1024x128 e)
    (X : a.view.ty.Contents (Elt F)) : (Mat n 128).Idx → Elt F e :=
  a.view.readAt (Elt F) (Rect.unit (s := S1024x128) ![ρ, 0] (Mat n 128).size (rows_inb hn)).toLoadRect X

/-- The columns from `ρ` on. -/
abbrev ldc {F : FTy → Type} {e : EltTy} {n ρ : ℕ} (hn : ρ + n = 1024) (a : Memref sig .tc .vmem S128x1024 e)
    (X : a.view.ty.Contents (Elt F)) : (Mat 128 n).Idx → Elt F e :=
  a.view.readAt (Elt F) (Rect.unit (s := S128x1024) ![0, ρ] (Mat 128 n).size (cols_inb hn)).toLoadRect X

/-- What has been stored into the query gradient, the key and value gradients and the two running sums. -/
structure Lst (F : FTy → Type) where
  l7 : List (View.Piece (Elt F) S1024x128 .f32)
  l8 : List (View.Piece (Elt F) S1x16x128x256 .f32)
  l9 : List (View.Piece (Elt F) S1x16x128x256 .f32)
  l12 : List (View.Piece (Elt F) S1024x128 .f32)
  l13 : List (View.Piece (Elt F) S1024x128 .f32)

section Defs

variable {F : FTy → Type} [FloatOps F] (i : grid0.Coords) (arg2 : Memref sig .tc .vmem S1024x128 .bf16)
  (arg3 arg4 : Memref sig .tc .vmem S4096x128 .bf16)
  (arg5 : Memref sig .tc .vmem S1024x128 .bf16) (arg6 arg7 : Memref sig .tc .vmem S1024x128 .f32)
  (arg8 arg9 : Memref sig .tc .vmem S1x16x128x256 .f32) (arg10 arg11 : Memref sig .tc .vmem S128x1024 .bf16)
  (arg12 arg13 : Memref sig .tc .vmem S1024x128 .f32) (v41 v66 : FVec F S256x256 .bf16)
  (X2 : arg2.view.ty.Contents (Elt F)) (X3 : arg3.view.ty.Contents (Elt F)) (X4 : arg4.view.ty.Contents (Elt F))
  (X5 : arg5.view.ty.Contents (Elt F)) (X6 : arg6.view.ty.Contents (Elt F)) (X10 : arg10.view.ty.Contents (Elt F))
  (X11 : arg11.view.ty.Contents (Elt F)) (f7 : arg7.view.ty.Contents (Elt F))
  (f8 : arg8.view.ty.Contents (Elt F)) (f9 : arg9.view.ty.Contents (Elt F))
  (f12 : arg12.view.ty.Contents (Elt F)) (f13 : arg13.view.ty.Contents (Elt F))
  {n ρ : ℕ} (H : TileFacts n) (hn : ρ + n = 1024) (s : Fin 4) (m : IVec (Mat n 256) 1)

/-- What a masked tile computes with. -/
abbrev dops : Ops F n where
  q := ldr hn arg2 X2
  d := ldr hn arg5 X5
  lt := ldr hn arg6 X6
  k _ := arg3.view.readAt (Elt F) (Rect.unit (s := S4096x128) (k0_off5 i (BitVec.ofNat 32 s.val))
    S256x128.size (k0_off5_inb i s)).toLoadRect X3
  v _ := arg4.view.readAt (Elt F) (Rect.unit (s := S4096x128) (k0_off5 i (BitVec.ofNat 32 s.val))
    S256x128.size (k0_off5_inb i s)).toLoadRect X4
  u := v41
  w := v66
  m x := select m x (broadcast (Mat n 256) (Scalar.ofBits .f32 0x00000000#32))

/-- The store of the query gradient. -/
abbrev p7 : View.Piece (Elt F) S1024x128 .f32 :=
  ⟨Rect.unit (s := S1024x128) ![ρ, 0] (Mat n 128).size (rows_inb hn),
    (dops i arg2 arg3 arg4 arg5 arg6 v41 v66 X2 X3 X4 X5 X6 hn s m).dq H 0 (ldr hn arg12 f12) (ldr hn arg13 f13)
      (ldr hn arg7 f7)⟩

/-- The store of a tile of the key gradient. -/
abbrev p8 : View.Piece (Elt F) S1x16x128x256 .f32 :=
  ⟨Rect.unit (s := S1x16x128x256) (k0_off6 i (BitVec.ofNat 32 s.val)) S1x1x128x256.size (k0_off6_inb i s),
    (dops i arg2 arg3 arg4 arg5 arg6 v41 v66 X2 X3 X4 X5 X6 hn s m).dk H 0 (ldr hn arg12 f12) (ldr hn arg13 f13)
      (ldc hn arg10 X10) (arg8.view.readAt (Elt F) (Rect.unit (s := S1x16x128x256) (k0_off6 i (BitVec.ofNat 32 s.val))
        S1x1x128x256.size (k0_off6_inb i s)).toLoadRect f8)⟩

/-- The store of a tile of the value gradient. -/
abbrev p9 : View.Piece (Elt F) S1x16x128x256 .f32 :=
  ⟨Rect.unit (s := S1x16x128x256) (k0_off6 i (BitVec.ofNat 32 s.val)) S1x1x128x256.size (k0_off6_inb i s),
    (dops i arg2 arg3 arg4 arg5 arg6 v41 v66 X2 X3 X4 X5 X6 hn s m).dv H 0 (ldr hn arg12 f12)
      (ldc hn arg11 X11) (arg9.view.readAt (Elt F) (Rect.unit (s := S1x16x128x256) (k0_off6 i (BitVec.ofNat 32 s.val))
        S1x1x128x256.size (k0_off6_inb i s)).toLoadRect f9)⟩

/-- The store of the sums of the logarithms. -/
abbrev p12 : View.Piece (Elt F) S1024x128 .f32 :=
  ⟨Rect.unit (s := S1024x128) ![ρ, 0] (Mat n 128).size (rows_inb hn),
    (dops i arg2 arg3 arg4 arg5 arg6 v41 v66 X2 X3 X4 X5 X6 hn s m).fl H 0 (ldr hn arg12 f12)⟩

/-- The store of the sums of the gradients. -/
abbrev p13 : View.Piece (Elt F) S1024x128 .f32 :=
  ⟨Rect.unit (s := S1024x128) ![ρ, 0] (Mat n 128).size (rows_inb hn),
    (dops i arg2 arg3 arg4 arg5 arg6 v41 v66 X2 X3 X4 X5 X6 hn s m).fg H 0 (ldr hn arg12 f12) (ldr hn arg13 f13)⟩

/-- The stores of a masked tile after those of `L`. -/
abbrev dstep (L : Lst F) : Lst F where
  l7 := p7 i arg2 arg3 arg4 arg5 arg6 arg7 arg12 arg13 v41 v66 X2 X3 X4 X5 X6 (arg7.view.writes (Elt F) f7 L.l7)
    (arg12.view.writes (Elt F) f12 L.l12) (arg13.view.writes (Elt F) f13 L.l13) H hn s m :: L.l7
  l8 := p8 i arg2 arg3 arg4 arg5 arg6 arg8 arg10 arg12 arg13 v41 v66 X2 X3 X4 X5 X6 X10
    (arg8.view.writes (Elt F) f8 L.l8) (arg12.view.writes (Elt F) f12 L.l12) (arg13.view.writes (Elt F) f13 L.l13)
    H hn s m :: L.l8
  l9 := p9 i arg2 arg3 arg4 arg5 arg6 arg9 arg11 arg12 v41 v66 X2 X3 X4 X5 X6 X11 (arg9.view.writes (Elt F) f9 L.l9)
    (arg12.view.writes (Elt F) f12 L.l12) H hn s m :: L.l9
  l12 := p12 i arg2 arg3 arg4 arg5 arg6 arg12 v41 v66 X2 X3 X4 X5 X6 (arg12.view.writes (Elt F) f12 L.l12) H hn s m ::
    L.l12
  l13 := p13 i arg2 arg3 arg4 arg5 arg6 arg12 arg13 v41 v66 X2 X3 X4 X5 X6 (arg12.view.writes (Elt F) f12 L.l12)
    (arg13.view.writes (Elt F) f13 L.l13) H hn s m :: L.l13

end Defs

namespace Head

variable (h : Head) {C r : ℕ}

theorem L_zero {c : ℕ} (hr : r ≤ c) : h.L r c = 0 := if_neg (by omega)
theorem A_zero {c : ℕ} (hr : r ≤ c) : h.A r c = 0 := if_neg (by omega)
theorem G_zero {c : ℕ} (hr : r ≤ c) : h.G r c = 0 := by rw [G, h.A_zero hr, zero_mul]
theorem DZ_zero {c : ℕ} (hr : r ≤ c) : h.DZ r c = 0 := if_neg (by omega)

theorem sum_past {f : ℕ → ℝ} {C k : ℕ} (hf : ∀ c, C ≤ c → f c = 0) :
    ∑ c ∈ Finset.range (C + k), f c = ∑ c ∈ Finset.range C, f c := by
  rw [Finset.sum_range_add, Finset.sum_eq_zero (s := Finset.range k) fun x _ => hf _ (Nat.le_add_right _ _), add_zero]

theorem PL_past (hr : r ≤ C) (k : ℕ) : h.PL r (C + k) = h.PL r C := sum_past fun _ hc => h.L_zero (hr.trans hc)
theorem PG_past (hr : r ≤ C) (k : ℕ) : h.PG r (C + k) = h.PG r C := sum_past fun _ hc => h.G_zero (hr.trans hc)
theorem DQ_past (hr : r ≤ C) (k e : ℕ) : h.DQ (C + k) r e = h.DQ C r e :=
  sum_past fun c hc => by rw [h.DZ_zero (hr.trans hc), zero_mul]

/-- The rows before `ρ` add nothing. -/
theorem sum_rows {f : ℕ → ℝ} {n ρ m : ℕ} (hn : ρ + n = m) (hf : ∀ r < ρ, f r = 0) :
    ∑ r ∈ Finset.range n, f (ρ + r) = ∑ r ∈ Finset.range m, f r := by
  rw [← hn, Finset.sum_range_add, Finset.sum_eq_zero (s := Finset.range ρ) fun x hx => hf x (Finset.mem_range.1 hx),
    zero_add]

end Head

section Step

variable {i : grid0.Coords} {arg2 : Memref sig .tc .vmem S1024x128 .bf16} {arg3 arg4 : Memref sig .tc .vmem S4096x128 .bf16}
  {arg5 : Memref sig .tc .vmem S1024x128 .bf16} {arg6 arg7 : Memref sig .tc .vmem S1024x128 .f32}
  {arg8 arg9 : Memref sig .tc .vmem S1x16x128x256 .f32} {arg10 arg11 : Memref sig .tc .vmem S128x1024 .bf16}
  {arg12 arg13 : Memref sig .tc .vmem S1024x128 .f32} {v41 v66 : FVec Ideal S256x256 .bf16}
  {X2 : arg2.view.ty.Contents (Elt Ideal)} {X3 : arg3.view.ty.Contents (Elt Ideal)}
  {X4 : arg4.view.ty.Contents (Elt Ideal)} {X5 : arg5.view.ty.Contents (Elt Ideal)}
  {X6 : arg6.view.ty.Contents (Elt Ideal)} {X10 : arg10.view.ty.Contents (Elt Ideal)}
  {X11 : arg11.view.ty.Contents (Elt Ideal)} {f7 : arg7.view.ty.Contents (Elt Ideal)}
  {f8 : arg8.view.ty.Contents (Elt Ideal)} {f9 : arg9.view.ty.Contents (Elt Ideal)}
  {f12 : arg12.view.ty.Contents (Elt Ideal)} {f13 : arg13.view.ty.Contents (Elt Ideal)} {h : Head}
  {n ρ : ℕ} (H : TileFacts n) (hn : ρ + n = 1024) (s : Fin 4) {m : IVec (Mat n 256) 1}
  (B : In h (i 1).val (arg2.view.read (Elt Ideal) X2) (arg5.view.read (Elt Ideal) X5) (arg3.view.read (Elt Ideal) X3)
    (arg4.view.read (Elt Ideal) X4) (arg6.view.read (Elt Ideal) X6) (arg10.view.read (Elt Ideal) X10)
    (arg11.view.read (Elt Ideal) X11) v41 v66)
  (hρ : ρ = 256 * s.val) (hm : ∀ j, m j = if (j 1).val < (j 0).val then 1#1 else 0#1)

include B hρ hm

theorem dtileIn {e b : FVec Ideal (Mat n 128) .f32}
    (he : Rl e fun r _ => h.PL (1024 * (i 1).val + ρ + r) (256 * (4 * (i 1).val + s.val)))
    (hb : Rl b fun r _ => h.PG (1024 * (i 1).val + ρ + r) (256 * (4 * (i 1).val + s.val))) :
    TileIn h (1024 * (i 1).val + ρ) (256 * (4 * (i 1).val + s.val))
      (dops i arg2 arg3 arg4 arg5 arg6 v41 v66 X2 X3 X4 X5 X6 hn s m).m
      (dops i arg2 arg3 arg4 arg5 arg6 v41 v66 X2 X3 X4 X5 X6 hn s m).q
      (dops i arg2 arg3 arg4 arg5 arg6 v41 v66 X2 X3 X4 X5 X6 hn s m).d
      ((dops i arg2 arg3 arg4 arg5 arg6 v41 v66 X2 X3 X4 X5 X6 hn s m).k 0)
      ((dops i arg2 arg3 arg4 arg5 arg6 v41 v66 X2 X3 X4 X5 X6 hn s m).v 0)
      (dops i arg2 arg3 arg4 arg5 arg6 v41 v66 X2 X3 X4 X5 X6 hn s m).lt e b v41 v66 where
  hq := (load_rows (n := n) (m := 128) arg2.view X2 id ρ 0 rfl _ B.q).congr fun r _ c _ => by
    rw [Nat.zero_add, Nat.add_assoc]
  hd := (load_rows (n := n) (m := 128) arg5.view X5 id ρ 0 rfl _ B.d).congr fun r _ c _ => by
    rw [Nat.zero_add, Nat.add_assoc]
  hk := (load_rows (n := 256) (m := 128) arg3.view X3 id _ 0 (k0_off5_eq i s) _ B.k).congr fun r _ c _ => by
    rw [Nat.zero_add]; exact congrArg (h.K · c) (by omega)
  hv := (load_rows (n := 256) (m := 128) arg4.view X4 id _ 0 (k0_off5_eq i s) _ B.v).congr fun r _ c _ => by
    rw [Nat.zero_add]; exact congrArg (h.V · c) (by omega)
  hlt := (load_rows (n := n) (m := 128) arg6.view X6 id ρ 0 rfl _ B.lt).congr fun r _ c _ => by rw [Nat.add_assoc]
  he := he
  hb := hb
  hu := B.u
  hw := B.w
  hmk := fun x f hx => (Rl.select (P := fun r c => c < r) hx Rl.zero hm).congr fun r _ c _ =>
    if_congr (by omega) rfl rfl

/-- A masked tile leaves what holds after one more tile. -/
theorem dstep_St {L : Lst Ideal}
    (S : St h (i 1).val (4 * (i 1).val + s.val) (arg7.view.read (Elt Ideal) (arg7.view.writes (Elt Ideal) f7 L.l7))
      (arg8.view.read (Elt Ideal) (arg8.view.writes (Elt Ideal) f8 L.l8))
      (arg9.view.read (Elt Ideal) (arg9.view.writes (Elt Ideal) f9 L.l9))
      (arg12.view.read (Elt Ideal) (arg12.view.writes (Elt Ideal) f12 L.l12))
      (arg13.view.read (Elt Ideal) (arg13.view.writes (Elt Ideal) f13 L.l13)))
    {L' : Lst Ideal} (hL : L' = dstep i arg2 arg3 arg4 arg5 arg6 arg7 arg8 arg9 arg10 arg11 arg12 arg13 v41 v66 X2 X3 X4
      X5 X6 X10 X11 f7 f8 f9 f12 f13 H hn s m L) :
    St h (i 1).val (4 * (i 1).val + (s.val + 1)) (arg7.view.read (Elt Ideal) (arg7.view.writes (Elt Ideal) f7 L'.l7))
      (arg8.view.read (Elt Ideal) (arg8.view.writes (Elt Ideal) f8 L'.l8))
      (arg9.view.read (Elt Ideal) (arg9.view.writes (Elt Ideal) f9 L'.l9))
      (arg12.view.read (Elt Ideal) (arg12.view.writes (Elt Ideal) f12 L'.l12))
      (arg13.view.read (Elt Ideal) (arg13.view.writes (Elt Ideal) f13 L'.l13)) := by
  subst hL
  have he : Rl (ldr hn arg12 (arg12.view.writes (Elt Ideal) f12 L.l12)) fun r _ =>
      h.PL (1024 * (i 1).val + ρ + r) (256 * (4 * (i 1).val + s.val)) :=
    (load_rows (n := n) (m := 128) arg12.view (arg12.view.writes (Elt Ideal) f12 L.l12) id ρ 0 rfl _ S.pl).congr fun r _ c _ => by rw [Nat.add_assoc]
  have hb : Rl (ldr hn arg13 (arg13.view.writes (Elt Ideal) f13 L.l13)) fun r _ =>
      h.PG (1024 * (i 1).val + ρ + r) (256 * (4 * (i 1).val + s.val)) :=
    (load_rows (n := n) (m := 128) arg13.view (arg13.view.writes (Elt Ideal) f13 L.l13) id ρ 0 rfl _ S.pg).congr fun r _ c _ => by rw [Nat.add_assoc]
  have hq : Rl (ldr hn arg7 (arg7.view.writes (Elt Ideal) f7 L.l7)) fun r e =>
      h.DQ (256 * (4 * (i 1).val + s.val)) (1024 * (i 1).val + ρ + r) e :=
    (load_rows (n := n) (m := 128) arg7.view (arg7.view.writes (Elt Ideal) f7 L.l7) id ρ 0 rfl _ S.dq).congr fun r _ c _ => by
      rw [Nat.zero_add, Nat.add_assoc]
  have T := dtileIn hn s B hρ hm he hb
  have hJ : 256 * (4 * (i 1).val + (s.val + 1)) = 256 * (4 * (i 1).val + s.val) + 256 := by omega
  have hqt : Rl (ldc hn arg10 X10) fun e r => h.Q (1024 * (i 1).val + ρ + r) e :=
    (load_rows (n := 128) (m := n) arg10.view X10 id 0 ρ rfl _ B.qt).congr fun r _ c _ => by
      rw [Nat.zero_add, Nat.add_assoc]
  have hdt : Rl (ldc hn arg11 X11) fun e r => h.D (1024 * (i 1).val + ρ + r) e :=
    (load_rows (n := 128) (m := n) arg11.view X11 id 0 ρ rfl _ B.dt).congr fun r _ c _ => by
      rw [Nat.zero_add, Nat.add_assoc]
  refine ⟨?_, ?_, ?_, ?_, ?_⟩
  · refine store_rows arg7.view f7 id ρ rfl (by omega) _ _ L.l7 ((T.dq H hq).congr fun r _ e _ => ?_) fun y hy => ?_
    · rw [hJ, Nat.add_assoc]
    · refine (S.dq y).trans (congrArg Real.toEReal ?_)
      rw [hJ]
      exact (h.DQ_past (by omega) _ _).symm
  · refine store_part arg8.view (k0_off6_eq i s)
      ((T.dk H hqt (load_part arg8.view (k0_off6_eq i s) S.dk le_rfl)).congr fun e _ c _ => ?_) S.dk
    refine congrArg (_ + ·) ?_
    refine (Finset.sum_congr rfl fun r _ => by rw [Nat.add_assoc]).trans
      (Head.sum_rows (f := fun r => h.Q (1024 * (i 1).val + r) e * h.DZ (1024 * (i 1).val + r)
        (256 * (4 * (i 1).val + s.val) + c)) hn fun r hr => ?_)
    rw [h.DZ_zero (by omega), mul_zero]
  · refine store_part arg9.view (k0_off6_eq i s)
      ((T.dv H hdt (load_part arg9.view (k0_off6_eq i s) S.dv le_rfl)).congr fun e _ c _ => ?_) S.dv
    refine congrArg (_ + ·) ?_
    refine (Finset.sum_congr rfl fun r _ => by rw [Nat.add_assoc]).trans
      (Head.sum_rows (f := fun r => h.D (1024 * (i 1).val + r) e * h.A (1024 * (i 1).val + r)
        (256 * (4 * (i 1).val + s.val) + c)) hn fun r hr => ?_)
    rw [h.A_zero (by omega), mul_zero]
  · refine store_rows arg12.view f12 id ρ rfl (by omega) _ _ L.l12 ((T.finL H).congr fun r _ e _ => ?_) fun y hy => ?_
    · rw [hJ, Nat.add_assoc]
    · refine (S.pl y).trans (congrArg Real.toEReal ?_)
      rw [hJ]
      exact (h.PL_past (by omega) _).symm
  · refine store_rows arg13.view f13 id ρ rfl (by omega) _ _ L.l13 ((T.finG H).congr fun r _ e _ => ?_) fun y hy => ?_
    · rw [hJ, Nat.add_assoc]
    · refine (S.pg y).trans (congrArg Real.toEReal ?_)
      rw [hJ]
      exact (h.PG_past (by omega) _).symm

end Step

end Cert.Proof

end
-- ==== Proof.Entry.lean ====
/- The loops before the diagonal over all their trips: the first runs over the blocks before this one, the second has no
   trip. -/
module

public import proofs.«01_k».proof.Proof.Diag

@[expose] public section

set_option maxRecDepth 16384

noncomputable section

namespace Cert.Proof

open Idealize.ShloMosaic Idealize.ShloMosaic.ValueIdx
open Cert.KernelIdeal Cert.KernelIdeal.Gen
open scoped BigOperators

/-- One list before another, which may be missing. -/
def app {α : Type} (L : List α) : List α → List α
  | [] => L
  | p :: P => L ++ (p :: P)

theorem app_eq {α : Type} (L P : List α) : app L P = L ++ P := by
  cases P
  · exact (List.append_nil L).symm
  · rfl

theorem trips_t2 (i : grid0.Coords) : Scf.trips (k0_t2_loop i).lb (k0_t2_loop i).ub (k0_t2_loop i).st = 0 := by
  have : ∀ a : Fin 4, Scf.trips (w := 32) (Scalar.addi 0#32 (Scalar.muli (Scalar.divsi
      (Scalar.subi (BitVec.ofNat 32 a.val) 0#32) 1#32) 1#32)) (Scalar.addi 0#32
      (Scalar.subi (BitVec.ofNat 32 a.val) 0#32)) 1#32 = 0 := by decide +kernel
  exact this (i 1)

section Defs

variable {F : FTy → Type} [FloatOps F] (c : Dev nD) (i : grid0.Coords) (arg2 : Memref sig .tc .vmem S1024x128 .bf16)
  (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1024x128 .bf16)
  (harg5 : arg5.IsWhole) (arg6 : Memref sig .tc .vmem S1024x128 .f32) (harg6 : arg6.IsWhole)
  (arg7 : Memref sig .tc .vmem S1024x128 .f32) (harg7 : arg7.IsWhole)
  (arg8 : Memref sig .tc .vmem S1x16x128x256 .f32) (harg8 : arg8.IsWhole)
  (arg9 : Memref sig .tc .vmem S1x16x128x256 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S1024x128 .f32) (harg12 : arg12.IsWhole)
  (arg13 : Memref sig .tc .vmem S1024x128 .f32) (harg13 : arg13.IsWhole) (v41 v66 : FVec F S256x256 .bf16)
  (v81 : BitVec 32)
  (X2 : arg2.view.ty.Contents (Elt F)) (X3 : arg3.view.ty.Contents (Elt F)) (X4 : arg4.view.ty.Contents (Elt F))
  (X5 : arg5.view.ty.Contents (Elt F)) (X6 : arg6.view.ty.Contents (Elt F)) (X10 : arg10.view.ty.Contents (Elt F))
  (X11 : arg11.view.ty.Contents (Elt F)) (f7 : arg7.view.ty.Contents (Elt F))
  (f8 : arg8.view.ty.Contents (Elt F)) (f9 : arg9.view.ty.Contents (Elt F))
  (f12 : arg12.view.ty.Contents (Elt F)) (f13 : arg13.view.ty.Contents (Elt F)) (P : Lst F)

/-- What the first loop stores in its first trips. -/
abbrev lp1 (n : ℕ) := st_k0_t1 (F := F) Variants.none c none i arg2 harg2 arg3 harg3 arg4 harg4 arg5 harg5 arg6 harg6 arg7
  harg7 arg8 harg8 arg9 harg9 arg10 harg10 arg11 harg11 arg12 harg12 arg13 harg13 (BitVec.ofNat 32 (i 1).val) v41 v66
  0#32 0#32 X2 X3 X4 X5 X6 X10 X11 (arg7.view.writes (Elt F) f7 P.l7) (arg8.view.writes (Elt F) f8 P.l8)
  (arg9.view.writes (Elt F) f9 P.l9) (arg12.view.writes (Elt F) f12 P.l12) (arg13.view.writes (Elt F) f13 P.l13) 0#32 n

/-- All of it, after the stores of `P`. -/
abbrev lst1 : Lst F :=
  let T := lp1 c i arg2 harg2 arg3 harg3 arg4 harg4 arg5 harg5 arg6 harg6 arg7 harg7 arg8 harg8 arg9 harg9 arg10 harg10
    arg11 harg11 arg12 harg12 arg13 harg13 v41 v66 X2 X3 X4 X5 X6 X10 X11 f7 f8 f9 f12 f13 P
    (Scf.trips (k0_t1_loop i).lb (k0_t1_loop i).ub (k0_t1_loop i).st)
  ⟨app T.2.1 P.l7, app T.2.2.1 P.l8, app T.2.2.2.1 P.l9, app T.2.2.2.2.1 P.l12, app T.2.2.2.2.2 P.l13⟩

/-- What the second loop stores. -/
abbrev lp2 (L : Lst F) (acc : BitVec 32) := st_k0_t2 (F := F) Variants.none c none i arg2 harg2 arg3 harg3 arg4 harg4 arg5
  harg5 arg6 harg6 arg7 harg7 arg8 harg8 arg9 harg9 arg10 harg10 arg11 harg11 arg12 harg12 arg13 harg13
  (BitVec.ofNat 32 (i 1).val) v41 v66 0#32 0#32 v81 X2 X3 X4 X5 X6 X10 X11 (arg7.view.writes (Elt F) f7 L.l7)
  (arg8.view.writes (Elt F) f8 L.l8) (arg9.view.writes (Elt F) f9 L.l9) (arg12.view.writes (Elt F) f12 L.l12)
  (arg13.view.writes (Elt F) f13 L.l13) acc (Scf.trips (k0_t2_loop i).lb (k0_t2_loop i).ub (k0_t2_loop i).st)

/-- The stores of both loops, after those of `P`. -/
abbrev lst2 : Lst F :=
  let L := lst1 c i arg2 harg2 arg3 harg3 arg4 harg4 arg5 harg5 arg6 harg6 arg7 harg7 arg8 harg8 arg9 harg9 arg10 harg10
    arg11 harg11 arg12 harg12 arg13 harg13 v41 v66 X2 X3 X4 X5 X6 X10 X11 f7 f8 f9 f12 f13 P
  let T := lp2 c i arg2 harg2 arg3 harg3 arg4 harg4 arg5 harg5 arg6 harg6 arg7 harg7 arg8 harg8 arg9 harg9 arg10 harg10
    arg11 harg11 arg12 harg12 arg13 harg13 v41 v66 v81 X2 X3 X4 X5 X6 X10 X11 f7 f8 f9 f12 f13 L
    (lp1 c i arg2 harg2 arg3 harg3 arg4 harg4 arg5 harg5 arg6 harg6 arg7 harg7 arg8 harg8 arg9 harg9 arg10 harg10
      arg11 harg11 arg12 harg12 arg13 harg13 v41 v66 X2 X3 X4 X5 X6 X10 X11 f7 f8 f9 f12 f13 P
      (Scf.trips (k0_t1_loop i).lb (k0_t1_loop i).ub (k0_t1_loop i).st)).1
  ⟨T.2.1 ++ L.l7, T.2.2.1 ++ L.l8, T.2.2.2.1 ++ L.l9, T.2.2.2.2.1 ++ L.l12, T.2.2.2.2.2 ++ L.l13⟩

/-- The second loop stores nothing. -/
theorem lst2_eq :
    lst2 c i arg2 harg2 arg3 harg3 arg4 harg4 arg5 harg5 arg6 harg6 arg7 harg7 arg8 harg8 arg9 harg9 arg10 harg10
      arg11 harg11 arg12 harg12 arg13 harg13 v41 v66 v81 X2 X3 X4 X5 X6 X10 X11 f7 f8 f9 f12 f13 P =
    lst1 c i arg2 harg2 arg3 harg3 arg4 harg4 arg5 harg5 arg6 harg6 arg7 harg7 arg8 harg8 arg9 harg9 arg10 harg10
      arg11 harg11 arg12 harg12 arg13 harg13 v41 v66 X2 X3 X4 X5 X6 X10 X11 f7 f8 f9 f12 f13 P := by
  have e : ∀ L acc, lp2 c i arg2 harg2 arg3 harg3 arg4 harg4 arg5 harg5 arg6 harg6 arg7 harg7 arg8 harg8 arg9 harg9 arg10
      harg10 arg11 harg11 arg12 harg12 arg13 harg13 v41 v66 v81 X2 X3 X4 X5 X6 X10 X11 f7 f8 f9 f12 f13 L acc =
      (acc, [], [], [], [], []) := fun L acc => by
    unfold lp2
    rw [trips_t2, st_k0_t2.eq_1]
  unfold lst2
  simp only [e]
  rfl

end Defs

section

variable {c : Dev nD} {i : grid0.Coords} {arg2 : Memref sig .tc .vmem S1024x128 .bf16}
  {harg2 : arg2.IsWhole} {arg3 : Memref sig .tc .vmem S4096x128 .bf16} {harg3 : arg3.IsWhole}
  {arg4 : Memref sig .tc .vmem S4096x128 .bf16} {harg4 : arg4.IsWhole} {arg5 : Memref sig .tc .vmem S1024x128 .bf16}
  {harg5 : arg5.IsWhole} {arg6 : Memref sig .tc .vmem S1024x128 .f32} {harg6 : arg6.IsWhole}
  {arg7 : Memref sig .tc .vmem S1024x128 .f32} {harg7 : arg7.IsWhole}
  {arg8 : Memref sig .tc .vmem S1x16x128x256 .f32} {harg8 : arg8.IsWhole}
  {arg9 : Memref sig .tc .vmem S1x16x128x256 .f32} {harg9 : arg9.IsWhole}
  {arg10 : Memref sig .tc .vmem S128x1024 .bf16} {harg10 : arg10.IsWhole}
  {arg11 : Memref sig .tc .vmem S128x1024 .bf16} {harg11 : arg11.IsWhole}
  {arg12 : Memref sig .tc .vmem S1024x128 .f32} {harg12 : arg12.IsWhole}
  {arg13 : Memref sig .tc .vmem S1024x128 .f32} {harg13 : arg13.IsWhole} {v41 v66 : FVec Ideal S256x256 .bf16}
  {v81 : BitVec 32} {X2 : arg2.view.ty.Contents (Elt Ideal)} {X3 : arg3.view.ty.Contents (Elt Ideal)}
  {X4 : arg4.view.ty.Contents (Elt Ideal)} {X5 : arg5.view.ty.Contents (Elt Ideal)}
  {X6 : arg6.view.ty.Contents (Elt Ideal)} {X10 : arg10.view.ty.Contents (Elt Ideal)}
  {X11 : arg11.view.ty.Contents (Elt Ideal)} {f7 : arg7.view.ty.Contents (Elt Ideal)}
  {f8 : arg8.view.ty.Contents (Elt Ideal)} {f9 : arg9.view.ty.Contents (Elt Ideal)}
  {f12 : arg12.view.ty.Contents (Elt Ideal)} {f13 : arg13.view.ty.Contents (Elt Ideal)} {h : Head} {P : Lst Ideal}
  (B : In h (i 1).val (arg2.view.read (Elt Ideal) X2) (arg5.view.read (Elt Ideal) X5) (arg3.view.read (Elt Ideal) X3)
    (arg4.view.read (Elt Ideal) X4) (arg6.view.read (Elt Ideal) X6) (arg10.view.read (Elt Ideal) X10)
    (arg11.view.read (Elt Ideal) X11) v41 v66)
  (S : St h (i 1).val 0 (arg7.view.read (Elt Ideal) (arg7.view.writes (Elt Ideal) f7 P.l7))
    (arg8.view.read (Elt Ideal) (arg8.view.writes (Elt Ideal) f8 P.l8))
    (arg9.view.read (Elt Ideal) (arg9.view.writes (Elt Ideal) f9 P.l9))
    (arg12.view.read (Elt Ideal) (arg12.view.writes (Elt Ideal) f12 P.l12))
    (arg13.view.read (Elt Ideal) (arg13.view.writes (Elt Ideal) f13 P.l13)))

include B S

/-- What holds before a trip of the first loop. -/
theorem lp1_St (n : ℕ) (hn : n ≤ (i 1).val) {J : ℕ} (hJ : J = 4 * n) {T : _}
    (hT : T = lp1 c i arg2 harg2 arg3 harg3 arg4 harg4 arg5 harg5 arg6 harg6 arg7 harg7 arg8 harg8 arg9 harg9 arg10 harg10
      arg11 harg11 arg12 harg12 arg13 harg13 v41 v66 X2 X3 X4 X5 X6 X10 X11 f7 f8 f9 f12 f13 P n) :
    St h (i 1).val J
      (arg7.view.read (Elt Ideal) (arg7.view.writes (Elt Ideal) (arg7.view.writes (Elt Ideal) f7 P.l7) T.2.1))
      (arg8.view.read (Elt Ideal) (arg8.view.writes (Elt Ideal) (arg8.view.writes (Elt Ideal) f8 P.l8) T.2.2.1))
      (arg9.view.read (Elt Ideal) (arg9.view.writes (Elt Ideal) (arg9.view.writes (Elt Ideal) f9 P.l9) T.2.2.2.1))
      (arg12.view.read (Elt Ideal) (arg12.view.writes (Elt Ideal) (arg12.view.writes (Elt Ideal) f12 P.l12) T.2.2.2.2.1))
      (arg13.view.read (Elt Ideal) (arg13.view.writes (Elt Ideal) (arg13.view.writes (Elt Ideal) f13 P.l13) T.2.2.2.2.2)) := by
  subst hJ
  induction n generalizing T with
  | zero =>
    subst hT
    exact S
  | succ n ih =>
    have hk : n < (k0_t1_loop i).trips := by rw [trips_t1]; omega
    have R := ih (by omega) rfl
    subst hT
    rw [lp1, st_k0_t1_succ Variants.none c none i arg2 harg2 arg3 harg3 arg4 harg4 arg5 harg5 arg6 harg6 arg7 harg7 arg8
      harg8 arg9 harg9 arg10 harg10 arg11 harg11 arg12 harg12 arg13 harg13 _ _ _ _ _ _ _ _ _ _ _ _ _ _ _ _ _ _ ⟨n, hk⟩]
    simp only [View.writes_append]
    exact trip_St (k := ⟨n, hk⟩) B R Variants.none c none harg2 harg3 harg4 harg5 harg6 harg7 harg8 harg9 harg10 harg11
      harg12 harg13 _ _ _ _

/-- What holds after both loops. -/
theorem lst2_St {L : Lst Ideal}
    (hL : L = lst2 c i arg2 harg2 arg3 harg3 arg4 harg4 arg5 harg5 arg6 harg6 arg7 harg7 arg8 harg8 arg9 harg9 arg10 harg10
      arg11 harg11 arg12 harg12 arg13 harg13 v41 v66 v81 X2 X3 X4 X5 X6 X10 X11 f7 f8 f9 f12 f13 P) :
    St h (i 1).val (4 * (i 1).val) (arg7.view.read (Elt Ideal) (arg7.view.writes (Elt Ideal) f7 L.l7))
      (arg8.view.read (Elt Ideal) (arg8.view.writes (Elt Ideal) f8 L.l8))
      (arg9.view.read (Elt Ideal) (arg9.view.writes (Elt Ideal) f9 L.l9))
      (arg12.view.read (Elt Ideal) (arg12.view.writes (Elt Ideal) f12 L.l12))
      (arg13.view.read (Elt Ideal) (arg13.view.writes (Elt Ideal) f13 L.l13)) := by
  rw [hL, lst2_eq]
  unfold lst1
  simp only [app_eq, View.writes_append]
  exact lp1_St B S _ (trips_t1 i).le (congrArg (4 * ·) (trips_t1 i).symm) rfl

end

end Cert.Proof

end
-- ==== Proof.Start.lean ====
/- What a block of queries starts from: the masks, the matrices of ones, the transposed queries and output gradients, and
   the cleared sums. -/
module

public import proofs.«01_k».proof.Proof.Entry

@[expose] public section

set_option maxRecDepth 16384

noncomputable section

namespace Cert.Proof

open Idealize.ShloMosaic Idealize.ShloMosaic.ValueIdx
open Cert.KernelIdeal Cert.KernelIdeal.Gen
open scoped BigOperators

/-! ### Small words as numbers -/

theorem toInt_small {a : ℕ} (ha : a < 4096) : (BitVec.ofNat 32 a).toInt = a := by
  rw [BitVec.toInt_ofNat']
  show Int.bmod (a : ℤ) 4294967296 = a
  exact Int.bmod_eq_of_le (by omega) (by omega)

theorem slt_small {a b : ℕ} (ha : a < 4096) (hb : b < 4096) :
    IntOp.cmpi .slt (BitVec.ofNat 32 a) (BitVec.ofNat 32 b) = if a < b then 1#1 else 0#1 := by
  show BitVec.ofBool (decide ((BitVec.ofNat 32 a).toInt < (BitVec.ofNat 32 b).toInt)) = _
  rw [toInt_small ha, toInt_small hb]
  by_cases h : a < b
  · rw [if_pos h, decide_eq_true (by omega)]; rfl
  · rw [if_neg h, decide_eq_false (by omega)]; rfl

theorem sle_small {a b : ℕ} (ha : a < 4096) (hb : b < 4096) :
    IntOp.cmpi .sle (BitVec.ofNat 32 a) (BitVec.ofNat 32 b) = if a ≤ b then 1#1 else 0#1 := by
  show BitVec.ofBool (decide ((BitVec.ofNat 32 a).toInt ≤ (BitVec.ofNat 32 b).toInt)) = _
  rw [toInt_small ha, toInt_small hb]
  by_cases h : a ≤ b
  · rw [if_pos h, decide_eq_true (by omega)]; rfl
  · rw [if_neg h, decide_eq_false (by omega)]; rfl

theorem sge_small {a b : ℕ} (ha : a < 4096) (hb : b < 4096) :
    IntOp.cmpi .sge (BitVec.ofNat 32 a) (BitVec.ofNat 32 b) = if b ≤ a then 1#1 else 0#1 :=
  sle_small hb ha

theorem iota_row {n m : ℕ} (h : (Mat n m).Iotas .tc 32 [0]) (y : (Mat n m).Idx) :
    iota .tc (Mat n m) 32 [0] h y = BitVec.ofNat 32 (y 0).val := by
  show BitVec.ofNat 32 (0 * _ + (y 0).val) = _
  rw [Nat.zero_mul, Nat.zero_add]

theorem iota_col {n m : ℕ} (h : (Mat n m).Iotas .tc 32 [1]) (y : (Mat n m).Idx) :
    iota .tc (Mat n m) 32 [1] h y = BitVec.ofNat 32 (y 1).val := by
  show BitVec.ofNat 32 (0 * _ + (y 1).val) = _
  rw [Nat.zero_mul, Nat.zero_add]

/-- The mask of the keys before each query. -/
theorem mask_before {n : ℕ} (hn : n ≤ 1024) (h0 : (Mat n 256).Iotas .tc 32 [0]) (h1 : (Mat n 256).Iotas .tc 32 [1])
    (y : (Mat n 256).Idx) :
    cmpi .slt (iota .tc (Mat n 256) 32 [1] h1) (iota .tc (Mat n 256) 32 [0] h0) y =
      if (y 1).val < (y 0).val then 1#1 else 0#1 := by
  have l0 := idx2_lt0 y
  have l1 := idx2_lt1 y
  refine Eq.trans (congrArg₂ (IntOp.cmpi .slt) (iota_col h1 y) (iota_row h0 y)) ?_
  exact slt_small (by omega) (by omega)

theorem mask175 (y : (Mat 1024 256).Idx) : k0_pay175 y = if (y 1).val < (y 0).val then 1#1 else 0#1 :=
  mask_before (by omega) _ _ y
theorem mask199 (y : (Mat 768 256).Idx) : k0_pay199 y = if (y 1).val < (y 0).val then 1#1 else 0#1 :=
  mask_before (by omega) _ _ y
theorem mask224 (y : (Mat 512 256).Idx) : k0_pay224 y = if (y 1).val < (y 0).val then 1#1 else 0#1 :=
  mask_before (by omega) _ _ y
theorem mask246 (y : (Mat 256 256).Idx) : k0_pay246 y = if (y 1).val < (y 0).val then 1#1 else 0#1 :=
  mask_before (by omega) _ _ y

/-! ### The matrices of ones -/

/-- A bit as a real. -/
theorem bit_real {P : Prop} [Decidable P] {b : BitVec 1} (h : b = if P then 1#1 else 0#1) :
    (FloatOps.sitofp (F := Ideal) .f32 (b.setWidth 32) : EReal) = (((if P then 1 else 0 : ℝ)) : EReal) := by
  subst h
  show (((BitVec.setWidth 32 (if P then 1#1 else 0#1)).toInt : ℝ) : EReal) = _
  by_cases hP : P
  · rw [if_pos hP, if_pos hP, show (BitVec.setWidth 32 1#1).toInt = 1 by decide]; norm_num
  · rw [if_neg hP, if_neg hP, show (BitVec.setWidth 32 0#1).toInt = 0 by decide]; norm_num

/-- The remainder by 128, as the kernel computes it of a row number. -/
def rem128 (x : BitVec 32) : BitVec 32 :=
  let r := IntOp.remsi .vector x (Scalar.select (Scalar.cmpi .eq 128#32 0#32) 1#32 128#32)
  let s := Scalar.select (Scalar.cmpi .eq 128#32 0#32) 1#32 128#32
  if (IntOp.cmpi .slt r 0#32 ^^^ Scalar.cmpi .slt s 0#32) &&& IntOp.cmpi .ne r 0#32 = 1#1 then r + s else r

theorem rem128_eq (a : ℕ) (ha : a < 256) : rem128 (BitVec.ofNat 32 a) = BitVec.ofNat 32 (a % 128) := by
  have : ∀ a : Fin 256, rem128 (BitVec.ofNat 32 a.val) = BitVec.ofNat 32 (a.val % 128) := by decide +kernel
  exact this ⟨a, ha⟩

theorem bit_or {P Q : Prop} [Decidable P] [Decidable Q] :
    (if P then 1#1 else 0#1) ||| (if Q then 1#1 else 0#1) = if P ∨ Q then 1#1 else 0#1 := by
  by_cases hP : P <;> by_cases hQ : Q <;> simp [hP, hQ]

theorem rl_upto : Rl (k0_pay162 (F := Ideal) k0_pay160 k0_pay161) (ones 1) := fun y => by
  have l0 : (y 0).val < 256 := idx2_lt0 y
  have l1 : (y 1).val < 256 := idx2_lt1 y
  refine bit_real (P := 128 ≤ (y 1).val ∨ (y 0).val % 128 < (y 1).val + 1) ?_
  have e1 : k0_pay160 y = if 128 ≤ (y 1).val then 1#1 else 0#1 := by
    refine Eq.trans ?_ (sge_small (a := (y 1).val) (b := 128) (by omega) (by omega))
    exact congrArg (IntOp.cmpi .sge · 128#32) (iota_col _ y)
  have e2 : k0_pay161 y = if (y 0).val % 128 < (y 1).val + 1 then 1#1 else 0#1 := by
    have e : k0_pay161 y = IntOp.cmpi .sle (rem128 (iota .tc (Mat 256 256) 32 [0] iota_S256x256_d0_w32 y))
      (iota .tc (Mat 256 256) 32 [1] iota_S256x256_d1_w32 y) := rfl
    rw [e, iota_row, iota_col, rem128_eq _ l0, sle_small (by omega) (by omega)]
    exact if_congr (by omega) rfl rfl
  show k0_pay160 y ||| k0_pay161 y = _
  rw [e1, e2, bit_or]

theorem rl_before : Rl (k0_pay163 (F := Ideal)) (ones 0) := fun y => by
  have l0 : (y 0).val < 256 := idx2_lt0 y
  have l1 : (y 1).val < 256 := idx2_lt1 y
  refine bit_real (P := 128 ≤ (y 1).val ∨ (y 0).val % 128 < (y 1).val + 0) ?_
  show IntOp.cmpi .sge (iota .tc (Mat 256 256) 32 [1] iota_S256x256_d1_w32 y) 128#32 |||
    IntOp.cmpi .slt (rem128 (iota .tc (Mat 256 256) 32 [0] iota_S256x256_d0_w32 y))
      (iota .tc (Mat 256 256) 32 [1] iota_S256x256_d1_w32 y) = _
  rw [iota_row, iota_col, rem128_eq _ l0, slt_small (by omega) (by omega), sge_small (b := 128) (by omega) (by omega), bit_or]
  rfl

/-! ### The transposed operands and the cleared sums -/

theorem rl_turn {x : FVec Ideal (Mat 1024 128) .bf16} {f : ℕ → ℕ → ℝ} (h : Rl x f) : Rl (k0_pay158 (F := Ideal) x) fun r c => f c r :=
  (((h.extf bitsLt_bf16_f32).transpose transposes_S1024x128_p1_0_S128x1024).truncf bitsLt_bf16_f32).shapeCast
    shapeCasts_S128x1024_S128x1024

theorem rl_turn' {x : FVec Ideal (Mat 1024 128) .bf16} {f : ℕ → ℕ → ℝ} (h : Rl x f) : Rl (k0_pay159 (F := Ideal) x) fun r c => f c r :=
  rl_turn h

theorem rl_zero164 : Rl (k0_pay164 (F := Ideal)) fun _ _ => 0 :=
  Rl.shapeCast (φ := .f32) shapeCasts_S1024x128_S1024x128 Rl.zero
theorem rl_zero165 : Rl (k0_pay165 (F := Ideal)) fun _ _ => 0 :=
  Rl.shapeCast (φ := .f32) shapeCasts_S1024x128_S1024x128 Rl.zero
theorem rl_zero166 : Rl (k0_pay166 (F := Ideal)) fun _ _ => 0 := Rl.zero
theorem rl_zero156 : Rl4 (k0_pay156 (F := Ideal)) fun _ _ _ => 0 := fun _ => Ideal.ofBits_zero_f32
theorem rl_zero157 : Rl4 (k0_pay157 (F := Ideal)) fun _ _ _ => 0 := fun _ => Ideal.ofBits_zero_f32

section

variable {arg2 : Memref sig .tc .vmem S1024x128 .bf16} {harg2 : arg2.IsWhole}
  {arg3 : Memref sig .tc .vmem S4096x128 .bf16} {harg3 : arg3.IsWhole}
  {arg4 : Memref sig .tc .vmem S4096x128 .bf16} {harg4 : arg4.IsWhole} {arg5 : Memref sig .tc .vmem S1024x128 .bf16}
  {harg5 : arg5.IsWhole} {arg6 : Memref sig .tc .vmem S1024x128 .f32} {harg6 : arg6.IsWhole}
  {arg7 : Memref sig .tc .vmem S1024x128 .f32} {arg8 arg9 : Memref sig .tc .vmem S1x16x128x256 .f32}
  {arg10 : Memref sig .tc .vmem S128x1024 .bf16}
  {arg11 : Memref sig .tc .vmem S128x1024 .bf16}
  {arg12 : Memref sig .tc .vmem S1024x128 .f32}
  {arg13 : Memref sig .tc .vmem S1024x128 .f32}
  {x0 : FVec Ideal (Mat 1024 128) .bf16} {x1 x2 : FVec Ideal (Mat 4096 128) .bf16} {x3 : FVec Ideal (Mat 1024 128) .bf16}
  {x4 : FVec Ideal (Mat 1024 128) .f32} {h : Head} {i : ℕ}

/-- The whole of a matrix, as a rectangle of it. -/
abbrev all2 (n m : ℕ) : Rect (Mat n m) := Rect.unit (s := Mat n m) ![0, 0] (Mat n m).size fun a => by
  match a with
  | ⟨0, _⟩ => exact (Nat.zero_add _).le
  | ⟨1, _⟩ => exact (Nat.zero_add _).le

/-- What a block of queries is given, as its buffers hold it. -/
theorem block_In (hq : Rl x0 fun r e => h.Q (1024 * i + r) e) (hk : Rl x1 h.K) (hv : Rl x2 h.V)
    (hd : Rl x3 fun r e => h.D (1024 * i + r) e) (hlt : Rl x4 fun r _ => h.T (1024 * i + r))
    {g10 : arg10.view.ty.Contents (Elt Ideal)} {g11 : arg11.view.ty.Contents (Elt Ideal)} :
    In h i (arg2.view.read (Elt Ideal) (harg2.unread x0)) (arg5.view.read (Elt Ideal) (harg5.unread x3))
      (arg3.view.read (Elt Ideal) (harg3.unread x1)) (arg4.view.read (Elt Ideal) (harg4.unread x2))
      (arg6.view.read (Elt Ideal) (harg6.unread x4))
      (arg10.view.read (Elt Ideal) (arg10.view.writes (Elt Ideal) g10 [⟨all2 128 1024,
        k0_pay158 (F := Ideal) (arg2.view.readAt (Elt Ideal) (all2 1024 128).toLoadRect (harg2.unread x0))⟩]))
      (arg11.view.read (Elt Ideal) (arg11.view.writes (Elt Ideal) g11 [⟨all2 128 1024,
        k0_pay159 (F := Ideal) (arg5.view.readAt (Elt Ideal) (all2 1024 128).toLoadRect (harg5.unread x3))⟩]))
      (k0_pay162 (F := Ideal) k0_pay160 k0_pay161) (k0_pay163 (F := Ideal)) := by
  have q : Rl (arg2.view.read (Elt Ideal) (harg2.unread x0)) fun r e => h.Q (1024 * i + r) e := by
    rw [harg2.read_unread]; exact hq
  have d : Rl (arg5.view.read (Elt Ideal) (harg5.unread x3)) fun r e => h.D (1024 * i + r) e := by
    rw [harg5.read_unread]; exact hd
  have q' : Rl (n := 1024) (m := 128) (arg2.view.readAt (Elt Ideal) (all2 1024 128).toLoadRect (harg2.unread x0))
      fun r e => h.Q (1024 * i + r) e := load_all (N := 1024) (M := 128) (Val := Elt Ideal) (e := .bf16) arg2.view
      (harg2.unread x0) id rfl _ q
  have d' : Rl (n := 1024) (m := 128) (arg5.view.readAt (Elt Ideal) (all2 1024 128).toLoadRect (harg5.unread x3))
      fun r e => h.D (1024 * i + r) e := load_all (N := 1024) (M := 128) (Val := Elt Ideal) (e := .bf16) arg5.view
      (harg5.unread x3) id rfl _ d
  exact {
    q := q
    d := d
    k := by rw [harg3.read_unread]; exact hk
    v := by rw [harg4.read_unread]; exact hv
    lt := by rw [harg6.read_unread]; exact hlt
    qt := store_all arg10.view g10 (fun x => x) rfl _ _ [] (rl_turn q')
    dt := store_all arg11.view g11 (fun x => x) rfl _ _ [] (rl_turn' d')
    u := rl_upto
    w := rl_before }

/-- A block's cleared sums, with what its head's blocks before it have added up. -/
theorem block_start {f7 : arg7.view.ty.Contents (Elt Ideal)} {f12 : arg12.view.ty.Contents (Elt Ideal)}
    {f13 : arg13.view.ty.Contents (Elt Ideal)} {x8 x9 : Tiles.Idx → EReal}
    (h8 : Rl4 x8 (h.DK (1024 * i))) (h9 : Rl4 x9 (h.DV (1024 * i))) :
    St h i 0 (arg7.view.read (Elt Ideal) (arg7.view.writes (Elt Ideal) f7 [⟨all2 1024 128, k0_pay166 (F := Ideal)⟩])) x8 x9
      (arg12.view.read (Elt Ideal) (arg12.view.writes (Elt Ideal) f12 [⟨all2 1024 128, k0_pay164 (F := Ideal)⟩]))
      (arg13.view.read (Elt Ideal) (arg13.view.writes (Elt Ideal) f13 [⟨all2 1024 128, k0_pay165 (F := Ideal)⟩])) where
  dq := store_all arg7.view f7 (fun x => x) rfl _ _ [] rl_zero166
  dk := h8.congr fun j _ a _ b _ => by rw [part, if_neg (Nat.not_lt_zero _), add_zero]
  dv := h9.congr fun j _ a _ b _ => by rw [part, if_neg (Nat.not_lt_zero _), add_zero]
  pl := store_all arg12.view f12 (fun x => x) rfl _ _ [] rl_zero164
  pg := store_all arg13.view f13 (fun x => x) rfl _ _ [] rl_zero165

end

section

variable {sig : RefSig} {κ : Kind} {sp : Space}

/-- Stores that cover a buffer leave the same in another. -/
theorem covered {n m : ℕ} {sig' : RefSig} {κ' : Kind} {sp' : Space} {v : View sig κ sp (Mat n m) .f32}
    {v' : View sig' κ' sp' (Mat n m) .f32} {f : v.ty.Contents (Elt Ideal)} {f' : v'.ty.Contents (Elt Ideal)}
    {L : List (View.Piece (Elt Ideal) (Mat n m) .f32)} {G : ℕ → ℕ → ℝ} (e : ∀ y, ∃ p ∈ L, y ∈ p.1.set)
    (h : Rl (v.read (Elt Ideal) (v.writes (Elt Ideal) f L)) G) :
    Rl (v'.read (Elt Ideal) (v'.writes (Elt Ideal) f' L)) G := by
  rw [View.read_writes_of_cover v' f' v f L e]; exact h

theorem covered4 {sig' : RefSig} {κ' : Kind} {sp' : Space} {v : View sig κ sp Tiles .f32}
    {v' : View sig' κ' sp' Tiles .f32} {f : v.ty.Contents (Elt Ideal)} {f' : v'.ty.Contents (Elt Ideal)}
    {L : List (View.Piece (Elt Ideal) Tiles .f32)} {o : ℕ → ℕ → ℕ → ℝ} (e : ∀ y, ∃ p ∈ L, y ∈ p.1.set)
    (h : Rl4 (v.read (Elt Ideal) (v.writes (Elt Ideal) f L)) o) :
    Rl4 (v'.read (Elt Ideal) (v'.writes (Elt Ideal) f' L)) o := by
  rw [View.read_writes_of_cover v' f' v f L e]; exact h

/-- The same stores leave the same reals. -/
theorem stores_eq {n m : ℕ} {v : View sig κ sp (Mat n m) .f32} {f : v.ty.Contents (Elt Ideal)}
    {L L' : List (View.Piece (Elt Ideal) (Mat n m) .f32)} {G : ℕ → ℕ → ℝ} (e : L = L')
    (h : Rl (v.read (Elt Ideal) (v.writes (Elt Ideal) f L')) G) :
    Rl (v.read (Elt Ideal) (v.writes (Elt Ideal) f L)) G := by
  subst e; exact h

theorem stores_eq4 {v : View sig κ sp Tiles .f32} {f : v.ty.Contents (Elt Ideal)}
    {L L' : List (View.Piece (Elt Ideal) Tiles .f32)} {o : ℕ → ℕ → ℕ → ℝ} (e : L = L')
    (h : Rl4 (v.read (Elt Ideal) (v.writes (Elt Ideal) f L')) o) :
    Rl4 (v.read (Elt Ideal) (v.writes (Elt Ideal) f L)) o := by
  subst e; exact h

end

namespace Head

variable (h : Head)

/-- A block of queries takes what the blocks before it have added up to what is added up after it. -/
theorem add_block (f g : ℕ → ℝ) (i : ℕ) :
    (∑ r ∈ Finset.range (1024 * i), f r * g r) + ∑ r ∈ Finset.range 1024, f (1024 * i + r) * g (1024 * i + r) =
      ∑ r ∈ Finset.range (1024 * (i + 1)), f r * g r := by
  rw [Nat.mul_add, Nat.mul_one, Finset.sum_range_add]

theorem DK_block (i : ℕ) {j e c : ℕ} :
    part (h.DK (1024 * i)) (h.UK i) (4 * i + (3 + 1)) j e c = h.DK (1024 * (i + 1)) j e c := by
  have a := add_block (fun r => h.Q r e) (fun r => h.DZ r (256 * j + c)) i
  by_cases hj : j < 4 * i + (3 + 1)
  · rw [part, if_pos hj]; exact a
  · rw [part, if_neg hj]
    refine Eq.trans (congrArg (_ + ·) (Finset.sum_eq_zero fun r hr => ?_).symm) a
    have := Finset.mem_range.1 hr
    rw [h.DZ_zero (by omega), mul_zero]

theorem DV_block (i : ℕ) {j e c : ℕ} :
    part (h.DV (1024 * i)) (h.UV i) (4 * i + (3 + 1)) j e c = h.DV (1024 * (i + 1)) j e c := by
  have a := add_block (fun r => h.D r e) (fun r => h.A r (256 * j + c)) i
  by_cases hj : j < 4 * i + (3 + 1)
  · rw [part, if_pos hj]; exact a
  · rw [part, if_neg hj]
    refine Eq.trans (congrArg (_ + ·) (Finset.sum_eq_zero fun r hr => ?_).symm) a
    have := Finset.mem_range.1 hr
    rw [h.A_zero (by omega), mul_zero]

end Head

end Cert.Proof

end
-- ==== Proof.WordsA.lean ====
/- What the run of a block of queries stores up to its first masked tile,
   where it is the first block of its head. -/
module

public import proofs.«01_k».proof.Proof.Entry

@[expose] public section

set_option maxRecDepth 16384

noncomputable section

namespace Cert.Proof

open Idealize.ShloMosaic Idealize.ShloMosaic.ValueIdx
open Cert.KernelIdeal Cert.KernelIdeal.Gen

variable {F : FTy → Type} [FloatOps F] (c : Dev nD) (i : grid0.Coords) (arg2 : Memref sig .tc .vmem S1024x128 .bf16)
  (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1024x128 .bf16)
  (harg5 : arg5.IsWhole) (arg6 : Memref sig .tc .vmem S1024x128 .f32) (harg6 : arg6.IsWhole)
  (arg7 : Memref sig .tc .vmem S1024x128 .f32) (harg7 : arg7.IsWhole)
  (arg8 : Memref sig .tc .vmem S1x16x128x256 .f32) (harg8 : arg8.IsWhole)
  (arg9 : Memref sig .tc .vmem S1x16x128x256 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S1024x128 .f32) (harg12 : arg12.IsWhole)
  (arg13 : Memref sig .tc .vmem S1024x128 .f32) (harg13 : arg13.IsWhole)
  (x0 : Vec F S1024x128 .bf16) (x1 x2 : Vec F S4096x128 .bf16) (x3 : Vec F S1024x128 .bf16) (x4 : Vec F S1024x128
    .f32)

attribute [local irreducible] st_k0_t1 st_k0_t2

/-- The stores before the loops. -/
abbrev aStart : Lst F :=
  ⟨kernelRun0_A.sl.H5_1, kernelRun0_A.sl.H6_1, kernelRun0_A.sl.H7_1, kernelRun0_A.sl.HS2_1, kernelRun0_A.sl.HS3_1⟩

/-- What the first loop stores. -/
abbrev aT1 := st_k0_t1 (F := F) Variants.none c none i arg2 harg2 arg3 harg3 arg4 harg4 arg5 harg5 arg6 harg6 arg7
  harg7 arg8 harg8 arg9 harg9 arg10 harg10 arg11 harg11 arg12 harg12 arg13 harg13 (BitVec.ofNat 32 (i 1).val)
  (k0_pay162 k0_pay160 k0_pay161) k0_pay163 0#32 0#32 (harg2.unread x0) (harg3.unread x1) (harg4.unread x2)
  (harg5.unread x3) (harg6.unread x4) (arg10.view.writes (Elt F) arg10.view.junk (kernelRun0_A.sl.HS0_1 c arg2 harg2
  x0)) (arg11.view.writes (Elt F) arg11.view.junk (kernelRun0_A.sl.HS1_1 c arg5 harg5 x3)) (arg7.view.writes (Elt F)
  arg7.view.junk kernelRun0_A.sl.H5_1) (arg8.view.writes (Elt F) arg8.view.junk kernelRun0_A.sl.H6_1)
  (arg9.view.writes (Elt F) arg9.view.junk kernelRun0_A.sl.H7_1) (arg12.view.writes (Elt F) arg12.view.junk
  kernelRun0_A.sl.HS2_1) (arg13.view.writes (Elt F) arg13.view.junk kernelRun0_A.sl.HS3_1) 0#32 (Scf.trips
  (k0_t1_loop i).lb (k0_t1_loop i).ub (k0_t1_loop i).st)

/-- What the second loop stores. -/
abbrev aT2 := st_k0_t2 (F := F) Variants.none c none i arg2 harg2 arg3 harg3 arg4 harg4 arg5 harg5 arg6 harg6 arg7
  harg7 arg8 harg8 arg9 harg9 arg10 harg10 arg11 harg11 arg12 harg12 arg13 harg13 (BitVec.ofNat 32 (i 1).val)
  (k0_pay162 k0_pay160 k0_pay161) k0_pay163 0#32 0#32 (kernelRun0_A.sl.v81 i) (harg2.unread x0) (harg3.unread x1)
  (harg4.unread x2) (harg5.unread x3) (harg6.unread x4) (arg10.view.writes (Elt F) arg10.view.junk
  (kernelRun0_A.sl.HS0_1 c arg2 harg2 x0)) (arg11.view.writes (Elt F) arg11.view.junk (kernelRun0_A.sl.HS1_1 c arg5
  harg5 x3)) (arg7.view.writes (Elt F) arg7.view.junk ((aT1 c i arg2 harg2 arg3 harg3 arg4 harg4 arg5 harg5 arg6
  harg6 arg7 harg7 arg8 harg8 arg9 harg9 arg10 harg10 arg11 harg11 arg12 harg12 arg13 harg13 x0 x1 x2 x3 x4).2.1 ++
  kernelRun0_A.sl.H5_1)) (arg8.view.writes (Elt F) arg8.view.junk ((aT1 c i arg2 harg2 arg3 harg3 arg4 harg4 arg5
  harg5 arg6 harg6 arg7 harg7 arg8 harg8 arg9 harg9 arg10 harg10 arg11 harg11 arg12 harg12 arg13 harg13 x0 x1 x2 x3
  x4).2.2.1 ++ kernelRun0_A.sl.H6_1)) (arg9.view.writes (Elt F) arg9.view.junk ((aT1 c i arg2 harg2 arg3 harg3 arg4
  harg4 arg5 harg5 arg6 harg6 arg7 harg7 arg8 harg8 arg9 harg9 arg10 harg10 arg11 harg11 arg12 harg12 arg13 harg13 x0
  x1 x2 x3 x4).2.2.2.1 ++ kernelRun0_A.sl.H7_1)) (arg12.view.writes (Elt F) arg12.view.junk ((aT1 c i arg2 harg2 arg3
  harg3 arg4 harg4 arg5 harg5 arg6 harg6 arg7 harg7 arg8 harg8 arg9 harg9 arg10 harg10 arg11 harg11 arg12 harg12
  arg13 harg13 x0 x1 x2 x3 x4).2.2.2.2.1 ++ kernelRun0_A.sl.HS2_1)) (arg13.view.writes (Elt F) arg13.view.junk ((aT1
  c i arg2 harg2 arg3 harg3 arg4 harg4 arg5 harg5 arg6 harg6 arg7 harg7 arg8 harg8 arg9 harg9 arg10 harg10 arg11
  harg11 arg12 harg12 arg13 harg13 x0 x1 x2 x3 x4).2.2.2.2.2 ++ kernelRun0_A.sl.HS3_1)) (aT1 c i arg2 harg2 arg3
  harg3 arg4 harg4 arg5 harg5 arg6 harg6 arg7 harg7 arg8 harg8 arg9 harg9 arg10 harg10 arg11 harg11 arg12 harg12
  arg13 harg13 x0 x1 x2 x3 x4).1 (Scf.trips (k0_t2_loop i).lb (k0_t2_loop i).ub (k0_t2_loop i).st)

/-- The stores up to the end of the loops. -/
abbrev aLoops : Lst F where
  l7 := (aT2 c i arg2 harg2 arg3 harg3 arg4 harg4 arg5 harg5 arg6 harg6 arg7 harg7 arg8 harg8 arg9 harg9 arg10 harg10
    arg11 harg11 arg12 harg12 arg13 harg13 x0 x1 x2 x3 x4).2.1 ++ ((aT1 c i arg2 harg2 arg3 harg3 arg4 harg4 arg5
    harg5 arg6 harg6 arg7 harg7 arg8 harg8 arg9 harg9 arg10 harg10 arg11 harg11 arg12 harg12 arg13 harg13 x0 x1 x2 x3
    x4).2.1 ++ kernelRun0_A.sl.H5_1)
  l8 := (aT2 c i arg2 harg2 arg3 harg3 arg4 harg4 arg5 harg5 arg6 harg6 arg7 harg7 arg8 harg8 arg9 harg9 arg10 harg10
    arg11 harg11 arg12 harg12 arg13 harg13 x0 x1 x2 x3 x4).2.2.1 ++ ((aT1 c i arg2 harg2 arg3 harg3 arg4 harg4 arg5
    harg5 arg6 harg6 arg7 harg7 arg8 harg8 arg9 harg9 arg10 harg10 arg11 harg11 arg12 harg12 arg13 harg13 x0 x1 x2 x3
    x4).2.2.1 ++ kernelRun0_A.sl.H6_1)
  l9 := (aT2 c i arg2 harg2 arg3 harg3 arg4 harg4 arg5 harg5 arg6 harg6 arg7 harg7 arg8 harg8 arg9 harg9 arg10 harg10
    arg11 harg11 arg12 harg12 arg13 harg13 x0 x1 x2 x3 x4).2.2.2.1 ++ ((aT1 c i arg2 harg2 arg3 harg3 arg4 harg4 arg5
    harg5 arg6 harg6 arg7 harg7 arg8 harg8 arg9 harg9 arg10 harg10 arg11 harg11 arg12 harg12 arg13 harg13 x0 x1 x2 x3
    x4).2.2.2.1 ++ kernelRun0_A.sl.H7_1)
  l12 := (aT2 c i arg2 harg2 arg3 harg3 arg4 harg4 arg5 harg5 arg6 harg6 arg7 harg7 arg8 harg8 arg9 harg9 arg10
    harg10 arg11 harg11 arg12 harg12 arg13 harg13 x0 x1 x2 x3 x4).2.2.2.2.1 ++ ((aT1 c i arg2 harg2 arg3 harg3 arg4
    harg4 arg5 harg5 arg6 harg6 arg7 harg7 arg8 harg8 arg9 harg9 arg10 harg10 arg11 harg11 arg12 harg12 arg13 harg13
    x0 x1 x2 x3 x4).2.2.2.2.1 ++ kernelRun0_A.sl.HS2_1)
  l13 := (aT2 c i arg2 harg2 arg3 harg3 arg4 harg4 arg5 harg5 arg6 harg6 arg7 harg7 arg8 harg8 arg9 harg9 arg10
    harg10 arg11 harg11 arg12 harg12 arg13 harg13 x0 x1 x2 x3 x4).2.2.2.2.2 ++ ((aT1 c i arg2 harg2 arg3 harg3 arg4
    harg4 arg5 harg5 arg6 harg6 arg7 harg7 arg8 harg8 arg9 harg9 arg10 harg10 arg11 harg11 arg12 harg12 arg13 harg13
    x0 x1 x2 x3 x4).2.2.2.2.2 ++ kernelRun0_A.sl.HS3_1)

theorem aLoops_eq : aLoops c i arg2 harg2 arg3 harg3 arg4 harg4 arg5 harg5 arg6 harg6 arg7 harg7 arg8 harg8 arg9
  harg9 arg10 harg10 arg11 harg11 arg12 harg12 arg13 harg13 x0 x1 x2 x3 x4 = lst2 c i arg2 harg2 arg3 harg3 arg4
  harg4 arg5 harg5 arg6 harg6 arg7 harg7 arg8 harg8 arg9 harg9 arg10 harg10 arg11 harg11 arg12 harg12 arg13 harg13
  (k0_pay162 k0_pay160 k0_pay161) k0_pay163 (kernelRun0_A.sl.v81 i) (harg2.unread x0) (harg3.unread x1) (harg4.unread
  x2) (harg5.unread x3) (harg6.unread x4) (arg10.view.writes (Elt F) arg10.view.junk (kernelRun0_A.sl.HS0_1 c arg2
  harg2 x0)) (arg11.view.writes (Elt F) arg11.view.junk (kernelRun0_A.sl.HS1_1 c arg5 harg5 x3)) arg7.view.junk
  arg8.view.junk arg9.view.junk arg12.view.junk arg13.view.junk aStart := rfl

/-- The stores up to the masked tile 0. -/
abbrev a0 : Lst F where
  l7 := kernelRun0_A.sl.H5_1_1 c i arg2 harg2 arg3 harg3 arg4 harg4 arg5 harg5 arg6 harg6 arg7 harg7 arg8 harg8 arg9
    harg9 arg10 harg10 arg11 harg11 arg12 harg12 arg13 harg13 x0 x1 x2 x3 x4
  l8 := kernelRun0_A.sl.H6_1_1 c i arg2 harg2 arg3 harg3 arg4 harg4 arg5 harg5 arg6 harg6 arg7 harg7 arg8 harg8 arg9
    harg9 arg10 harg10 arg11 harg11 arg12 harg12 arg13 harg13 x0 x1 x2 x3 x4
  l9 := kernelRun0_A.sl.H7_1_1 c i arg2 harg2 arg3 harg3 arg4 harg4 arg5 harg5 arg6 harg6 arg7 harg7 arg8 harg8 arg9
    harg9 arg10 harg10 arg11 harg11 arg12 harg12 arg13 harg13 x0 x1 x2 x3 x4
  l12 := kernelRun0_A.sl.HS2_1_1 c i arg2 harg2 arg3 harg3 arg4 harg4 arg5 harg5 arg6 harg6 arg7 harg7 arg8 harg8
    arg9 harg9 arg10 harg10 arg11 harg11 arg12 harg12 arg13 harg13 x0 x1 x2 x3 x4
  l13 := kernelRun0_A.sl.HS3_1_1 c i arg2 harg2 arg3 harg3 arg4 harg4 arg5 harg5 arg6 harg6 arg7 harg7 arg8 harg8
    arg9 harg9 arg10 harg10 arg11 harg11 arg12 harg12 arg13 harg13 x0 x1 x2 x3 x4

/-- The stores up to the masked tile 1. -/
abbrev a1 : Lst F where
  l7 := kernelRun0_A.sl.H5_2 c i arg2 harg2 arg3 harg3 arg4 harg4 arg5 harg5 arg6 harg6 arg7 harg7 arg8 harg8 arg9
    harg9 arg10 harg10 arg11 harg11 arg12 harg12 arg13 harg13 x0 x1 x2 x3 x4
  l8 := kernelRun0_A.sl.H6_2 c i arg2 harg2 arg3 harg3 arg4 harg4 arg5 harg5 arg6 harg6 arg7 harg7 arg8 harg8 arg9
    harg9 arg10 harg10 arg11 harg11 arg12 harg12 arg13 harg13 x0 x1 x2 x3 x4
  l9 := kernelRun0_A.sl.H7_2 c i arg2 harg2 arg3 harg3 arg4 harg4 arg5 harg5 arg6 harg6 arg7 harg7 arg8 harg8 arg9
    harg9 arg10 harg10 arg11 harg11 arg12 harg12 arg13 harg13 x0 x1 x2 x3 x4
  l12 := kernelRun0_A.sl.HS2_2 c i arg2 harg2 arg3 harg3 arg4 harg4 arg5 harg5 arg6 harg6 arg7 harg7 arg8 harg8 arg9
    harg9 arg10 harg10 arg11 harg11 arg12 harg12 arg13 harg13 x0 x1 x2 x3 x4
  l13 := kernelRun0_A.sl.HS3_2 c i arg2 harg2 arg3 harg3 arg4 harg4 arg5 harg5 arg6 harg6 arg7 harg7 arg8 harg8 arg9
    harg9 arg10 harg10 arg11 harg11 arg12 harg12 arg13 harg13 x0 x1 x2 x3 x4

/-- The stores up to the masked tile 2. -/
abbrev a2 : Lst F where
  l7 := kernelRun0_A.sl.H5_3 c i arg2 harg2 arg3 harg3 arg4 harg4 arg5 harg5 arg6 harg6 arg7 harg7 arg8 harg8 arg9
    harg9 arg10 harg10 arg11 harg11 arg12 harg12 arg13 harg13 x0 x1 x2 x3 x4
  l8 := kernelRun0_A.sl.H6_3 c i arg2 harg2 arg3 harg3 arg4 harg4 arg5 harg5 arg6 harg6 arg7 harg7 arg8 harg8 arg9
    harg9 arg10 harg10 arg11 harg11 arg12 harg12 arg13 harg13 x0 x1 x2 x3 x4
  l9 := kernelRun0_A.sl.H7_3 c i arg2 harg2 arg3 harg3 arg4 harg4 arg5 harg5 arg6 harg6 arg7 harg7 arg8 harg8 arg9
    harg9 arg10 harg10 arg11 harg11 arg12 harg12 arg13 harg13 x0 x1 x2 x3 x4
  l12 := kernelRun0_A.sl.HS2_3 c i arg2 harg2 arg3 harg3 arg4 harg4 arg5 harg5 arg6 harg6 arg7 harg7 arg8 harg8 arg9
    harg9 arg10 harg10 arg11 harg11 arg12 harg12 arg13 harg13 x0 x1 x2 x3 x4
  l13 := kernelRun0_A.sl.HS3_3 c i arg2 harg2 arg3 harg3 arg4 harg4 arg5 harg5 arg6 harg6 arg7 harg7 arg8 harg8 arg9
    harg9 arg10 harg10 arg11 harg11 arg12 harg12 arg13 harg13 x0 x1 x2 x3 x4

theorem a_v111 : kernelRun0_A.sl.v111 c i arg2 harg2 arg3 harg3 arg4 harg4 arg5 harg5 arg6 harg6 arg7 harg7 arg8
  harg8 arg9 harg9 arg10 harg10 arg11 harg11 arg12 harg12 arg13 harg13 x0 x1 x2 x3 x4 =
    ldr rfl arg12 (arg12.view.writes (Elt F) arg12.view.junk (aLoops c i arg2 harg2 arg3 harg3 arg4 harg4 arg5 harg5
      arg6 harg6 arg7 harg7 arg8 harg8 arg9 harg9 arg10 harg10 arg11 harg11 arg12 harg12 arg13 harg13 x0 x1 x2 x3
      x4).l12) := rfl

theorem a_v144 : kernelRun0_A.sl.v144 c i arg2 harg2 arg3 harg3 arg4 harg4 arg5 harg5 arg6 harg6 arg7 harg7 arg8
  harg8 arg9 harg9 arg10 harg10 arg11 harg11 arg12 harg12 arg13 harg13 x0 x1 x2 x3 x4 =
    ldr rfl arg13 (arg13.view.writes (Elt F) arg13.view.junk (aLoops c i arg2 harg2 arg3 harg3 arg4 harg4 arg5 harg5
      arg6 harg6 arg7 harg7 arg8 harg8 arg9 harg9 arg10 harg10 arg11 harg11 arg12 harg12 arg13 harg13 x0 x1 x2 x3
      x4).l13) := rfl

theorem a_v194 : kernelRun0_A.sl.v194 c i arg2 harg2 arg3 harg3 arg4 harg4 arg5 harg5 arg6 harg6 arg7 harg7 arg8
  harg8 arg9 harg9 arg10 harg10 arg11 harg11 arg12 harg12 arg13 harg13 x0 x1 x2 x3 x4 =
    ldr rfl arg7 (arg7.view.writes (Elt F) arg7.view.junk (aLoops c i arg2 harg2 arg3 harg3 arg4 harg4 arg5 harg5
      arg6 harg6 arg7 harg7 arg8 harg8 arg9 harg9 arg10 harg10 arg11 harg11 arg12 harg12 arg13 harg13 x0 x1 x2 x3
      x4).l7) := rfl

theorem a_v174 : kernelRun0_A.sl.v174 c i arg2 harg2 arg3 harg3 arg4 harg4 arg5 harg5 arg6 harg6 arg7 harg7 arg8
  harg8 arg9 harg9 arg10 harg10 arg11 harg11 arg12 harg12 arg13 harg13 x0 x1 x2 x3 x4 =
    arg8.view.readAt (Elt F) (Rect.unit (s := S1x16x128x256) (k0_off6 i (BitVec.ofNat 32 (0 : Fin 4).val))
      S1x1x128x256.size (k0_off6_inb i 0)).toLoadRect (arg8.view.writes (Elt F) arg8.view.junk (aLoops c i arg2 harg2
      arg3 harg3 arg4 harg4 arg5 harg5 arg6 harg6 arg7 harg7 arg8 harg8 arg9 harg9 arg10 harg10 arg11 harg11 arg12
      harg12 arg13 harg13 x0 x1 x2 x3 x4).l8) := rfl

theorem a_v184 : kernelRun0_A.sl.v184 c i arg2 harg2 arg3 harg3 arg4 harg4 arg5 harg5 arg6 harg6 arg7 harg7 arg8
  harg8 arg9 harg9 arg10 harg10 arg11 harg11 arg12 harg12 arg13 harg13 x0 x1 x2 x3 x4 =
    arg9.view.readAt (Elt F) (Rect.unit (s := S1x16x128x256) (k0_off6 i (BitVec.ofNat 32 (0 : Fin 4).val))
      S1x1x128x256.size (k0_off6_inb i 0)).toLoadRect (arg9.view.writes (Elt F) arg9.view.junk (aLoops c i arg2 harg2
      arg3 harg3 arg4 harg4 arg5 harg5 arg6 harg6 arg7 harg7 arg8 harg8 arg9 harg9 arg10 harg10 arg11 harg11 arg12
      harg12 arg13 harg13 x0 x1 x2 x3 x4).l9) := rfl

theorem a0_l7' : (a0 c i arg2 harg2 arg3 harg3 arg4 harg4 arg5 harg5 arg6 harg6 arg7 harg7 arg8 harg8 arg9 harg9
  arg10 harg10 arg11 harg11 arg12 harg12 arg13 harg13 x0 x1 x2 x3 x4).l7 =
    ⟨Rect.unit (s := S1024x128) ![0, 0] (Mat 1024 128).size (rows_inb rfl), (dops i arg2 arg3 arg4 arg5 arg6
      (k0_pay162 k0_pay160 k0_pay161) k0_pay163 (harg2.unread x0) (harg3.unread x1) (harg4.unread x2) (harg5.unread
      x3) (harg6.unread x4) (ρ := 0) rfl 0 k0_pay175).dq facts1024 0 (kernelRun0_A.sl.v111 c i arg2 harg2 arg3 harg3
      arg4 harg4 arg5 harg5 arg6 harg6 arg7 harg7 arg8 harg8 arg9 harg9 arg10 harg10 arg11 harg11 arg12 harg12 arg13
      harg13 x0 x1 x2 x3 x4) (kernelRun0_A.sl.v144 c i arg2 harg2 arg3 harg3 arg4 harg4 arg5 harg5 arg6 harg6 arg7
      harg7 arg8 harg8 arg9 harg9 arg10 harg10 arg11 harg11 arg12 harg12 arg13 harg13 x0 x1 x2 x3 x4)
      (kernelRun0_A.sl.v194 c i arg2 harg2 arg3 harg3 arg4 harg4 arg5 harg5 arg6 harg6 arg7 harg7 arg8 harg8 arg9
      harg9 arg10 harg10 arg11 harg11 arg12 harg12 arg13 harg13 x0 x1 x2 x3 x4)⟩ :: (aLoops c i arg2 harg2 arg3 harg3
      arg4 harg4 arg5 harg5 arg6 harg6 arg7 harg7 arg8 harg8 arg9 harg9 arg10 harg10 arg11 harg11 arg12 harg12 arg13
      harg13 x0 x1 x2 x3 x4).l7 := rfl

theorem a0_l7 : (a0 c i arg2 harg2 arg3 harg3 arg4 harg4 arg5 harg5 arg6 harg6 arg7 harg7 arg8 harg8 arg9 harg9 arg10
  harg10 arg11 harg11 arg12 harg12 arg13 harg13 x0 x1 x2 x3 x4).l7 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 0) facts1024 rfl 0 k0_pay175 (aLoops c i arg2 harg2 arg3 harg3 arg4 harg4
      arg5 harg5 arg6 harg6 arg7 harg7 arg8 harg8 arg9 harg9 arg10 harg10 arg11 harg11 arg12 harg12 arg13 harg13 x0
      x1 x2 x3 x4)).l7 := by
  rw [a0_l7', a_v111, a_v144, a_v194]

theorem a0_l8' : (a0 c i arg2 harg2 arg3 harg3 arg4 harg4 arg5 harg5 arg6 harg6 arg7 harg7 arg8 harg8 arg9 harg9
  arg10 harg10 arg11 harg11 arg12 harg12 arg13 harg13 x0 x1 x2 x3 x4).l8 =
    ⟨Rect.unit (s := S1x16x128x256) (k0_off6 i (BitVec.ofNat 32 (0 : Fin 4).val)) S1x1x128x256.size (k0_off6_inb i
      0), (dops i arg2 arg3 arg4 arg5 arg6 (k0_pay162 k0_pay160 k0_pay161) k0_pay163 (harg2.unread x0) (harg3.unread
      x1) (harg4.unread x2) (harg5.unread x3) (harg6.unread x4) (ρ := 0) rfl 0 k0_pay175).dk facts1024 0
      (kernelRun0_A.sl.v111 c i arg2 harg2 arg3 harg3 arg4 harg4 arg5 harg5 arg6 harg6 arg7 harg7 arg8 harg8 arg9
      harg9 arg10 harg10 arg11 harg11 arg12 harg12 arg13 harg13 x0 x1 x2 x3 x4) (kernelRun0_A.sl.v144 c i arg2 harg2
      arg3 harg3 arg4 harg4 arg5 harg5 arg6 harg6 arg7 harg7 arg8 harg8 arg9 harg9 arg10 harg10 arg11 harg11 arg12
      harg12 arg13 harg13 x0 x1 x2 x3 x4) (ldc rfl arg10 (arg10.view.writes (Elt F) arg10.view.junk
      (kernelRun0_A.sl.HS0_1 c arg2 harg2 x0))) (kernelRun0_A.sl.v174 c i arg2 harg2 arg3 harg3 arg4 harg4 arg5 harg5
      arg6 harg6 arg7 harg7 arg8 harg8 arg9 harg9 arg10 harg10 arg11 harg11 arg12 harg12 arg13 harg13 x0 x1 x2 x3
      x4)⟩ :: (aLoops c i arg2 harg2 arg3 harg3 arg4 harg4 arg5 harg5 arg6 harg6 arg7 harg7 arg8 harg8 arg9 harg9
      arg10 harg10 arg11 harg11 arg12 harg12 arg13 harg13 x0 x1 x2 x3 x4).l8 := rfl

theorem a0_l8 : (a0 c i arg2 harg2 arg3 harg3 arg4 harg4 arg5 harg5 arg6 harg6 arg7 harg7 arg8 harg8 arg9 harg9 arg10
  harg10 arg11 harg11 arg12 harg12 arg13 harg13 x0 x1 x2 x3 x4).l8 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 0) facts1024 rfl 0 k0_pay175 (aLoops c i arg2 harg2 arg3 harg3 arg4 harg4
      arg5 harg5 arg6 harg6 arg7 harg7 arg8 harg8 arg9 harg9 arg10 harg10 arg11 harg11 arg12 harg12 arg13 harg13 x0
      x1 x2 x3 x4)).l8 := by
  rw [a0_l8', a_v111, a_v144, a_v174]

theorem a0_l9' : (a0 c i arg2 harg2 arg3 harg3 arg4 harg4 arg5 harg5 arg6 harg6 arg7 harg7 arg8 harg8 arg9 harg9
  arg10 harg10 arg11 harg11 arg12 harg12 arg13 harg13 x0 x1 x2 x3 x4).l9 =
    ⟨Rect.unit (s := S1x16x128x256) (k0_off6 i (BitVec.ofNat 32 (0 : Fin 4).val)) S1x1x128x256.size (k0_off6_inb i
      0), (dops i arg2 arg3 arg4 arg5 arg6 (k0_pay162 k0_pay160 k0_pay161) k0_pay163 (harg2.unread x0) (harg3.unread
      x1) (harg4.unread x2) (harg5.unread x3) (harg6.unread x4) (ρ := 0) rfl 0 k0_pay175).dv facts1024 0
      (kernelRun0_A.sl.v111 c i arg2 harg2 arg3 harg3 arg4 harg4 arg5 harg5 arg6 harg6 arg7 harg7 arg8 harg8 arg9
      harg9 arg10 harg10 arg11 harg11 arg12 harg12 arg13 harg13 x0 x1 x2 x3 x4) (ldc rfl arg11 (arg11.view.writes
      (Elt F) arg11.view.junk (kernelRun0_A.sl.HS1_1 c arg5 harg5 x3))) (kernelRun0_A.sl.v184 c i arg2 harg2 arg3
      harg3 arg4 harg4 arg5 harg5 arg6 harg6 arg7 harg7 arg8 harg8 arg9 harg9 arg10 harg10 arg11 harg11 arg12 harg12
      arg13 harg13 x0 x1 x2 x3 x4)⟩ :: (aLoops c i arg2 harg2 arg3 harg3 arg4 harg4 arg5 harg5 arg6 harg6 arg7 harg7
      arg8 harg8 arg9 harg9 arg10 harg10 arg11 harg11 arg12 harg12 arg13 harg13 x0 x1 x2 x3 x4).l9 := rfl

theorem a0_l9 : (a0 c i arg2 harg2 arg3 harg3 arg4 harg4 arg5 harg5 arg6 harg6 arg7 harg7 arg8 harg8 arg9 harg9 arg10
  harg10 arg11 harg11 arg12 harg12 arg13 harg13 x0 x1 x2 x3 x4).l9 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 0) facts1024 rfl 0 k0_pay175 (aLoops c i arg2 harg2 arg3 harg3 arg4 harg4
      arg5 harg5 arg6 harg6 arg7 harg7 arg8 harg8 arg9 harg9 arg10 harg10 arg11 harg11 arg12 harg12 arg13 harg13 x0
      x1 x2 x3 x4)).l9 := by
  rw [a0_l9', a_v111, a_v184]

theorem a0_l12' : (a0 c i arg2 harg2 arg3 harg3 arg4 harg4 arg5 harg5 arg6 harg6 arg7 harg7 arg8 harg8 arg9 harg9
  arg10 harg10 arg11 harg11 arg12 harg12 arg13 harg13 x0 x1 x2 x3 x4).l12 =
    ⟨Rect.unit (s := S1024x128) ![0, 0] (Mat 1024 128).size (rows_inb rfl), (dops i arg2 arg3 arg4 arg5 arg6
      (k0_pay162 k0_pay160 k0_pay161) k0_pay163 (harg2.unread x0) (harg3.unread x1) (harg4.unread x2) (harg5.unread
      x3) (harg6.unread x4) (ρ := 0) rfl 0 k0_pay175).fl facts1024 0 (kernelRun0_A.sl.v111 c i arg2 harg2 arg3 harg3
      arg4 harg4 arg5 harg5 arg6 harg6 arg7 harg7 arg8 harg8 arg9 harg9 arg10 harg10 arg11 harg11 arg12 harg12 arg13
      harg13 x0 x1 x2 x3 x4)⟩ :: (aLoops c i arg2 harg2 arg3 harg3 arg4 harg4 arg5 harg5 arg6 harg6 arg7 harg7 arg8
      harg8 arg9 harg9 arg10 harg10 arg11 harg11 arg12 harg12 arg13 harg13 x0 x1 x2 x3 x4).l12 := rfl

theorem a0_l12 : (a0 c i arg2 harg2 arg3 harg3 arg4 harg4 arg5 harg5 arg6 harg6 arg7 harg7 arg8 harg8 arg9 harg9
  arg10 harg10 arg11 harg11 arg12 harg12 arg13 harg13 x0 x1 x2 x3 x4).l12 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 0) facts1024 rfl 0 k0_pay175 (aLoops c i arg2 harg2 arg3 harg3 arg4 harg4
      arg5 harg5 arg6 harg6 arg7 harg7 arg8 harg8 arg9 harg9 arg10 harg10 arg11 harg11 arg12 harg12 arg13 harg13 x0
      x1 x2 x3 x4)).l12 := by
  rw [a0_l12', a_v111]

theorem a0_l13' : (a0 c i arg2 harg2 arg3 harg3 arg4 harg4 arg5 harg5 arg6 harg6 arg7 harg7 arg8 harg8 arg9 harg9
  arg10 harg10 arg11 harg11 arg12 harg12 arg13 harg13 x0 x1 x2 x3 x4).l13 =
    ⟨Rect.unit (s := S1024x128) ![0, 0] (Mat 1024 128).size (rows_inb rfl), (dops i arg2 arg3 arg4 arg5 arg6
      (k0_pay162 k0_pay160 k0_pay161) k0_pay163 (harg2.unread x0) (harg3.unread x1) (harg4.unread x2) (harg5.unread
      x3) (harg6.unread x4) (ρ := 0) rfl 0 k0_pay175).fg facts1024 0 (kernelRun0_A.sl.v111 c i arg2 harg2 arg3 harg3
      arg4 harg4 arg5 harg5 arg6 harg6 arg7 harg7 arg8 harg8 arg9 harg9 arg10 harg10 arg11 harg11 arg12 harg12 arg13
      harg13 x0 x1 x2 x3 x4) (kernelRun0_A.sl.v144 c i arg2 harg2 arg3 harg3 arg4 harg4 arg5 harg5 arg6 harg6 arg7
      harg7 arg8 harg8 arg9 harg9 arg10 harg10 arg11 harg11 arg12 harg12 arg13 harg13 x0 x1 x2 x3 x4)⟩ :: (aLoops c i
      arg2 harg2 arg3 harg3 arg4 harg4 arg5 harg5 arg6 harg6 arg7 harg7 arg8 harg8 arg9 harg9 arg10 harg10 arg11
      harg11 arg12 harg12 arg13 harg13 x0 x1 x2 x3 x4).l13 := rfl

theorem a0_l13 : (a0 c i arg2 harg2 arg3 harg3 arg4 harg4 arg5 harg5 arg6 harg6 arg7 harg7 arg8 harg8 arg9 harg9
  arg10 harg10 arg11 harg11 arg12 harg12 arg13 harg13 x0 x1 x2 x3 x4).l13 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 0) facts1024 rfl 0 k0_pay175 (aLoops c i arg2 harg2 arg3 harg3 arg4 harg4
      arg5 harg5 arg6 harg6 arg7 harg7 arg8 harg8 arg9 harg9 arg10 harg10 arg11 harg11 arg12 harg12 arg13 harg13 x0
      x1 x2 x3 x4)).l13 := by
  rw [a0_l13', a_v111, a_v144]

theorem a0_eq : a0 c i arg2 harg2 arg3 harg3 arg4 harg4 arg5 harg5 arg6 harg6 arg7 harg7 arg8 harg8 arg9 harg9 arg10
  harg10 arg11 harg11 arg12 harg12 arg13 harg13 x0 x1 x2 x3 x4 =
    dstep i arg2 arg3 arg4 arg5 arg6 arg7 arg8 arg9 arg10 arg11 arg12 arg13 (k0_pay162 k0_pay160 k0_pay161) k0_pay163
      (harg2.unread x0) (harg3.unread x1) (harg4.unread x2) (harg5.unread x3) (harg6.unread x4) (arg10.view.writes
      (Elt F) arg10.view.junk (kernelRun0_A.sl.HS0_1 c arg2 harg2 x0)) (arg11.view.writes (Elt F) arg11.view.junk
      (kernelRun0_A.sl.HS1_1 c arg5 harg5 x3)) arg7.view.junk arg8.view.junk arg9.view.junk arg12.view.junk
      arg13.view.junk (ρ := 0) facts1024 rfl 0 k0_pay175 (aLoops c i arg2 harg2 arg3 harg3 arg4 harg4 arg5 harg5 arg6
      harg6 arg7 harg7 arg8 harg8 arg9 harg9 arg10 harg10 arg11 harg11 arg12 harg12 arg13 harg13 x0 x1 x2 x3 x4) :=
  (Lst.mk.injEq ..).mpr ⟨a0_l7 .., a0_l8 .., a0_l9 .., a0_l12 .., a0_l13 ..⟩

end Cert.Proof

end
-- ==== Proof.WordsADiag.lean ====
/- The masked tiles after the first of a run of a block of queries,
   where it is the first block of its head. -/
module

public import proofs.«01_k».proof.Proof.WordsA

@[expose] public section

set_option maxRecDepth 16384

noncomputable section

namespace Cert.Proof

open Idealize.ShloMosaic Idealize.ShloMosaic.ValueIdx
open Cert.KernelIdeal Cert.KernelIdeal.Gen

variable {F : FTy → Type} [FloatOps F] (c : Dev nD) (i : grid0.Coords) (arg2 : Memref sig .tc .vmem S1024x128 .bf16)
  (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1024x128 .bf16)
  (harg5 : arg5.IsWhole) (arg6 : Memref sig .tc .vmem S1024x128 .f32) (harg6 : arg6.IsWhole)
  (arg7 : Memref sig .tc .vmem S1024x128 .f32) (harg7 : arg7.IsWhole)
  (arg8 : Memref sig .tc .vmem S1x16x128x256 .f32) (harg8 : arg8.IsWhole)
  (arg9 : Memref sig .tc .vmem S1x16x128x256 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S1024x128 .f32) (harg12 : arg12.IsWhole)
  (arg13 : Memref sig .tc .vmem S1024x128 .f32) (harg13 : arg13.IsWhole)
  (x0 : Vec F S1024x128 .bf16) (x1 x2 : Vec F S4096x128 .bf16) (x3 : Vec F S1024x128 .bf16) (x4 : Vec F S1024x128
    .f32)

theorem a1_l7 : (a1 c i arg2 harg2 arg3 harg3 arg4 harg4 arg5 harg5 arg6 harg6 arg7 harg7 arg8 harg8 arg9 harg9 arg10
  harg10 arg11 harg11 arg12 harg12 arg13 harg13 x0 x1 x2 x3 x4).l7 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 256) facts768 rfl 1 k0_pay199 (a0 c i arg2 harg2 arg3 harg3 arg4 harg4
      arg5 harg5 arg6 harg6 arg7 harg7 arg8 harg8 arg9 harg9 arg10 harg10 arg11 harg11 arg12 harg12 arg13 harg13 x0
      x1 x2 x3 x4)).l7 := rfl

theorem a1_l8 : (a1 c i arg2 harg2 arg3 harg3 arg4 harg4 arg5 harg5 arg6 harg6 arg7 harg7 arg8 harg8 arg9 harg9 arg10
  harg10 arg11 harg11 arg12 harg12 arg13 harg13 x0 x1 x2 x3 x4).l8 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 256) facts768 rfl 1 k0_pay199 (a0 c i arg2 harg2 arg3 harg3 arg4 harg4
      arg5 harg5 arg6 harg6 arg7 harg7 arg8 harg8 arg9 harg9 arg10 harg10 arg11 harg11 arg12 harg12 arg13 harg13 x0
      x1 x2 x3 x4)).l8 := rfl

theorem a1_l9 : (a1 c i arg2 harg2 arg3 harg3 arg4 harg4 arg5 harg5 arg6 harg6 arg7 harg7 arg8 harg8 arg9 harg9 arg10
  harg10 arg11 harg11 arg12 harg12 arg13 harg13 x0 x1 x2 x3 x4).l9 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 256) facts768 rfl 1 k0_pay199 (a0 c i arg2 harg2 arg3 harg3 arg4 harg4
      arg5 harg5 arg6 harg6 arg7 harg7 arg8 harg8 arg9 harg9 arg10 harg10 arg11 harg11 arg12 harg12 arg13 harg13 x0
      x1 x2 x3 x4)).l9 := rfl

theorem a1_l12 : (a1 c i arg2 harg2 arg3 harg3 arg4 harg4 arg5 harg5 arg6 harg6 arg7 harg7 arg8 harg8 arg9 harg9
  arg10 harg10 arg11 harg11 arg12 harg12 arg13 harg13 x0 x1 x2 x3 x4).l12 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 256) facts768 rfl 1 k0_pay199 (a0 c i arg2 harg2 arg3 harg3 arg4 harg4
      arg5 harg5 arg6 harg6 arg7 harg7 arg8 harg8 arg9 harg9 arg10 harg10 arg11 harg11 arg12 harg12 arg13 harg13 x0
      x1 x2 x3 x4)).l12 := rfl

theorem a1_l13 : (a1 c i arg2 harg2 arg3 harg3 arg4 harg4 arg5 harg5 arg6 harg6 arg7 harg7 arg8 harg8 arg9 harg9
  arg10 harg10 arg11 harg11 arg12 harg12 arg13 harg13 x0 x1 x2 x3 x4).l13 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 256) facts768 rfl 1 k0_pay199 (a0 c i arg2 harg2 arg3 harg3 arg4 harg4
      arg5 harg5 arg6 harg6 arg7 harg7 arg8 harg8 arg9 harg9 arg10 harg10 arg11 harg11 arg12 harg12 arg13 harg13 x0
      x1 x2 x3 x4)).l13 := rfl

theorem a1_eq : a1 c i arg2 harg2 arg3 harg3 arg4 harg4 arg5 harg5 arg6 harg6 arg7 harg7 arg8 harg8 arg9 harg9 arg10
  harg10 arg11 harg11 arg12 harg12 arg13 harg13 x0 x1 x2 x3 x4 =
    dstep i arg2 arg3 arg4 arg5 arg6 arg7 arg8 arg9 arg10 arg11 arg12 arg13 (k0_pay162 k0_pay160 k0_pay161) k0_pay163
      (harg2.unread x0) (harg3.unread x1) (harg4.unread x2) (harg5.unread x3) (harg6.unread x4) (arg10.view.writes
      (Elt F) arg10.view.junk (kernelRun0_A.sl.HS0_1 c arg2 harg2 x0)) (arg11.view.writes (Elt F) arg11.view.junk
      (kernelRun0_A.sl.HS1_1 c arg5 harg5 x3)) arg7.view.junk arg8.view.junk arg9.view.junk arg12.view.junk
      arg13.view.junk (ρ := 256) facts768 rfl 1 k0_pay199 (a0 c i arg2 harg2 arg3 harg3 arg4 harg4 arg5 harg5 arg6
      harg6 arg7 harg7 arg8 harg8 arg9 harg9 arg10 harg10 arg11 harg11 arg12 harg12 arg13 harg13 x0 x1 x2 x3 x4) :=
  (Lst.mk.injEq ..).mpr ⟨a1_l7 .., a1_l8 .., a1_l9 .., a1_l12 .., a1_l13 ..⟩

theorem a2_l7 : (a2 c i arg2 harg2 arg3 harg3 arg4 harg4 arg5 harg5 arg6 harg6 arg7 harg7 arg8 harg8 arg9 harg9 arg10
  harg10 arg11 harg11 arg12 harg12 arg13 harg13 x0 x1 x2 x3 x4).l7 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 512) facts512 rfl 2 k0_pay224 (a1 c i arg2 harg2 arg3 harg3 arg4 harg4
      arg5 harg5 arg6 harg6 arg7 harg7 arg8 harg8 arg9 harg9 arg10 harg10 arg11 harg11 arg12 harg12 arg13 harg13 x0
      x1 x2 x3 x4)).l7 := rfl

theorem a2_l8 : (a2 c i arg2 harg2 arg3 harg3 arg4 harg4 arg5 harg5 arg6 harg6 arg7 harg7 arg8 harg8 arg9 harg9 arg10
  harg10 arg11 harg11 arg12 harg12 arg13 harg13 x0 x1 x2 x3 x4).l8 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 512) facts512 rfl 2 k0_pay224 (a1 c i arg2 harg2 arg3 harg3 arg4 harg4
      arg5 harg5 arg6 harg6 arg7 harg7 arg8 harg8 arg9 harg9 arg10 harg10 arg11 harg11 arg12 harg12 arg13 harg13 x0
      x1 x2 x3 x4)).l8 := rfl

theorem a2_l9 : (a2 c i arg2 harg2 arg3 harg3 arg4 harg4 arg5 harg5 arg6 harg6 arg7 harg7 arg8 harg8 arg9 harg9 arg10
  harg10 arg11 harg11 arg12 harg12 arg13 harg13 x0 x1 x2 x3 x4).l9 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 512) facts512 rfl 2 k0_pay224 (a1 c i arg2 harg2 arg3 harg3 arg4 harg4
      arg5 harg5 arg6 harg6 arg7 harg7 arg8 harg8 arg9 harg9 arg10 harg10 arg11 harg11 arg12 harg12 arg13 harg13 x0
      x1 x2 x3 x4)).l9 := rfl

theorem a2_l12 : (a2 c i arg2 harg2 arg3 harg3 arg4 harg4 arg5 harg5 arg6 harg6 arg7 harg7 arg8 harg8 arg9 harg9
  arg10 harg10 arg11 harg11 arg12 harg12 arg13 harg13 x0 x1 x2 x3 x4).l12 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 512) facts512 rfl 2 k0_pay224 (a1 c i arg2 harg2 arg3 harg3 arg4 harg4
      arg5 harg5 arg6 harg6 arg7 harg7 arg8 harg8 arg9 harg9 arg10 harg10 arg11 harg11 arg12 harg12 arg13 harg13 x0
      x1 x2 x3 x4)).l12 := rfl

theorem a2_l13 : (a2 c i arg2 harg2 arg3 harg3 arg4 harg4 arg5 harg5 arg6 harg6 arg7 harg7 arg8 harg8 arg9 harg9
  arg10 harg10 arg11 harg11 arg12 harg12 arg13 harg13 x0 x1 x2 x3 x4).l13 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 512) facts512 rfl 2 k0_pay224 (a1 c i arg2 harg2 arg3 harg3 arg4 harg4
      arg5 harg5 arg6 harg6 arg7 harg7 arg8 harg8 arg9 harg9 arg10 harg10 arg11 harg11 arg12 harg12 arg13 harg13 x0
      x1 x2 x3 x4)).l13 := rfl

theorem a2_eq : a2 c i arg2 harg2 arg3 harg3 arg4 harg4 arg5 harg5 arg6 harg6 arg7 harg7 arg8 harg8 arg9 harg9 arg10
  harg10 arg11 harg11 arg12 harg12 arg13 harg13 x0 x1 x2 x3 x4 =
    dstep i arg2 arg3 arg4 arg5 arg6 arg7 arg8 arg9 arg10 arg11 arg12 arg13 (k0_pay162 k0_pay160 k0_pay161) k0_pay163
      (harg2.unread x0) (harg3.unread x1) (harg4.unread x2) (harg5.unread x3) (harg6.unread x4) (arg10.view.writes
      (Elt F) arg10.view.junk (kernelRun0_A.sl.HS0_1 c arg2 harg2 x0)) (arg11.view.writes (Elt F) arg11.view.junk
      (kernelRun0_A.sl.HS1_1 c arg5 harg5 x3)) arg7.view.junk arg8.view.junk arg9.view.junk arg12.view.junk
      arg13.view.junk (ρ := 512) facts512 rfl 2 k0_pay224 (a1 c i arg2 harg2 arg3 harg3 arg4 harg4 arg5 harg5 arg6
      harg6 arg7 harg7 arg8 harg8 arg9 harg9 arg10 harg10 arg11 harg11 arg12 harg12 arg13 harg13 x0 x1 x2 x3 x4) :=
  (Lst.mk.injEq ..).mpr ⟨a2_l7 .., a2_l8 .., a2_l9 .., a2_l12 .., a2_l13 ..⟩

theorem a3_l7 (hc0 : cond0_0 i) : (kernelRun0_A c i arg2 harg2 arg3 harg3 arg4 harg4 arg5 harg5 arg6 harg6 arg7 harg7
  arg8 harg8 arg9 harg9 arg10 harg10 arg11 harg11 arg12 harg12 arg13 harg13 hc0 x0 x1 x2 x3 x4).1 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 768) facts256 rfl 3 k0_pay246 (a2 c i arg2 harg2 arg3 harg3 arg4 harg4
      arg5 harg5 arg6 harg6 arg7 harg7 arg8 harg8 arg9 harg9 arg10 harg10 arg11 harg11 arg12 harg12 arg13 harg13 x0
      x1 x2 x3 x4)).l7 := by
  unfold kernelRun0_A
  rfl

theorem a3_l8 (hc0 : cond0_0 i) : (kernelRun0_A c i arg2 harg2 arg3 harg3 arg4 harg4 arg5 harg5 arg6 harg6 arg7 harg7
  arg8 harg8 arg9 harg9 arg10 harg10 arg11 harg11 arg12 harg12 arg13 harg13 hc0 x0 x1 x2 x3 x4).2.1 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 768) facts256 rfl 3 k0_pay246 (a2 c i arg2 harg2 arg3 harg3 arg4 harg4
      arg5 harg5 arg6 harg6 arg7 harg7 arg8 harg8 arg9 harg9 arg10 harg10 arg11 harg11 arg12 harg12 arg13 harg13 x0
      x1 x2 x3 x4)).l8 := by
  unfold kernelRun0_A
  rfl

theorem a3_l9 (hc0 : cond0_0 i) : (kernelRun0_A c i arg2 harg2 arg3 harg3 arg4 harg4 arg5 harg5 arg6 harg6 arg7 harg7
  arg8 harg8 arg9 harg9 arg10 harg10 arg11 harg11 arg12 harg12 arg13 harg13 hc0 x0 x1 x2 x3 x4).2.2.1 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_A.sl.HS0_1 c arg2 harg2 x0)) (arg11.view.writes (Elt F)
      arg11.view.junk (kernelRun0_A.sl.HS1_1 c arg5 harg5 x3)) arg7.view.junk arg8.view.junk arg9.view.junk
      arg12.view.junk arg13.view.junk (ρ := 768) facts256 rfl 3 k0_pay246 (a2 c i arg2 harg2 arg3 harg3 arg4 harg4
      arg5 harg5 arg6 harg6 arg7 harg7 arg8 harg8 arg9 harg9 arg10 harg10 arg11 harg11 arg12 harg12 arg13 harg13 x0
      x1 x2 x3 x4)).l9 := by
  unfold kernelRun0_A
  rfl

end Cert.Proof

end
-- ==== Proof.PointA.lean ====
/- A run of a block of queries over the reals,
   where it is the first block of its head. -/
module

public import proofs.«01_k».proof.Proof.Start
public import proofs.«01_k».proof.Proof.WordsADiag

@[expose] public section

set_option maxRecDepth 16384

noncomputable section

namespace Cert.Proof

open Idealize.ShloMosaic Idealize.ShloMosaic.ValueIdx
open Cert.KernelIdeal Cert.KernelIdeal.Gen

section

variable {F : FTy → Type} [FloatOps F]

theorem all4_inb : ∀ a, (![0, 0, 0, 0] : Fin 4 → ℕ) a + Tiles.size a ≤ Tiles.size a := by decide

/-- The whole of the tiles, as a rectangle of them. -/
abbrev all4A : Rect Tiles := Rect.unit (s := Tiles) ![0, 0, 0, 0] Tiles.size all4_inb

theorem aStart_eq : aStart (F := F) = ⟨[⟨all2 1024 128, k0_pay166⟩], [⟨all4A, k0_pay156⟩], [⟨all4A, k0_pay157⟩],
    [⟨all2 1024 128, k0_pay164⟩], [⟨all2 1024 128, k0_pay165⟩]⟩ := rfl

theorem a_turned (c : Dev nD) (arg2 : Memref sig .tc .vmem S1024x128 .bf16) (harg2 : arg2.IsWhole)
    (x0 : Vec F S1024x128 .bf16) : kernelRun0_A.sl.HS0_1 c arg2 harg2 x0 = [⟨all2 128 1024,
      k0_pay158 (arg2.view.readAt (Elt F) (all2 1024 128).toLoadRect (harg2.unread x0))⟩] := rfl

theorem a_turned' (c : Dev nD) (arg5 : Memref sig .tc .vmem S1024x128 .bf16) (harg5 : arg5.IsWhole)
    (x3 : Vec F S1024x128 .bf16) : kernelRun0_A.sl.HS1_1 c arg5 harg5 x3 = [⟨all2 128 1024,
      k0_pay159 (arg5.view.readAt (Elt F) (all2 1024 128).toLoadRect (harg5.unread x3))⟩] := rfl

end

variable (c : Dev nD) (i : grid0.Coords) (arg2 : Memref sig .tc .vmem S1024x128 .bf16)
  (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1024x128 .bf16)
  (harg5 : arg5.IsWhole) (arg6 : Memref sig .tc .vmem S1024x128 .f32) (harg6 : arg6.IsWhole)
  (arg7 : Memref sig .tc .vmem S1024x128 .f32) (harg7 : arg7.IsWhole)
  (arg8 : Memref sig .tc .vmem S1x16x128x256 .f32) (harg8 : arg8.IsWhole)
  (arg9 : Memref sig .tc .vmem S1x16x128x256 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S1024x128 .f32) (harg12 : arg12.IsWhole)
  (arg13 : Memref sig .tc .vmem S1024x128 .f32) (harg13 : arg13.IsWhole)
  (x0 : Vec Ideal S1024x128 .bf16) (x1 x2 : Vec Ideal S4096x128 .bf16) (x3 : Vec Ideal S1024x128 .bf16)
  (x4 : Vec Ideal S1024x128 .f32) {h : Head}

attribute [local irreducible] st_k0_t1 st_k0_t2

/-- What a run has stored, over what its buffers held. -/
theorem runA (hc0 : cond0_0 i) (hq : Rl (n := 1024) (m := 128) x0 fun r e => h.Q (1024 * (i 1).val + r) e)
    (hk : Rl (n := 4096) (m := 128) x1 h.K) (hv : Rl (n := 4096) (m := 128) x2 h.V)
    (hd : Rl (n := 1024) (m := 128) x3 fun r e => h.D (1024 * (i 1).val + r) e)
    (hlt : Rl (n := 1024) (m := 128) x4 fun r _ => h.T (1024 * (i 1).val + r))
    (hi : (i 1).val = 0) :
    Rl (n := 1024) (m := 128) (arg7.view.read (Elt Ideal) (arg7.view.writes (Elt Ideal) arg7.view.junk (kernelRun0_A
      c i arg2 harg2 arg3 harg3 arg4 harg4 arg5 harg5 arg6 harg6 arg7 harg7 arg8 harg8 arg9 harg9 arg10 harg10 arg11
        harg11 arg12 harg12 arg13 harg13 hc0 x0 x1 x2 x3 x4).1))
      (fun r e => h.DQ (256 * (4 * (i 1).val + 4)) (1024 * (i 1).val + r) e) ∧
    Rl4 (arg8.view.read (Elt Ideal) (arg8.view.writes (Elt Ideal) arg8.view.junk (kernelRun0_A c i arg2 harg2 arg3
      harg3 arg4 harg4 arg5 harg5 arg6 harg6 arg7 harg7 arg8 harg8 arg9 harg9 arg10 harg10 arg11 harg11 arg12 harg12
        arg13 harg13 hc0 x0 x1 x2 x3 x4).2.1))
      (h.DK (1024 * ((i 1).val + 1))) ∧
    Rl4 (arg9.view.read (Elt Ideal) (arg9.view.writes (Elt Ideal) arg9.view.junk (kernelRun0_A c i arg2 harg2 arg3
      harg3 arg4 harg4 arg5 harg5 arg6 harg6 arg7 harg7 arg8 harg8 arg9 harg9 arg10 harg10 arg11 harg11 arg12 harg12
        arg13 harg13 hc0 x0 x1 x2 x3 x4).2.2.1))
      (h.DV (1024 * ((i 1).val + 1))) := by
  have B := block_In (harg2 := harg2) (harg3 := harg3) (harg4 := harg4) (harg5 := harg5) (harg6 := harg6) hq hk hv hd
    hlt
    (g10 := arg10.view.junk) (g11 := arg11.view.junk)
  rw [← a_turned c, ← a_turned' c] at B
  have S : St h (i 1).val 0 _ _ _ _ _ := block_start (arg7 := arg7) (arg12 := arg12) (arg13 := arg13)
    (f7 := arg7.view.junk) (f12 := arg12.view.junk) (f13 := arg13.view.junk)
    ((store_tiles arg8.view arg8.view.junk rfl all4_inb (k0_pay156 (F := Ideal)) [] rl_zero156).congr
      (o' := h.DK (1024 * (i 1).val)) fun j _ a _ b _ => by rw [hi]; rfl)
    ((store_tiles arg9.view arg9.view.junk rfl all4_inb (k0_pay157 (F := Ideal)) [] rl_zero157).congr
      (o' := h.DV (1024 * (i 1).val)) fun j _ a _ b _ => by rw [hi]; rfl)
  have S' := lst2_St (P := aStart) B (by rw [aStart_eq]; exact S) (aLoops_eq c i arg2 harg2 arg3 harg3 arg4 harg4
    arg5 harg5 arg6 harg6 arg7 harg7 arg8 harg8 arg9 harg9 arg10 harg10 arg11 harg11 arg12 harg12 arg13 harg13 x0 x1
      x2 x3 x4)
  have S0 := dstep_St facts1024 rfl 0 B rfl mask175 S' (a0_eq c i arg2 harg2 arg3 harg3 arg4 harg4 arg5 harg5 arg6
    harg6 arg7 harg7 arg8 harg8 arg9 harg9 arg10 harg10 arg11 harg11 arg12 harg12 arg13 harg13 x0 x1 x2 x3 x4)
  have S1 := dstep_St facts768 rfl 1 B rfl mask199 S0 (a1_eq c i arg2 harg2 arg3 harg3 arg4 harg4 arg5 harg5 arg6
    harg6 arg7 harg7 arg8 harg8 arg9 harg9 arg10 harg10 arg11 harg11 arg12 harg12 arg13 harg13 x0 x1 x2 x3 x4)
  have S2 := dstep_St facts512 rfl 2 B rfl mask224 S1 (a2_eq c i arg2 harg2 arg3 harg3 arg4 harg4 arg5 harg5 arg6
    harg6 arg7 harg7 arg8 harg8 arg9 harg9 arg10 harg10 arg11 harg11 arg12 harg12 arg13 harg13 x0 x1 x2 x3 x4)
  have S3 := dstep_St facts256 rfl 3 B rfl mask246 S2 rfl
  have e7 := a3_l7 c i arg2 harg2 arg3 harg3 arg4 harg4 arg5 harg5 arg6 harg6 arg7 harg7 arg8 harg8 arg9 harg9 arg10
    harg10 arg11 harg11 arg12 harg12 arg13 harg13 x0 x1 x2 x3 x4 hc0
  have e8 := a3_l8 c i arg2 harg2 arg3 harg3 arg4 harg4 arg5 harg5 arg6 harg6 arg7 harg7 arg8 harg8 arg9 harg9 arg10
    harg10 arg11 harg11 arg12 harg12 arg13 harg13 x0 x1 x2 x3 x4 hc0
  have e9 := a3_l9 c i arg2 harg2 arg3 harg3 arg4 harg4 arg5 harg5 arg6 harg6 arg7 harg7 arg8 harg8 arg9 harg9 arg10
    harg10 arg11 harg11 arg12 harg12 arg13 harg13 x0 x1 x2 x3 x4 hc0
  exact ⟨stores_eq e7 S3.dq, stores_eq4 e8 (S3.dk.congr fun j _ a _ b _ => h.DK_block _),
    stores_eq4 e9 (S3.dv.congr fun j _ a _ b _ => h.DV_block _)⟩

/-- What the point leaves. -/
theorem outA (hc0 : cond0_0 i) (hq : Rl (n := 1024) (m := 128) x0 fun r e => h.Q (1024 * (i 1).val + r) e)
    (hk : Rl (n := 4096) (m := 128) x1 h.K) (hv : Rl (n := 4096) (m := 128) x2 h.V)
    (hd : Rl (n := 1024) (m := 128) x3 fun r e => h.D (1024 * (i 1).val + r) e)
    (hlt : Rl (n := 1024) (m := 128) x4 fun r _ => h.T (1024 * (i 1).val + r))
    (hi : (i 1).val = 0) :
    Rl (n := 1024) (m := 128) (out0_A_5 c i arg2 harg2 arg3 harg3 arg4 harg4 arg5 harg5 arg6 harg6 arg7 harg7 arg8
      harg8 arg9 harg9 arg10 harg10 arg11 harg11 arg12 harg12 arg13 harg13 hc0 x0 x1 x2 x3 x4)
      (fun r e => h.DQ (256 * (4 * (i 1).val + 4)) (1024 * (i 1).val + r) e) ∧
    Rl4 (out0_A_6 c i arg2 harg2 arg3 harg3 arg4 harg4 arg5 harg5 arg6 harg6 arg7 harg7 arg8 harg8 arg9 harg9 arg10
      harg10 arg11 harg11 arg12 harg12 arg13 harg13 hc0 x0 x1 x2 x3 x4) (h.DK (1024 * ((i 1).val + 1))) ∧
    Rl4 (out0_A_7 c i arg2 harg2 arg3 harg3 arg4 harg4 arg5 harg5 arg6 harg6 arg7 harg7 arg8 harg8 arg9 harg9 arg10
      harg10 arg11 harg11 arg12 harg12 arg13 harg13 hc0 x0 x1 x2 x3 x4) (h.DV (1024 * ((i 1).val + 1))) := by
  obtain ⟨a, b, d⟩ := runA c i arg2 harg2 arg3 harg3 arg4 harg4 arg5 harg5 arg6 harg6 arg7 harg7 arg8 harg8 arg9
    harg9 arg10 harg10 arg11 harg11 arg12 harg12 arg13 harg13 x0 x1 x2 x3 x4 hc0 hq hk hv hd hlt hi
  unfold out0_A_5 out0_A_6 out0_A_7
  exact ⟨covered (cover0_A_5 c i arg2 harg2 arg3 harg3 arg4 harg4 arg5 harg5 arg6 harg6 arg7 harg7 arg8 harg8 arg9
    harg9 arg10 harg10 arg11 harg11 arg12 harg12 arg13 harg13 hc0 x0 x1 x2 x3 x4) a, covered4 (cover0_A_6 c i arg2
      harg2 arg3 harg3 arg4 harg4 arg5 harg5 arg6 harg6 arg7 harg7 arg8 harg8 arg9 harg9 arg10 harg10 arg11 harg11
        arg12 harg12 arg13 harg13 hc0 x0 x1 x2 x3 x4) b, covered4 (cover0_A_7 c i arg2 harg2 arg3 harg3 arg4 harg4
          arg5 harg5 arg6 harg6 arg7 harg7 arg8 harg8 arg9 harg9 arg10 harg10 arg11 harg11 arg12 harg12 arg13 harg13
            hc0 x0 x1 x2 x3 x4) d⟩

end Cert.Proof

end
-- ==== Proof.WordsB.lean ====
/- What the run of a block of queries stores up to its first masked tile,
   where it is the later block of its head. -/
module

public import proofs.«01_k».proof.Proof.Entry

@[expose] public section

set_option maxRecDepth 16384

noncomputable section

namespace Cert.Proof

open Idealize.ShloMosaic Idealize.ShloMosaic.ValueIdx
open Cert.KernelIdeal Cert.KernelIdeal.Gen

variable {F : FTy → Type} [FloatOps F] (c : Dev nD) (i : grid0.Coords) (arg2 : Memref sig .tc .vmem S1024x128 .bf16)
  (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1024x128 .bf16)
  (harg5 : arg5.IsWhole) (arg6 : Memref sig .tc .vmem S1024x128 .f32) (harg6 : arg6.IsWhole)
  (arg7 : Memref sig .tc .vmem S1024x128 .f32) (harg7 : arg7.IsWhole)
  (arg8 : Memref sig .tc .vmem S1x16x128x256 .f32) (harg8 : arg8.IsWhole)
  (arg9 : Memref sig .tc .vmem S1x16x128x256 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S1024x128 .f32) (harg12 : arg12.IsWhole)
  (arg13 : Memref sig .tc .vmem S1024x128 .f32) (harg13 : arg13.IsWhole)
  (x0 : Vec F S1024x128 .bf16) (x1 x2 : Vec F S4096x128 .bf16) (x3 : Vec F S1024x128 .bf16) (x4 : Vec F S1024x128
    .f32)
  (xo6 xo7 : Vec F S1x16x128x256 .f32)

attribute [local irreducible] st_k0_t1 st_k0_t2

/-- The stores before the loops. -/
abbrev bStart : Lst F :=
  ⟨kernelRun0_B.sl.H5_1, [], [], kernelRun0_B.sl.HS2_1, kernelRun0_B.sl.HS3_1⟩

/-- What the first loop stores. -/
abbrev bT1 := st_k0_t1 (F := F) Variants.none c none i arg2 harg2 arg3 harg3 arg4 harg4 arg5 harg5 arg6 harg6 arg7
  harg7 arg8 harg8 arg9 harg9 arg10 harg10 arg11 harg11 arg12 harg12 arg13 harg13 (BitVec.ofNat 32 (i 1).val)
  (k0_pay162 k0_pay160 k0_pay161) k0_pay163 0#32 0#32 (harg2.unread x0) (harg3.unread x1) (harg4.unread x2)
  (harg5.unread x3) (harg6.unread x4) (arg10.view.writes (Elt F) arg10.view.junk (kernelRun0_B.sl.HS0_1 c arg2 harg2
  x0)) (arg11.view.writes (Elt F) arg11.view.junk (kernelRun0_B.sl.HS1_1 c arg5 harg5 x3)) (arg7.view.writes (Elt F)
  arg7.view.junk kernelRun0_B.sl.H5_1) (harg8.unread xo6) (harg9.unread xo7) (arg12.view.writes (Elt F)
  arg12.view.junk kernelRun0_B.sl.HS2_1) (arg13.view.writes (Elt F) arg13.view.junk kernelRun0_B.sl.HS3_1) 0#32
  (Scf.trips (k0_t1_loop i).lb (k0_t1_loop i).ub (k0_t1_loop i).st)

/-- What the second loop stores. -/
abbrev bT2 := st_k0_t2 (F := F) Variants.none c none i arg2 harg2 arg3 harg3 arg4 harg4 arg5 harg5 arg6 harg6 arg7
  harg7 arg8 harg8 arg9 harg9 arg10 harg10 arg11 harg11 arg12 harg12 arg13 harg13 (BitVec.ofNat 32 (i 1).val)
  (k0_pay162 k0_pay160 k0_pay161) k0_pay163 0#32 0#32 (kernelRun0_B.sl.v81 i) (harg2.unread x0) (harg3.unread x1)
  (harg4.unread x2) (harg5.unread x3) (harg6.unread x4) (arg10.view.writes (Elt F) arg10.view.junk
  (kernelRun0_B.sl.HS0_1 c arg2 harg2 x0)) (arg11.view.writes (Elt F) arg11.view.junk (kernelRun0_B.sl.HS1_1 c arg5
  harg5 x3)) (arg7.view.writes (Elt F) arg7.view.junk ((bT1 c i arg2 harg2 arg3 harg3 arg4 harg4 arg5 harg5 arg6
  harg6 arg7 harg7 arg8 harg8 arg9 harg9 arg10 harg10 arg11 harg11 arg12 harg12 arg13 harg13 x0 x1 x2 x3 x4 xo6
  xo7).2.1 ++ kernelRun0_B.sl.H5_1)) (arg8.view.writes (Elt F) (harg8.unread xo6) (bT1 c i arg2 harg2 arg3 harg3 arg4
  harg4 arg5 harg5 arg6 harg6 arg7 harg7 arg8 harg8 arg9 harg9 arg10 harg10 arg11 harg11 arg12 harg12 arg13 harg13 x0
  x1 x2 x3 x4 xo6 xo7).2.2.1) (arg9.view.writes (Elt F) (harg9.unread xo7) (bT1 c i arg2 harg2 arg3 harg3 arg4 harg4
  arg5 harg5 arg6 harg6 arg7 harg7 arg8 harg8 arg9 harg9 arg10 harg10 arg11 harg11 arg12 harg12 arg13 harg13 x0 x1 x2
  x3 x4 xo6 xo7).2.2.2.1) (arg12.view.writes (Elt F) arg12.view.junk ((bT1 c i arg2 harg2 arg3 harg3 arg4 harg4 arg5
  harg5 arg6 harg6 arg7 harg7 arg8 harg8 arg9 harg9 arg10 harg10 arg11 harg11 arg12 harg12 arg13 harg13 x0 x1 x2 x3
  x4 xo6 xo7).2.2.2.2.1 ++ kernelRun0_B.sl.HS2_1)) (arg13.view.writes (Elt F) arg13.view.junk ((bT1 c i arg2 harg2
  arg3 harg3 arg4 harg4 arg5 harg5 arg6 harg6 arg7 harg7 arg8 harg8 arg9 harg9 arg10 harg10 arg11 harg11 arg12 harg12
  arg13 harg13 x0 x1 x2 x3 x4 xo6 xo7).2.2.2.2.2 ++ kernelRun0_B.sl.HS3_1)) (bT1 c i arg2 harg2 arg3 harg3 arg4 harg4
  arg5 harg5 arg6 harg6 arg7 harg7 arg8 harg8 arg9 harg9 arg10 harg10 arg11 harg11 arg12 harg12 arg13 harg13 x0 x1 x2
  x3 x4 xo6 xo7).1 (Scf.trips (k0_t2_loop i).lb (k0_t2_loop i).ub (k0_t2_loop i).st)

/-- The stores up to the end of the loops. -/
abbrev bLoops : Lst F where
  l7 := (bT2 c i arg2 harg2 arg3 harg3 arg4 harg4 arg5 harg5 arg6 harg6 arg7 harg7 arg8 harg8 arg9 harg9 arg10 harg10
    arg11 harg11 arg12 harg12 arg13 harg13 x0 x1 x2 x3 x4 xo6 xo7).2.1 ++ ((bT1 c i arg2 harg2 arg3 harg3 arg4 harg4
    arg5 harg5 arg6 harg6 arg7 harg7 arg8 harg8 arg9 harg9 arg10 harg10 arg11 harg11 arg12 harg12 arg13 harg13 x0 x1
    x2 x3 x4 xo6 xo7).2.1 ++ kernelRun0_B.sl.H5_1)
  l8 := (bT2 c i arg2 harg2 arg3 harg3 arg4 harg4 arg5 harg5 arg6 harg6 arg7 harg7 arg8 harg8 arg9 harg9 arg10 harg10
    arg11 harg11 arg12 harg12 arg13 harg13 x0 x1 x2 x3 x4 xo6 xo7).2.2.1 ++ (bT1 c i arg2 harg2 arg3 harg3 arg4 harg4
    arg5 harg5 arg6 harg6 arg7 harg7 arg8 harg8 arg9 harg9 arg10 harg10 arg11 harg11 arg12 harg12 arg13 harg13 x0 x1
    x2 x3 x4 xo6 xo7).2.2.1
  l9 := (bT2 c i arg2 harg2 arg3 harg3 arg4 harg4 arg5 harg5 arg6 harg6 arg7 harg7 arg8 harg8 arg9 harg9 arg10 harg10
    arg11 harg11 arg12 harg12 arg13 harg13 x0 x1 x2 x3 x4 xo6 xo7).2.2.2.1 ++ (bT1 c i arg2 harg2 arg3 harg3 arg4
    harg4 arg5 harg5 arg6 harg6 arg7 harg7 arg8 harg8 arg9 harg9 arg10 harg10 arg11 harg11 arg12 harg12 arg13 harg13
    x0 x1 x2 x3 x4 xo6 xo7).2.2.2.1
  l12 := (bT2 c i arg2 harg2 arg3 harg3 arg4 harg4 arg5 harg5 arg6 harg6 arg7 harg7 arg8 harg8 arg9 harg9 arg10
    harg10 arg11 harg11 arg12 harg12 arg13 harg13 x0 x1 x2 x3 x4 xo6 xo7).2.2.2.2.1 ++ ((bT1 c i arg2 harg2 arg3
    harg3 arg4 harg4 arg5 harg5 arg6 harg6 arg7 harg7 arg8 harg8 arg9 harg9 arg10 harg10 arg11 harg11 arg12 harg12
    arg13 harg13 x0 x1 x2 x3 x4 xo6 xo7).2.2.2.2.1 ++ kernelRun0_B.sl.HS2_1)
  l13 := (bT2 c i arg2 harg2 arg3 harg3 arg4 harg4 arg5 harg5 arg6 harg6 arg7 harg7 arg8 harg8 arg9 harg9 arg10
    harg10 arg11 harg11 arg12 harg12 arg13 harg13 x0 x1 x2 x3 x4 xo6 xo7).2.2.2.2.2 ++ ((bT1 c i arg2 harg2 arg3
    harg3 arg4 harg4 arg5 harg5 arg6 harg6 arg7 harg7 arg8 harg8 arg9 harg9 arg10 harg10 arg11 harg11 arg12 harg12
    arg13 harg13 x0 x1 x2 x3 x4 xo6 xo7).2.2.2.2.2 ++ kernelRun0_B.sl.HS3_1)

theorem bLoops_eq : bLoops c i arg2 harg2 arg3 harg3 arg4 harg4 arg5 harg5 arg6 harg6 arg7 harg7 arg8 harg8 arg9
  harg9 arg10 harg10 arg11 harg11 arg12 harg12 arg13 harg13 x0 x1 x2 x3 x4 xo6 xo7 = lst2 c i arg2 harg2 arg3 harg3
  arg4 harg4 arg5 harg5 arg6 harg6 arg7 harg7 arg8 harg8 arg9 harg9 arg10 harg10 arg11 harg11 arg12 harg12 arg13
  harg13 (k0_pay162 k0_pay160 k0_pay161) k0_pay163 (kernelRun0_B.sl.v81 i) (harg2.unread x0) (harg3.unread x1)
  (harg4.unread x2) (harg5.unread x3) (harg6.unread x4) (arg10.view.writes (Elt F) arg10.view.junk
  (kernelRun0_B.sl.HS0_1 c arg2 harg2 x0)) (arg11.view.writes (Elt F) arg11.view.junk (kernelRun0_B.sl.HS1_1 c arg5
  harg5 x3)) arg7.view.junk (harg8.unread xo6) (harg9.unread xo7) arg12.view.junk arg13.view.junk bStart := rfl

/-- The stores up to the masked tile 0. -/
abbrev b0 : Lst F where
  l7 := kernelRun0_B.sl.H5_1_1 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l8 := kernelRun0_B.sl.H6_1 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l9 := kernelRun0_B.sl.H7_1 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l12 := kernelRun0_B.sl.HS2_1_1 c i arg2 harg2 arg3 harg3 arg4 harg4 arg5 harg5 arg6 harg6 arg7 harg7 arg8 harg8
    arg9 harg9 arg10 harg10 arg11 harg11 arg12 harg12 arg13 harg13 x0 x1 x2 x3 x4 xo6 xo7
  l13 := kernelRun0_B.sl.HS3_1_1 c i arg2 harg2 arg3 harg3 arg4 harg4 arg5 harg5 arg6 harg6 arg7 harg7 arg8 harg8
    arg9 harg9 arg10 harg10 arg11 harg11 arg12 harg12 arg13 harg13 x0 x1 x2 x3 x4 xo6 xo7

/-- The stores up to the masked tile 1. -/
abbrev b1 : Lst F where
  l7 := kernelRun0_B.sl.H5_2 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l8 := kernelRun0_B.sl.H6_2 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l9 := kernelRun0_B.sl.H7_2 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l12 := kernelRun0_B.sl.HS2_2 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l13 := kernelRun0_B.sl.HS3_2 c i arg2 harg2 arg3 harg3 arg4 harg4 arg5 harg5 arg6 harg6 arg7 harg7 arg8 harg8 arg9
    harg9 arg10 harg10 arg11 harg11 arg12 harg12 arg13 harg13 x0 x1 x2 x3 x4 xo6 xo7

/-- The stores up to the masked tile 2. -/
abbrev b2 : Lst F where
  l7 := kernelRun0_B.sl.H5_3 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l8 := kernelRun0_B.sl.H6_3 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l9 := kernelRun0_B.sl.H7_3 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l12 := kernelRun0_B.sl.HS2_3 c i arg2 harg2 arg3 harg3 arg4 harg4 arg5 harg5 arg6 harg6 arg7 harg7 arg8 harg8 arg9
    harg9 arg10 harg10 arg11 harg11 arg12 harg12 arg13 harg13 x0 x1 x2 x3 x4 xo6 xo7
  l13 := kernelRun0_B.sl.HS3_3 c i arg2 harg2 arg3 harg3 arg4 harg4 arg5 harg5 arg6 harg6 arg7 harg7 arg8 harg8 arg9
    harg9 arg10 harg10 arg11 harg11 arg12 harg12 arg13 harg13 x0 x1 x2 x3 x4 xo6 xo7

theorem b_v111 : kernelRun0_B.sl.v111 c i arg2 harg2 arg3 harg3 arg4 harg4 arg5 harg5 arg6 harg6 arg7 harg7 arg8
  harg8 arg9 harg9 arg10 harg10 arg11 harg11 arg12 harg12 arg13 harg13 x0 x1 x2 x3 x4 xo6 xo7 =
    ldr rfl arg12 (arg12.view.writes (Elt F) arg12.view.junk (bLoops c i arg2 harg2 arg3 harg3 arg4 harg4 arg5 harg5
      arg6 harg6 arg7 harg7 arg8 harg8 arg9 harg9 arg10 harg10 arg11 harg11 arg12 harg12 arg13 harg13 x0 x1 x2 x3 x4
      xo6 xo7).l12) := rfl

theorem b_v144 : kernelRun0_B.sl.v144 c i arg2 harg2 arg3 harg3 arg4 harg4 arg5 harg5 arg6 harg6 arg7 harg7 arg8
  harg8 arg9 harg9 arg10 harg10 arg11 harg11 arg12 harg12 arg13 harg13 x0 x1 x2 x3 x4 xo6 xo7 =
    ldr rfl arg13 (arg13.view.writes (Elt F) arg13.view.junk (bLoops c i arg2 harg2 arg3 harg3 arg4 harg4 arg5 harg5
      arg6 harg6 arg7 harg7 arg8 harg8 arg9 harg9 arg10 harg10 arg11 harg11 arg12 harg12 arg13 harg13 x0 x1 x2 x3 x4
      xo6 xo7).l13) := rfl

theorem b_v194 : kernelRun0_B.sl.v194 c i arg2 harg2 arg3 harg3 arg4 harg4 arg5 harg5 arg6 harg6 arg7 harg7 arg8
  harg8 arg9 harg9 arg10 harg10 arg11 harg11 arg12 harg12 arg13 harg13 x0 x1 x2 x3 x4 xo6 xo7 =
    ldr rfl arg7 (arg7.view.writes (Elt F) arg7.view.junk (bLoops c i arg2 harg2 arg3 harg3 arg4 harg4 arg5 harg5
      arg6 harg6 arg7 harg7 arg8 harg8 arg9 harg9 arg10 harg10 arg11 harg11 arg12 harg12 arg13 harg13 x0 x1 x2 x3 x4
      xo6 xo7).l7) := rfl

theorem b_v174 : kernelRun0_B.sl.v174 c i arg2 harg2 arg3 harg3 arg4 harg4 arg5 harg5 arg6 harg6 arg7 harg7 arg8
  harg8 arg9 harg9 arg10 harg10 arg11 harg11 arg12 harg12 arg13 harg13 x0 x1 x2 x3 x4 xo6 xo7 =
    arg8.view.readAt (Elt F) (Rect.unit (s := S1x16x128x256) (k0_off6 i (BitVec.ofNat 32 (0 : Fin 4).val))
      S1x1x128x256.size (k0_off6_inb i 0)).toLoadRect (arg8.view.writes (Elt F) (harg8.unread xo6) (bLoops c i arg2
      harg2 arg3 harg3 arg4 harg4 arg5 harg5 arg6 harg6 arg7 harg7 arg8 harg8 arg9 harg9 arg10 harg10 arg11 harg11
      arg12 harg12 arg13 harg13 x0 x1 x2 x3 x4 xo6 xo7).l8) := rfl

theorem b_v184 : kernelRun0_B.sl.v184 c i arg2 harg2 arg3 harg3 arg4 harg4 arg5 harg5 arg6 harg6 arg7 harg7 arg8
  harg8 arg9 harg9 arg10 harg10 arg11 harg11 arg12 harg12 arg13 harg13 x0 x1 x2 x3 x4 xo6 xo7 =
    arg9.view.readAt (Elt F) (Rect.unit (s := S1x16x128x256) (k0_off6 i (BitVec.ofNat 32 (0 : Fin 4).val))
      S1x1x128x256.size (k0_off6_inb i 0)).toLoadRect (arg9.view.writes (Elt F) (harg9.unread xo7) (bLoops c i arg2
      harg2 arg3 harg3 arg4 harg4 arg5 harg5 arg6 harg6 arg7 harg7 arg8 harg8 arg9 harg9 arg10 harg10 arg11 harg11
      arg12 harg12 arg13 harg13 x0 x1 x2 x3 x4 xo6 xo7).l9) := rfl

theorem b0_l7' : (b0 c i arg2 harg2 arg3 harg3 arg4 harg4 arg5 harg5 arg6 harg6 arg7 harg7 arg8 harg8 arg9 harg9
  arg10 harg10 arg11 harg11 arg12 harg12 arg13 harg13 x0 x1 x2 x3 x4 xo6 xo7).l7 =
    ⟨Rect.unit (s := S1024x128) ![0, 0] (Mat 1024 128).size (rows_inb rfl), (dops i arg2 arg3 arg4 arg5 arg6
      (k0_pay162 k0_pay160 k0_pay161) k0_pay163 (harg2.unread x0) (harg3.unread x1) (harg4.unread x2) (harg5.unread
      x3) (harg6.unread x4) (ρ := 0) rfl 0 k0_pay175).dq facts1024 0 (kernelRun0_B.sl.v111 c i arg2 harg2 arg3 harg3
      arg4 harg4 arg5 harg5 arg6 harg6 arg7 harg7 arg8 harg8 arg9 harg9 arg10 harg10 arg11 harg11 arg12 harg12 arg13
      harg13 x0 x1 x2 x3 x4 xo6 xo7) (kernelRun0_B.sl.v144 c i arg2 harg2 arg3 harg3 arg4 harg4 arg5 harg5 arg6 harg6
      arg7 harg7 arg8 harg8 arg9 harg9 arg10 harg10 arg11 harg11 arg12 harg12 arg13 harg13 x0 x1 x2 x3 x4 xo6 xo7)
      (kernelRun0_B.sl.v194 c i arg2 harg2 arg3 harg3 arg4 harg4 arg5 harg5 arg6 harg6 arg7 harg7 arg8 harg8 arg9
      harg9 arg10 harg10 arg11 harg11 arg12 harg12 arg13 harg13 x0 x1 x2 x3 x4 xo6 xo7)⟩ :: (bLoops c i arg2 harg2
      arg3 harg3 arg4 harg4 arg5 harg5 arg6 harg6 arg7 harg7 arg8 harg8 arg9 harg9 arg10 harg10 arg11 harg11 arg12
      harg12 arg13 harg13 x0 x1 x2 x3 x4 xo6 xo7).l7 := rfl

theorem b0_l7 : (b0 c i arg2 harg2 arg3 harg3 arg4 harg4 arg5 harg5 arg6 harg6 arg7 harg7 arg8 harg8 arg9 harg9 arg10
  harg10 arg11 harg11 arg12 harg12 arg13 harg13 x0 x1 x2 x3 x4 xo6 xo7).l7 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 0) facts1024 rfl 0 k0_pay175 (bLoops c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l7 := by
  rw [b0_l7', b_v111, b_v144, b_v194]

theorem b0_l8' : (b0 c i arg2 harg2 arg3 harg3 arg4 harg4 arg5 harg5 arg6 harg6 arg7 harg7 arg8 harg8 arg9 harg9
  arg10 harg10 arg11 harg11 arg12 harg12 arg13 harg13 x0 x1 x2 x3 x4 xo6 xo7).l8 =
    ⟨Rect.unit (s := S1x16x128x256) (k0_off6 i (BitVec.ofNat 32 (0 : Fin 4).val)) S1x1x128x256.size (k0_off6_inb i
      0), (dops i arg2 arg3 arg4 arg5 arg6 (k0_pay162 k0_pay160 k0_pay161) k0_pay163 (harg2.unread x0) (harg3.unread
      x1) (harg4.unread x2) (harg5.unread x3) (harg6.unread x4) (ρ := 0) rfl 0 k0_pay175).dk facts1024 0
      (kernelRun0_B.sl.v111 c i arg2 harg2 arg3 harg3 arg4 harg4 arg5 harg5 arg6 harg6 arg7 harg7 arg8 harg8 arg9
      harg9 arg10 harg10 arg11 harg11 arg12 harg12 arg13 harg13 x0 x1 x2 x3 x4 xo6 xo7) (kernelRun0_B.sl.v144 c i
      arg2 harg2 arg3 harg3 arg4 harg4 arg5 harg5 arg6 harg6 arg7 harg7 arg8 harg8 arg9 harg9 arg10 harg10 arg11
      harg11 arg12 harg12 arg13 harg13 x0 x1 x2 x3 x4 xo6 xo7) (ldc rfl arg10 (arg10.view.writes (Elt F)
      arg10.view.junk (kernelRun0_B.sl.HS0_1 c arg2 harg2 x0))) (kernelRun0_B.sl.v174 c i arg2 harg2 arg3 harg3 arg4
      harg4 arg5 harg5 arg6 harg6 arg7 harg7 arg8 harg8 arg9 harg9 arg10 harg10 arg11 harg11 arg12 harg12 arg13
      harg13 x0 x1 x2 x3 x4 xo6 xo7)⟩ :: (bLoops c i arg2 harg2 arg3 harg3 arg4 harg4 arg5 harg5 arg6 harg6 arg7
      harg7 arg8 harg8 arg9 harg9 arg10 harg10 arg11 harg11 arg12 harg12 arg13 harg13 x0 x1 x2 x3 x4 xo6 xo7).l8 :=
      rfl

theorem b0_l8 : (b0 c i arg2 harg2 arg3 harg3 arg4 harg4 arg5 harg5 arg6 harg6 arg7 harg7 arg8 harg8 arg9 harg9 arg10
  harg10 arg11 harg11 arg12 harg12 arg13 harg13 x0 x1 x2 x3 x4 xo6 xo7).l8 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 0) facts1024 rfl 0 k0_pay175 (bLoops c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l8 := by
  rw [b0_l8', b_v111, b_v144, b_v174]

theorem b0_l9' : (b0 c i arg2 harg2 arg3 harg3 arg4 harg4 arg5 harg5 arg6 harg6 arg7 harg7 arg8 harg8 arg9 harg9
  arg10 harg10 arg11 harg11 arg12 harg12 arg13 harg13 x0 x1 x2 x3 x4 xo6 xo7).l9 =
    ⟨Rect.unit (s := S1x16x128x256) (k0_off6 i (BitVec.ofNat 32 (0 : Fin 4).val)) S1x1x128x256.size (k0_off6_inb i
      0), (dops i arg2 arg3 arg4 arg5 arg6 (k0_pay162 k0_pay160 k0_pay161) k0_pay163 (harg2.unread x0) (harg3.unread
      x1) (harg4.unread x2) (harg5.unread x3) (harg6.unread x4) (ρ := 0) rfl 0 k0_pay175).dv facts1024 0
      (kernelRun0_B.sl.v111 c i arg2 harg2 arg3 harg3 arg4 harg4 arg5 harg5 arg6 harg6 arg7 harg7 arg8 harg8 arg9
      harg9 arg10 harg10 arg11 harg11 arg12 harg12 arg13 harg13 x0 x1 x2 x3 x4 xo6 xo7) (ldc rfl arg11
      (arg11.view.writes (Elt F) arg11.view.junk (kernelRun0_B.sl.HS1_1 c arg5 harg5 x3))) (kernelRun0_B.sl.v184 c i
      arg2 harg2 arg3 harg3 arg4 harg4 arg5 harg5 arg6 harg6 arg7 harg7 arg8 harg8 arg9 harg9 arg10 harg10 arg11
      harg11 arg12 harg12 arg13 harg13 x0 x1 x2 x3 x4 xo6 xo7)⟩ :: (bLoops c i arg2 harg2 arg3 harg3 arg4 harg4 arg5
      harg5 arg6 harg6 arg7 harg7 arg8 harg8 arg9 harg9 arg10 harg10 arg11 harg11 arg12 harg12 arg13 harg13 x0 x1 x2
      x3 x4 xo6 xo7).l9 := rfl

theorem b0_l9 : (b0 c i arg2 harg2 arg3 harg3 arg4 harg4 arg5 harg5 arg6 harg6 arg7 harg7 arg8 harg8 arg9 harg9 arg10
  harg10 arg11 harg11 arg12 harg12 arg13 harg13 x0 x1 x2 x3 x4 xo6 xo7).l9 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 0) facts1024 rfl 0 k0_pay175 (bLoops c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l9 := by
  rw [b0_l9', b_v111, b_v184]

theorem b0_l12' : (b0 c i arg2 harg2 arg3 harg3 arg4 harg4 arg5 harg5 arg6 harg6 arg7 harg7 arg8 harg8 arg9 harg9
  arg10 harg10 arg11 harg11 arg12 harg12 arg13 harg13 x0 x1 x2 x3 x4 xo6 xo7).l12 =
    ⟨Rect.unit (s := S1024x128) ![0, 0] (Mat 1024 128).size (rows_inb rfl), (dops i arg2 arg3 arg4 arg5 arg6
      (k0_pay162 k0_pay160 k0_pay161) k0_pay163 (harg2.unread x0) (harg3.unread x1) (harg4.unread x2) (harg5.unread
      x3) (harg6.unread x4) (ρ := 0) rfl 0 k0_pay175).fl facts1024 0 (kernelRun0_B.sl.v111 c i arg2 harg2 arg3 harg3
      arg4 harg4 arg5 harg5 arg6 harg6 arg7 harg7 arg8 harg8 arg9 harg9 arg10 harg10 arg11 harg11 arg12 harg12 arg13
      harg13 x0 x1 x2 x3 x4 xo6 xo7)⟩ :: (bLoops c i arg2 harg2 arg3 harg3 arg4 harg4 arg5 harg5 arg6 harg6 arg7
      harg7 arg8 harg8 arg9 harg9 arg10 harg10 arg11 harg11 arg12 harg12 arg13 harg13 x0 x1 x2 x3 x4 xo6 xo7).l12 :=
      rfl

theorem b0_l12 : (b0 c i arg2 harg2 arg3 harg3 arg4 harg4 arg5 harg5 arg6 harg6 arg7 harg7 arg8 harg8 arg9 harg9
  arg10 harg10 arg11 harg11 arg12 harg12 arg13 harg13 x0 x1 x2 x3 x4 xo6 xo7).l12 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 0) facts1024 rfl 0 k0_pay175 (bLoops c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l12 := by
  rw [b0_l12', b_v111]

theorem b0_l13' : (b0 c i arg2 harg2 arg3 harg3 arg4 harg4 arg5 harg5 arg6 harg6 arg7 harg7 arg8 harg8 arg9 harg9
  arg10 harg10 arg11 harg11 arg12 harg12 arg13 harg13 x0 x1 x2 x3 x4 xo6 xo7).l13 =
    ⟨Rect.unit (s := S1024x128) ![0, 0] (Mat 1024 128).size (rows_inb rfl), (dops i arg2 arg3 arg4 arg5 arg6
      (k0_pay162 k0_pay160 k0_pay161) k0_pay163 (harg2.unread x0) (harg3.unread x1) (harg4.unread x2) (harg5.unread
      x3) (harg6.unread x4) (ρ := 0) rfl 0 k0_pay175).fg facts1024 0 (kernelRun0_B.sl.v111 c i arg2 harg2 arg3 harg3
      arg4 harg4 arg5 harg5 arg6 harg6 arg7 harg7 arg8 harg8 arg9 harg9 arg10 harg10 arg11 harg11 arg12 harg12 arg13
      harg13 x0 x1 x2 x3 x4 xo6 xo7) (kernelRun0_B.sl.v144 c i arg2 harg2 arg3 harg3 arg4 harg4 arg5 harg5 arg6 harg6
      arg7 harg7 arg8 harg8 arg9 harg9 arg10 harg10 arg11 harg11 arg12 harg12 arg13 harg13 x0 x1 x2 x3 x4 xo6 xo7)⟩
      :: (bLoops c i arg2 harg2 arg3 harg3 arg4 harg4 arg5 harg5 arg6 harg6 arg7 harg7 arg8 harg8 arg9 harg9 arg10
      harg10 arg11 harg11 arg12 harg12 arg13 harg13 x0 x1 x2 x3 x4 xo6 xo7).l13 := rfl

theorem b0_l13 : (b0 c i arg2 harg2 arg3 harg3 arg4 harg4 arg5 harg5 arg6 harg6 arg7 harg7 arg8 harg8 arg9 harg9
  arg10 harg10 arg11 harg11 arg12 harg12 arg13 harg13 x0 x1 x2 x3 x4 xo6 xo7).l13 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 0) facts1024 rfl 0 k0_pay175 (bLoops c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l13 := by
  rw [b0_l13', b_v111, b_v144]

theorem b0_eq : b0 c i arg2 harg2 arg3 harg3 arg4 harg4 arg5 harg5 arg6 harg6 arg7 harg7 arg8 harg8 arg9 harg9 arg10
  harg10 arg11 harg11 arg12 harg12 arg13 harg13 x0 x1 x2 x3 x4 xo6 xo7 =
    dstep i arg2 arg3 arg4 arg5 arg6 arg7 arg8 arg9 arg10 arg11 arg12 arg13 (k0_pay162 k0_pay160 k0_pay161) k0_pay163
      (harg2.unread x0) (harg3.unread x1) (harg4.unread x2) (harg5.unread x3) (harg6.unread x4) (arg10.view.writes
      (Elt F) arg10.view.junk (kernelRun0_B.sl.HS0_1 c arg2 harg2 x0)) (arg11.view.writes (Elt F) arg11.view.junk
      (kernelRun0_B.sl.HS1_1 c arg5 harg5 x3)) arg7.view.junk (harg8.unread xo6) (harg9.unread xo7) arg12.view.junk
      arg13.view.junk (ρ := 0) facts1024 rfl 0 k0_pay175 (bLoops c i arg2 harg2 arg3 harg3 arg4 harg4 arg5 harg5 arg6
      harg6 arg7 harg7 arg8 harg8 arg9 harg9 arg10 harg10 arg11 harg11 arg12 harg12 arg13 harg13 x0 x1 x2 x3 x4 xo6
      xo7) :=
  (Lst.mk.injEq ..).mpr ⟨b0_l7 .., b0_l8 .., b0_l9 .., b0_l12 .., b0_l13 ..⟩

end Cert.Proof

end
-- ==== Proof.WordsBDiag.lean ====
/- The masked tiles after the first of a run of a block of queries,
   where it is the later block of its head. -/
module

public import proofs.«01_k».proof.Proof.WordsB

@[expose] public section

set_option maxRecDepth 16384

noncomputable section

namespace Cert.Proof

open Idealize.ShloMosaic Idealize.ShloMosaic.ValueIdx
open Cert.KernelIdeal Cert.KernelIdeal.Gen

variable {F : FTy → Type} [FloatOps F] (c : Dev nD) (i : grid0.Coords) (arg2 : Memref sig .tc .vmem S1024x128 .bf16)
  (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1024x128 .bf16)
  (harg5 : arg5.IsWhole) (arg6 : Memref sig .tc .vmem S1024x128 .f32) (harg6 : arg6.IsWhole)
  (arg7 : Memref sig .tc .vmem S1024x128 .f32) (harg7 : arg7.IsWhole)
  (arg8 : Memref sig .tc .vmem S1x16x128x256 .f32) (harg8 : arg8.IsWhole)
  (arg9 : Memref sig .tc .vmem S1x16x128x256 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S1024x128 .f32) (harg12 : arg12.IsWhole)
  (arg13 : Memref sig .tc .vmem S1024x128 .f32) (harg13 : arg13.IsWhole)
  (x0 : Vec F S1024x128 .bf16) (x1 x2 : Vec F S4096x128 .bf16) (x3 : Vec F S1024x128 .bf16) (x4 : Vec F S1024x128
    .f32)
  (xo6 xo7 : Vec F S1x16x128x256 .f32)

theorem b1_l7 : (b1 c i arg2 harg2 arg3 harg3 arg4 harg4 arg5 harg5 arg6 harg6 arg7 harg7 arg8 harg8 arg9 harg9 arg10
  harg10 arg11 harg11 arg12 harg12 arg13 harg13 x0 x1 x2 x3 x4 xo6 xo7).l7 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 256) facts768 rfl 1 k0_pay199 (b0 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l7 := rfl

theorem b1_l8 : (b1 c i arg2 harg2 arg3 harg3 arg4 harg4 arg5 harg5 arg6 harg6 arg7 harg7 arg8 harg8 arg9 harg9 arg10
  harg10 arg11 harg11 arg12 harg12 arg13 harg13 x0 x1 x2 x3 x4 xo6 xo7).l8 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 256) facts768 rfl 1 k0_pay199 (b0 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l8 := rfl

theorem b1_l9 : (b1 c i arg2 harg2 arg3 harg3 arg4 harg4 arg5 harg5 arg6 harg6 arg7 harg7 arg8 harg8 arg9 harg9 arg10
  harg10 arg11 harg11 arg12 harg12 arg13 harg13 x0 x1 x2 x3 x4 xo6 xo7).l9 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 256) facts768 rfl 1 k0_pay199 (b0 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l9 := rfl

theorem b1_l12 : (b1 c i arg2 harg2 arg3 harg3 arg4 harg4 arg5 harg5 arg6 harg6 arg7 harg7 arg8 harg8 arg9 harg9
  arg10 harg10 arg11 harg11 arg12 harg12 arg13 harg13 x0 x1 x2 x3 x4 xo6 xo7).l12 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 256) facts768 rfl 1 k0_pay199 (b0 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l12 := rfl

theorem b1_l13 : (b1 c i arg2 harg2 arg3 harg3 arg4 harg4 arg5 harg5 arg6 harg6 arg7 harg7 arg8 harg8 arg9 harg9
  arg10 harg10 arg11 harg11 arg12 harg12 arg13 harg13 x0 x1 x2 x3 x4 xo6 xo7).l13 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 256) facts768 rfl 1 k0_pay199 (b0 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l13 := rfl

theorem b1_eq : b1 c i arg2 harg2 arg3 harg3 arg4 harg4 arg5 harg5 arg6 harg6 arg7 harg7 arg8 harg8 arg9 harg9 arg10
  harg10 arg11 harg11 arg12 harg12 arg13 harg13 x0 x1 x2 x3 x4 xo6 xo7 =
    dstep i arg2 arg3 arg4 arg5 arg6 arg7 arg8 arg9 arg10 arg11 arg12 arg13 (k0_pay162 k0_pay160 k0_pay161) k0_pay163
      (harg2.unread x0) (harg3.unread x1) (harg4.unread x2) (harg5.unread x3) (harg6.unread x4) (arg10.view.writes
      (Elt F) arg10.view.junk (kernelRun0_B.sl.HS0_1 c arg2 harg2 x0)) (arg11.view.writes (Elt F) arg11.view.junk
      (kernelRun0_B.sl.HS1_1 c arg5 harg5 x3)) arg7.view.junk (harg8.unread xo6) (harg9.unread xo7) arg12.view.junk
      arg13.view.junk (ρ := 256) facts768 rfl 1 k0_pay199 (b0 c i arg2 harg2 arg3 harg3 arg4 harg4 arg5 harg5 arg6
      harg6 arg7 harg7 arg8 harg8 arg9 harg9 arg10 harg10 arg11 harg11 arg12 harg12 arg13 harg13 x0 x1 x2 x3 x4 xo6
      xo7) :=
  (Lst.mk.injEq ..).mpr ⟨b1_l7 .., b1_l8 .., b1_l9 .., b1_l12 .., b1_l13 ..⟩

theorem b2_l7 : (b2 c i arg2 harg2 arg3 harg3 arg4 harg4 arg5 harg5 arg6 harg6 arg7 harg7 arg8 harg8 arg9 harg9 arg10
  harg10 arg11 harg11 arg12 harg12 arg13 harg13 x0 x1 x2 x3 x4 xo6 xo7).l7 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 512) facts512 rfl 2 k0_pay224 (b1 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l7 := rfl

theorem b2_l8 : (b2 c i arg2 harg2 arg3 harg3 arg4 harg4 arg5 harg5 arg6 harg6 arg7 harg7 arg8 harg8 arg9 harg9 arg10
  harg10 arg11 harg11 arg12 harg12 arg13 harg13 x0 x1 x2 x3 x4 xo6 xo7).l8 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 512) facts512 rfl 2 k0_pay224 (b1 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l8 := rfl

theorem b2_l9 : (b2 c i arg2 harg2 arg3 harg3 arg4 harg4 arg5 harg5 arg6 harg6 arg7 harg7 arg8 harg8 arg9 harg9 arg10
  harg10 arg11 harg11 arg12 harg12 arg13 harg13 x0 x1 x2 x3 x4 xo6 xo7).l9 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 512) facts512 rfl 2 k0_pay224 (b1 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l9 := rfl

theorem b2_l12 : (b2 c i arg2 harg2 arg3 harg3 arg4 harg4 arg5 harg5 arg6 harg6 arg7 harg7 arg8 harg8 arg9 harg9
  arg10 harg10 arg11 harg11 arg12 harg12 arg13 harg13 x0 x1 x2 x3 x4 xo6 xo7).l12 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 512) facts512 rfl 2 k0_pay224 (b1 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l12 := rfl

theorem b2_l13 : (b2 c i arg2 harg2 arg3 harg3 arg4 harg4 arg5 harg5 arg6 harg6 arg7 harg7 arg8 harg8 arg9 harg9
  arg10 harg10 arg11 harg11 arg12 harg12 arg13 harg13 x0 x1 x2 x3 x4 xo6 xo7).l13 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 512) facts512 rfl 2 k0_pay224 (b1 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l13 := rfl

theorem b2_eq : b2 c i arg2 harg2 arg3 harg3 arg4 harg4 arg5 harg5 arg6 harg6 arg7 harg7 arg8 harg8 arg9 harg9 arg10
  harg10 arg11 harg11 arg12 harg12 arg13 harg13 x0 x1 x2 x3 x4 xo6 xo7 =
    dstep i arg2 arg3 arg4 arg5 arg6 arg7 arg8 arg9 arg10 arg11 arg12 arg13 (k0_pay162 k0_pay160 k0_pay161) k0_pay163
      (harg2.unread x0) (harg3.unread x1) (harg4.unread x2) (harg5.unread x3) (harg6.unread x4) (arg10.view.writes
      (Elt F) arg10.view.junk (kernelRun0_B.sl.HS0_1 c arg2 harg2 x0)) (arg11.view.writes (Elt F) arg11.view.junk
      (kernelRun0_B.sl.HS1_1 c arg5 harg5 x3)) arg7.view.junk (harg8.unread xo6) (harg9.unread xo7) arg12.view.junk
      arg13.view.junk (ρ := 512) facts512 rfl 2 k0_pay224 (b1 c i arg2 harg2 arg3 harg3 arg4 harg4 arg5 harg5 arg6
      harg6 arg7 harg7 arg8 harg8 arg9 harg9 arg10 harg10 arg11 harg11 arg12 harg12 arg13 harg13 x0 x1 x2 x3 x4 xo6
      xo7) :=
  (Lst.mk.injEq ..).mpr ⟨b2_l7 .., b2_l8 .., b2_l9 .., b2_l12 .., b2_l13 ..⟩

theorem b3_l7 (hc0 : ¬cond0_0 i) : (kernelRun0_B c i arg2 harg2 arg3 harg3 arg4 harg4 arg5 harg5 arg6 harg6 arg7
  harg7 arg8 harg8 arg9 harg9 arg10 harg10 arg11 harg11 arg12 harg12 arg13 harg13 hc0 x0 x1 x2 x3 x4 xo6 xo7).1 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 768) facts256 rfl 3 k0_pay246 (b2 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l7 := by
  unfold kernelRun0_B
  rfl

theorem b3_l8 (hc0 : ¬cond0_0 i) : (kernelRun0_B c i arg2 harg2 arg3 harg3 arg4 harg4 arg5 harg5 arg6 harg6 arg7
  harg7 arg8 harg8 arg9 harg9 arg10 harg10 arg11 harg11 arg12 harg12 arg13 harg13 hc0 x0 x1 x2 x3 x4 xo6 xo7).2.1 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 768) facts256 rfl 3 k0_pay246 (b2 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l8 := by
  unfold kernelRun0_B
  rfl

theorem b3_l9 (hc0 : ¬cond0_0 i) : (kernelRun0_B c i arg2 harg2 arg3 harg3 arg4 harg4 arg5 harg5 arg6 harg6 arg7
  harg7 arg8 harg8 arg9 harg9 arg10 harg10 arg11 harg11 arg12 harg12 arg13 harg13 hc0 x0 x1 x2 x3 x4 xo6 xo7).2.2.1 =
    (dstep i arg2 arg3 arg4 arg5 arg6 arg7 arg8 arg9 arg10 arg11 arg12 arg13 (k0_pay162 k0_pay160 k0_pay161)
      k0_pay163 (harg2.unread x0) (harg3.unread x1) (harg4.unread x2) (harg5.unread x3) (harg6.unread x4)
      (arg10.view.writes (Elt F) arg10.view.junk (kernelRun0_B.sl.HS0_1 c arg2 harg2 x0)) (arg11.view.writes (Elt F)
      arg11.view.junk (kernelRun0_B.sl.HS1_1 c arg5 harg5 x3)) arg7.view.junk (harg8.unread xo6) (harg9.unread xo7)
      arg12.view.junk arg13.view.junk (ρ := 768) facts256 rfl 3 k0_pay246 (b2 c i arg2 harg2 arg3 harg3 arg4 harg4
      arg5 harg5 arg6 harg6 arg7 harg7 arg8 harg8 arg9 harg9 arg10 harg10 arg11 harg11 arg12 harg12 arg13 harg13 x0
      x1 x2 x3 x4 xo6 xo7)).l9 := by
  unfold kernelRun0_B
  rfl

end Cert.Proof

end
-- ==== Proof.PointB.lean ====
/- A run of a block of queries over the reals,
   where it is a later block of its head. -/
module

public import proofs.«01_k».proof.Proof.Start
public import proofs.«01_k».proof.Proof.WordsBDiag

@[expose] public section

set_option maxRecDepth 16384

noncomputable section

namespace Cert.Proof

open Idealize.ShloMosaic Idealize.ShloMosaic.ValueIdx
open Cert.KernelIdeal Cert.KernelIdeal.Gen

section

variable {F : FTy → Type} [FloatOps F]

theorem bStart_eq : bStart (F := F) = ⟨[⟨all2 1024 128, k0_pay166⟩], [], [],
    [⟨all2 1024 128, k0_pay164⟩], [⟨all2 1024 128, k0_pay165⟩]⟩ := rfl

theorem b_turned (c : Dev nD) (arg2 : Memref sig .tc .vmem S1024x128 .bf16) (harg2 : arg2.IsWhole)
    (x0 : Vec F S1024x128 .bf16) : kernelRun0_B.sl.HS0_1 c arg2 harg2 x0 = [⟨all2 128 1024,
      k0_pay158 (arg2.view.readAt (Elt F) (all2 1024 128).toLoadRect (harg2.unread x0))⟩] := rfl

theorem b_turned' (c : Dev nD) (arg5 : Memref sig .tc .vmem S1024x128 .bf16) (harg5 : arg5.IsWhole)
    (x3 : Vec F S1024x128 .bf16) : kernelRun0_B.sl.HS1_1 c arg5 harg5 x3 = [⟨all2 128 1024,
      k0_pay159 (arg5.view.readAt (Elt F) (all2 1024 128).toLoadRect (harg5.unread x3))⟩] := rfl

end

variable (c : Dev nD) (i : grid0.Coords) (arg2 : Memref sig .tc .vmem S1024x128 .bf16)
  (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1024x128 .bf16)
  (harg5 : arg5.IsWhole) (arg6 : Memref sig .tc .vmem S1024x128 .f32) (harg6 : arg6.IsWhole)
  (arg7 : Memref sig .tc .vmem S1024x128 .f32) (harg7 : arg7.IsWhole)
  (arg8 : Memref sig .tc .vmem S1x16x128x256 .f32) (harg8 : arg8.IsWhole)
  (arg9 : Memref sig .tc .vmem S1x16x128x256 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S1024x128 .f32) (harg12 : arg12.IsWhole)
  (arg13 : Memref sig .tc .vmem S1024x128 .f32) (harg13 : arg13.IsWhole)
  (x0 : Vec Ideal S1024x128 .bf16) (x1 x2 : Vec Ideal S4096x128 .bf16) (x3 : Vec Ideal S1024x128 .bf16)
  (x4 : Vec Ideal S1024x128 .f32) (xo6 xo7 : Vec Ideal S1x16x128x256 .f32) {h : Head}

attribute [local irreducible] st_k0_t1 st_k0_t2

/-- What a run has stored, over what its buffers held. -/
theorem runB (hc0 : ¬cond0_0 i) (hq : Rl (n := 1024) (m := 128) x0 fun r e => h.Q (1024 * (i 1).val + r) e)
    (hk : Rl (n := 4096) (m := 128) x1 h.K) (hv : Rl (n := 4096) (m := 128) x2 h.V)
    (hd : Rl (n := 1024) (m := 128) x3 fun r e => h.D (1024 * (i 1).val + r) e)
    (hlt : Rl (n := 1024) (m := 128) x4 fun r _ => h.T (1024 * (i 1).val + r))
    (h6 : Rl4 xo6 (h.DK (1024 * (i 1).val))) (h7 : Rl4 xo7 (h.DV (1024 * (i 1).val))) :
    Rl (n := 1024) (m := 128) (arg7.view.read (Elt Ideal) (arg7.view.writes (Elt Ideal) arg7.view.junk (kernelRun0_B
      c i arg2 harg2 arg3 harg3 arg4 harg4 arg5 harg5 arg6 harg6 arg7 harg7 arg8 harg8 arg9 harg9 arg10 harg10 arg11
        harg11 arg12 harg12 arg13 harg13 hc0 x0 x1 x2 x3 x4 xo6 xo7).1))
      (fun r e => h.DQ (256 * (4 * (i 1).val + 4)) (1024 * (i 1).val + r) e) ∧
    Rl4 (arg8.view.read (Elt Ideal) (arg8.view.writes (Elt Ideal) (harg8.unread xo6) (kernelRun0_B c i arg2 harg2
      arg3 harg3 arg4 harg4 arg5 harg5 arg6 harg6 arg7 harg7 arg8 harg8 arg9 harg9 arg10 harg10 arg11 harg11 arg12
        harg12 arg13 harg13 hc0 x0 x1 x2 x3 x4 xo6 xo7).2.1))
      (h.DK (1024 * ((i 1).val + 1))) ∧
    Rl4 (arg9.view.read (Elt Ideal) (arg9.view.writes (Elt Ideal) (harg9.unread xo7) (kernelRun0_B c i arg2 harg2
      arg3 harg3 arg4 harg4 arg5 harg5 arg6 harg6 arg7 harg7 arg8 harg8 arg9 harg9 arg10 harg10 arg11 harg11 arg12
        harg12 arg13 harg13 hc0 x0 x1 x2 x3 x4 xo6 xo7).2.2.1))
      (h.DV (1024 * ((i 1).val + 1))) := by
  have B := block_In (harg2 := harg2) (harg3 := harg3) (harg4 := harg4) (harg5 := harg5) (harg6 := harg6) hq hk hv hd
    hlt
    (g10 := arg10.view.junk) (g11 := arg11.view.junk)
  rw [← b_turned c, ← b_turned' c] at B
  have S : St h (i 1).val 0 _ _ _ _ _ := block_start (arg7 := arg7) (arg12 := arg12) (arg13 := arg13)
    (f7 := arg7.view.junk) (f12 := arg12.view.junk) (f13 := arg13.view.junk)
    (x8 := arg8.view.read (Elt Ideal) (arg8.view.writes (Elt Ideal) (harg8.unread xo6) []))
    (x9 := arg9.view.read (Elt Ideal) (arg9.view.writes (Elt Ideal) (harg9.unread xo7) []))
    (by rw [View.writes_nil, harg8.read_unread]; exact h6) (by rw [View.writes_nil, harg9.read_unread]; exact h7)
  have S' := lst2_St (P := bStart) B (by rw [bStart_eq]; exact S) (bLoops_eq c i arg2 harg2 arg3 harg3 arg4 harg4
    arg5 harg5 arg6 harg6 arg7 harg7 arg8 harg8 arg9 harg9 arg10 harg10 arg11 harg11 arg12 harg12 arg13 harg13 x0 x1
      x2 x3 x4 xo6 xo7)
  have S0 := dstep_St facts1024 rfl 0 B rfl mask175 S' (b0_eq c i arg2 harg2 arg3 harg3 arg4 harg4 arg5 harg5 arg6
    harg6 arg7 harg7 arg8 harg8 arg9 harg9 arg10 harg10 arg11 harg11 arg12 harg12 arg13 harg13 x0 x1 x2 x3 x4 xo6 xo7)
  have S1 := dstep_St facts768 rfl 1 B rfl mask199 S0 (b1_eq c i arg2 harg2 arg3 harg3 arg4 harg4 arg5 harg5 arg6
    harg6 arg7 harg7 arg8 harg8 arg9 harg9 arg10 harg10 arg11 harg11 arg12 harg12 arg13 harg13 x0 x1 x2 x3 x4 xo6 xo7)
  have S2 := dstep_St facts512 rfl 2 B rfl mask224 S1 (b2_eq c i arg2 harg2 arg3 harg3 arg4 harg4 arg5 harg5 arg6
    harg6 arg7 harg7 arg8 harg8 arg9 harg9 arg10 harg10 arg11 harg11 arg12 harg12 arg13 harg13 x0 x1 x2 x3 x4 xo6 xo7)
  have S3 := dstep_St facts256 rfl 3 B rfl mask246 S2 rfl
  have e7 := b3_l7 c i arg2 harg2 arg3 harg3 arg4 harg4 arg5 harg5 arg6 harg6 arg7 harg7 arg8 harg8 arg9 harg9 arg10
    harg10 arg11 harg11 arg12 harg12 arg13 harg13 x0 x1 x2 x3 x4 xo6 xo7 hc0
  have e8 := b3_l8 c i arg2 harg2 arg3 harg3 arg4 harg4 arg5 harg5 arg6 harg6 arg7 harg7 arg8 harg8 arg9 harg9 arg10
    harg10 arg11 harg11 arg12 harg12 arg13 harg13 x0 x1 x2 x3 x4 xo6 xo7 hc0
  have e9 := b3_l9 c i arg2 harg2 arg3 harg3 arg4 harg4 arg5 harg5 arg6 harg6 arg7 harg7 arg8 harg8 arg9 harg9 arg10
    harg10 arg11 harg11 arg12 harg12 arg13 harg13 x0 x1 x2 x3 x4 xo6 xo7 hc0
  exact ⟨stores_eq e7 S3.dq, stores_eq4 e8 (S3.dk.congr fun j _ a _ b _ => h.DK_block _),
    stores_eq4 e9 (S3.dv.congr fun j _ a _ b _ => h.DV_block _)⟩

/-- What the point leaves. -/
theorem outB (hc0 : ¬cond0_0 i) (hq : Rl (n := 1024) (m := 128) x0 fun r e => h.Q (1024 * (i 1).val + r) e)
    (hk : Rl (n := 4096) (m := 128) x1 h.K) (hv : Rl (n := 4096) (m := 128) x2 h.V)
    (hd : Rl (n := 1024) (m := 128) x3 fun r e => h.D (1024 * (i 1).val + r) e)
    (hlt : Rl (n := 1024) (m := 128) x4 fun r _ => h.T (1024 * (i 1).val + r))
    (h6 : Rl4 xo6 (h.DK (1024 * (i 1).val))) (h7 : Rl4 xo7 (h.DV (1024 * (i 1).val))) :
    Rl (n := 1024) (m := 128) (out0_B_5 c i arg2 harg2 arg3 harg3 arg4 harg4 arg5 harg5 arg6 harg6 arg7 harg7 arg8
      harg8 arg9 harg9 arg10 harg10 arg11 harg11 arg12 harg12 arg13 harg13 hc0 x0 x1 x2 x3 x4 xo6 xo7)
      (fun r e => h.DQ (256 * (4 * (i 1).val + 4)) (1024 * (i 1).val + r) e) ∧
    Rl4 (out0_B_6 c i arg2 harg2 arg3 harg3 arg4 harg4 arg5 harg5 arg6 harg6 arg7 harg7 arg8 harg8 arg9 harg9 arg10
      harg10 arg11 harg11 arg12 harg12 arg13 harg13 hc0 x0 x1 x2 x3 x4 xo6 xo7) (h.DK (1024 * ((i 1).val + 1))) ∧
    Rl4 (out0_B_7 c i arg2 harg2 arg3 harg3 arg4 harg4 arg5 harg5 arg6 harg6 arg7 harg7 arg8 harg8 arg9 harg9 arg10
      harg10 arg11 harg11 arg12 harg12 arg13 harg13 hc0 x0 x1 x2 x3 x4 xo6 xo7) (h.DV (1024 * ((i 1).val + 1))) := by
  obtain ⟨a, b, d⟩ := runB c i arg2 harg2 arg3 harg3 arg4 harg4 arg5 harg5 arg6 harg6 arg7 harg7 arg8 harg8 arg9
    harg9 arg10 harg10 arg11 harg11 arg12 harg12 arg13 harg13 x0 x1 x2 x3 x4 xo6 xo7 hc0 hq hk hv hd hlt h6 h7
  unfold out0_B_5 out0_B_6 out0_B_7
  exact ⟨covered (cover0_B_5 c i arg2 harg2 arg3 harg3 arg4 harg4 arg5 harg5 arg6 harg6 arg7 harg7 arg8 harg8 arg9
    harg9 arg10 harg10 arg11 harg11 arg12 harg12 arg13 harg13 hc0 x0 x1 x2 x3 x4 xo6 xo7) a, b, d⟩

end Cert.Proof

end
-- ==== Proof.Grid.lean ====
/- The grid: what every point leaves, and the three arrays after the run. -/
module

public import proofs.«01_k».proof.Proof.PointA
public import proofs.«01_k».proof.Proof.PointB
public import Idealize.ShloMosaic.Lib.Pipeline.ValueKit

@[expose] public section

set_option maxRecDepth 16384

noncomputable section

namespace Cert.Proof

open Idealize.ShloMosaic Idealize.ShloMosaic.ValueIdx Idealize.ShloMosaic.TcCoe
open Cert.KernelIdeal Cert.KernelIdeal.Gen
open Idealize.ShloMosaic.Pipeline (Dat)
open scoped BigOperators

/-! ### Where the blocks lie -/

theorem coord0 : ∀ t : Fin cfg0.N, (grid0.coords t 0).val = t.val / 4 :=
  (by decide +kernel : ∀ t : Fin grid0.N, (grid0.coords t 0).val = t.val / 4)
theorem coord1 : ∀ t : Fin cfg0.N, (grid0.coords t 1).val = t.val % 4 :=
  (by decide +kernel : ∀ t : Fin grid0.N, (grid0.coords t 1).val = t.val % 4)

theorem place0 : ∀ t : Fin cfg0.N, win0_0.index t (0 : Fin 2) = t.val % 4 ∧ win0_0.index t (1 : Fin 2) = t.val / 4 :=
  (by decide +kernel : ∀ t : Fin grid0.N, _)
theorem place1 : ∀ t : Fin cfg0.N, win0_1.index t (0 : Fin 2) = 0 ∧ win0_1.index t (1 : Fin 2) = 16 + t.val / 4 :=
  (by decide +kernel : ∀ t : Fin grid0.N, _)
theorem place2 : ∀ t : Fin cfg0.N, win0_2.index t (0 : Fin 2) = 0 ∧ win0_2.index t (1 : Fin 2) = 32 + t.val / 4 :=
  (by decide +kernel : ∀ t : Fin grid0.N, _)
theorem place3 : ∀ t : Fin cfg0.N, win0_3.index t (0 : Fin 2) = t.val % 4 ∧ win0_3.index t (1 : Fin 2) = t.val / 4 :=
  (by decide +kernel : ∀ t : Fin grid0.N, _)
theorem place4 : ∀ t : Fin cfg0.N, win0_4.index t (0 : Fin 2) = t.val % 4 ∧ win0_4.index t (1 : Fin 2) = t.val / 4 :=
  (by decide +kernel : ∀ t : Fin grid0.N, _)
theorem place5 : ∀ t : Fin cfg0.N, win0_5.index t (0 : Fin 2) = t.val % 4 ∧ win0_5.index t (1 : Fin 2) = t.val / 4 :=
  (by decide +kernel : ∀ t : Fin grid0.N, _)
theorem place6 : ∀ t : Fin cfg0.N, win0_6.index t (0 : Fin 4) = t.val / 4 ∧ win0_6.index t (1 : Fin 4) = 0 ∧
    win0_6.index t (2 : Fin 4) = 0 ∧ win0_6.index t (3 : Fin 4) = 0 :=
  (by decide +kernel : ∀ t : Fin grid0.N, _)
theorem place7 : ∀ t : Fin cfg0.N, win0_7.index t (0 : Fin 4) = t.val / 4 ∧ win0_7.index t (1 : Fin 4) = 0 ∧
    win0_7.index t (2 : Fin 4) = 0 ∧ win0_7.index t (3 : Fin 4) = 0 :=
  (by decide +kernel : ∀ t : Fin grid0.N, _)

/-- The head `j` of the reals of the two arguments and of the row sums. -/
def head (a b : ℕ → ℕ → ℝ) (T : ℕ → ℕ → ℝ) (j : ℕ) : Head where
  Q r e := a r (128 * j + e)
  K r e := a r (2048 + 128 * j + e)
  V r e := a r (4096 + 128 * j + e)
  D r e := b r (128 * j + e)
  T r := T j r

section

variable {m : (ℓ : Loc nD τ sig) → Buf (Elt Ideal) ℓ} {c : Dev nD} {a b T : ℕ → ℕ → ℝ}
  (ha : Rl (n := 4096) (m := 6144) (V m c main_arg0) a) (hb : Rl (n := 4096) (m := 2048) (V m c main_arg1) b)
  (hT : Rl (n := 4096) (m := 2048) (V m c main_v26) fun r q => T (q / 128) r)

include ha in
theorem iblk_q (t : Fin cfg0.N) :
    Rl (n := 1024) (m := 128) (iblk m c 0 t) fun r e => (head a b T (t.val / 4)).Q (1024 * (t.val % 4) + r) e := fun y => by
  obtain ⟨p0, p1⟩ := place0 t
  refine (ha (((cfg0.win 0).blk t).view.emb y)).trans (congrArg Real.toEReal ?_)
  refine congrArg₂ a ?_ ?_
  · show win0_0.index t (0 : Fin 2) * 1024 + 1 * (y 0).val = _; omega
  · show win0_0.index t (1 : Fin 2) * 128 + 1 * (y 1).val = _; omega

include ha in
theorem iblk_k (t : Fin cfg0.N) : Rl (n := 4096) (m := 128) (iblk m c 1 t) (head a b T (t.val / 4)).K := fun y => by
  obtain ⟨p0, p1⟩ := place1 t
  refine (ha (((cfg0.win 1).blk t).view.emb y)).trans (congrArg Real.toEReal ?_)
  refine congrArg₂ a ?_ ?_
  · show win0_1.index t (0 : Fin 2) * 4096 + 1 * (y 0).val = _; omega
  · show win0_1.index t (1 : Fin 2) * 128 + 1 * (y 1).val = _; omega

include ha in
theorem iblk_v (t : Fin cfg0.N) : Rl (n := 4096) (m := 128) (iblk m c 2 t) (head a b T (t.val / 4)).V := fun y => by
  obtain ⟨p0, p1⟩ := place2 t
  refine (ha (((cfg0.win 2).blk t).view.emb y)).trans (congrArg Real.toEReal ?_)
  refine congrArg₂ a ?_ ?_
  · show win0_2.index t (0 : Fin 2) * 4096 + 1 * (y 0).val = _; omega
  · show win0_2.index t (1 : Fin 2) * 128 + 1 * (y 1).val = _; omega

include hb in
theorem iblk_d (t : Fin cfg0.N) :
    Rl (n := 1024) (m := 128) (iblk m c 3 t) fun r e => (head a b T (t.val / 4)).D (1024 * (t.val % 4) + r) e := fun y => by
  obtain ⟨p0, p1⟩ := place3 t
  refine (hb (((cfg0.win 3).blk t).view.emb y)).trans (congrArg Real.toEReal ?_)
  refine congrArg₂ b ?_ ?_
  · show win0_3.index t (0 : Fin 2) * 1024 + 1 * (y 0).val = _; omega
  · show win0_3.index t (1 : Fin 2) * 128 + 1 * (y 1).val = _; omega

include hT in
theorem iblk_t (t : Fin cfg0.N) :
    Rl (n := 1024) (m := 128) (iblk m c 4 t) fun r _ => (head a b T (t.val / 4)).T (1024 * (t.val % 4) + r) := fun y => by
  obtain ⟨p0, p1⟩ := place4 t
  have l1 : (y 1).val < 128 := idx2_lt1 y
  refine (hT (((cfg0.win 4).blk t).view.emb y)).trans (congrArg Real.toEReal ?_)
  refine congrArg₂ T ?_ ?_
  · show (win0_4.index t (1 : Fin 2) * 128 + 1 * (y 1).val) / 128 = _; omega
  · show win0_4.index t (0 : Fin 2) * 1024 + 1 * (y 0).val = _; omega

/-- What a point leaves in its three output blocks. -/
structure Left (h : Head) (i : ℕ) (o : FVec Ideal (Mat 1024 128) .f32 × FVec Ideal Tiles .f32 × FVec Ideal Tiles .f32) :
    Prop where
  dq : Rl o.1 fun r e => h.DQ (256 * (4 * i + 4)) (1024 * i + r) e
  dk : Rl4 o.2.1 (h.DK (1024 * (i + 1)))
  dv : Rl4 o.2.2 (h.DV (1024 * (i + 1)))

theorem Left.of {h : Head} {i : ℕ} {o : Vec Ideal S1024x128 .f32 × Vec Ideal S1x16x128x256 .f32 × Vec Ideal S1x16x128x256 .f32}
    {o5 : Vec Ideal S1024x128 .f32} {o6 o7 : Vec Ideal S1x16x128x256 .f32} {n : ℕ} (e : o = (o5, o6, o7)) (hn : n = i)
    (hx : Rl o5 (fun r e => h.DQ (256 * (4 * n + 4)) (1024 * n + r) e) ∧ Rl4 o6 (h.DK (1024 * (n + 1))) ∧
      Rl4 o7 (h.DV (1024 * (n + 1)))) : Left h i o := by
  subst e hn
  exact ⟨hx.1, hx.2.1, hx.2.2⟩

include ha hb hT

theorem left_A (t : Fin cfg0.N) (h0 : t.val % 4 = 0) :
    Left (head a b T (t.val / 4)) (t.val % 4) (outsAt0 m c t.val t.isLt) := by
  have e := coord1 t
  have q := iblk_q (b := b) (T := T) ha t
  have d := iblk_d (a := a) (T := T) hb t
  have l := iblk_t (a := a) (b := b) hT t
  rw [← e] at q d l
  refine Left.of (outsAt0_A m c t h0) e ?_
  exact outA (h := head a b T (t.val / 4)) c (grid0.coords t) (ms0_0 t) (hs0_0 t) (ms0_1 t) (hs0_1 t)
    (ms0_2 t) (hs0_2 t) (ms0_3 t) (hs0_3 t) (ms0_4 t) (hs0_4 t) (ms0_5 t) (hs0_5 t) (ms0_6 t) (hs0_6 t) (ms0_7 t)
      (hs0_7 t) scM0_0 (Memref.isWhole_whole _) scM0_1 (Memref.isWhole_whole _) scM0_2 (Memref.isWhole_whole _)
        scM0_3 (Memref.isWhole_whole _) (iblk m c 0 t) (iblk m c 1 t) (iblk m c 2 t) (iblk m c 3 t) (iblk m c 4 t)
          ((hcond0_0 t).mpr h0) q (iblk_k ha t) (iblk_v ha t) d l (e.trans h0)

theorem left_B (t : Fin cfg0.N) (h0 : ¬t.val % 4 = 0)
    (ih : Left (head a b T (t.val / 4)) (t.val % 4 - 1) (outsAt0 m c (t.val - 1) (Nat.lt_of_le_of_lt (Nat.sub_le _ _)
      t.isLt))) :
    Left (head a b T (t.val / 4)) (t.val % 4) (outsAt0 m c t.val t.isLt) := by
  rw [outsAt0_B m c t h0]
  have e := coord1 t
  have q := iblk_q (b := b) (T := T) ha t
  have d := iblk_d (a := a) (T := T) hb t
  have l := iblk_t (a := a) (b := b) hT t
  rw [← e] at q d l
  have h6 := ih.dk
  have h7 := ih.dv
  rw [show t.val % 4 - 1 + 1 = t.val % 4 by omega, ← e] at h6 h7
  obtain ⟨x, y, z⟩ := outB (h := head a b T (t.val / 4)) c (grid0.coords t) (ms0_0 t) (hs0_0 t) (ms0_1 t) (hs0_1 t)
    (ms0_2 t) (hs0_2 t) (ms0_3 t) (hs0_3 t) (ms0_4 t) (hs0_4 t) (ms0_5 t) (hs0_5 t) (ms0_6 t) (hs0_6 t) (ms0_7 t)
      (hs0_7 t) scM0_0 (Memref.isWhole_whole _) scM0_1 (Memref.isWhole_whole _) scM0_2 (Memref.isWhole_whole _)
        scM0_3 (Memref.isWhole_whole _) (iblk m c 0 t) (iblk m c 1 t) (iblk m c 2 t) (iblk m c 3 t) (iblk m c 4 t)
          (outsAt0 m c (t.val - 1) (Nat.lt_of_le_of_lt (Nat.sub_le _ _) t.isLt)).2.1 (outsAt0 m c (t.val - 1)
            (Nat.lt_of_le_of_lt (Nat.sub_le _ _) t.isLt)).2.2 (fun h => h0 ((hcond0_0 t).mp h)) q (iblk_k ha t)
              (iblk_v ha t) d l h6 h7
  rw [e] at x y z
  exact ⟨x, y, z⟩

theorem left (n : ℕ) : ∀ hn : n < cfg0.N, Left (head a b T (n / 4)) (n % 4) (outsAt0 m c n hn) := by
  induction n using Nat.strong_induction_on with
  | _ n ih =>
    intro hn
    by_cases h0 : n % 4 = 0
    · exact left_A ha hb hT ⟨n, hn⟩ h0
    · have h := ih (n - 1) (by omega) (by omega)
      rw [show (n - 1) / 4 = n / 4 by omega, show (n - 1) % 4 = n % 4 - 1 by omega] at h
      exact left_B ha hb hT ⟨n, hn⟩ h0 h

/-! ### The arrays after the run -/

/-- The query gradient. -/
theorem final5 : Rl (n := 4096) (m := 2048) ((dats m 0 c).arrAt 5 cfg0.N)
    fun r q => (head a b T (q / 128)).DQ 4096 r (q % 128) := fun y => by
  have l0 : (y 0).val < 4096 := idx2_lt0 y
  have l1 : (y 1).val < 2048 := idx2_lt1 y
  obtain ⟨t, ht⟩ : ∃ t : Fin cfg0.N, t.val = 4 * ((y 1).val / 128) + (y 0).val / 1024 :=
    ⟨⟨4 * ((y 1).val / 128) + (y 0).val / 1024, lt_of_lt_of_eq (by omega) N_0.symm⟩, rfl⟩
  obtain ⟨p0, p1⟩ := place5 t
  have t4 : t.val / 4 = (y 1).val / 128 := by omega
  have t5 : t.val % 4 = (y 0).val / 1024 := by omega
  obtain ⟨j, j0, j1⟩ : ∃ j : (Mat 1024 128).Idx, (j 0).val = (y 0).val % 1024 ∧ (j 1).val = (y 1).val % 128 :=
    ⟨ValueIdx.ix2 ⟨(y 0).val % 1024, by omega⟩ ⟨(y 1).val % 128, by omega⟩, rfl, rfl⟩
  have e : ((cfg0.win 5).blk t).view.emb j = y := by
    funext x
    apply Fin.ext
    match x with
    | ⟨0, _⟩ => show win0_5.index t (0 : Fin 2) * 1024 + 1 * (j 0).val = (y 0).val; omega
    | ⟨1, _⟩ => show win0_5.index t (1 : Fin 2) * 128 + 1 * (j 1).val = (y 1).val; omega
  have f := congrFun ((Cert.KernelIdeal.Value.blocks5 m c t (flush0_5 t)).trans (Cert.KernelIdeal.Value.flushed5 m c t)) j
  refine ((congrArg ((dats m 0 c).arrAt 5 cfg0.N) e).symm.trans f).trans ?_
  refine ((left ha hb hT t.val t.isLt).dq j).trans (congrArg Real.toEReal ?_)
  rw [t4, t5, j0, j1]
  beta_reduce
  rw [show 1024 * ((y 0).val / 1024) + (y 0).val % 1024 = (y 0).val by omega]
  have := Head.DQ_past (head a b T ((y 1).val / 128)) (C := 256 * (4 * ((y 0).val / 1024) + 4)) (r := (y 0).val) (by omega)
    (4096 - 256 * (4 * ((y 0).val / 1024) + 4)) ((y 1).val % 128)
  rw [← this, show 256 * (4 * ((y 0).val / 1024) + 4) + (4096 - 256 * (4 * ((y 0).val / 1024) + 4)) = 4096 by omega]

end

end Cert.Proof

end
-- ==== Proof.Arrays.lean ====
module

public import proofs.«01_k».proof.Proof.Grid

@[expose] public section

set_option maxRecDepth 16384

noncomputable section

/-! # The key and the value gradients after the run -/

namespace Cert.Proof

open Idealize.ShloMosaic Idealize.ShloMosaic.ValueIdx Idealize.ShloMosaic.TcCoe
open Cert.KernelIdeal Cert.KernelIdeal.Gen

theorem apart6 : ∀ t t' : Fin cfg0.N, (cfg0.win 6).flush t = true → (cfg0.win 6).flush t' = true → t ≠ t' →
    Disjoint ((cfg0.win 6).blk t).view.set ((cfg0.win 6).blk t').view.set :=
  fun t t' f f' n => (cfg0.win 6).disjoint_blk fun h => n (Fin.ext (by
    have e : win0_6.index t (0 : Fin 4) = win0_6.index t' (0 : Fin 4) := congrFun h 0
    rw [(place6 t).1, (place6 t').1] at e
    have := (flush0_6 t).mp f
    have := (flush0_6 t').mp f'
    omega))

theorem apart7 : ∀ t t' : Fin cfg0.N, (cfg0.win 7).flush t = true → (cfg0.win 7).flush t' = true → t ≠ t' →
    Disjoint ((cfg0.win 7).blk t).view.set ((cfg0.win 7).blk t').view.set :=
  fun t t' f f' n => (cfg0.win 7).disjoint_blk fun h => n (Fin.ext (by
    have e : win0_7.index t (0 : Fin 4) = win0_7.index t' (0 : Fin 4) := congrFun h 0
    rw [(place7 t).1, (place7 t').1] at e
    have := (flush0_7 t).mp f
    have := (flush0_7 t').mp f'
    omega))

section

variable {m : (ℓ : Loc nD τ sig) → Buf (Elt Ideal) ℓ} {c : Dev nD} {a b T : ℕ → ℕ → ℝ}
  (ha : Rl (n := 4096) (m := 6144) (V m c main_arg0) a) (hb : Rl (n := 4096) (m := 2048) (V m c main_arg1) b)
  (hT : Rl (n := 4096) (m := 2048) (V m c main_v26) fun r q => T (q / 128) r)

include ha hb hT

/-- The key gradient: the tiles of head `y 0`. -/
theorem final6 (y : S16x16x128x256.Idx) : (dats m 0 c).arrAt 6 cfg0.N y =
    (((head a b T (y 0).val).DK 4096 (y 1).val (y 2).val (y 3).val : ℝ) : EReal) := by
  have l0 : (y 0).val < 16 := (y 0).isLt
  obtain ⟨t, ht⟩ : ∃ t : Fin cfg0.N, t.val = 4 * (y 0).val + 3 :=
    ⟨⟨4 * (y 0).val + 3, lt_of_lt_of_eq (by omega) N_0.symm⟩, rfl⟩
  obtain ⟨p0, p1, p2, p3⟩ := place6 t
  have t4 : t.val / 4 = (y 0).val := by omega
  have t5 : t.val % 4 = 3 := by omega
  obtain ⟨j, j0, j1, j2, j3⟩ : ∃ j : Tiles.Idx, (j 0).val = 0 ∧ (j 1).val = (y 1).val ∧ (j 2).val = (y 2).val ∧
      (j 3).val = (y 3).val :=
    ⟨ValueIdx.ix4 (0 : Fin 1) (y 1) (y 2) (y 3), rfl, rfl, rfl, rfl⟩
  have e : ((cfg0.win 6).blk t).view.emb j = y := by
    funext x
    apply Fin.ext
    match x with
    | ⟨0, _⟩ => show win0_6.index t (0 : Fin 4) * 1 + 1 * (j 0).val = (y 0).val; omega
    | ⟨1, _⟩ => show win0_6.index t (1 : Fin 4) * 16 + 1 * (j 1).val = (y 1).val; omega
    | ⟨2, _⟩ => show win0_6.index t (2 : Fin 4) * 128 + 1 * (j 2).val = (y 2).val; omega
    | ⟨3, _⟩ => show win0_6.index t (3 : Fin 4) * 256 + 1 * (j 3).val = (y 3).val; omega
  have f := congrFun (((dats m 0 c).read_blk_arrAt_eq_flushed 6 apart6 cfg0.N t t.isLt ((flush0_6 t).mpr t5)).trans
    (Cert.KernelIdeal.Value.flushed6 m c t)) j
  refine ((congrArg ((dats m 0 c).arrAt 6 cfg0.N) e).symm.trans f).trans ?_
  refine ((left ha hb hT t.val t.isLt).dk j).trans (congrArg Real.toEReal ?_)
  rw [t4, t5, j1, j2, j3]

/-- The value gradient. -/
theorem final7 (y : S16x16x128x256.Idx) : (dats m 0 c).arrAt 7 cfg0.N y =
    (((head a b T (y 0).val).DV 4096 (y 1).val (y 2).val (y 3).val : ℝ) : EReal) := by
  have l0 : (y 0).val < 16 := (y 0).isLt
  obtain ⟨t, ht⟩ : ∃ t : Fin cfg0.N, t.val = 4 * (y 0).val + 3 :=
    ⟨⟨4 * (y 0).val + 3, lt_of_lt_of_eq (by omega) N_0.symm⟩, rfl⟩
  obtain ⟨p0, p1, p2, p3⟩ := place7 t
  have t4 : t.val / 4 = (y 0).val := by omega
  have t5 : t.val % 4 = 3 := by omega
  obtain ⟨j, j0, j1, j2, j3⟩ : ∃ j : Tiles.Idx, (j 0).val = 0 ∧ (j 1).val = (y 1).val ∧ (j 2).val = (y 2).val ∧
      (j 3).val = (y 3).val :=
    ⟨ValueIdx.ix4 (0 : Fin 1) (y 1) (y 2) (y 3), rfl, rfl, rfl, rfl⟩
  have e : ((cfg0.win 7).blk t).view.emb j = y := by
    funext x
    apply Fin.ext
    match x with
    | ⟨0, _⟩ => show win0_7.index t (0 : Fin 4) * 1 + 1 * (j 0).val = (y 0).val; omega
    | ⟨1, _⟩ => show win0_7.index t (1 : Fin 4) * 16 + 1 * (j 1).val = (y 1).val; omega
    | ⟨2, _⟩ => show win0_7.index t (2 : Fin 4) * 128 + 1 * (j 2).val = (y 2).val; omega
    | ⟨3, _⟩ => show win0_7.index t (3 : Fin 4) * 256 + 1 * (j 3).val = (y 3).val; omega
  have f := congrFun (((dats m 0 c).read_blk_arrAt_eq_flushed 7 apart7 cfg0.N t t.isLt ((flush0_7 t).mpr t5)).trans
    (Cert.KernelIdeal.Value.flushed7 m c t)) j
  refine ((congrArg ((dats m 0 c).arrAt 7 cfg0.N) e).symm.trans f).trans ?_
  refine ((left ha hb hT t.val t.isLt).dv j).trans (congrArg Real.toEReal ?_)
  rw [t4, t5, j1, j2, j3]

end

end Cert.Proof

end
-- ==== Proof.HostSum.lean ====
/- The row sums the call is given: the host operations before it, read as one value. -/
module

public import proofs.«01_k».proof.Proof.Grid
public import proofs.«01_k».proof.Proof.Gen.ReferenceIdeal.Read

@[expose] public section

set_option maxRecDepth 16384

noncomputable section

namespace Cert.Proof

open Idealize.ShloMosaic Idealize.ShloMosaic.TcCoe Idealize.ShloMosaic.StableHlo
open Cert.KernelIdeal Cert.KernelIdeal.Gen

variable {F : FTy → Type} [FloatOps F]

/-- A head's row sums, repeated over the head's 128 columns. -/
def sums (x : FVec F S16x4096x4096 .f32) : FVec F S4096x2048 .f32 :=
  shapeCast S4096x2048 (broadcastInDim S4096x16x128 ![0, 1, 2] bcast_S4096x16x1_S4096x16x128_0_1_2
    (broadcastInDim S4096x16x1 ![0, 1] bcast_S4096x16_S4096x16x1_0_1
      (transpose S4096x16 [1, 0] (Host.reduceAdd x (constant S_ .f32 0x00000000#32) reducesTo_S16x4096x4096_S16x4096_d2 h_S_)
        transposes_S16x4096_S4096x16_1_0))) shapeCasts_S4096x16x128_S4096x2048

theorem V_sums (m : (ℓ : Loc nD τ sig) → Buf (Elt F) ℓ) (c : Dev nD) :
    V m c main_v26 = sums (Cert.ReferenceIdeal.Read.val_main_v21_0 (m ((c : Thread nD τ).loc main_arg0))) := by
  simp only [V, hostOps0, hostOps0_1, hostOps0_2, hostOps0_3, hostOps0_4, List.flatten_cons, List.flatten_nil,
    List.append_nil, List.cons_append, List.nil_append, TRef.binary, TRef.nullary, TRef.ternary, TRef.unary, TRef.toBuf,
    TRef.ofBuf, cast_eq]
  after_results_simp <;> rfl

end Cert.Proof

end
-- ==== Proof.Scan.lean ====
/- The reference's scalars and running sums, over the reals. -/
module

public import proofs.«01_k».proof.Proof.Tile

@[expose] public section

set_option maxRecDepth 16384

noncomputable section

namespace Cert.Proof

open Idealize.ShloMosaic Idealize.ShloMosaic.ValueIdx
open scoped BigOperators

/-! ### The soft plus and its slope -/

section

variable {F : FTy → Type} [FloatOps F]

def zw : F .f32 := FloatOps.ofBits .f32 0x00000000#32
def iw : F .f32 := FloatOps.ofBits .f32 0x7F800000#32

/-- The logarithm of `exp x + 1`. -/
def soft (x : F .f32) : F .f32 :=
  Scalar.select (FloatOps.cmpf .une (FloatOps.subf x zw) (FloatOps.subf x zw)) (FloatOps.addf x zw)
    (FloatOps.addf (FloatOps.maximumf x zw)
      (FloatOps.hostUnary .log1p (FloatOps.hostUnary .exp (FloatOps.hostNegf (FloatOps.hostAbsf (FloatOps.subf x zw))))))

/-- Its slope, as the differentiated program keeps it. -/
def slope (x : F .f32) : F .f32 :=
  FloatOps.hostUnary .exp (FloatOps.subf (Scalar.select (FloatOps.cmpf .oeq x iw) zw x)
    (Scalar.select (FloatOps.cmpf .oeq (soft x) iw) zw (soft x)))

end

theorem zw_eq : (zw : Ideal .f32) = ((0 : ℝ) : EReal) := Ideal.ofBits_zero_f32

theorem iw_eq : (iw : Ideal .f32) = (⊤ : EReal) := by
  show Ideal.ofBits .f32 0x7F800000#32 = ⊤
  simp [Ideal.ofBits, Ideal.ieee]

theorem soft_eq (f : ℝ) : soft (F := Ideal) ((f : ℝ) : EReal) = ((-lsg (-f) : ℝ) : EReal) := by
  have h0 : FloatOps.subf (F := Ideal) (φ := .f32) ((f : ℝ) : EReal) zw = ((f : ℝ) : EReal) := by
    show ((f : ℝ) : EReal) - (zw : Ideal .f32) = _
    rw [zw_eq, ← EReal.coe_sub, sub_zero]
  have h1 : FloatOps.cmpf (F := Ideal) (φ := .f32) .une ((f : ℝ) : EReal) ((f : ℝ) : EReal) = 0#1 := by
    show BitVec.ofBool (decide (((f : ℝ) : EReal) ≠ ((f : ℝ) : EReal))) = 0#1
    simp
  unfold soft
  rw [h0, h1, select_zero]
  show max ((f : ℝ) : EReal) (zw : Ideal .f32) + Ideal.log (1 + Ideal.exp (-(max ((f : ℝ) : EReal) (-((f : ℝ) : EReal))))) = _
  have h2 : max ((f : ℝ) : EReal) (-((f : ℝ) : EReal)) = ((max f (-f) : ℝ) : EReal) := by
    rw [← EReal.coe_neg]; exact (EReal.coe_strictMono.monotone.map_max).symm
  have h3 : max ((f : ℝ) : EReal) ((0 : ℝ) : EReal) = ((max f 0 : ℝ) : EReal) :=
    (EReal.coe_strictMono.monotone.map_max).symm
  have h4 : (1 : EReal) + Ideal.exp (-((max f (-f) : ℝ) : EReal)) = ((1 + Real.exp (-max f (-f)) : ℝ) : EReal) := by
    rw [← EReal.coe_neg, EReal.coe_add, EReal.coe_one]; rfl
  have h5 : Ideal.log ((1 + Real.exp (-max f (-f)) : ℝ) : EReal) = ((Real.log (1 + Real.exp (-max f (-f))) : ℝ) : EReal) :=
    if_neg (not_le.mpr (by positivity))
  rw [zw_eq, h2, h3, h4, h5, ← EReal.coe_add]
  refine congrArg Real.toEReal ?_
  unfold lsg
  have e : min (-f) 0 = -max f 0 := by
    rcases le_total f 0 with h | h
    · rw [max_eq_right h, min_eq_right (by linarith), neg_zero]
    · rw [max_eq_left h, min_eq_left (by linarith)]
  rw [neg_neg, max_comm (-f) f, zero_sub, e]
  ring

theorem slope_eq (f : ℝ) : slope (F := Ideal) ((f : ℝ) : EReal) = ((Real.exp (f + lsg (-f)) : ℝ) : EReal) := by
  have h1 (x : ℝ) : FloatOps.cmpf (F := Ideal) (φ := .f32) .oeq ((x : ℝ) : EReal) iw = 0#1 := by
    show BitVec.ofBool (decide (((x : ℝ) : EReal) = (iw : Ideal .f32))) = 0#1
    rw [iw_eq]
    simp [EReal.coe_ne_top]
  unfold slope
  rw [soft_eq, h1, h1, select_zero, select_zero]
  show Ideal.exp (((f : ℝ) : EReal) - ((-lsg (-f) : ℝ) : EReal)) = _
  rw [← EReal.coe_sub, sub_neg_eq_add]
  rfl

/-! ### The running sums -/

/-- An `n × m × k` array. -/
abbrev Cube (n m k : ℕ) : Shape := ⟨3, ![n, m, k]⟩

/-- The array holds the reals `f`, entry by entry. -/
def Rl3 {n m k : ℕ} (x : (Cube n m k).Idx → EReal) (f : ℕ → ℕ → ℕ → ℝ) : Prop :=
  ∀ y, x y = ((f (y 0).val (y 1).val (y 2).val : ℝ) : EReal)

theorem host_window {s t u : Shape} (window strides lo hi : Fin s.rank → ℕ) (x : FVec Ideal s .f32) (init : FVec Ideal u .f32)
    (h : s.ReduceWindows window strides lo hi t) (hu : 0 < u.numel) (y : t.Idx) :
    Host.reduceWindowAdd window strides lo hi x init h hu y =
      Ideal.hostReduceWindowAdd window strides lo hi h x (init (Shape.Idx.first hu)) y := rfl

theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

theorem sum_window {N : ℕ} (g : (Cube 1 1 N).Idx → EReal) : ∑ w, g w = ∑ k : Fin N, g (ix3 0 0 k) :=
  Fintype.sum_equiv ⟨fun w => w 2, fun k => ix3 0 0 k, fun w => by
    funext a; apply Fin.ext
    match a with
    | ⟨0, _⟩ => have : (w 0).val < 1 := (w 0).isLt; show 0 = (w 0).val; omega
    | ⟨1, _⟩ => have : (w 1).val < 1 := (w 1).isLt; show 0 = (w 1).val; omega
    | ⟨2, _⟩ => rfl, fun _ => rfl⟩ _ _ fun w => congrArg g (by
    funext a; apply Fin.ext
    match a with
    | ⟨0, _⟩ => have : (w 0).val < 1 := (w 0).isLt; show (w 0).val = 0; omega
    | ⟨1, _⟩ => have : (w 1).val < 1 := (w 1).isLt; show (w 1).val = 0; omega
    | ⟨2, _⟩ => rfl)

section

variable {n m N : ℕ} {x : (Cube n m N).Idx → EReal} {f : ℕ → ℕ → ℕ → ℝ} {v : EReal}

/-- A sum over a window along the last axis, its padding holding zero. -/
theorem window_sum {lo hi : ℕ} (h : (Cube n m N).ReduceWindows ![1, 1, N] ![1, 1, 1] ![0, 0, lo] ![0, 0, hi] (Cube n m N))
    (hx : Rl3 x f) (hv : v = 0) (y : (Cube n m N).Idx) :
    Ideal.hostReduceWindowAdd ![1, 1, N] ![1, 1, 1] ![0, 0, lo] ![0, 0, hi] h x v y =
      ((∑ k ∈ Finset.range N, if lo ≤ (y 2).val + k ∧ (y 2).val + k - lo < N then
        f (y 0).val (y 1).val ((y 2).val + k - lo) else 0 : ℝ) : EReal) := by
  unfold Ideal.hostReduceWindowAdd Host.reduceWindow
  rw [foldl_add, hv, zero_add, ← List.ofFn_eq_map, List.sum_ofFn]
  have l0 : (y 0).val < n := (y 0).isLt
  have l1 : (y 1).val < m := (y 1).isLt
  obtain ⟨g, hg⟩ : ∃ g : (Cube 1 1 N).Idx → EReal, ∀ w, g w = ((if lo ≤ (y 2).val + (w 2).val ∧
    (y 2).val + (w 2).val - lo < N then f (y 0).val (y 1).val ((y 2).val + (w 2).val - lo) else 0 : ℝ) : EReal) := ⟨_, fun _ => rfl⟩
  refine (Finset.sum_congr rfl fun i _ => (?_ : _ = g ((Cube 1 1 N).rowMajor.symm i))).trans ?_
  · obtain ⟨w, e⟩ : ∃ w, w = (Cube 1 1 N).rowMajor.symm i := ⟨_, rfl⟩
    refine Eq.trans ?_ ((hg w).symm.trans (congrArg g e))
    have w0 : (w 0).val < 1 := (w 0).isLt
    have w1 : (w 1).val < 1 := (w 1).isLt
    have e' (a : Fin 3) : ((Cube 1 1 N).rowMajor.symm i a).val = (w a).val := by rw [e]
    by_cases c : lo ≤ (y 2).val + (w 2).val ∧ (y 2).val + (w 2).val - lo < N
    · have hin : ∀ a : Fin 3, (![0, 0, lo] : Fin 3 → ℕ) a ≤ (y a).val * (![1, 1, 1] : Fin 3 → ℕ) a + ((Cube 1 1 N).rowMajor.symm i a).val ∧
          (y a).val * (![1, 1, 1] : Fin 3 → ℕ) a + ((Cube 1 1 N).rowMajor.symm i a).val - (![0, 0, lo] : Fin 3 → ℕ) a < (Cube n m N).size a := fun a => by
        rw [e' a]
        match a with
        | ⟨0, _⟩ => show 0 ≤ (y 0).val * 1 + (w 0).val ∧ (y 0).val * 1 + (w 0).val - 0 < n; omega
        | ⟨1, _⟩ => show 0 ≤ (y 1).val * 1 + (w 1).val ∧ (y 1).val * 1 + (w 1).val - 0 < m; omega
        | ⟨2, _⟩ => show lo ≤ (y 2).val * 1 + (w 2).val ∧ (y 2).val * 1 + (w 2).val - lo < N; omega
      refine (dif_pos hin).trans ((hx _).trans (congrArg Real.toEReal ?_))
      refine Eq.trans ?_ (if_pos c).symm
      show f ((y 0).val * 1 + ((Cube 1 1 N).rowMajor.symm i 0).val - 0) ((y 1).val * 1 + ((Cube 1 1 N).rowMajor.symm i 1).val - 0)
        ((y 2).val * 1 + ((Cube 1 1 N).rowMajor.symm i 2).val - lo) = _
      rw [e' 0, e' 1, e' 2, mul_one, mul_one, mul_one, Nat.lt_one_iff.mp w0, Nat.lt_one_iff.mp w1]
      rfl
    · refine Eq.trans ?_ (congrArg Real.toEReal (if_neg c)).symm
      refine (dif_neg fun hin => c ?_).trans EReal.coe_zero.symm
      have t : lo ≤ (y 2).val * 1 + ((Cube 1 1 N).rowMajor.symm i 2).val ∧
        (y 2).val * 1 + ((Cube 1 1 N).rowMajor.symm i 2).val - lo < N := hin 2
      rwa [e' 2, mul_one] at t
  · rw [Equiv.sum_comp (Cube 1 1 N).rowMajor.symm g, sum_window, Finset.sum_range, coe_sum]
    exact Finset.sum_congr rfl fun k _ => hg _

/-- The running sum from the end. -/
theorem window_back {hi : ℕ} (h : (Cube n m N).ReduceWindows ![1, 1, N] ![1, 1, 1] ![0, 0, 0] ![0, 0, hi] (Cube n m N))
    (hx : Rl3 x f) (hv : v = 0) (y : (Cube n m N).Idx) :
    Ideal.hostReduceWindowAdd ![1, 1, N] ![1, 1, 1] ![0, 0, 0] ![0, 0, hi] h x v y =
      ((∑ c ∈ Finset.range N, f (y 0).val (y 1).val c - ∑ c ∈ Finset.range (y 2).val, f (y 0).val (y 1).val c : ℝ) : EReal) := by
  rw [window_sum h hx hv]
  refine congrArg Real.toEReal ?_
  have l2 : (y 2).val < N := (y 2).isLt
  generalize (y 2).val = j at l2 ⊢
  obtain ⟨d, rfl⟩ : ∃ d, N = j + d := ⟨N - j, by omega⟩
  have e : ∑ c ∈ Finset.range (j + d), f (y 0).val (y 1).val c = _ := Finset.sum_range_add _ j d
  rw [e, add_sub_cancel_left]
  have e2 := Finset.sum_range_add (fun k => if 0 ≤ j + k ∧ j + k - 0 < j + d then f (y 0).val (y 1).val (j + k - 0) else 0) d j
  rw [show d + j = j + d by omega] at e2
  refine e2.trans ?_
  rw [Finset.sum_eq_zero (s := Finset.range j) fun t _ => if_neg (by omega), add_zero]
  exact Finset.sum_congr rfl fun k hk => by
    have := Finset.mem_range.mp hk
    rw [if_pos (by omega)]
    rfl

/-- The running sum from the start. -/
theorem window_front {lo : ℕ} (h : (Cube n m N).ReduceWindows ![1, 1, N] ![1, 1, 1] ![0, 0, lo] ![0, 0, 0] (Cube n m N))
    (hlo : lo + 1 = N) (hx : Rl3 x f) (hv : v = 0) (y : (Cube n m N).Idx) :
    Ideal.hostReduceWindowAdd ![1, 1, N] ![1, 1, 1] ![0, 0, lo] ![0, 0, 0] h x v y =
      ((∑ c ∈ Finset.range ((y 2).val + 1), f (y 0).val (y 1).val c : ℝ) : EReal) := by
  rw [window_sum h hx hv]
  refine congrArg Real.toEReal ?_
  have l2 : (y 2).val < N := (y 2).isLt
  generalize (y 2).val = j at l2 ⊢
  obtain ⟨d, rfl⟩ : ∃ d, N = d + (j + 1) := ⟨N - (j + 1), by omega⟩
  obtain rfl : lo = d + j := by omega
  refine (Finset.sum_range_add _ d (j + 1)).trans ?_
  rw [Finset.sum_eq_zero (s := Finset.range d) fun t ht => if_neg (by have := Finset.mem_range.mp ht; omega), zero_add]
  exact Finset.sum_congr rfl fun k hk => by
    have := Finset.mem_range.mp hk
    rw [if_pos (by omega), show j + (d + k) - (d + j) = k by omega]

end

end Cert.Proof

end
-- ==== Proof.Ref.lean ====
/- The differentiated reference over the reals, entry by entry: the scores, the running sums, the attention weights and
   the three gradients. -/
module

public import proofs.«01_k».proof.Proof.Grid
public import proofs.«01_k».proof.Proof.Scan
public import proofs.«01_k».proof.Proof.Gen.ReferenceIdeal.Read
public import Idealize.ShloMosaic.Lib.KernelVsHost

@[expose] public section

set_option maxRecDepth 16384

noncomputable section

namespace Cert.Proof

open Idealize.ShloMosaic Idealize.ShloMosaic.TcCoe Idealize.ShloMosaic.StableHlo
open Cert.ReferenceIdeal Cert.ReferenceIdeal.Gen Cert.ReferenceIdeal.Read
open scoped BigOperators

/-- The row sums of the masked logarithms of a head. -/
def rowSum (a b : ℕ → ℕ → ℝ) (j r : ℕ) : ℝ := (head a b (fun _ _ => 0) j).PL r 4096

/-- A head with its own row sums. -/
abbrev hd (a b : ℕ → ℕ → ℝ) (j : ℕ) : Head := head a b (rowSum a b) j

theorem PL_head (a b : ℕ → ℕ → ℝ) (S T : ℕ → ℕ → ℝ) (j r C : ℕ) : (head a b S j).PL r C = (head a b T j).PL r C := rfl

theorem hd_T (a b : ℕ → ℕ → ℝ) (j r : ℕ) : (hd a b j).T r = (hd a b j).PL r 4096 := PL_head a b _ _ j r 4096

theorem lsg_neg (x : ℝ) : lsg (-x) = lsg x - x := by
  have e : min (-x) 0 = min x 0 - x := by
    rcases le_total x 0 with h | h
    · rw [min_eq_left h, min_eq_right (by linarith), sub_self]
    · rw [min_eq_right h, min_eq_left (by linarith), zero_sub]
  unfold lsg
  rw [e, neg_neg, max_comm (-x) x]
  ring

theorem sum_coe (K : ℕ) (f g : ℕ → ℝ) :
    ∑ k : Fin K, ((f k.val : ℝ) : EReal) * ((g k.val : ℝ) : EReal) = ((∑ k ∈ Finset.range K, f k * g k : ℝ) : EReal) :=
  (zero_add _).symm.trans (sum_fin_coe K f g)

/-! ### The reference's steps, as it takes them -/

section

variable {F : FTy → Type} [FloatOps F] (x0 : (⟨S4096x6144, .bf16⟩ : BufTy).Contents (Elt F))
  (x1 : (⟨S4096x2048, .bf16⟩ : BufTy).Contents (Elt F))

theorem v20_0 (y : S16x4096x4096.Idx) : val_main_v20_0 (F := F) x0 y =
    FloatOps.hostNegf (soft (FloatOps.hostNegf (FloatOps.hostNegf (val_main_v12 (F := F) x0 y)))) := rfl

theorem v20_1 (y : S16x4096x4096.Idx) : val_main_v20_1 (F := F) x0 y =
    slope (FloatOps.hostNegf (FloatOps.hostNegf (val_main_v12 (F := F) x0 y))) := rfl

theorem v28_0 (y : S16x4096x4096.Idx) : val_main_v28_0 (F := F) x0 y =
    FloatOps.hostNegf (soft (FloatOps.hostNegf (val_main_v12 (F := F) x0 y))) := rfl

theorem v28_1 (y : S16x4096x4096.Idx) : val_main_v28_1 (F := F) x0 y =
    slope (FloatOps.hostNegf (val_main_v12 (F := F) x0 y)) := rfl

theorem mask (y : S16x4096x4096.Idx) : val_main_v21_1 (F := F) y = if (y 2).val < (y 1).val then 1#1 else 0#1 :=
  slt_small (a := (y 2).val) (b := (y 1).val) (y 2).isLt (y 1).isLt

theorem v31_1 (y : S16x4096x4096.Idx) : val_main_v31_1 (F := F) y = val_main_v21_1 (F := F) y := rfl

theorem v21_0 (y : S16x4096x4096.Idx) : val_main_v21_0 (F := F) x0 y =
    Scalar.select (val_main_v21_1 (F := F) y) (val_main_v20_0 (F := F) x0 y) zw := rfl

theorem v31_0 (y : S16x4096x4096.Idx) : val_main_v31_0 (F := F) x0 y =
    Scalar.select (val_main_v21_1 (F := F) y) (FloatOps.hostUnary .exp (FloatOps.addf (val_main_v28_0 (F := F) x0 y)
      (val_main_v26 (F := F) x0 y))) zw := rfl

theorem v40 (y : S16x4096x4096.Idx) : val_main_v40 (F := F) x0 x1 y =
    FloatOps.mulf (Scalar.select (val_main_v21_1 (F := F) y) (val_main_v38 (F := F) x0 x1 y) zw)
      (FloatOps.hostUnary .exp (FloatOps.addf (val_main_v28_0 (F := F) x0 y) (val_main_v26 (F := F) x0 y))) := rfl

theorem v49 (y : S16x4096x4096.Idx) : val_main_v49 (F := F) x0 x1 y =
    FloatOps.addf (FloatOps.hostNegf (FloatOps.mulf (FloatOps.hostNegf (val_main_v40 (F := F) x0 x1 y)) (val_main_v28_1 (F := F) x0 y)))
      (FloatOps.hostNegf (FloatOps.hostNegf (FloatOps.mulf (FloatOps.hostNegf (Scalar.select (val_main_v21_1 (F := F) y)
        (val_main_v45 (F := F) x0 x1 y) zw)) (val_main_v20_1 (F := F) x0 y)))) := rfl

end

/-! ### Their values -/

section

variable {x0 : (⟨S4096x6144, .bf16⟩ : BufTy).Contents (Elt Ideal)} {x1 : (⟨S4096x2048, .bf16⟩ : BufTy).Contents (Elt Ideal)}
  {a b : ℕ → ℕ → ℝ} (hx : Rl (n := 4096) (m := 6144) x0 a) (hy : Rl (n := 4096) (m := 2048) x1 b)

include hx

theorem ref_q (y : S16x4096x128.Idx) : val_main_v5 (F := Ideal) x0 y = (((hd a b (y 0).val).Q (y 1).val (y 2).val : ℝ) : EReal) := by
  have l0 : (y 0).val < 16 := (y 0).isLt
  have l2 : (y 2).val < 128 := (y 2).isLt
  rw [val_main_v5_apply, val_main_v4_apply, val_main_v3_apply, val_main_v0_apply]
  refine (hx _).trans (congrArg Real.toEReal ?_)
  show a ((((y 1).val * 16 + (y 0).val) * 128 + (y 2).val) / 2048) ((((y 1).val * 16 + (y 0).val) * 128 + (y 2).val) % 2048) =
    a (y 1).val (128 * (y 0).val + (y 2).val)
  congr 1 <;> omega

theorem ref_k (y : S16x4096x128.Idx) : val_main_v8 (F := Ideal) x0 y = (((hd a b (y 0).val).K (y 1).val (y 2).val : ℝ) : EReal) := by
  have l0 : (y 0).val < 16 := (y 0).isLt
  have l2 : (y 2).val < 128 := (y 2).isLt
  rw [val_main_v8_apply, val_main_v7_apply, val_main_v6_apply, val_main_v1_apply]
  refine (hx _).trans (congrArg Real.toEReal ?_)
  show a ((((y 1).val * 16 + (y 0).val) * 128 + (y 2).val) / 2048) (2048 + (((y 1).val * 16 + (y 0).val) * 128 + (y 2).val) % 2048) =
    a (y 1).val (2048 + 128 * (y 0).val + (y 2).val)
  congr 1 <;> omega

theorem ref_v (y : S16x4096x128.Idx) : val_main_v11 (F := Ideal) x0 y = (((hd a b (y 0).val).V (y 1).val (y 2).val : ℝ) : EReal) := by
  have l0 : (y 0).val < 16 := (y 0).isLt
  have l2 : (y 2).val < 128 := (y 2).isLt
  rw [val_main_v11_apply, val_main_v10_apply, val_main_v9_apply, val_main_v2_apply]
  refine (hx _).trans (congrArg Real.toEReal ?_)
  show a ((((y 1).val * 16 + (y 0).val) * 128 + (y 2).val) / 2048) (4096 + (((y 1).val * 16 + (y 0).val) * 128 + (y 2).val) % 2048) =
    a (y 1).val (4096 + 128 * (y 0).val + (y 2).val)
  congr 1 <;> omega

omit hx in
include hy in
theorem ref_d (y : S16x4096x128.Idx) : val_main_v35 (F := Ideal) x1 y = (((hd a b (y 0).val).D (y 1).val (y 2).val : ℝ) : EReal) := by
  have l0 : (y 0).val < 16 := (y 0).isLt
  have l2 : (y 2).val < 128 := (y 2).isLt
  rw [val_main_v35_apply, val_main_v34_apply, val_main_v33_apply]
  refine (hy _).trans (congrArg Real.toEReal ?_)
  show b ((((y 1).val * 16 + (y 0).val) * 128 + (y 2).val) / 2048) ((((y 1).val * 16 + (y 0).val) * 128 + (y 2).val) % 2048) =
    b (y 1).val (128 * (y 0).val + (y 2).val)
  congr 1 <;> omega

theorem ref_z : Rl3 (n := 16) (m := 4096) (k := 4096) (val_main_v12 (F := Ideal) x0) fun j r c => (hd a b j).Z r c := fun y => by
  rw [val_main_v12_apply]
  refine (Finset.sum_congr rfl fun k _ => congrArg₂ (· * ·) (ref_q (b := b) hx _) (ref_k (b := b) hx _)).trans ?_
  exact sum_coe 128 (fun e => (hd a b (y 0).val).Q (y 1).val e) fun e => (hd a b (y 0).val).K (y 2).val e

theorem ref_20_0 : Rl3 (n := 16) (m := 4096) (k := 4096) (val_main_v20_0 (F := Ideal) x0)
    fun j r c => lsg ((hd a b j).Z r c) - (hd a b j).Z r c := fun y => by
  rw [v20_0, ref_z (b := b) hx y]
  beta_reduce
  generalize (hd a b (y 0).val).Z (y 1).val (y 2).val = z
  show -soft (F := Ideal) (-(-((z : ℝ) : EReal))) = _
  rw [neg_neg, soft_eq, ← EReal.coe_neg, neg_neg, lsg_neg]

theorem ref_20_1 : Rl3 (n := 16) (m := 4096) (k := 4096) (val_main_v20_1 (F := Ideal) x0)
    fun j r c => Real.exp (lsg ((hd a b j).Z r c)) := fun y => by
  rw [v20_1, ref_z (b := b) hx y]
  beta_reduce
  generalize (hd a b (y 0).val).Z (y 1).val (y 2).val = z
  show slope (F := Ideal) (-(-((z : ℝ) : EReal))) = _
  rw [neg_neg, slope_eq, lsg_neg, add_sub_cancel]

theorem ref_28_0 : Rl3 (n := 16) (m := 4096) (k := 4096) (val_main_v28_0 (F := Ideal) x0)
    fun j r c => lsg ((hd a b j).Z r c) := fun y => by
  rw [v28_0, ref_z (b := b) hx y]
  beta_reduce
  generalize (hd a b (y 0).val).Z (y 1).val (y 2).val = z
  show -soft (F := Ideal) (-((z : ℝ) : EReal)) = _
  rw [← EReal.coe_neg, soft_eq, ← EReal.coe_neg, neg_neg, neg_neg]

theorem ref_28_1 : Rl3 (n := 16) (m := 4096) (k := 4096) (val_main_v28_1 (F := Ideal) x0)
    fun j r c => Real.exp (lsg ((hd a b j).Z r c) - (hd a b j).Z r c) := fun y => by
  rw [v28_1, ref_z (b := b) hx y]
  beta_reduce
  generalize (hd a b (y 0).val).Z (y 1).val (y 2).val = z
  show slope (F := Ideal) (-((z : ℝ) : EReal)) = _
  rw [← EReal.coe_neg, slope_eq, neg_neg, neg_add_eq_sub]

omit hx in
/-- A masked value. -/
theorem masked {p : BitVec 1} {P : Prop} [Decidable P] {x : Ideal .f32} {f : ℝ} (hp : p = if P then 1#1 else 0#1)
    (h : P → x = ((f : ℝ) : EReal)) : Scalar.select p x (zw : Ideal .f32) = ((if P then f else 0 : ℝ) : EReal) := by
  subst hp
  by_cases c : P
  · rw [if_pos c, if_pos c, ValueIdx.select_one, h c]
  · rw [if_neg c, if_neg c, ValueIdx.select_zero, zw_eq]

theorem ref_l : Rl3 (n := 16) (m := 4096) (k := 4096) (val_main_v21_0 (F := Ideal) x0) fun j r c => (hd a b j).L r c := fun y => by
  rw [v21_0]
  exact masked (mask y) fun _ => ref_20_0 (b := b) hx y

theorem ref_22 : Rl3 (n := 16) (m := 4096) (k := 4096) (val_main_v22 (F := Ideal) x0)
    fun j r c => (hd a b j).T r - (hd a b j).PL r c := fun y => by
  have e := window_back (n := 16) (m := 4096) (N := 4096) reduceWindows_S16x4096x4096_S16x4096x4096_w1s1p0_0_w1s1p0_0_w4096s1p0_4095
    (ref_l (b := b) hx) (zw_eq.trans EReal.coe_zero) y
  unfold val_main_v22
  rw [host_window]
  refine Eq.trans e (congrArg Real.toEReal ?_)
  beta_reduce
  rw [hd_T]
  unfold Head.PL
  rfl

theorem ref_26 : Rl3 (n := 16) (m := 4096) (k := 4096) (val_main_v26 (F := Ideal) x0)
    fun j r c => (hd a b j).T r - (hd a b j).PL r (c + 1) := fun y => by
  have l2 : (y 2).val < 4096 := (y 2).isLt
  unfold val_main_v26
  by_cases c : (y 2).val < 4095
  · let i : S16x4096x4095.Idx := ValueIdx.ix3 (y 0) (y 1) (⟨(y 2).val, c⟩ : Fin 4095)
    refine (concatenate_pair_apply_left 2 _ _ concatenates_S16x4096x4095_S16x4096x1_S16x4096x4096_d2 y rfl i (fun t => by
      match t with
      | ⟨0, _⟩ => rfl
      | ⟨1, _⟩ => rfl
      | ⟨2, _⟩ => rfl)).trans ?_
    rw [val_main_v23_apply]
    refine (ref_22 (b := b) hx _).trans (congrArg Real.toEReal ?_)
    show (hd a b (y 0).val).T (y 1).val - (hd a b (y 0).val).PL (y 1).val (1 + (y 2).val) = _
    rw [add_comm 1]
  · let i : S16x4096x1.Idx := ValueIdx.ix3 (y 0) (y 1) (0 : Fin 1)
    refine (concatenate_pair_apply_right 2 _ _ concatenates_S16x4096x4095_S16x4096x1_S16x4096x4096_d2 y rfl rfl i (fun t ht => by
      match t with
      | ⟨0, _⟩ => rfl
      | ⟨1, _⟩ => rfl
      | ⟨2, _⟩ => exact absurd rfl ht) (by show 0 + 4095 = (y 2).val; omega)).trans ?_
    refine (zw_eq : _ = ((0 : ℝ) : EReal)).trans (congrArg Real.toEReal ?_)
    beta_reduce
    rw [show (y 2).val + 1 = 4096 by omega, hd_T, sub_self]

theorem ref_30 (y : S16x4096x4096.Idx) : FloatOps.hostUnary (F := Ideal) .exp (FloatOps.addf (F := Ideal) (φ := .f32) (val_main_v28_0 (F := Ideal) x0 y) (val_main_v26 (F := Ideal) x0 y)) =
    ((Real.exp (lsg ((hd a b (y 0).val).Z (y 1).val (y 2).val) + ((hd a b (y 0).val).T (y 1).val - (hd a b (y 0).val).PL (y 1).val ((y 2).val + 1))) : ℝ) : EReal) := by
  rw [ref_28_0 (b := b) hx y, ref_26 (b := b) hx y]
  show Ideal.exp (((_ : ℝ) : EReal) + ((_ : ℝ) : EReal)) = _
  rw [← EReal.coe_add]
  rfl

theorem ref_a : Rl3 (n := 16) (m := 4096) (k := 4096) (val_main_v31_0 (F := Ideal) x0) fun j r c => (hd a b j).A r c := fun y => by
  rw [v31_0]
  exact masked (mask y) fun _ => ref_30 (b := b) hx y

include hy

theorem ref_g : Rl3 (n := 16) (m := 4096) (k := 4096) (val_main_v40 (F := Ideal) x0 x1) fun j r c => (hd a b j).G r c := fun y => by
  have e : val_main_v38 (F := Ideal) x0 x1 y = ((∑ e ∈ Finset.range 128, (hd a b (y 0).val).D (y 1).val e *
      (hd a b (y 0).val).V (y 2).val e : ℝ) : EReal) := by
    rw [val_main_v38_apply]
    refine (Finset.sum_congr rfl fun k _ => congrArg₂ (· * ·) (ref_d (a := a) hy _) (ref_v (b := b) hx _)).trans ?_
    exact sum_coe 128 (fun e => (hd a b (y 0).val).D (y 1).val e) fun e => (hd a b (y 0).val).V (y 2).val e
  rw [v40, ref_30 (b := b) hx y, masked (mask y) fun _ => e]
  refine (EReal.coe_mul _ _).symm.trans (congrArg Real.toEReal ?_)
  show _ = (if (y 2).val < (y 1).val then _ else 0) * _
  by_cases c : (y 2).val < (y 1).val
  · rw [if_pos c, if_pos c, mul_comm]
  · rw [if_neg c, if_neg c, zero_mul, zero_mul]

theorem ref_44 : Rl3 (n := 16) (m := 4096) (k := 4096) (val_main_v44 (F := Ideal) x0 x1)
    fun j r c => if c = 0 then 0 else (hd a b j).G r (c - 1) := fun y => by
  have l2 : (y 2).val < 4096 := (y 2).isLt
  unfold val_main_v44
  beta_reduce
  by_cases c : (y 2).val = 0
  · rw [if_pos c]
    refine (pad_apply_of_not_inside _ _ _ _ _ pads_S16x4096x4095_S16x4096x4096_000_000_100 h_S_ y 2 (fun h => ?_)).trans zw_eq
    have h' : 1 ≤ (y 2).val := h.1
    omega
  · rw [if_neg c]
    let i : S16x4096x4095.Idx := ValueIdx.ix3 (y 0) (y 1) (⟨(y 2).val - 1, by omega⟩ : Fin 4095)
    refine (pad_apply_of_inside _ _ _ _ _ pads_S16x4096x4095_S16x4096x4096_000_000_100 h_S_ y i (fun t => by
      match t with
      | ⟨0, _⟩ => show (y 0).val = 0 + (y 0).val * (0 + 1); omega
      | ⟨1, _⟩ => show (y 1).val = 0 + (y 1).val * (0 + 1); omega
      | ⟨2, _⟩ => show (y 2).val = 1 + ((y 2).val - 1) * (0 + 1); omega)).trans ?_
    rw [val_main_v42_apply]
    exact ref_g hx hy _

theorem ref_45 : Rl3 (n := 16) (m := 4096) (k := 4096) (val_main_v45 (F := Ideal) x0 x1) fun j r c => (hd a b j).PG r c := fun y => by
  have e := window_front (n := 16) (m := 4096) (N := 4096) reduceWindows_S16x4096x4096_S16x4096x4096_w1s1p0_0_w1s1p0_0_w4096s1p4095_0 rfl (ref_44 hx hy) (zw_eq.trans EReal.coe_zero) y
  unfold val_main_v45
  rw [host_window]
  refine Eq.trans e (congrArg Real.toEReal ?_)
  beta_reduce
  rw [Finset.sum_range_succ', if_pos rfl, add_zero]
  refine Finset.sum_congr rfl fun k _ => ?_
  rw [if_neg (Nat.succ_ne_zero k), Nat.add_sub_cancel]

theorem ref_dz : Rl3 (n := 16) (m := 4096) (k := 4096) (val_main_v49 (F := Ideal) x0 x1) fun j r c => (hd a b j).DZ r c := fun y => by
  rw [v49, ref_g hx hy y, ref_28_1 (b := b) hx y, ref_20_1 (b := b) hx y, masked (mask y) fun _ => ref_45 hx hy y]
  show -(-((_ : ℝ) : EReal) * ((_ : ℝ) : EReal)) + -(-(-((_ : ℝ) : EReal) * ((_ : ℝ) : EReal))) = _
  rw [← EReal.coe_neg, ← EReal.coe_neg, ← EReal.coe_mul, ← EReal.coe_mul, ← EReal.coe_neg, ← EReal.coe_neg, ← EReal.coe_neg,
    ← EReal.coe_add]
  refine congrArg Real.toEReal ?_
  unfold Head.DZ
  beta_reduce
  by_cases c : (y 2).val < (y 1).val
  · rw [if_pos c, if_pos c]
    ring
  · have g0 : (hd a b (y 0).val).G (y 1).val (y 2).val = 0 := by
      unfold Head.G Head.A
      rw [if_neg c, zero_mul]
    rw [if_neg c, if_neg c, g0]
    ring

/-! ### The three gradients -/

theorem ref_dq (y : S4096x2048.Idx) : val_main_v53 (F := Ideal) x0 x1 y =
    (((hd a b ((y 1).val / 128)).DQ 4096 (y 0).val ((y 1).val % 128) : ℝ) : EReal) := by
  have l1 : (y 1).val < 2048 := (y 1).isLt
  rw [val_main_v53_apply, val_main_v52_apply, val_main_v51_apply]
  have e0 : ((y 0).val * 2048 + (y 1).val) / 128 % 16 = (y 1).val / 128 := by omega
  have e1 : ((y 0).val * 2048 + (y 1).val) / 2048 = (y 0).val := by omega
  have e2 : ((y 0).val * 2048 + (y 1).val) % 128 = (y 1).val % 128 := by omega
  refine (Finset.sum_congr rfl fun k _ => congrArg₂ (· * ·) (ref_dz hx hy _) (ref_k (b := b) hx _)).trans ?_
  refine (sum_coe 4096 (fun c => (hd a b (((y 0).val * 2048 + (y 1).val) / 128 % 16)).DZ (((y 0).val * 2048 + (y 1).val) / 2048) c)
    fun c => (hd a b (((y 0).val * 2048 + (y 1).val) / 128 % 16)).K c (((y 0).val * 2048 + (y 1).val) % 128)).trans ?_
  rw [e0, e1, e2]
  rfl

theorem ref_dk (y : S16x16x128x256.Idx) : val_main_v55 (F := Ideal) x0 x1 y =
    (((hd a b (y 0).val).DK 4096 (y 1).val (y 2).val (y 3).val : ℝ) : EReal) := by
  have l0 : (y 0).val < 16 := (y 0).isLt
  have l1 : (y 1).val < 16 := (y 1).isLt
  have l2 : (y 2).val < 128 := (y 2).isLt
  have l3 : (y 3).val < 256 := (y 3).isLt
  rw [val_main_v55_apply, val_main_v54_apply, val_main_v50_apply]
  obtain ⟨w, hw⟩ : ∃ w, w = (((y 0).val * 16 + (y 1).val) * 256 + (y 3).val) * 128 + (y 2).val := ⟨_, rfl⟩
  have e0 : w / 524288 = (y 0).val := by omega
  have e1 : w / 128 % 4096 = 256 * (y 1).val + (y 3).val := by omega
  have e2 : w % 128 = (y 2).val := by omega
  refine (Finset.sum_congr rfl fun k _ => (congrArg₂ (· * ·) (ref_dz hx hy _) (ref_q (b := b) hx _)).trans (mul_comm _ _)).trans ?_
  refine (sum_coe 4096 (fun r => (hd a b (((((y 0).val * 16 + (y 1).val) * 256 + (y 3).val) * 128 + (y 2).val) / 524288)).Q r
      (((((y 0).val * 16 + (y 1).val) * 256 + (y 3).val) * 128 + (y 2).val) % 128))
    fun r => (hd a b (((((y 0).val * 16 + (y 1).val) * 256 + (y 3).val) * 128 + (y 2).val) / 524288)).DZ r
      (((((y 0).val * 16 + (y 1).val) * 256 + (y 3).val) * 128 + (y 2).val) / 128 % 4096)).trans ?_
  rw [← hw, e0, e1, e2]
  rfl

theorem ref_dv (y : S16x16x128x256.Idx) : val_main_v57 (F := Ideal) x0 x1 y =
    (((hd a b (y 0).val).DV 4096 (y 1).val (y 2).val (y 3).val : ℝ) : EReal) := by
  have l0 : (y 0).val < 16 := (y 0).isLt
  have l1 : (y 1).val < 16 := (y 1).isLt
  have l2 : (y 2).val < 128 := (y 2).isLt
  have l3 : (y 3).val < 256 := (y 3).isLt
  rw [val_main_v57_apply, val_main_v56_apply, val_main_v37_apply, val_main_v36_apply]
  obtain ⟨w, hw⟩ : ∃ w, w = (((y 0).val * 16 + (y 1).val) * 256 + (y 3).val) * 128 + (y 2).val := ⟨_, rfl⟩
  have e0 : w / 524288 = (y 0).val := by omega
  have e1 : w / 128 % 4096 = 256 * (y 1).val + (y 3).val := by omega
  have e2 : w % 128 = (y 2).val := by omega
  refine (Finset.sum_congr rfl fun k _ => congrArg₂ (· * ·) (ref_d (a := a) hy _) (ref_a (b := b) hx _)).trans ?_
  refine (sum_coe 4096 (fun r => (hd a b (((((y 0).val * 16 + (y 1).val) * 256 + (y 3).val) * 128 + (y 2).val) / 524288)).D r
      (((((y 0).val * 16 + (y 1).val) * 256 + (y 3).val) * 128 + (y 2).val) % 128))
    fun r => (hd a b (((((y 0).val * 16 + (y 1).val) * 256 + (y 3).val) * 128 + (y 2).val) / 524288)).A r
      (((((y 0).val * 16 + (y 1).val) * 256 + (y 3).val) * 128 + (y 2).val) / 128 % 4096)).trans ?_
  rw [← hw, e0, e1, e2]
  rfl

end

end Cert.Proof

end
-- ==== Proof.HostTotal.lean ====
/- The row sums the call is given are the sums of the reference's masked logarithms. -/
module

public import proofs.«01_k».proof.Proof.HostSum
public import proofs.«01_k».proof.Proof.Ref

@[expose] public section

set_option maxRecDepth 16384

noncomputable section

namespace Cert.Proof

open Idealize.ShloMosaic Idealize.ShloMosaic.TcCoe Idealize.ShloMosaic.StableHlo
open Cert.KernelIdeal Cert.KernelIdeal.Gen
open scoped BigOperators

/-- A row's sum at an entry of the array. -/
theorem sums_at {F : FTy → Type} [FloatOps F] (x : FVec F S16x4096x4096 .f32) (y : S4096x2048.Idx) (i : S16x4096.Idx)
    (i0 : (i 0).val = (y 1).val / 128) (i1 : (i 1).val = (y 0).val) :
    sums x y = Host.reduceAdd x (constant S_ .f32 0x00000000#32) reducesTo_S16x4096x4096_S16x4096_d2 h_S_ i := by
  have l0 : (y 0).val < 4096 := (y 0).isLt
  have l1 : (y 1).val < 2048 := (y 1).isLt
  unfold sums
  generalize Host.reduceAdd x (constant S_ .f32 0x00000000#32) reducesTo_S16x4096x4096_S16x4096_d2 h_S_ = z
  obtain ⟨p, p0, p1, p2⟩ : ∃ p : S4096x16x128.Idx, (p 0).val = (y 0).val ∧ (p 1).val = (y 1).val / 128 ∧ (p 2).val = (y 1).val % 128 :=
    ⟨ValueIdx.ix3 (y 0) (⟨(y 1).val / 128, by omega⟩ : Fin 16) (⟨(y 1).val % 128, by omega⟩ : Fin 128), rfl, rfl, rfl⟩
  obtain ⟨q, q0, q1, q2⟩ : ∃ q : S4096x16x1.Idx, (q 0).val = (y 0).val ∧ (q 1).val = (y 1).val / 128 ∧ (q 2).val = 0 :=
    ⟨ValueIdx.ix3 (y 0) (⟨(y 1).val / 128, by omega⟩ : Fin 16) (0 : Fin 1), rfl, rfl, rfl⟩
  obtain ⟨s, s0, s1⟩ : ∃ s : S4096x16.Idx, (s 0).val = (y 0).val ∧ (s 1).val = (y 1).val / 128 :=
    ⟨ValueIdx.ix2 (y 0) (⟨(y 1).val / 128, by omega⟩ : Fin 16), rfl, rfl⟩
  refine (shapeCast_apply _ shapeCasts_S4096x16x128_S4096x2048 y p (by
    rw [Shape.rowMajor_val_two, Shape.rowMajor_val_three]
    show ((p 0).val * 16 + (p 1).val) * 128 + (p 2).val = (y 0).val * 2048 + (y 1).val
    omega)).trans ?_
  refine (broadcastInDim_apply _ bcast_S4096x16x1_S4096x16x128_0_1_2 _ p q (fun a => by
    match a with
    | ⟨0, _⟩ => show (q 0).val = if (4096 : ℕ) = 1 then 0 else (p 0).val; rw [if_neg (by decide)]; omega
    | ⟨1, _⟩ => show (q 1).val = if (16 : ℕ) = 1 then 0 else (p 1).val; rw [if_neg (by decide)]; omega
    | ⟨2, _⟩ => show (q 2).val = if (1 : ℕ) = 1 then 0 else (p 2).val; rw [if_pos rfl]; omega)).trans ?_
  refine (broadcastInDim_apply _ bcast_S4096x16_S4096x16x1_0_1 _ q s (fun a => by
    match a with
    | ⟨0, _⟩ => show (s 0).val = if (4096 : ℕ) = 1 then 0 else (q 0).val; rw [if_neg (by decide)]; omega
    | ⟨1, _⟩ => show (s 1).val = if (16 : ℕ) = 1 then 0 else (q 1).val; rw [if_neg (by decide)]; omega)).trans ?_
  exact transpose_apply [1, 0] z transposes_S16x4096_S4096x16_1_0 s i (fun t => by
    match t with
    | ⟨0, _⟩ => show (i 1).val = (s 0).val; omega
    | ⟨1, _⟩ => show (i 0).val = (s 1).val; omega)

/-- Over the reals, the sum of a row. -/
theorem rowSum_at {x : FVec Ideal S16x4096x4096 .f32} {f : ℕ → ℕ → ℕ → ℝ} (hx : Rl3 (n := 16) (m := 4096) (k := 4096) x f)
    (i : S16x4096.Idx) :
    Host.reduceAdd x (constant S_ .f32 0x00000000#32) reducesTo_S16x4096x4096_S16x4096_d2 h_S_ i =
      ((∑ c ∈ Finset.range 4096, f (i 0).val (i 1).val c : ℝ) : EReal) := by
  have h : S16x4096x4096.Reduces [2] S16x4096 := by decide
  refine (Ideal.hostReduceAdd_single reducesTo_S16x4096x4096_S16x4096_d2 h x _ i).trans ?_
  have z : constant (F := Ideal) S_ .f32 0x00000000#32 (Shape.Idx.first h_S_) = (0 : EReal) := Ideal.ofBits_zero_f32
  rw [z, zero_add, Finset.sum_range, coe_sum]
  exact Finset.sum_congr rfl fun k _ => hx (h.lift i k)

theorem total {m : (ℓ : Loc nD τ sig) → Buf (Elt Ideal) ℓ} {c : Dev nD} {a b : ℕ → ℕ → ℝ}
    (hx : Rl (n := 4096) (m := 6144) (m ((c : Thread nD τ).loc main_arg0)) a) :
    Rl (n := 4096) (m := 2048) (V m c main_v26) fun r q => rowSum a b (q / 128) r := fun y => by
  have l0 : (y 0).val < 4096 := (y 0).isLt
  have l1 : (y 1).val < 2048 := (y 1).isLt
  rw [V_sums]
  refine (sums_at _ y (ValueIdx.ix2 (⟨(y 1).val / 128, by omega⟩ : Fin 16) (⟨(y 0).val, l0⟩ : Fin 4096)) rfl rfl).trans ?_
  exact rowSum_at (ref_l (b := b) hx) _

end Cert.Proof

end
-- ==== Proof.Algebraic.lean ====
/- On finite arguments the kernel's three results are the gradients of the attention written plainly: both are the
   same reals, entry by entry. -/
module

public import proofs.«01_k».proof.Defs
public import proofs.«01_k».proof.Proof.Arrays
public import proofs.«01_k».proof.Proof.HostTotal
public import proofs.«01_k».proof.Proof.Gen.KernelIdeal.Value
public import Idealize.ShloMosaic.Lib.ReduceAll

@[expose] public section

set_option maxRecDepth 16384

noncomputable section

namespace Cert.Proof

open Idealize.ShloMosaic Idealize.ShloMosaic.TcCoe Idealize.SL.Sem

theorem facts_finite : Cert.Pre_finite.Facts where
  bcast_S_S4096x6144 := by decide
  reducesTo_S4096x6144_S_d0_1 := by decide
  h_S_ := by decide
  bcast_S_S4096x2048 := by decide
  reducesTo_S4096x2048_S_d0_1 := by decide

/-- A value below infinity in magnitude is a real. -/
theorem real_of_lt {x : Ideal .bf16}
    (h : FloatOps.cmpf .olt (FloatOps.hostAbsf x) (FloatOps.ofBits (F := Ideal) .bf16 0x7F80#16) = 1#1) :
    x = ((EReal.toReal x : ℝ) : EReal) := by
  have t : FloatOps.ofBits (F := Ideal) .bf16 0x7F80#16 = (⊤ : EReal) := by
    show Ideal.ofBits .bf16 0x7F80#16 = ⊤
    simp [Ideal.ofBits, Ideal.ieee]
  rw [t] at h
  have h' : BitVec.ofBool (decide (max (x : EReal) (-x) < ⊤)) = 1#1 := h
  have l : max (x : EReal) (-x) < ⊤ := by
    by_contra c
    rw [decide_eq_false c] at h'
    exact absurd h' (by decide)
  refine (EReal.coe_toReal (fun e => ?_) (fun e => ?_)).symm
  · rw [e] at l
    exact absurd (lt_of_le_of_lt (le_max_left _ _) l) (lt_irrefl _)
  · rw [e, EReal.neg_bot] at l
    exact absurd (lt_of_le_of_lt (le_max_right _ _) l) (lt_irrefl _)

/-- The reals of an array, zero outside it. -/
def reals {n m : ℕ} (x : (Mat n m).Idx → EReal) (r c : ℕ) : ℝ :=
  if h : r < n ∧ c < m then EReal.toReal (x (ValueIdx.ix2 (⟨r, h.1⟩ : Fin n) (⟨c, h.2⟩ : Fin m))) else 0

theorem rl_reals {n m : ℕ} {x : FVec Ideal (Mat n m) .bf16}
    (h : ∀ y, FloatOps.cmpf .olt (FloatOps.hostAbsf (x y)) (FloatOps.ofBits (F := Ideal) .bf16 0x7F80#16) = 1#1) :
    Rl x (reals x) := fun y => by
  refine (real_of_lt (h y)).trans (congrArg Real.toEReal ?_)
  unfold reals
  have l0 : (y 0).val < n := (y 0).isLt
  have l1 : (y 1).val < m := (y 1).isLt
  rw [dif_pos ⟨l0, l1⟩]
  exact congrArg (fun i => EReal.toReal (x i)) (ValueIdx.eq_ix2 y)

attribute [local instance] facts_finite

/-- What the precondition says of the two arguments. -/
theorem finite_args {x : FVec Ideal Cert.Pre_finite.S4096x6144 .bf16} {y : FVec Ideal Cert.Pre_finite.S4096x2048 .bf16}
    (h : Cert.Pre_finite.fn (F := Ideal) x y = fun _ => 1#1) :
    Rl (n := 4096) (m := 6144) x (reals (n := 4096) (m := 6144) x) ∧ Rl (n := 4096) (m := 2048) y (reals (n := 4096) (m := 2048) y) := by
  have e := congrFun h (Shape.Idx.first facts_finite.h_S_)
  unfold Cert.Pre_finite.fn at e
  beta_reduce at e
  have e2 := IntOp.andi_eq_one.mp e
  exact ⟨rl_reals fun i => Host.reduce_andi_all _ _ _ _ _ e2.1 i, rl_reals fun i => Host.reduce_andi_all _ _ _ _ _ e2.2 i⟩

section

open Cert.KernelIdeal Cert.KernelIdeal.Gen Cert.ReferenceIdeal.Read

variable {m : (ℓ : Loc nD τ sig) → Buf (Elt Ideal) ℓ} {c : Dev nD} {a b : ℕ → ℕ → ℝ}
  (hx : Rl (n := 4096) (m := 6144) (m ((c : Thread nD τ).loc main_arg0)) a)
  (hy : Rl (n := 4096) (m := 2048) (m ((c : Thread nD τ).loc main_arg1)) b)

include hx hy

theorem args_rl : Rl (n := 4096) (m := 6144) (V m c main_arg0) a ∧ Rl (n := 4096) (m := 2048) (V m c main_arg1) b := by
  rw [V_main_arg0, V_main_arg1]
  exact ⟨hx, hy⟩

theorem same_q : (dats m 0 c).arrAt 5 cfg0.N =
    val_main_v53 (F := Ideal) (m ((c : Thread nD τ).loc main_arg0)) (m ((c : Thread nD τ).loc main_arg1)) := funext fun y => by
  obtain ⟨p, q⟩ := args_rl hx hy
  rw [final5 p q (total (b := b) hx) y]
  exact (ref_dq hx hy y).symm

theorem same_k : (dats m 0 c).arrAt 6 cfg0.N =
    val_main_v55 (F := Ideal) (m ((c : Thread nD τ).loc main_arg0)) (m ((c : Thread nD τ).loc main_arg1)) := funext fun y => by
  obtain ⟨p, q⟩ := args_rl hx hy
  rw [final6 p q (total (b := b) hx) y]
  exact (ref_dk hx hy y).symm

theorem same_v : (dats m 0 c).arrAt 7 cfg0.N =
    val_main_v57 (F := Ideal) (m ((c : Thread nD τ).loc main_arg0)) (m ((c : Thread nD τ).loc main_arg1)) := funext fun y => by
  obtain ⟨p, q⟩ := args_rl hx hy
  rw [final7 p q (total (b := b) hx) y]
  exact (ref_dv hx hy y).symm

end

theorem algebraic : Cert.algebraic_KernelIdeal_ReferenceIdeal_pre_finite (hKernelIdeal := Cert.KernelIdeal.Gen.facts)
    (hReferenceIdeal := Cert.ReferenceIdeal.Gen.facts) (hPre_finite := facts_finite) := by
  intro m g m' g' hpre hargs
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨h0, h1, h2, k0, k1⟩ := h c
  obtain ⟨hx, hy⟩ := finite_args (hpre c)
  obtain ⟨e0, e1⟩ := hargs c
  rw [Cert.ReferenceIdeal.Read.val_main_v53_eq, e0, e1] at h0
  rw [Cert.ReferenceIdeal.Read.val_main_v55_eq, e0, e1] at h1
  rw [Cert.ReferenceIdeal.Read.val_main_v57_eq, e0, e1] at h2
  exact ⟨h0.trans (same_q hx hy).symm, h1.trans (same_k hx hy).symm, h2.trans (same_v hx hy).symm, k0, k1⟩

end Cert.Proof

end
-- ==== Proof.Products.Frames.lean ====
/- The frames of the products' references: each terminates without a fault, leaves its arguments as they were and every
   semaphore counter at zero. -/
module

public import proofs.«01_k».proof.Defs
public import proofs.«01_k».proof.Proof.Gen.HiddenGrad.Frame
public import proofs.«01_k».proof.Proof.Gen.HiddenGradIdeal.Frame
public import proofs.«01_k».proof.Proof.Gen.HiddenGradReferenceIdeal.Run
public import proofs.«01_k».proof.Proof.Gen.InputGrad.Frame
public import proofs.«01_k».proof.Proof.Gen.InputGradIdeal.Frame
public import proofs.«01_k».proof.Proof.Gen.InputGradReferenceIdeal.Run
public import proofs.«01_k».proof.Proof.Gen.InWeightGrad.Frame
public import proofs.«01_k».proof.Proof.Gen.InWeightGradIdeal.Frame
public import proofs.«01_k».proof.Proof.Gen.InWeightGradReferenceIdeal.Run
public import proofs.«01_k».proof.Proof.Gen.OutWeightGrad.Frame
public import proofs.«01_k».proof.Proof.Gen.OutWeightGradIdeal.Frame
public import proofs.«01_k».proof.Proof.Gen.OutWeightGradReferenceIdeal.Run
public import proofs.«01_k».proof.Proof.Gen.OutWeightGrads.Frame
public import proofs.«01_k».proof.Proof.Gen.OutWeightGradsIdeal.Frame
public import proofs.«01_k».proof.Proof.Gen.OutWeightGradsReferenceIdeal.Run
public import proofs.«01_k».proof.Proof.Gen.AttentionGrad.Frame
public import proofs.«01_k».proof.Proof.Gen.AttentionGradIdeal.Frame
public import proofs.«01_k».proof.Proof.Gen.AttentionGradReferenceIdeal.Run
public import proofs.«01_k».proof.Proof.Gen.MixersGrad.Frame
public import proofs.«01_k».proof.Proof.Gen.MixersGradIdeal.Frame
public import proofs.«01_k».proof.Proof.Gen.MixersGradReferenceIdeal.Run
public import proofs.«01_k».proof.Proof.Gen.QkvWeightGrad.Frame
public import proofs.«01_k».proof.Proof.Gen.QkvWeightGradIdeal.Frame
public import proofs.«01_k».proof.Proof.Gen.QkvWeightGradReferenceIdeal.Run
public import proofs.«01_k».proof.Proof.Gen.QkvGrad.Frame
public import proofs.«01_k».proof.Proof.Gen.QkvGradIdeal.Frame
public import proofs.«01_k».proof.Proof.Gen.QkvGradReferenceIdeal.Run
public import proofs.«01_k».proof.Proof.Gen.MixWeightGrad.Frame
public import proofs.«01_k».proof.Proof.Gen.MixWeightGradIdeal.Frame
public import proofs.«01_k».proof.Proof.Gen.MixWeightGradReferenceIdeal.Run
public import proofs.«01_k».proof.Proof.Gen.MixGrad.Frame
public import proofs.«01_k».proof.Proof.Gen.MixGradIdeal.Frame
public import proofs.«01_k».proof.Proof.Gen.MixGradReferenceIdeal.Run
public import proofs.«01_k».proof.Proof.Gen.HiddenOf.Frame
public import proofs.«01_k».proof.Proof.Gen.HiddenOfIdeal.Frame
public import proofs.«01_k».proof.Proof.Gen.HiddenOfReferenceIdeal.Run
public import proofs.«01_k».proof.Proof.Gen.MlpOut.Frame
public import proofs.«01_k».proof.Proof.Gen.MlpOutIdeal.Frame
public import proofs.«01_k».proof.Proof.Gen.MlpOutReferenceIdeal.Run
public import proofs.«01_k».proof.Proof.Gen.QkvOf.Frame
public import proofs.«01_k».proof.Proof.Gen.QkvOfIdeal.Frame
public import proofs.«01_k».proof.Proof.Gen.QkvOfReferenceIdeal.Run
public import proofs.«01_k».proof.Proof.Gen.MixOf.Frame
public import proofs.«01_k».proof.Proof.Gen.MixOfIdeal.Frame
public import proofs.«01_k».proof.Proof.Gen.MixOfReferenceIdeal.Run
public import proofs.«01_k».proof.Proof.Gen.OutOf.Frame
public import proofs.«01_k».proof.Proof.Gen.OutOfIdeal.Frame
public import proofs.«01_k».proof.Proof.Gen.OutOfReferenceIdeal.Run
public import proofs.«01_k».proof.Proof.Gen.NormOf.Frame
public import proofs.«01_k».proof.Proof.Gen.NormOfIdeal.Frame
public import proofs.«01_k».proof.Proof.Gen.NormOfReferenceIdeal.Run
public import proofs.«01_k».proof.Proof.Gen.NormsOf.Frame
public import proofs.«01_k».proof.Proof.Gen.NormsOfIdeal.Frame
public import proofs.«01_k».proof.Proof.Gen.NormsOfReferenceIdeal.Run
public import Idealize.ShloMosaic.Lib.Quiescent

@[expose] public section

noncomputable section

namespace Cert.Products

open Idealize.ShloMosaic Idealize.SL.Sem

/-- A program without semaphores leaves every counter at zero; of what its run leaves, the frame keeps what is said of the
    arguments. -/
theorem ends {nD : ℕ} {τ : Topo} {sig : RefSig} {V : EltTy → Type} {L : Labels} {D : Defs nD τ sig V L}
    {p : (c : Thread nD τ) → Prog (TpuEff nD τ sig V L c.2) PUnit} {s : MemSt nD τ sig V}
    {A B : PUnit × MemSt nD τ sig V → Dev nD → Prop} (n : sig.nSem + sig.nDmaSem = 0)
    (h : θ_run D p s fun r => ∀ c, A r c ∧ B r c) : θ_run D p s fun r => (∀ c, B r c) ∧ r.2.sem = fun _ => 0 :=
  (θ_run D p s).mono (fun r w => ⟨fun c => (w c).2, sem_eq_zero_of_no_sems n r.2⟩) h

/-- The same for a program of two results. -/
theorem ends_two {nD : ℕ} {τ : Topo} {sig : RefSig} {V : EltTy → Type} {L : Labels} {D : Defs nD τ sig V L}
    {p : (c : Thread nD τ) → Prog (TpuEff nD τ sig V L c.2) PUnit} {s : MemSt nD τ sig V}
    {A A' B : PUnit × MemSt nD τ sig V → Dev nD → Prop} (n : sig.nSem + sig.nDmaSem = 0)
    (h : θ_run D p s fun r => ∀ c, A r c ∧ A' r c ∧ B r c) : θ_run D p s fun r => (∀ c, B r c) ∧ r.2.sem = fun _ => 0 :=
  (ends n h : θ_run D p s fun r => (∀ c, A' r c ∧ B r c) ∧ r.2.sem = fun _ => 0) |> (θ_run D p s).mono fun _ w => ⟨fun c => (w.1 c).2, w.2⟩

end Cert.Products

end
-- ==== Proof.Products.Entries.lean ====
/- Matrices of extended reals by their entries, what a product of two of them holds, and a product whose inner axis is
   taken tile by tile. -/
module

public import Idealize.ShloMosaic.PureOps.Ideal
public import Idealize.ShloMosaic.PureOps.Ideal.Laws
public import Idealize.ShloMosaic.Lib.MatmulPlain
public import Idealize.ShloMosaic.Lib.Pipeline.Value

@[expose] public section

noncomputable section

namespace Cert.Products

open Idealize.ShloMosaic Idealize.ShloMosaic.ValueIdx
open scoped BigOperators

/-- An `n × m` matrix. -/
abbrev Mat (n m : ℕ) : Shape := ⟨2, ![n, m]⟩

/-- The matrix holds `f`, entry by entry. -/
def Holds {n m : ℕ} (x : (Mat n m).Idx → EReal) (f : ℕ → ℕ → EReal) : Prop :=
  ∀ y, x y = f (y 0).val (y 1).val

/-- The entries of a matrix, zero outside it. -/
def entries {n m : ℕ} (x : (Mat n m).Idx → EReal) (r c : ℕ) : EReal :=
  if h : r < n ∧ c < m then x (ix2 (⟨r, h.1⟩ : Fin n) (⟨c, h.2⟩ : Fin m)) else 0

theorem holds_entries {n m : ℕ} (x : (Mat n m).Idx → EReal) : Holds x (entries x) := fun y => by
  have l0 : (y 0).val < n := (y 0).isLt
  have l1 : (y 1).val < m := (y 1).isLt
  unfold entries
  rw [dif_pos ⟨l0, l1⟩]
  exact congrArg x (eq_ix2 y)

/-- Matrices with the same entries are the same. -/
theorem Holds.eq {n m : ℕ} {x y : (Mat n m).Idx → EReal} {f : ℕ → ℕ → EReal} (hx : Holds x f) (hy : Holds y f) : x = y :=
  funext fun i => (hx i).trans (hy i).symm

theorem Holds.congr {n m : ℕ} {x : (Mat n m).Idx → EReal} {f g : ℕ → ℕ → EReal} (h : Holds x f)
    (e : ∀ r < n, ∀ c < m, f r c = g r c) : Holds x g := fun y => by
  rw [h y, e _ (y 0).isLt _ (y 1).isLt]

theorem sum_fin (K : ℕ) (f : ℕ → EReal) : ∑ k : Fin K, f k.val = ∑ k ∈ Finset.range K, f k := (Finset.sum_range f).symm

/-! ### The three products -/

/-- The dimension numbers of a product that contracts the rows of both operands. -/
def rowsDims (K M N : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, (by decide : (([] ++ [1] ++ [0] : List (Fin 2))).Perm (List.finRange 2)),
    (by decide : (([] ++ [1] ++ [0] : List (Fin 2))).Perm (List.finRange 2)), rfl, by show 0 < 2; decide, fun a => by fin_cases a <;> rfl⟩

theorem rows_rank (K M N : ℕ) : (rowsDims K M N).contr.rank = 1 := rfl

theorem rows_size (K M N : ℕ) : (rowsDims K M N).contr.size ⟨0, by rw [rows_rank]; exact Nat.one_pos⟩ = K := rfl

/-- The sum of products over the rows of both operands. -/
theorem rows_sum {K M N : ℕ} {x : (Mat K M).Idx → EReal} {y : (Mat K N).Idx → EReal} {f g : ℕ → ℕ → EReal}
    (hx : Holds x f) (hy : Holds y g) (j : (Mat M N).Idx) :
    ∑ k : (rowsDims K M N).contr.Idx, x ((rowsDims K M N).lhsIdx j k) * y ((rowsDims K M N).rhsIdx j k) =
      ∑ k ∈ Finset.range K, f k (j 0).val * g k (j 1).val := by
  rw [← sum_fin K fun k => f k (j 0).val * g k (j 1).val, ← Equiv.sum_comp (contrEquiv1 _ K (rows_rank K M N) (rows_size K M N)).symm]
  refine Finset.sum_congr rfl fun k _ => ?_
  have hk := contrEquiv1_symm_val _ K (rows_rank K M N) (rows_size K M N) k
  rw [hx, hy]
  exact congrArg₂ (· * ·) (congrArg₂ f hk rfl) (congrArg₂ g hk rfl)

/-- The sum of products over the columns of both operands. -/
theorem cols_sum {K M N : ℕ} {x : (Mat M K).Idx → EReal} {y : (Mat N K).Idx → EReal} {f g : ℕ → ℕ → EReal}
    (hx : Holds x f) (hy : Holds y g) (j : (Mat M N).Idx) :
    ∑ k : (DotDims.transposedRhs M K N).contr.Idx, x ((DotDims.transposedRhs M K N).lhsIdx j k) * y ((DotDims.transposedRhs M K N).rhsIdx j k) =
      ∑ k ∈ Finset.range K, f (j 0).val k * g (j 1).val k := by
  rw [← sum_fin K fun k => f (j 0).val k * g (j 1).val k, ← Equiv.sum_comp (DotDims.transposedRhsContr M K N).symm]
  refine Finset.sum_congr rfl fun k _ => ?_
  have hk := contrEquiv1_symm_val _ K (DotDims.transposedRhs_contr_rank M K N) (DotDims.transposedRhs_contr_size M K N) k
  rw [hx, hy]
  exact congrArg₂ (· * ·) (congrArg₂ f rfl hk) (congrArg₂ g rfl hk)

section

variable {K M N : ℕ} {φ₁ φ₂ : FTy} {f g : ℕ → ℕ → EReal}

theorem Holds.rows {x : FVec Ideal (Mat K M) φ₁} {y : FVec Ideal (Mat K N) φ₂} (hx : Holds x f) (hy : Holds y g) :
    Holds (matmul (rowsDims K M N) none x y (constant (Mat M N) .f32 0x00000000#32))
      fun r c => ∑ k ∈ Finset.range K, f k r * g k c := fun j =>
  (Ideal.matmul_constant_zero_apply (rowsDims K M N) none x y j).trans (rows_sum hx hy j)

theorem Holds.cols {x : FVec Ideal (Mat M K) φ₁} {y : FVec Ideal (Mat N K) φ₂} (hx : Holds x f) (hy : Holds y g) :
    Holds (matmul (DotDims.transposedRhs M K N) none x y (constant (Mat M N) .f32 0x00000000#32))
      fun r c => ∑ k ∈ Finset.range K, f r k * g c k := fun j =>
  (Ideal.matmul_constant_zero_apply (DotDims.transposedRhs M K N) none x y j).trans (cols_sum hx hy j)

theorem Holds.hostRows {x : FVec Ideal (Mat K M) φ₁} {y : FVec Ideal (Mat K N) φ₂} (hx : Holds x f) (hy : Holds y g) :
    Holds (Host.dotGeneral (rowsDims K M N) none x y) fun r c => ∑ k ∈ Finset.range K, f k r * g k c := fun j =>
  (Ideal.dotGeneral_apply (rowsDims K M N) none _ x y j).trans (rows_sum hx hy j)

theorem Holds.hostCols {x : FVec Ideal (Mat M K) φ₁} {y : FVec Ideal (Mat N K) φ₂} (hx : Holds x f) (hy : Holds y g) :
    Holds (Host.dotGeneral (DotDims.transposedRhs M K N) none x y) fun r c => ∑ k ∈ Finset.range K, f r k * g c k := fun j =>
  (Ideal.dotGeneral_apply (DotDims.transposedRhs M K N) none _ x y j).trans (cols_sum hx hy j)

end

/-! ### Entry by entry -/

section

variable {n m : ℕ} {φ ψ : FTy} {x y : FVec Ideal (Mat n m) φ} {f g : ℕ → ℕ → EReal}

theorem Holds.addf (hx : Holds x f) (hy : Holds y g) : Holds (addf x y) fun r c => f r c + g r c := fun j =>
  congrArg₂ (· + ·) (hx j) (hy j)

theorem Holds.mulf (hx : Holds x f) (hy : Holds y g) : Holds (mulf x y) fun r c => f r c * g r c := fun j =>
  congrArg₂ (· * ·) (hx j) (hy j)

theorem Holds.truncf {z : FVec Ideal (Mat n m) φ} (b : ψ.bits < φ.bits) (hz : Holds z f) :
    Holds (truncf ψ z b) f := hz

theorem Holds.extf {z : FVec Ideal (Mat n m) φ} (b : φ.bits < ψ.bits) (hz : Holds z f) :
    Holds (extf ψ z b) f := hz

theorem Holds.transpose {z : FVec Ideal (Mat n m) φ} (h : (Mat n m).Transposes [1, 0] (Mat m n)) (hz : Holds z f) :
    Holds (transpose (Mat m n) [1, 0] z h) fun r c => f c r := fun j => by
  refine (transpose_apply [1, 0] z h j (ix2 (⟨(j 1).val, (j 1).isLt⟩ : Fin n) (⟨(j 0).val, (j 0).isLt⟩ : Fin m)) ?_).trans (hz _)
  exact fun a => match a with | ⟨0, _⟩ => rfl | ⟨1, _⟩ => rfl

/-- A block of a matrix, whose first entry lies at row `R`, column `C`. -/
theorem Holds.block {p q : ℕ} {z : (Mat n m).Idx → EReal} (hz : Holds z f) {e : (Mat p q).Idx → (Mat n m).Idx} {R C : ℕ}
    (h0 : ∀ i, (e i 0).val = R + (i 0).val) (h1 : ∀ i, (e i 1).val = C + (i 1).val) :
    Holds (fun i => z (e i)) fun r c => f (R + r) (C + c) := fun i => by
  exact (hz (e i)).trans (congrArg₂ f (h0 i) (h1 i))

theorem holds_zero : Holds (broadcast (Mat n m) (Scalar.ofBits (F := Ideal) .f32 0x00000000#32)) fun _ _ => 0 := fun _ =>
  Ideal.ofBits_zero_f32

end

/-! ### A product taken tile by tile -/

/-- A running sum over the grid's points, started anew at every `q`-th: after point `n` it holds the products of the
    first `n % q + 1` tiles of the inner axis, `B` of them in each. -/
theorem running {n m N q B : ℕ} (hq : 0 < q) {S : (t : ℕ) → t < N → (Mat n m).Idx → EReal} {P : ℕ → ℕ → ℕ → ℕ → EReal}
    (first : ∀ t h, t % q = 0 → Holds (S t h) fun r c => ∑ k ∈ Finset.range B, P (t / q) k r c)
    (next : ∀ t (h : t + 1 < N), (t + 1) % q ≠ 0 → ∀ f, Holds (S t (Nat.lt_of_succ_lt h)) f →
      Holds (S (t + 1) h) fun r c => f r c + ∑ k ∈ Finset.range B, P ((t + 1) / q) (B * ((t + 1) % q) + k) r c) :
    ∀ t h, Holds (S t h) fun r c => ∑ k ∈ Finset.range (B * (t % q + 1)), P (t / q) k r c := by
  intro t
  induction t with
  | zero =>
    intro h
    have e := first 0 h (Nat.zero_mod q)
    rwa [Nat.zero_mod, Nat.zero_add, Nat.mul_one]
  | succ t ih =>
    intro h
    by_cases z : (t + 1) % q = 0
    · rw [z, Nat.zero_add, Nat.mul_one]
      exact first _ h z
    · have d : (t + 1) % q = t % q + 1 ∧ (t + 1) / q = t / q := by
        have a := Nat.div_add_mod t q
        have l : t % q + 1 < q := by
          rcases Nat.lt_or_ge (t % q + 1) q with l | l
          · exact l
          · have : t % q < q := Nat.mod_lt _ hq
            have e : t + 1 = q * (t / q + 1) := by rw [Nat.mul_add, Nat.mul_one]; omega
            rw [e, Nat.mul_mod_right] at z
            exact absurd rfl z
        have e : t + 1 = (t % q + 1) + q * (t / q) := by omega
        constructor
        · rw [e, Nat.add_mul_mod_self_left, Nat.mod_eq_of_lt l]
        · rw [e, Nat.add_mul_div_left _ _ hq, Nat.div_eq_of_lt l, Nat.zero_add]
      refine (next t h z _ (ih (Nat.lt_of_succ_lt h))).congr fun r _ c _ => ?_
      rw [d.1, d.2, Nat.mul_add B (t % q + 1) 1, Nat.mul_one, Finset.sum_range_add]

section

variable {n m N q B J : ℕ} {φ₁ φ₂ : FTy} {f g : ℕ → ℕ → EReal} {S : (t : ℕ) → t < N → FVec Ideal (Mat n m) .f32}

/-- Tiles that share their rows: on a grid of blocks, `J` of them in a row, with `q` points each. -/
theorem running_rows (hq : 0 < q) {x : (t : ℕ) → t < N → FVec Ideal (Mat B n) φ₁} {y : (t : ℕ) → t < N → FVec Ideal (Mat B m) φ₂}
    (hx : ∀ t h, Holds (x t h) fun r c => f (B * (t % q) + r) (n * (t / q / J) + c))
    (hy : ∀ t h, Holds (y t h) fun r c => g (B * (t % q) + r) (m * (t / q % J) + c))
    (first : ∀ t h, t % q = 0 → S t h = Idealize.ShloMosaic.addf (broadcast (Mat n m) (Scalar.ofBits .f32 0x00000000#32))
      (matmul (rowsDims B n m) none (x t h) (y t h) (constant (Mat n m) .f32 0x00000000#32)))
    (next : ∀ t (h : t + 1 < N), (t + 1) % q ≠ 0 → S (t + 1) h = Idealize.ShloMosaic.addf (S t (Nat.lt_of_succ_lt h))
      (matmul (rowsDims B n m) none (x (t + 1) h) (y (t + 1) h) (constant (Mat n m) .f32 0x00000000#32))) :
    ∀ t h, Holds (S t h) fun r c => ∑ s ∈ Finset.range (B * (t % q + 1)), f s (n * (t / q / J) + r) * g s (m * (t / q % J) + c) :=
  running (P := fun u s r c => f s (n * (u / J) + r) * g s (m * (u % J) + c)) hq
    (fun t h z => by
      rw [first t h z]
      refine (holds_zero.addf ((hx t h).rows (hy t h))).congr fun r _ c _ => ?_
      simp only [z, Nat.mul_zero, Nat.zero_add, zero_add])
    (fun t h z e he => by
      rw [next t h z]
      exact he.addf ((hx _ h).rows (hy _ h)))

/-- Tiles that share their columns, on the same grid. -/
theorem running_cols (hq : 0 < q) {x : (t : ℕ) → t < N → FVec Ideal (Mat n B) φ₁} {y : (t : ℕ) → t < N → FVec Ideal (Mat m B) φ₂}
    (hx : ∀ t h, Holds (x t h) fun r c => f (n * (t / q / J) + r) (B * (t % q) + c))
    (hy : ∀ t h, Holds (y t h) fun r c => g (m * (t / q % J) + r) (B * (t % q) + c))
    (first : ∀ t h, t % q = 0 → S t h = Idealize.ShloMosaic.addf (broadcast (Mat n m) (Scalar.ofBits .f32 0x00000000#32))
      (matmul (DotDims.transposedRhs n B m) none (x t h) (y t h) (constant (Mat n m) .f32 0x00000000#32)))
    (next : ∀ t (h : t + 1 < N), (t + 1) % q ≠ 0 → S (t + 1) h = Idealize.ShloMosaic.addf (S t (Nat.lt_of_succ_lt h))
      (matmul (DotDims.transposedRhs n B m) none (x (t + 1) h) (y (t + 1) h) (constant (Mat n m) .f32 0x00000000#32))) :
    ∀ t h, Holds (S t h) fun r c => ∑ s ∈ Finset.range (B * (t % q + 1)), f (n * (t / q / J) + r) s * g (m * (t / q % J) + c) s :=
  running (P := fun u s r c => f (n * (u / J) + r) s * g (m * (u % J) + c) s) hq
    (fun t h z => by
      rw [first t h z]
      refine (holds_zero.addf ((hx t h).cols (hy t h))).congr fun r _ c _ => ?_
      simp only [z, Nat.mul_zero, Nat.zero_add, zero_add])
    (fun t h z e he => by
      rw [next t h z]
      exact he.addf ((hx _ h).cols (hy _ h)))

end

/-- Where the vectors' pieces begin. -/
theorem at_origin : (![0, 0] : Fin 2 → ℕ) = fun _ => 0 := by funext a; fin_cases a <;> rfl

end Cert.Products

end
-- ==== Proof.Products.Hidden.lean ====
/- The gradient at the feed-forward network's hidden layer: one product per block, times twice the rectified layer. -/
module

public import proofs.«01_k».proof.Defs
public import proofs.«01_k».proof.Proof.Products.Entries
public import proofs.«01_k».proof.Proof.Gen.HiddenGradIdeal.Value
public import proofs.«01_k».proof.Proof.Gen.HiddenGradReferenceIdeal.Run

@[expose] public section

set_option maxRecDepth 16384

noncomputable section

namespace Cert.Products.Hidden

open Cert.HiddenGradIdeal Cert.HiddenGradIdeal.Gen Cert.HiddenGradIdeal.Value
open Idealize.ShloMosaic Idealize.ShloMosaic.TcCoe Idealize.ShloMosaic.StableHlo Idealize.SL.Sem Idealize.ShloMosaic.ValueIdx

variable {F : FTy → Type} [FloatOps F]

/-! ### The two functions of the hidden layer -/

/-- The hidden layer before its activation. -/
abbrev layer (h : FVec F S4096x2048 .bf16) (w : FVec F S2048x8192 .bf16) : FVec F S4096x8192 .f32 :=
  Host.dotGeneral dot_S4096x2048_S2048x8192_S4096x8192_1_0_0_1_n_n none (extf .f32 h bitsLt_bf16_f32) (extf .f32 w bitsLt_bf16_f32)

/-- One number everywhere. -/
abbrev all (b : BitVec 32) : FVec F S4096x8192 .f32 := broadcastInDim S4096x8192 ![] bcast_S_S4096x8192 (constant S_ .f32 b)

/-- Twice the rectified layer. -/
abbrev slope (a : FVec F S4096x8192 .f32) : FVec F S4096x8192 .f32 := mulf (all 0x40000000#32) (maximumf a (all 0x00000000#32))

theorem V_slope (m : (ℓ : Loc nD τ sig) → Buf (Elt F) ℓ) (c : Dev nD) : V m c main_v6 =
    truncf .bf16 (slope (layer (m ((c : Thread nD τ).loc main_arg0)) (m ((c : Thread nD τ).loc main_arg1)))) bitsLt_bf16_f32 := by
  simp only [V, hostOps0, hostOps0_1, hostOps0_2, List.flatten_cons, List.flatten_nil, List.append_nil, List.cons_append,
    List.nil_append, TRef.binary, TRef.nullary, TRef.unary, TRef.toBuf, TRef.ofBuf, cast_eq]
  after_results_simp <;> rfl

theorem out_eq (x : Vec F S1024x2048 .bf16) (y : Vec F S1024x2048 .bf16) (z : Vec F S1024x1024 .bf16) :
    out0_3 x y z = truncf .bf16 (mulf (matmul (DotDims.transposedRhs 1024 2048 1024) none x y (constant (Mat 1024 1024) .f32 0x00000000#32))
      (extf .f32 z bitsLt_bf16_f32)) bitsLt_bf16_f32 := by
  unfold out0_3
  rw [View.canon_unit_zero at_origin]
  unfold k0_pay1
  simp only [View.ld_unit_zero (S := S1024x2048) at_origin, View.ld_unit_zero (S := S1024x1024) at_origin, shapeCast_self]
  rfl

/-! ### The grid -/

theorem index_facts : ∀ t : Fin cfg0.N, (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = t.val % 8)
    ∧ (win0_3.index t (0 : Fin 2) = t.val / 8 ∧ win0_3.index t (1 : Fin 2) = t.val % 8) :=
  (by decide +kernel : ∀ t : Fin grid0.N, _)

section

variable (m : (ℓ : Loc nD τ sig) → Buf (Elt Ideal) ℓ) (c : Dev nD) {f g e : ℕ → ℕ → EReal}

/-- The gradient handed in holds `f`, the output weight `g`, twice the rectified layer `e`. -/
def Args (f g e : ℕ → ℕ → EReal) : Prop :=
  Holds (n := 4096) (m := 2048) (m ((c : Thread nD τ).loc main_arg3)) f ∧ Holds (n := 8192) (m := 2048) (m ((c : Thread nD τ).loc main_arg2)) g
    ∧ Holds (n := 4096) (m := 8192) (V m c main_v6) e

variable {m c}

theorem holds_gradient (h : Args m c f g e) (t : Fin cfg0.N) :
    Holds (n := 1024) (m := 2048) (iblk m c 0 t) fun r k => f (1024 * (t.val / 8) + r) (0 + k) := by
  have p := (index_facts t).1
  have a : Holds (n := 4096) (m := 2048) (V m c main_arg3) f := by rw [V_main_arg3]; exact h.1
  refine Holds.block a (e := fun y => ((cfg0.win 0).blk t).view.emb y) (fun y => ?_) (fun y => ?_)
  · show win0_0.index t (0 : Fin 2) * 1024 + 1 * (y 0).val = _
    rw [p.1]; omega
  · show win0_0.index t (1 : Fin 2) * 2048 + 1 * (y 1).val = _
    rw [p.2]; omega

theorem holds_weight (h : Args m c f g e) (t : Fin cfg0.N) :
    Holds (n := 1024) (m := 2048) (iblk m c 1 t) fun r k => g (1024 * (t.val % 8) + r) (0 + k) := by
  have p := (index_facts t).2.1
  have a : Holds (n := 8192) (m := 2048) (V m c main_arg2) g := by rw [V_main_arg2]; exact h.2.1
  refine Holds.block a (e := fun y => ((cfg0.win 1).blk t).view.emb y) (fun y => ?_) (fun y => ?_)
  · show win0_1.index t (0 : Fin 2) * 1024 + 1 * (y 0).val = _
    rw [p.1]; omega
  · show win0_1.index t (1 : Fin 2) * 2048 + 1 * (y 1).val = _
    rw [p.2]; omega

theorem holds_slope (h : Args m c f g e) (t : Fin cfg0.N) :
    Holds (n := 1024) (m := 1024) (iblk m c 2 t) fun r k => e (1024 * (t.val / 8) + r) (1024 * (t.val % 8) + k) := by
  have p := (index_facts t).2.2.1
  refine Holds.block h.2.2 (e := fun y => ((cfg0.win 2).blk t).view.emb y) (fun y => ?_) (fun y => ?_)
  · show win0_2.index t (0 : Fin 2) * 1024 + 1 * (y 0).val = _
    rw [p.1]; omega
  · show win0_2.index t (1 : Fin 2) * 1024 + 1 * (y 1).val = _
    rw [p.2]; omega

/-- What a point writes back. -/
theorem holds_out (h : Args m c f g e) (t : Fin cfg0.N) :
    Holds (n := 1024) (m := 1024) (out0_3 (iblk m c 0 t) (iblk m c 1 t) (iblk m c 2 t)) fun r k =>
      (∑ s ∈ Finset.range 2048, f (1024 * (t.val / 8) + r) s * g (1024 * (t.val % 8) + k) s) *
        e (1024 * (t.val / 8) + r) (1024 * (t.val % 8) + k) := by
  rw [out_eq]
  refine (((holds_gradient h t).cols (holds_weight h t)).mulf (holds_slope h t)).congr fun r _ k _ => ?_
  simp only [Nat.zero_add]

/-- The array the kernel leaves. -/
theorem holds_kernel (h : Args m c f g e) :
    Holds (n := 4096) (m := 8192) ((dats m 0 c).arrAt 3 cfg0.N) fun r k => (∑ s ∈ Finset.range 2048, f r s * g k s) * e r k := fun i => by
  have l0 : (i 0).val < 4096 := (i 0).isLt
  have l1 : (i 1).val < 8192 := (i 1).isLt
  obtain ⟨t, ht⟩ : ∃ t : Fin cfg0.N, t.val = 8 * ((i 0).val / 1024) + (i 1).val / 1024 :=
    ⟨⟨8 * ((i 0).val / 1024) + (i 1).val / 1024, lt_of_lt_of_eq (by omega) N_0.symm⟩, rfl⟩
  have d : t.val / 8 = (i 0).val / 1024 ∧ t.val % 8 = (i 1).val / 1024 := by omega
  obtain ⟨p0, p1⟩ := (index_facts t).2.2.2
  obtain ⟨j, j0, j1⟩ : ∃ j : (Mat 1024 1024).Idx, (j 0).val = (i 0).val % 1024 ∧ (j 1).val = (i 1).val % 1024 :=
    ⟨ix2 (⟨(i 0).val % 1024, Nat.mod_lt _ (by decide)⟩ : Fin 1024) (⟨(i 1).val % 1024, Nat.mod_lt _ (by decide)⟩ : Fin 1024), rfl, rfl⟩
  have q : ((cfg0.win 3).blk t).view.emb j = i := by
    funext x
    apply Fin.ext
    match x with
    | ⟨0, _⟩ => show win0_3.index t (0 : Fin 2) * 1024 + 1 * (j 0).val = (i 0).val; omega
    | ⟨1, _⟩ => show win0_3.index t (1 : Fin 2) * 1024 + 1 * (j 1).val = (i 1).val; omega
  have b := congrFun ((blocks3 m c t (flush0_3 t)).trans (flushed3 m c t)) j
  refine ((congrArg ((dats m 0 c).arrAt 3 cfg0.N) q).symm.trans b).trans ((holds_out h t j).trans ?_)
  rw [d.1, d.2, j0, j1]
  beta_reduce
  rw [Nat.div_add_mod, Nat.div_add_mod]

end

theorem holds_region (m : (ℓ : Loc nD τ sig) → Buf (Elt Ideal) ℓ) (c : Dev nD) : Holds (n := 4096) (m := 8192) (V m c main_v6)
    (entries (n := 4096) (m := 8192) (slope (F := Ideal) (layer (m ((c : Thread nD τ).loc main_arg0)) (m ((c : Thread nD τ).loc main_arg1))))) := by
  rw [V_slope]
  exact Holds.truncf (φ := .f32) bitsLt_bf16_f32 (holds_entries _)

/-! ### The derivative of the squared rectifier -/

/-- Zero where the layer is not positive: there, twice the rectified layer is zero too. -/
theorem select_slope (x a : FVec Ideal S4096x8192 .f32) :
    select (cmpf .ogt a (all 0x00000000#32)) (mulf x (slope a)) (all 0x00000000#32) = mulf x (slope a) := funext fun i => by
  have z : all (F := Ideal) 0x00000000#32 i = (0 : EReal) := Ideal.ofBits_zero_f32
  show (if (cmpf .ogt a (all 0x00000000#32) i = 1#1) then (mulf x (slope a)) i else all (F := Ideal) 0x00000000#32 i) = _
  by_cases p : cmpf .ogt a (all 0x00000000#32) i = 1#1
  · rw [if_pos p]
  · rw [if_neg p, z]
    have n : ¬(0 : EReal) < a i := fun l => p (by
      show Ideal.cmp .ogt (a i) (all (F := Ideal) 0x00000000#32 i) = 1#1
      rw [z]
      simp [Ideal.cmp, l])
    show (0 : EReal) = x i * (all (F := Ideal) 0x40000000#32 i * max (a i) (all (F := Ideal) 0x00000000#32 i))
    rw [z, max_eq_right (not_lt.mp n), mul_zero, mul_zero]

/-- The array the reference leaves. -/
theorem holds_reference {f g e : ℕ → ℕ → EReal} {x : FVec Ideal (Mat 4096 2048) .bf16} {y : FVec Ideal (Mat 8192 2048) .bf16}
    {a : FVec Ideal S4096x8192 .f32} (hx : Holds x f) (hy : Holds y g) (ha : Holds (n := 4096) (m := 8192) (slope a) e)
    (b : FTy.bits .bf16 < FTy.bits .f32) :
    Holds (n := 4096) (m := 8192) (truncf .bf16 (select (cmpf .ogt a (all 0x00000000#32))
      (mulf (Host.dotGeneral (DotDims.transposedRhs 4096 2048 8192) none (extf .f32 x b) (extf .f32 y b)) (slope a))
      (all 0x00000000#32)) b) fun r k => (∑ s ∈ Finset.range 2048, f r s * g k s) * e r k := by
  rw [select_slope]
  exact (Holds.hostCols hx hy).mulf ha

theorem algebraic : Cert.algebraic_HiddenGradIdeal_HiddenGradReferenceIdeal (hHiddenGradIdeal := Cert.HiddenGradIdeal.Gen.facts)
    (hHiddenGradReferenceIdeal := Cert.HiddenGradReferenceIdeal.Gen.facts) := by
  intro m g m' g' _ hargs
  refine ⟨fun c => (dats m 0 c).arrAt 3 cfg0.N, Cert.HiddenGradIdeal.Value.run_blocks m g, ?_⟩
  refine (θ_run Cert.HiddenGradReferenceIdeal.defs _ _).mono (fun r h c => ?_) (Cert.HiddenGradReferenceIdeal.Value.run m' g')
  obtain ⟨h0, k⟩ := h c
  obtain ⟨e0, e1, e2, e3⟩ := hargs c
  rw [e0, e1, e2, e3] at h0
  have w := (holds_reference (holds_entries _) (holds_entries _) (holds_entries _) bitsLt_bf16_f32).eq
    (holds_kernel ⟨holds_entries _, holds_entries _, holds_region m c⟩)
  exact ⟨h0.trans w, k⟩

end Cert.Products.Hidden

end
-- ==== Proof.Products.Input.lean ====
/- The gradient of the feed-forward network's input: the kernel's array and the reference's hold the same sums. -/
module

public import proofs.«01_k».proof.Defs
public import proofs.«01_k».proof.Proof.Products.Entries
public import proofs.«01_k».proof.Proof.Gen.InputGradIdeal.Value
public import proofs.«01_k».proof.Proof.Gen.InputGradReferenceIdeal.Run

@[expose] public section

set_option maxRecDepth 16384

noncomputable section

namespace Cert.Products.Input

open Cert.InputGradIdeal Cert.InputGradIdeal.Gen Cert.InputGradIdeal.Value
open Idealize.ShloMosaic Idealize.ShloMosaic.TcCoe Idealize.SL.Sem Idealize.ShloMosaic.ValueIdx

variable {F : FTy → Type} [FloatOps F]

/-! ### What a point leaves -/

section

variable (c : Dev nD) (i : grid0.Coords) (a3 : Memref sig .tc .vmem S1024x2048 .bf16) (h3 : a3.IsWhole)
  (a4 : Memref sig .tc .vmem S1024x2048 .bf16) (h4 : a4.IsWhole) (a5 : Memref sig .tc .vmem S1024x1024 .f32) (h5 : a5.IsWhole)
  (a6 : Memref sig .tc .vmem S1024x1024 .f32) (h6 : a6.IsWhole) (x : Vec F S1024x2048 .bf16) (y : Vec F S1024x2048 .bf16)

/-- The product of two tiles. -/
abbrev tiles (x : Vec F S1024x2048 .bf16) (y : Vec F S1024x2048 .bf16) : Vec F S1024x1024 .f32 :=
  matmul (DotDims.transposedRhs 1024 2048 1024) none x y (constant (Mat 1024 1024) .f32 0x00000000#32)

theorem sum_first (hc0 : cond0_0 i) (hc1 : ¬cond0_1 i) :
    sout0_A_0 c i a3 h3 a4 h4 a5 h5 a6 h6 hc0 hc1 x y =
      addf (broadcast (Mat 1024 1024) (Scalar.ofBits .f32 0x00000000#32)) (tiles x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at_origin, View.readCov_unit_zero (S := S1024x1024) _ at_origin]
  unfold k0_pay2 k0_pay1
  simp only [View.readAt_eq_ld, h3.read_unread, h4.read_unread, View.ld_unit_zero (S := S1024x2048) at_origin, shapeCast_self]
  rfl

theorem sum_middle (hc0 : ¬cond0_0 i) (hc1 : ¬cond0_1 i) (s : Vec F S1024x1024 .f32) :
    sout0_B_0 c i a3 h3 a4 h4 a5 h5 a6 h6 hc0 hc1 x y s = addf s (tiles x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero at_origin]
  unfold k0_pay2
  simp only [View.readAt_eq_ld, h3.read_unread, h4.read_unread, h6.read_unread, View.ld_unit_zero (S := S1024x2048) at_origin,
    View.ld_unit_zero (S := S1024x1024) at_origin, shapeCast_self]
  rfl

theorem sum_last (hc0 : ¬cond0_0 i) (hc1 : cond0_1 i) (s : Vec F S1024x1024 .f32) :
    sout0_C_0 c i a3 h3 a4 h4 a5 h5 a6 h6 hc0 hc1 x y s = addf s (tiles x y) := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero at_origin]
  unfold k0_pay2
  simp only [View.readAt_eq_ld, h3.read_unread, h4.read_unread, h6.read_unread, View.ld_unit_zero (S := S1024x2048) at_origin,
    View.ld_unit_zero (S := S1024x1024) at_origin, shapeCast_self]
  rfl

theorem out_last (hc0 : ¬cond0_0 i) (hc1 : cond0_1 i) (s : Vec F S1024x1024 .f32) :
    out0_C_2 c i a3 h3 a4 h4 a5 h5 a6 h6 hc0 hc1 x y s = sout0_C_0 c i a3 h3 a4 h4 a5 h5 a6 h6 hc0 hc1 x y s := by
  rw [sum_last]
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero at_origin, View.readCov_unit_zero (S := S1024x1024) _ at_origin]
  unfold k0_pay2
  simp only [View.readAt_eq_ld, h3.read_unread, h4.read_unread, h6.read_unread, View.ld_unit_zero (S := S1024x2048) at_origin,
    View.ld_unit_zero (S := S1024x1024) at_origin, shapeCast_self]
  rfl

end

/-! ### The grid -/

theorem index_facts : ∀ t : Fin cfg0.N, win0_0.index t (0 : Fin 2) = t.val / 4 / 2 ∧ win0_0.index t (1 : Fin 2) = t.val % 4
    ∧ win0_1.index t (0 : Fin 2) = t.val / 4 % 2 ∧ win0_1.index t (1 : Fin 2) = t.val % 4 :=
  (by decide +kernel : ∀ t : Fin grid0.N, _)

/-- The last point of a block writes back its running sum. -/
theorem last_sums (m : (ℓ : Loc nD τ sig) → Buf (Elt F) ℓ) (c : Dev nD) (t : Fin cfg0.N) (z : t.val % 4 = 3) :
    (outsAt0 m c t.val t.isLt).1 = (outsAt0 m c t.val t.isLt).2 := by
  rw [outsAt0_C m c t (by omega) z]
  dsimp only
  rw [out_last]

/-- Every point but the first of a block adds to the sum the point before left. -/
theorem adds (m : (ℓ : Loc nD τ sig) → Buf (Elt F) ℓ) (c : Dev nD) (t : Fin cfg0.N) (z : t.val % 4 ≠ 0) :
    (outsAt0 m c t.val t.isLt).2 =
      addf (outsAt0 m c (t.val - 1) (Nat.lt_of_le_of_lt (Nat.sub_le _ _) t.isLt)).2 (tiles (iblk m c 0 t) (iblk m c 1 t)) := by
  by_cases l : t.val % 4 = 3
  · rw [outsAt0_C m c t z l]
    dsimp only
    rw [sum_last]
  · rw [outsAt0_B m c t z l]
    dsimp only
    rw [sum_middle]

section

variable (m : (ℓ : Loc nD τ sig) → Buf (Elt Ideal) ℓ) (c : Dev nD) {f g : ℕ → ℕ → EReal}

/-- The gradient handed in holds `f`, the weight `g`. -/
def Args (f g : ℕ → ℕ → EReal) : Prop :=
  Holds (n := 4096) (m := 8192) (m ((c : Thread nD τ).loc main_arg1)) f ∧ Holds (n := 2048) (m := 8192) (m ((c : Thread nD τ).loc main_arg0)) g

variable {m c}

theorem holds_left (h : Args m c f g) (t : Fin cfg0.N) :
    Holds (n := 1024) (m := 2048) (iblk m c 0 t) fun r k => f (1024 * (t.val / 4 / 2) + r) (2048 * (t.val % 4) + k) := by
  have e := index_facts t
  refine Holds.block h.1 (e := fun y => ((cfg0.win 0).blk t).view.emb y) (fun y => ?_) (fun y => ?_)
  · show win0_0.index t (0 : Fin 2) * 1024 + 1 * (y 0).val = _
    rw [e.1]; omega
  · show win0_0.index t (1 : Fin 2) * 2048 + 1 * (y 1).val = _
    rw [e.2.1]; omega

theorem holds_right (h : Args m c f g) (t : Fin cfg0.N) :
    Holds (n := 1024) (m := 2048) (iblk m c 1 t) fun r k => g (1024 * (t.val / 4 % 2) + r) (2048 * (t.val % 4) + k) := by
  have e := index_facts t
  refine Holds.block h.2 (e := fun y => ((cfg0.win 1).blk t).view.emb y) (fun y => ?_) (fun y => ?_)
  · show win0_1.index t (0 : Fin 2) * 1024 + 1 * (y 0).val = _
    rw [e.2.2.1]; omega
  · show win0_1.index t (1 : Fin 2) * 2048 + 1 * (y 1).val = _
    rw [e.2.2.2]; omega

theorem holds_sum (h : Args m c f g) : ∀ t ht, Holds (n := 1024) (m := 1024) (outsAt0 m c t ht).2 fun r k =>
    ∑ s ∈ Finset.range (2048 * (t % 4 + 1)), f (1024 * (t / 4 / 2) + r) s * g (1024 * (t / 4 % 2) + k) s :=
  running_cols (by decide) (fun t ht => holds_left h ⟨t, ht⟩) (fun t ht => holds_right h ⟨t, ht⟩)
    (fun t ht z => by
      rw [outsAt0_A m c ⟨t, ht⟩ z (by dsimp only; omega)]
      dsimp only
      rw [sum_first])
    (fun t ht z => adds m c ⟨t + 1, ht⟩ z)

/-- What the last point of a block writes back. -/
theorem holds_out (h : Args m c f g) (t : ℕ) (ht : t < cfg0.N) (z : t % 4 = 3) : Holds (n := 1024) (m := 1024) (outsAt0 m c t ht).1 fun r k =>
    ∑ s ∈ Finset.range (2048 * (t % 4 + 1)), f (1024 * (t / 4 / 2) + r) s * g (1024 * (t / 4 % 2) + k) s := by
  rw [last_sums m c ⟨t, ht⟩ z]
  exact holds_sum h t ht

/-- The array the kernel leaves. -/
theorem holds_kernel (h : Args m c f g) :
    Holds (n := 4096) (m := 2048) (G2 m c) fun r k => ∑ s ∈ Finset.range 8192, f r s * g k s := fun i => by
  have l0 : (i 0).val < 4096 := (i 0).isLt
  have l1 : (i 1).val < 2048 := (i 1).isLt
  have p : pt2Of i < cfg0.N := lt_of_lt_of_eq (by dsimp only [pt2Of, run2Of]; omega) N_0.symm
  have d : pt2Of i % 4 = 3 ∧ pt2Of i / 4 / 2 = (i 0).val / 1024 ∧ pt2Of i / 4 % 2 = (i 1).val / 1024 := by
    dsimp only [pt2Of, run2Of]; omega
  unfold G2
  rw [dif_pos p, ← outsAt0_sweep m c (pt2Of i) p]
  refine (holds_out h (pt2Of i) p d.1 (loc2Of i)).trans ?_
  rw [d.1, d.2.1, d.2.2]
  have q0 : 1024 * ((i 0).val / 1024) + (loc2Of i 0).val = (i 0).val := Nat.div_add_mod _ _
  have q1 : 1024 * ((i 1).val / 1024) + (loc2Of i 1).val = (i 1).val := Nat.div_add_mod _ _
  beta_reduce
  rw [q0, q1]

end

/-- The array the reference leaves. -/
theorem holds_reference {f g : ℕ → ℕ → EReal} {x : FVec Ideal (Mat 4096 8192) .bf16} {y : FVec Ideal (Mat 2048 8192) .bf16}
    (hx : Holds x f) (hy : Holds y g) (b : FTy.bits .bf16 < FTy.bits .f32) :
    Holds (Host.dotGeneral (DotDims.transposedRhs 4096 8192 2048) none (extf .f32 x b) (extf .f32 y b))
      fun r k => ∑ s ∈ Finset.range 8192, f r s * g k s := Holds.hostCols hx hy

theorem algebraic : Cert.algebraic_InputGradIdeal_InputGradReferenceIdeal (hInputGradIdeal := Cert.InputGradIdeal.Gen.facts)
    (hInputGradReferenceIdeal := Cert.InputGradReferenceIdeal.Gen.facts) := by
  intro m g m' g' _ hargs
  refine ⟨fun c => G2 m c, Cert.InputGradIdeal.Value.run m g, ?_⟩
  refine (θ_run Cert.InputGradReferenceIdeal.defs _ _).mono (fun r h c => ?_) (Cert.InputGradReferenceIdeal.Value.run m' g')
  obtain ⟨h0, k0, k1⟩ := h c
  obtain ⟨e0, e1⟩ := hargs c
  rw [e0, e1] at h0
  exact ⟨h0.trans ((holds_reference (holds_entries _) (holds_entries _) _).eq (holds_kernel ⟨holds_entries _, holds_entries _⟩)), k0, k1⟩

end Cert.Products.Input

end
-- ==== Proof.Products.InWeight.lean ====
/- The gradient of a feed-forward input weight: the kernel's array and the reference's hold the same sums. -/
module

public import proofs.«01_k».proof.Defs
public import proofs.«01_k».proof.Proof.Products.Entries
public import proofs.«01_k».proof.Proof.Gen.InWeightGradIdeal.Value
public import proofs.«01_k».proof.Proof.Gen.InWeightGradReferenceIdeal.Run

@[expose] public section

set_option maxRecDepth 16384

noncomputable section

namespace Cert.Products.InWeight

open Cert.InWeightGradIdeal Cert.InWeightGradIdeal.Gen Cert.InWeightGradIdeal.Value
open Idealize.ShloMosaic Idealize.ShloMosaic.TcCoe Idealize.SL.Sem Idealize.ShloMosaic.ValueIdx

variable {F : FTy → Type} [FloatOps F]

/-! ### What a point leaves -/

section

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec F S2048x1024 .bf16) (y : Vec F S2048x1024 .bf16)

/-- The product of two tiles. -/
abbrev tiles (x : Vec F S2048x1024 .bf16) (y : Vec F S2048x1024 .bf16) : Vec F S1024x1024 .f32 :=
  matmul (rowsDims 2048 1024 1024) none x y (constant (Mat 1024 1024) .f32 0x00000000#32)

theorem sum_first (hc0 : cond0_0 i) (hc1 : ¬cond0_1 i) :
    sout0_A_0 c i a3 h3 a4 h4 a5 h5 a6 h6 hc0 hc1 x y =
      addf (broadcast (Mat 1024 1024) (Scalar.ofBits .f32 0x00000000#32)) (tiles x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at_origin, View.readCov_unit_zero (S := S1024x1024) _ at_origin]
  unfold k0_pay2 k0_pay1
  simp only [View.readAt_eq_ld, h3.read_unread, h4.read_unread, View.ld_unit_zero (S := S2048x1024) at_origin, shapeCast_self]
  rfl

theorem sum_last (hc0 : ¬cond0_0 i) (hc1 : cond0_1 i) (s : Vec F S1024x1024 .f32) :
    sout0_B_0 c i a3 h3 a4 h4 a5 h5 a6 h6 hc0 hc1 x y s = addf s (tiles x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero at_origin]
  unfold k0_pay2
  simp only [View.readAt_eq_ld, h3.read_unread, h4.read_unread, h6.read_unread, View.ld_unit_zero (S := S2048x1024) at_origin,
    View.ld_unit_zero (S := S1024x1024) at_origin, shapeCast_self]
  rfl

theorem out_last (hc0 : ¬cond0_0 i) (hc1 : cond0_1 i) (s : Vec F S1024x1024 .f32) :
    out0_B_2 c i a3 h3 a4 h4 a5 h5 a6 h6 hc0 hc1 x y s =
      truncf .bf16 (sout0_B_0 c i a3 h3 a4 h4 a5 h5 a6 h6 hc0 hc1 x y s) bitsLt_bf16_f32 := by
  rw [sum_last]
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero at_origin, View.readCov_unit_zero (S := S1024x1024) _ at_origin]
  unfold k0_pay3 k0_pay2
  simp only [View.readAt_eq_ld, h3.read_unread, h4.read_unread, h6.read_unread, View.ld_unit_zero (S := S2048x1024) at_origin,
    View.ld_unit_zero (S := S1024x1024) at_origin, shapeCast_self]
  rfl

end

/-! ### The grid -/

theorem index_facts : ∀ t : Fin cfg0.N, win0_0.index t (0 : Fin 2) = t.val % 2 ∧ win0_0.index t (1 : Fin 2) = t.val / 2 / 8
    ∧ win0_1.index t (0 : Fin 2) = t.val % 2 ∧ win0_1.index t (1 : Fin 2) = t.val / 2 % 8 :=
  (by decide +kernel : ∀ t : Fin grid0.N, _)

/-- The last point of a block writes back its running sum. -/
theorem last_rounds (m : (ℓ : Loc nD τ sig) → Buf (Elt F) ℓ) (c : Dev nD) (t : Fin cfg0.N) (z : t.val % 2 = 1) :
    (outsAt0 m c t.val t.isLt).1 = truncf .bf16 (outsAt0 m c t.val t.isLt).2 bitsLt_bf16_f32 := by
  rw [outsAt0_B m c t (by omega) z]
  dsimp only
  rw [out_last]

section

variable (m : (ℓ : Loc nD τ sig) → Buf (Elt Ideal) ℓ) (c : Dev nD) {f g : ℕ → ℕ → EReal}

/-- The two arguments hold `f` and `g`. -/
def Args (f g : ℕ → ℕ → EReal) : Prop :=
  Holds (n := 4096) (m := 2048) (m ((c : Thread nD τ).loc main_arg0)) f ∧ Holds (n := 4096) (m := 8192) (m ((c : Thread nD τ).loc main_arg1)) g

variable {m c}

theorem holds_left (h : Args m c f g) (t : Fin cfg0.N) :
    Holds (n := 2048) (m := 1024) (iblk m c 0 t) fun r k => f (2048 * (t.val % 2) + r) (1024 * (t.val / 2 / 8) + k) := by
  have e := index_facts t
  refine Holds.block h.1 (e := fun y => ((cfg0.win 0).blk t).view.emb y) (fun y => ?_) (fun y => ?_)
  · show win0_0.index t (0 : Fin 2) * 2048 + 1 * (y 0).val = _
    rw [e.1]; omega
  · show win0_0.index t (1 : Fin 2) * 1024 + 1 * (y 1).val = _
    rw [e.2.1]; omega

theorem holds_right (h : Args m c f g) (t : Fin cfg0.N) :
    Holds (n := 2048) (m := 1024) (iblk m c 1 t) fun r k => g (2048 * (t.val % 2) + r) (1024 * (t.val / 2 % 8) + k) := by
  have e := index_facts t
  refine Holds.block h.2 (e := fun y => ((cfg0.win 1).blk t).view.emb y) (fun y => ?_) (fun y => ?_)
  · show win0_1.index t (0 : Fin 2) * 2048 + 1 * (y 0).val = _
    rw [e.2.2.1]; omega
  · show win0_1.index t (1 : Fin 2) * 1024 + 1 * (y 1).val = _
    rw [e.2.2.2]; omega

theorem holds_sum (h : Args m c f g) : ∀ t ht, Holds (n := 1024) (m := 1024) (outsAt0 m c t ht).2 fun r k =>
    ∑ s ∈ Finset.range (2048 * (t % 2 + 1)), f s (1024 * (t / 2 / 8) + r) * g s (1024 * (t / 2 % 8) + k) :=
  running_rows (by decide) (fun t ht => holds_left h ⟨t, ht⟩) (fun t ht => holds_right h ⟨t, ht⟩)
    (fun t ht z => by
      rw [outsAt0_A m c ⟨t, ht⟩ z (by dsimp only; omega)]
      dsimp only
      rw [sum_first])
    (fun t ht z => by
      rw [outsAt0_B m c ⟨t + 1, ht⟩ z (by dsimp only; omega)]
      dsimp only
      rw [sum_last]
      rfl)

/-- What the last point of a block writes back. -/
theorem holds_out (h : Args m c f g) (t : ℕ) (ht : t < cfg0.N) (z : t % 2 = 1) : Holds (n := 1024) (m := 1024) (outsAt0 m c t ht).1 fun r k =>
    ∑ s ∈ Finset.range (2048 * (t % 2 + 1)), f s (1024 * (t / 2 / 8) + r) * g s (1024 * (t / 2 % 8) + k) := by
  rw [last_rounds m c ⟨t, ht⟩ z]
  exact (holds_sum h t ht).truncf _

/-- The array the kernel leaves. -/
theorem holds_kernel (h : Args m c f g) :
    Holds (n := 2048) (m := 8192) (G2 m c) fun r k => ∑ s ∈ Finset.range 4096, f s r * g s k := fun i => by
  have l0 : (i 0).val < 2048 := (i 0).isLt
  have l1 : (i 1).val < 8192 := (i 1).isLt
  have p : pt2Of i < cfg0.N := lt_of_lt_of_eq (by dsimp only [pt2Of, run2Of]; omega) N_0.symm
  have d : pt2Of i % 2 = 1 ∧ pt2Of i / 2 / 8 = (i 0).val / 1024 ∧ pt2Of i / 2 % 8 = (i 1).val / 1024 := by
    dsimp only [pt2Of, run2Of]; omega
  unfold G2
  rw [dif_pos p, ← outsAt0_sweep m c (pt2Of i) p]
  refine (holds_out h (pt2Of i) p d.1 (loc2Of i)).trans ?_
  rw [d.1, d.2.1, d.2.2]
  have q0 : 1024 * ((i 0).val / 1024) + (loc2Of i 0).val = (i 0).val := Nat.div_add_mod _ _
  have q1 : 1024 * ((i 1).val / 1024) + (loc2Of i 1).val = (i 1).val := Nat.div_add_mod _ _
  beta_reduce
  rw [q0, q1]

end

/-- The array the reference leaves. -/
theorem holds_reference {f g : ℕ → ℕ → EReal} {x : FVec Ideal (Mat 4096 2048) .bf16} {y : FVec Ideal (Mat 4096 8192) .bf16}
    (hx : Holds x f) (hy : Holds y g) (h : (Mat 8192 2048).Transposes [1, 0] (Mat 2048 8192)) :
    Holds (truncf .bf16 (transpose (Mat 2048 8192) [1, 0] (Host.dotGeneral (rowsDims 4096 8192 2048) none
      (extf .f32 y bitsLt_bf16_f32) (extf .f32 x bitsLt_bf16_f32)) h) bitsLt_bf16_f32)
      fun r k => ∑ s ∈ Finset.range 4096, f s r * g s k :=
  ((hy.hostRows hx).transpose _).congr fun r _ k _ => Finset.sum_congr rfl fun s _ => mul_comm _ _

theorem algebraic : Cert.algebraic_InWeightGradIdeal_InWeightGradReferenceIdeal (hInWeightGradIdeal := Cert.InWeightGradIdeal.Gen.facts)
    (hInWeightGradReferenceIdeal := Cert.InWeightGradReferenceIdeal.Gen.facts) := by
  intro m g m' g' _ hargs
  refine ⟨fun c => G2 m c, Cert.InWeightGradIdeal.Value.run m g, ?_⟩
  refine (θ_run Cert.InWeightGradReferenceIdeal.defs _ _).mono (fun r h c => ?_) (Cert.InWeightGradReferenceIdeal.Value.run m' g')
  obtain ⟨h0, k0, k1⟩ := h c
  obtain ⟨e0, e1⟩ := hargs c
  rw [e0, e1] at h0
  exact ⟨h0.trans ((holds_reference (holds_entries _) (holds_entries _) _).eq (holds_kernel ⟨holds_entries _, holds_entries _⟩)), k0, k1⟩

end Cert.Products.InWeight

end
-- ==== Proof.Products.OutWeight.lean ====
/- The gradient of a feed-forward output weight: the kernel's array and the reference's hold the same sums. -/
module

public import proofs.«01_k».proof.Defs
public import proofs.«01_k».proof.Proof.Products.Entries
public import proofs.«01_k».proof.Proof.Gen.OutWeightGradIdeal.Value
public import proofs.«01_k».proof.Proof.Gen.OutWeightGradReferenceIdeal.Run

@[expose] public section

set_option maxRecDepth 16384

noncomputable section

namespace Cert.Products.OutWeight

open Cert.OutWeightGradIdeal Cert.OutWeightGradIdeal.Gen Cert.OutWeightGradIdeal.Value
open Idealize.ShloMosaic Idealize.ShloMosaic.TcCoe Idealize.SL.Sem Idealize.ShloMosaic.ValueIdx

variable {F : FTy → Type} [FloatOps F]

/-! ### What a point leaves -/

section

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec F S2048x1024 .bf16) (y : Vec F S2048x1024 .bf16)

/-- The product of two tiles. -/
abbrev tiles (x : Vec F S2048x1024 .bf16) (y : Vec F S2048x1024 .bf16) : Vec F S1024x1024 .f32 :=
  matmul (rowsDims 2048 1024 1024) none x y (constant (Mat 1024 1024) .f32 0x00000000#32)

theorem sum_first (hc0 : cond0_0 i) (hc1 : ¬cond0_1 i) :
    sout0_A_0 c i a3 h3 a4 h4 a5 h5 a6 h6 hc0 hc1 x y =
      addf (broadcast (Mat 1024 1024) (Scalar.ofBits .f32 0x00000000#32)) (tiles x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at_origin, View.readCov_unit_zero (S := S1024x1024) _ at_origin]
  unfold k0_pay2 k0_pay1
  simp only [View.readAt_eq_ld, h3.read_unread, h4.read_unread, View.ld_unit_zero (S := S2048x1024) at_origin, shapeCast_self]
  rfl

theorem sum_last (hc0 : ¬cond0_0 i) (hc1 : cond0_1 i) (s : Vec F S1024x1024 .f32) :
    sout0_B_0 c i a3 h3 a4 h4 a5 h5 a6 h6 hc0 hc1 x y s = addf s (tiles x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero at_origin]
  unfold k0_pay2
  simp only [View.readAt_eq_ld, h3.read_unread, h4.read_unread, h6.read_unread, View.ld_unit_zero (S := S2048x1024) at_origin,
    View.ld_unit_zero (S := S1024x1024) at_origin, shapeCast_self]
  rfl

theorem out_last (hc0 : ¬cond0_0 i) (hc1 : cond0_1 i) (s : Vec F S1024x1024 .f32) :
    out0_B_2 c i a3 h3 a4 h4 a5 h5 a6 h6 hc0 hc1 x y s =
      truncf .bf16 (sout0_B_0 c i a3 h3 a4 h4 a5 h5 a6 h6 hc0 hc1 x y s) bitsLt_bf16_f32 := by
  rw [sum_last]
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero at_origin, View.readCov_unit_zero (S := S1024x1024) _ at_origin]
  unfold k0_pay3 k0_pay2
  simp only [View.readAt_eq_ld, h3.read_unread, h4.read_unread, h6.read_unread, View.ld_unit_zero (S := S2048x1024) at_origin,
    View.ld_unit_zero (S := S1024x1024) at_origin, shapeCast_self]
  rfl

end

/-! ### The grid -/

theorem index_facts : ∀ t : Fin cfg0.N, win0_0.index t (0 : Fin 2) = t.val % 2 ∧ win0_0.index t (1 : Fin 2) = t.val / 2 / 2
    ∧ win0_1.index t (0 : Fin 2) = t.val % 2 ∧ win0_1.index t (1 : Fin 2) = t.val / 2 % 2 :=
  (by decide +kernel : ∀ t : Fin grid0.N, _)

/-- The last point of a block writes back its running sum. -/
theorem last_rounds (m : (ℓ : Loc nD τ sig) → Buf (Elt F) ℓ) (c : Dev nD) (t : Fin cfg0.N) (z : t.val % 2 = 1) :
    (outsAt0 m c t.val t.isLt).1 = truncf .bf16 (outsAt0 m c t.val t.isLt).2 bitsLt_bf16_f32 := by
  rw [outsAt0_B m c t (by omega) z]
  dsimp only
  rw [out_last]

section

variable (m : (ℓ : Loc nD τ sig) → Buf (Elt Ideal) ℓ) (c : Dev nD) {f g : ℕ → ℕ → EReal}

/-- The two arguments hold `f` and `g`. -/
def Args (f g : ℕ → ℕ → EReal) : Prop :=
  Holds (n := 4096) (m := 8192) (m ((c : Thread nD τ).loc main_arg0)) f ∧ Holds (n := 4096) (m := 2048) (m ((c : Thread nD τ).loc main_arg1)) g

variable {m c}

theorem holds_left (h : Args m c f g) (t : Fin cfg0.N) :
    Holds (n := 2048) (m := 1024) (iblk m c 0 t) fun r k => f (2048 * (t.val % 2) + r) (1024 * (t.val / 2 / 2) + k) := by
  have e := index_facts t
  refine Holds.block h.1 (e := fun y => ((cfg0.win 0).blk t).view.emb y) (fun y => ?_) (fun y => ?_)
  · show win0_0.index t (0 : Fin 2) * 2048 + 1 * (y 0).val = _
    rw [e.1]; omega
  · show win0_0.index t (1 : Fin 2) * 1024 + 1 * (y 1).val = _
    rw [e.2.1]; omega

theorem holds_right (h : Args m c f g) (t : Fin cfg0.N) :
    Holds (n := 2048) (m := 1024) (iblk m c 1 t) fun r k => g (2048 * (t.val % 2) + r) (1024 * (t.val / 2 % 2) + k) := by
  have e := index_facts t
  refine Holds.block h.2 (e := fun y => ((cfg0.win 1).blk t).view.emb y) (fun y => ?_) (fun y => ?_)
  · show win0_1.index t (0 : Fin 2) * 2048 + 1 * (y 0).val = _
    rw [e.2.2.1]; omega
  · show win0_1.index t (1 : Fin 2) * 1024 + 1 * (y 1).val = _
    rw [e.2.2.2]; omega

theorem holds_sum (h : Args m c f g) : ∀ t ht, Holds (n := 1024) (m := 1024) (outsAt0 m c t ht).2 fun r k =>
    ∑ s ∈ Finset.range (2048 * (t % 2 + 1)), f s (1024 * (t / 2 / 2) + r) * g s (1024 * (t / 2 % 2) + k) :=
  running_rows (by decide) (fun t ht => holds_left h ⟨t, ht⟩) (fun t ht => holds_right h ⟨t, ht⟩)
    (fun t ht z => by
      rw [outsAt0_A m c ⟨t, ht⟩ z (by dsimp only; omega)]
      dsimp only
      rw [sum_first])
    (fun t ht z => by
      rw [outsAt0_B m c ⟨t + 1, ht⟩ z (by dsimp only; omega)]
      dsimp only
      rw [sum_last]
      rfl)

/-- What the last point of a block writes back. -/
theorem holds_out (h : Args m c f g) (t : ℕ) (ht : t < cfg0.N) (z : t % 2 = 1) : Holds (n := 1024) (m := 1024) (outsAt0 m c t ht).1 fun r k =>
    ∑ s ∈ Finset.range (2048 * (t % 2 + 1)), f s (1024 * (t / 2 / 2) + r) * g s (1024 * (t / 2 % 2) + k) := by
  rw [last_rounds m c ⟨t, ht⟩ z]
  exact (holds_sum h t ht).truncf _

/-- The array the kernel leaves. -/
theorem holds_kernel (h : Args m c f g) :
    Holds (n := 8192) (m := 2048) (G2 m c) fun r k => ∑ s ∈ Finset.range 4096, f s r * g s k := fun i => by
  have l0 : (i 0).val < 8192 := (i 0).isLt
  have l1 : (i 1).val < 2048 := (i 1).isLt
  have p : pt2Of i < cfg0.N := lt_of_lt_of_eq (by dsimp only [pt2Of, run2Of]; omega) N_0.symm
  have d : pt2Of i % 2 = 1 ∧ pt2Of i / 2 / 2 = (i 0).val / 1024 ∧ pt2Of i / 2 % 2 = (i 1).val / 1024 := by
    dsimp only [pt2Of, run2Of]; omega
  unfold G2
  rw [dif_pos p, ← outsAt0_sweep m c (pt2Of i) p]
  refine (holds_out h (pt2Of i) p d.1 (loc2Of i)).trans ?_
  rw [d.1, d.2.1, d.2.2]
  have q0 : 1024 * ((i 0).val / 1024) + (loc2Of i 0).val = (i 0).val := Nat.div_add_mod _ _
  have q1 : 1024 * ((i 1).val / 1024) + (loc2Of i 1).val = (i 1).val := Nat.div_add_mod _ _
  beta_reduce
  rw [q0, q1]

end

/-- The array the reference leaves. -/
theorem holds_reference {f g : ℕ → ℕ → EReal} {x : FVec Ideal (Mat 4096 8192) .bf16} {y : FVec Ideal (Mat 4096 2048) .bf16}
    (hx : Holds x f) (hy : Holds y g) (h : (Mat 2048 8192).Transposes [1, 0] (Mat 8192 2048)) :
    Holds (truncf .bf16 (transpose (Mat 8192 2048) [1, 0] (Host.dotGeneral (rowsDims 4096 2048 8192) none
      (extf .f32 y bitsLt_bf16_f32) (extf .f32 x bitsLt_bf16_f32)) h) bitsLt_bf16_f32)
      fun r k => ∑ s ∈ Finset.range 4096, f s r * g s k :=
  ((hy.hostRows hx).transpose _).congr fun r _ k _ => Finset.sum_congr rfl fun s _ => mul_comm _ _

theorem algebraic : Cert.algebraic_OutWeightGradIdeal_OutWeightGradReferenceIdeal (hOutWeightGradIdeal := Cert.OutWeightGradIdeal.Gen.facts)
    (hOutWeightGradReferenceIdeal := Cert.OutWeightGradReferenceIdeal.Gen.facts) := by
  intro m g m' g' _ hargs
  refine ⟨fun c => G2 m c, Cert.OutWeightGradIdeal.Value.run m g, ?_⟩
  refine (θ_run Cert.OutWeightGradReferenceIdeal.defs _ _).mono (fun r h c => ?_) (Cert.OutWeightGradReferenceIdeal.Value.run m' g')
  obtain ⟨h0, k0, k1⟩ := h c
  obtain ⟨e0, e1⟩ := hargs c
  rw [e0, e1] at h0
  exact ⟨h0.trans ((holds_reference (holds_entries _) (holds_entries _) _).eq (holds_kernel ⟨holds_entries _, holds_entries _⟩)), k0, k1⟩

end Cert.Products.OutWeight

end
-- ==== Proof.Products.Blocks.lean ====
/- Blocks of matrices by where they lie, arrays put together from the blocks that a grid's points write back, and the
   product of rows with columns. -/
module

public import proofs.«01_k».proof.Proof.Products.Entries

@[expose] public section

noncomputable section

namespace Cert.Products

open Idealize.ShloMosaic Idealize.ShloMosaic.ValueIdx
open scoped BigOperators

section

variable {n m p q : ℕ} {f : ℕ → ℕ → EReal}

/-- The block in row `a` and column `b` of a matrix cut into blocks. -/
theorem Holds.tile {z : (Mat n m).Idx → EReal} (hz : Holds z f) {e : (Mat p q).Idx → (Mat n m).Idx} {a b A B : ℕ}
    (hA : A = a) (hB : B = b) (h0 : ∀ i, (e i 0).val = A * p + 1 * (i 0).val) (h1 : ∀ i, (e i 1).val = B * q + 1 * (i 1).val) :
    Holds (fun i => z (e i)) fun r c => f (p * a + r) (q * b + c) := by
  subst hA hB
  exact hz.block (fun i => by rw [h0 i, Nat.mul_comm, Nat.one_mul]) (fun i => by rw [h1 i, Nat.mul_comm, Nat.one_mul])

/-- An array put together from blocks: where each of its entries lies in one of them, and each block holds its share of
    `f`, the array holds `f`. -/
theorem assemble {τ : Type} {z : (Mat n m).Idx → EReal} {O : τ → (Mat p q).Idx → EReal} {R C : τ → ℕ} {L : τ → Prop}
    (w : ∀ t, L t → Holds (O t) fun r c => f (R t + r) (C t + c))
    (h : ∀ i, ∃ t j, L t ∧ z i = O t j ∧ R t + (j 0).val = (i 0).val ∧ C t + (j 1).val = (i 1).val) : Holds z f := fun i => by
  obtain ⟨t, j, l, e, r, c⟩ := h i
  rw [e, w t l j]
  beta_reduce
  rw [r, c]

/-- The same from a map of every block into the array, where the blocks lie in rows of `J`. -/
theorem assemble_blocks {N I J : ℕ} {z : (Mat n m).Idx → EReal} {e : Fin N → (Mat p q).Idx → (Mat n m).Idx} {A B : Fin N → ℕ}
    (hn : n = p * I) (hm : m = q * J) (hN : N = I * J) (hA : ∀ t, A t = t.val / J) (hB : ∀ t, B t = t.val % J)
    (h0 : ∀ t i, (e t i 0).val = A t * p + 1 * (i 0).val) (h1 : ∀ t i, (e t i 1).val = B t * q + 1 * (i 1).val)
    (w : ∀ t, Holds (fun j => z (e t j)) fun r c => f (p * (t.val / J) + r) (q * (t.val % J) + c)) : Holds z f := by
  refine assemble (L := fun _ => True) (fun t _ => w t) fun i => ?_
  have l0 : (i 0).val < p * I := lt_of_lt_of_eq (i 0).isLt hn
  have l1 : (i 1).val < q * J := lt_of_lt_of_eq (i 1).isLt hm
  have p0 : 0 < p := Nat.pos_of_ne_zero fun z => by rw [z, Nat.zero_mul] at l0; exact absurd l0 (Nat.not_lt_zero _)
  have q0 : 0 < q := Nat.pos_of_ne_zero fun z => by rw [z, Nat.zero_mul] at l1; exact absurd l1 (Nat.not_lt_zero _)
  have a0 : (i 0).val / p < I := Nat.div_lt_of_lt_mul l0
  have b0 : (i 1).val / q < J := Nat.div_lt_of_lt_mul l1
  have lt : (i 0).val / p * J + (i 1).val / q < N := by
    have : ((i 0).val / p + 1) * J ≤ I * J := Nat.mul_le_mul_right J a0
    rw [Nat.add_mul, Nat.one_mul] at this
    exact hN ▸ lt_of_lt_of_le (Nat.add_lt_add_left b0 _) this
  have d : ((i 0).val / p * J + (i 1).val / q) / J = (i 0).val / p ∧ ((i 0).val / p * J + (i 1).val / q) % J = (i 1).val / q := by
    rw [Nat.add_comm, Nat.mul_comm]
    exact ⟨by rw [Nat.add_mul_div_left _ _ (Nat.zero_lt_of_lt b0), Nat.div_eq_of_lt b0, Nat.zero_add], by rw [Nat.add_mul_mod_self_left, Nat.mod_eq_of_lt b0]⟩
  let t : Fin N := ⟨(i 0).val / p * J + (i 1).val / q, lt⟩
  let j : (Mat p q).Idx := ix2 (⟨(i 0).val % p, Nat.mod_lt _ p0⟩ : Fin p) (⟨(i 1).val % q, Nat.mod_lt _ q0⟩ : Fin q)
  have r : p * (t.val / J) + (i 0).val % p = (i 0).val := by show p * (_ / J) + _ = _; rw [d.1]; exact Nat.div_add_mod _ _
  have c : q * (t.val % J) + (i 1).val % q = (i 1).val := by show q * (_ % J) + _ = _; rw [d.2]; exact Nat.div_add_mod _ _
  refine ⟨t, j, trivial, congrArg z ?_, r, c⟩
  funext x
  apply Fin.ext
  match x with
  | ⟨0, _⟩ => exact ((h0 t j).trans (by rw [hA, Nat.one_mul, Nat.mul_comm]; exact r)).symm
  | ⟨1, _⟩ => exact ((h1 t j).trans (by rw [hB, Nat.one_mul, Nat.mul_comm]; exact c)).symm

end

/-! ### Entry by entry -/

section

variable {n m : ℕ} {φ : FTy} {x y : FVec Ideal (Mat n m) φ} {f g : ℕ → ℕ → EReal}

theorem Holds.maximumf (hx : Holds x f) (hy : Holds y g) : Holds (maximumf x y) fun r c => max (f r c) (g r c) := fun j =>
  congrArg₂ max (hx j) (hy j)

/-- One number everywhere: in a block, -/
theorem holds_broadcast (b : BitVec 32) :
    Holds (broadcast (Mat n m) (Scalar.ofBits (F := Ideal) .f32 b)) fun _ _ => Scalar.ofBits (F := Ideal) .f32 b := fun _ => rfl

/-- and in an array on the host. -/
theorem holds_broadcastInDim (b : BitVec 32) (h : (⟨0, ![]⟩ : Shape).BroadcastsInDim (Mat n m) ![]) :
    Holds (broadcastInDim (Mat n m) ![] h (constant (F := Ideal) (⟨0, ![]⟩ : Shape) .f32 b))
      fun _ _ => Scalar.ofBits (F := Ideal) .f32 b := fun _ => rfl

end

/-! ### The product of rows with columns -/

/-- The sum of products over the columns of the left and the rows of the right operand. -/
theorem plain_sum {K M N : ℕ} {x : (Mat M K).Idx → EReal} {y : (Mat K N).Idx → EReal} {f g : ℕ → ℕ → EReal}
    (hx : Holds x f) (hy : Holds y g) (j : (Mat M N).Idx) :
    ∑ k : (DotDims.plain M K N).contr.Idx, x ((DotDims.plain M K N).lhsIdx j k) * y ((DotDims.plain M K N).rhsIdx j k) =
      ∑ k ∈ Finset.range K, f (j 0).val k * g k (j 1).val := by
  rw [← sum_fin K fun k => f (j 0).val k * g k (j 1).val, ← Equiv.sum_comp (DotDims.plainContr M K N).symm]
  refine Finset.sum_congr rfl fun k _ => ?_
  have hk := contrEquiv1_symm_val _ K (DotDims.plain_contr_rank M K N) (DotDims.plain_contr_size M K N) k
  rw [hx, hy]
  exact congrArg₂ (· * ·) (congrArg₂ f rfl hk) (congrArg₂ g hk rfl)

section

variable {K M N : ℕ} {φ₁ φ₂ : FTy} {f g : ℕ → ℕ → EReal}

theorem Holds.plain {x : FVec Ideal (Mat M K) φ₁} {y : FVec Ideal (Mat K N) φ₂} (hx : Holds x f) (hy : Holds y g) :
    Holds (matmul (DotDims.plain M K N) none x y (constant (Mat M N) .f32 0x00000000#32))
      fun r c => ∑ k ∈ Finset.range K, f r k * g k c := fun j =>
  (Ideal.matmul_constant_zero_apply (DotDims.plain M K N) none x y j).trans (plain_sum hx hy j)

theorem Holds.hostPlain {x : FVec Ideal (Mat M K) φ₁} {y : FVec Ideal (Mat K N) φ₂} (hx : Holds x f) (hy : Holds y g) :
    Holds (Host.dotGeneral (DotDims.plain M K N) none x y) fun r c => ∑ k ∈ Finset.range K, f r k * g k c := fun j =>
  (Ideal.dotGeneral_apply (DotDims.plain M K N) none _ x y j).trans (plain_sum hx hy j)

/-- Tiles along the columns of the left and the rows of the right operand, on a grid of blocks, `J` of them in a row, with
    `q` points each. -/
theorem running_plain {n m N q B J : ℕ} {S : (t : ℕ) → t < N → FVec Ideal (Mat n m) .f32} (hq : 0 < q)
    {x : (t : ℕ) → t < N → FVec Ideal (Mat n B) φ₁} {y : (t : ℕ) → t < N → FVec Ideal (Mat B m) φ₂}
    (hx : ∀ t h, Holds (x t h) fun r c => f (n * (t / q / J) + r) (B * (t % q) + c))
    (hy : ∀ t h, Holds (y t h) fun r c => g (B * (t % q) + r) (m * (t / q % J) + c))
    (first : ∀ t h, t % q = 0 → S t h = Idealize.ShloMosaic.addf (broadcast (Mat n m) (Scalar.ofBits .f32 0x00000000#32))
      (matmul (DotDims.plain n B m) none (x t h) (y t h) (constant (Mat n m) .f32 0x00000000#32)))
    (next : ∀ t (h : t + 1 < N), (t + 1) % q ≠ 0 → S (t + 1) h = Idealize.ShloMosaic.addf (S t (Nat.lt_of_succ_lt h))
      (matmul (DotDims.plain n B m) none (x (t + 1) h) (y (t + 1) h) (constant (Mat n m) .f32 0x00000000#32))) :
    ∀ t h, Holds (S t h) fun r c => ∑ s ∈ Finset.range (B * (t % q + 1)), f (n * (t / q / J) + r) s * g s (m * (t / q % J) + c) :=
  running (P := fun u s r c => f (n * (u / J) + r) s * g s (m * (u % J) + c)) hq
    (fun t h z => by
      rw [first t h z]
      refine (holds_zero.addf ((hx t h).plain (hy t h))).congr fun r _ c _ => ?_
      simp only [z, Nat.mul_zero, Nat.zero_add, zero_add])
    (fun t h z e he => by
      rw [next t h z]
      exact he.addf ((hx _ h).plain (hy _ h)))

end

end Cert.Products

end
-- ==== Proof.Products.Sums.lean ====
/- The array that a product leaves whose inner axis is taken tile by tile: each block's last point writes its running sum
   back. One statement for each of the three ways in which the operands lie. -/
module

public import proofs.«01_k».proof.Proof.Products.Blocks

@[expose] public section

noncomputable section

namespace Cert.Products

open Idealize.ShloMosaic Idealize.ShloMosaic.ValueIdx
open scoped BigOperators

variable {N q B J K n m p s : ℕ} {φ₁ φ₂ ψ : FTy} {f g : ℕ → ℕ → EReal} {z : (Mat n m).Idx → EReal}
  {S : (t : ℕ) → t < N → FVec Ideal (Mat p s) .f32} {O : (t : ℕ) → t < N → FVec Ideal (Mat p s) ψ}

/-- Each of the array's entries lies in the block that some last point writes back. -/
def Written (q J : ℕ) (z : (Mat n m).Idx → EReal) (O : (t : ℕ) → t < N → FVec Ideal (Mat p s) ψ) : Prop :=
  ∀ i, ∃ t : Fin N, ∃ j, t.val % q + 1 = q ∧ z i = O t.val t.isLt j ∧ p * (t.val / q / J) + (j 0).val = (i 0).val
    ∧ s * (t.val / q % J) + (j 1).val = (i 1).val

/-- From the running sums to the array. -/
theorem from_sums {P : ℕ → ℕ → ℕ → EReal} (hK : K = B * q)
    (w : ∀ t h, Holds (S t h) fun r c => ∑ k ∈ Finset.range (B * (t % q + 1)), P k (p * (t / q / J) + r) (s * (t / q % J) + c))
    (last : ∀ t h u, t % q + 1 = q → Holds (S t h) u → Holds (O t h) u) (h : Written q J z O) :
    Holds z fun r c => ∑ k ∈ Finset.range K, P k r c :=
  assemble (τ := Fin N) (L := fun t => t.val % q + 1 = q) (O := fun t => O t.val t.isLt) (R := fun t => p * (t.val / q / J))
    (C := fun t => s * (t.val / q % J)) (fun t l => by
      have e := last _ t.isLt _ l (w _ t.isLt)
      rwa [l, ← hK] at e) h

theorem rows_array (hq : 0 < q) (hK : K = B * q) {x : Fin N → FVec Ideal (Mat B p) φ₁} {y : Fin N → FVec Ideal (Mat B s) φ₂}
    (hx : ∀ t, Holds (x t) fun r c => f (B * (t.val % q) + r) (p * (t.val / q / J) + c))
    (hy : ∀ t, Holds (y t) fun r c => g (B * (t.val % q) + r) (s * (t.val / q % J) + c))
    (first : ∀ t h, t % q = 0 → S t h = addf (broadcast (Mat p s) (Scalar.ofBits .f32 0x00000000#32))
      (matmul (rowsDims B p s) none (x ⟨t, h⟩) (y ⟨t, h⟩) (constant (Mat p s) .f32 0x00000000#32)))
    (next : ∀ t (h : t + 1 < N), (t + 1) % q ≠ 0 → S (t + 1) h = addf (S t (Nat.lt_of_succ_lt h))
      (matmul (rowsDims B p s) none (x ⟨t + 1, h⟩) (y ⟨t + 1, h⟩) (constant (Mat p s) .f32 0x00000000#32)))
    (last : ∀ t h u, t % q + 1 = q → Holds (S t h) u → Holds (O t h) u) (h : Written q J z O) :
    Holds z fun r c => ∑ k ∈ Finset.range K, f k r * g k c :=
  from_sums (P := fun k r c => f k r * g k c) hK (running_rows hq (fun t h => hx ⟨t, h⟩) (fun t h => hy ⟨t, h⟩) first next) last h

theorem cols_array (hq : 0 < q) (hK : K = B * q) {x : Fin N → FVec Ideal (Mat p B) φ₁} {y : Fin N → FVec Ideal (Mat s B) φ₂}
    (hx : ∀ t, Holds (x t) fun r c => f (p * (t.val / q / J) + r) (B * (t.val % q) + c))
    (hy : ∀ t, Holds (y t) fun r c => g (s * (t.val / q % J) + r) (B * (t.val % q) + c))
    (first : ∀ t h, t % q = 0 → S t h = addf (broadcast (Mat p s) (Scalar.ofBits .f32 0x00000000#32))
      (matmul (DotDims.transposedRhs p B s) none (x ⟨t, h⟩) (y ⟨t, h⟩) (constant (Mat p s) .f32 0x00000000#32)))
    (next : ∀ t (h : t + 1 < N), (t + 1) % q ≠ 0 → S (t + 1) h = addf (S t (Nat.lt_of_succ_lt h))
      (matmul (DotDims.transposedRhs p B s) none (x ⟨t + 1, h⟩) (y ⟨t + 1, h⟩) (constant (Mat p s) .f32 0x00000000#32)))
    (last : ∀ t h u, t % q + 1 = q → Holds (S t h) u → Holds (O t h) u) (h : Written q J z O) :
    Holds z fun r c => ∑ k ∈ Finset.range K, f r k * g c k :=
  from_sums (P := fun k r c => f r k * g c k) hK (running_cols hq (fun t h => hx ⟨t, h⟩) (fun t h => hy ⟨t, h⟩) first next) last h

theorem plain_array (hq : 0 < q) (hK : K = B * q) {x : Fin N → FVec Ideal (Mat p B) φ₁} {y : Fin N → FVec Ideal (Mat B s) φ₂}
    (hx : ∀ t, Holds (x t) fun r c => f (p * (t.val / q / J) + r) (B * (t.val % q) + c))
    (hy : ∀ t, Holds (y t) fun r c => g (B * (t.val % q) + r) (s * (t.val / q % J) + c))
    (first : ∀ t h, t % q = 0 → S t h = addf (broadcast (Mat p s) (Scalar.ofBits .f32 0x00000000#32))
      (matmul (DotDims.plain p B s) none (x ⟨t, h⟩) (y ⟨t, h⟩) (constant (Mat p s) .f32 0x00000000#32)))
    (next : ∀ t (h : t + 1 < N), (t + 1) % q ≠ 0 → S (t + 1) h = addf (S t (Nat.lt_of_succ_lt h))
      (matmul (DotDims.plain p B s) none (x ⟨t + 1, h⟩) (y ⟨t + 1, h⟩) (constant (Mat p s) .f32 0x00000000#32)))
    (last : ∀ t h u, t % q + 1 = q → Holds (S t h) u → Holds (O t h) u) (h : Written q J z O) :
    Holds z fun r c => ∑ k ∈ Finset.range K, f r k * g k c :=
  from_sums (P := fun k r c => f r k * g k c) hK (running_plain hq (fun t h => hx ⟨t, h⟩) (fun t h => hy ⟨t, h⟩) first next) last h

/-- The reference's product of rows: the gradient of a weight, transposed and rounded. -/
theorem holds_reference {x : FVec Ideal (Mat K n) .f32} {y : FVec Ideal (Mat K m) .f32}
    (hx : Holds x f) (hy : Holds y g) (h : (Mat m n).Transposes [1, 0] (Mat n m)) (b : FTy.bits .bf16 < FTy.bits .f32) :
    Holds (truncf .bf16 (transpose (Mat n m) [1, 0] (Host.dotGeneral (rowsDims K m n) none y x) h) b)
      fun r k => ∑ s ∈ Finset.range K, f s r * g s k :=
  ((hy.hostRows hx).transpose _).congr fun r _ k _ => Finset.sum_congr rfl fun s _ => mul_comm _ _

end Cert.Products

end
-- ==== Proof.Products.OutWeights.lean ====
/- The gradients of the two output projections' weights: the array holds the sums of the reference's. -/
module

public import proofs.«01_k».proof.Defs
public import proofs.«01_k».proof.Proof.Products.Sums
public import proofs.«01_k».proof.Proof.Gen.OutWeightGradsIdeal.Value
public import proofs.«01_k».proof.Proof.Gen.OutWeightGradsReferenceIdeal.Run

@[expose] public section

set_option maxRecDepth 16384

noncomputable section

namespace Cert.Products.OutWeights

open Cert.OutWeightGradsIdeal Cert.OutWeightGradsIdeal.Gen Cert.OutWeightGradsIdeal.Value
open Idealize.ShloMosaic Idealize.ShloMosaic.TcCoe Idealize.SL.Sem Idealize.ShloMosaic.ValueIdx

/-! ### What a point leaves -/

section

variable {F : FTy → Type} [FloatOps F]
  (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec F S2048x1024 .bf16) (y : Vec F S2048x1024 .bf16)

/-- The product of two tiles. -/
abbrev tiles (x : Vec F S2048x1024 .bf16) (y : Vec F S2048x1024 .bf16) : Vec F S1024x1024 .f32 :=
  matmul (rowsDims 2048 1024 1024) none x y (constant (Mat 1024 1024) .f32 0x00000000#32)

theorem sum_first (hc0 : cond0_0 i) (hc1 : ¬cond0_1 i) :
    sout0_A_0 c i a3 h3 a4 h4 a5 h5 a6 h6 hc0 hc1 x y =
      addf (broadcast (Mat 1024 1024) (Scalar.ofBits .f32 0x00000000#32)) (tiles x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at_origin, View.readCov_unit_zero (S := S1024x1024) _ at_origin]
  unfold k0_pay2 k0_pay1
  simp only [View.readAt_eq_ld, h3.read_unread, h4.read_unread, View.ld_unit_zero (S := S2048x1024) at_origin, shapeCast_self]
  rfl

theorem sum_last (hc0 : ¬cond0_0 i) (hc1 : cond0_1 i) (s : Vec F S1024x1024 .f32) :
    sout0_B_0 c i a3 h3 a4 h4 a5 h5 a6 h6 hc0 hc1 x y s = addf s (tiles x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero at_origin]
  unfold k0_pay2
  simp only [View.readAt_eq_ld, h3.read_unread, h4.read_unread, h6.read_unread, View.ld_unit_zero (S := S2048x1024) at_origin,
    View.ld_unit_zero (S := S1024x1024) at_origin, shapeCast_self]
  rfl

theorem out_last (hc0 : ¬cond0_0 i) (hc1 : cond0_1 i) (s : Vec F S1024x1024 .f32) :
    out0_B_2 c i a3 h3 a4 h4 a5 h5 a6 h6 hc0 hc1 x y s =
      truncf .bf16 (sout0_B_0 c i a3 h3 a4 h4 a5 h5 a6 h6 hc0 hc1 x y s) bitsLt_bf16_f32 := by
  rw [sum_last]
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero at_origin, View.readCov_unit_zero (S := S1024x1024) _ at_origin]
  unfold k0_pay3 k0_pay2
  simp only [View.readAt_eq_ld, h3.read_unread, h4.read_unread, h6.read_unread, View.ld_unit_zero (S := S2048x1024) at_origin,
    View.ld_unit_zero (S := S1024x1024) at_origin, shapeCast_self]
  rfl

variable (m : (ℓ : Loc nD τ sig) → Buf (Elt F) ℓ)

theorem first (t : ℕ) (h : t < cfg0.N) (z : t % 2 = 0) : (outsAt0 m c t h).2 =
    addf (broadcast (Mat 1024 1024) (Scalar.ofBits .f32 0x00000000#32)) (tiles (iblk m c 0 ⟨t, h⟩) (iblk m c 1 ⟨t, h⟩)) := by
  rw [outsAt0_A m c ⟨t, h⟩ z (by dsimp only; omega)]
  dsimp only
  rw [sum_first]

theorem next (t : ℕ) (h : t + 1 < cfg0.N) (z : (t + 1) % 2 ≠ 0) : (outsAt0 m c (t + 1) h).2 =
    addf (outsAt0 m c t (Nat.lt_of_succ_lt h)).2 (tiles (iblk m c 0 ⟨t + 1, h⟩) (iblk m c 1 ⟨t + 1, h⟩)) := by
  rw [outsAt0_B m c ⟨t + 1, h⟩ z (by dsimp only; omega)]
  dsimp only
  rw [sum_last]
  rfl

/-- The last point of a block writes back its running sum. -/
theorem last_rounds (t : ℕ) (h : t < cfg0.N) (z : t % 2 + 1 = 2) :
    (outsAt0 m c t h).1 = truncf .bf16 (outsAt0 m c t h).2 bitsLt_bf16_f32 := by
  rw [outsAt0_B m c ⟨t, h⟩ (by dsimp only; omega) (by dsimp only; omega)]
  dsimp only
  rw [out_last]

end

theorem index_facts : ∀ t : Fin cfg0.N, (win0_0.index t (0 : Fin 2) = t.val % 2 ∧ win0_0.index t (1 : Fin 2) = t.val / 2 / 2)
    ∧ (win0_1.index t (0 : Fin 2) = t.val % 2 ∧ win0_1.index t (1 : Fin 2) = t.val / 2 % 2) :=
  (by decide +kernel : ∀ t : Fin grid0.N, _)

/-- The array the kernel leaves, its two arguments holding `f` and `g`. -/
theorem holds_kernel (m : (ℓ : Loc nD τ sig) → Buf (Elt Ideal) ℓ) (c : Dev nD) {f g : ℕ → ℕ → EReal}
    (hf : Holds (n := 4096) (m := 2048) (m ((c : Thread nD τ).loc main_arg0)) f)
    (hg : Holds (n := 4096) (m := 2048) (m ((c : Thread nD τ).loc main_arg1)) g) :
    Holds (n := 2048) (m := 2048) (G2 m c) fun r k => ∑ s ∈ Finset.range 4096, f s r * g s k :=
  rows_array (N := cfg0.N) (B := 2048) (p := 1024) (s := 1024) (q := 2) (J := 2) (φ₁ := .bf16) (φ₂ := .bf16) (ψ := .bf16)
    (S := fun t h => (outsAt0 m c t h).2) (O := fun t h => (outsAt0 m c t h).1) (x := fun t => iblk m c 0 t) (y := fun t => iblk m c 1 t)
    (by decide) rfl
    (fun t => hf.tile (e := fun y => ((cfg0.win 0).blk t).view.emb y) (index_facts t).1.1 (index_facts t).1.2 (fun _ => rfl) (fun _ => rfl))
    (fun t => hg.tile (e := fun y => ((cfg0.win 1).blk t).view.emb y) (index_facts t).2.1 (index_facts t).2.2 (fun _ => rfl) (fun _ => rfl))
    (first c m) (next c m)
    (fun t h u z w => by beta_reduce; rw [last_rounds c m t h z]; exact w.truncf bitsLt_bf16_f32)
    fun i => by
      have l0 : (i 0).val < 2048 := (i 0).isLt
      have l1 : (i 1).val < 2048 := (i 1).isLt
      have p : pt2Of i < cfg0.N := lt_of_lt_of_eq (by dsimp only [pt2Of, run2Of]; omega) N_0.symm
      refine ⟨⟨pt2Of i, p⟩, loc2Of i, by dsimp only [pt2Of, run2Of]; omega, ?_, ?_, ?_⟩
      · unfold G2
        rw [dif_pos p, ← outsAt0_sweep m c (pt2Of i) p]
      · show 1024 * (pt2Of i / 2 / 2) + (i 0).val % 1024 = (i 0).val
        dsimp only [pt2Of, run2Of]; omega
      · show 1024 * (pt2Of i / 2 % 2) + (i 1).val % 1024 = (i 1).val
        dsimp only [pt2Of, run2Of]; omega

theorem algebraic : Cert.algebraic_OutWeightGradsIdeal_OutWeightGradsReferenceIdeal (hOutWeightGradsIdeal := Cert.OutWeightGradsIdeal.Gen.facts)
    (hOutWeightGradsReferenceIdeal := Cert.OutWeightGradsReferenceIdeal.Gen.facts) := by
  intro m g m' g' _ hargs
  refine ⟨fun c => G2 m c, Cert.OutWeightGradsIdeal.Value.run m g, ?_⟩
  refine (θ_run Cert.OutWeightGradsReferenceIdeal.defs _ _).mono (fun r h c => ?_) (Cert.OutWeightGradsReferenceIdeal.Value.run m' g')
  obtain ⟨h0, k⟩ := h c
  obtain ⟨e0, e1⟩ := hargs c
  rw [e0, e1] at h0
  exact ⟨h0.trans ((holds_reference (holds_entries _) (holds_entries _) _ _).eq (holds_kernel m c (holds_entries _) (holds_entries _))), k⟩

end Cert.Products.OutWeights

end
-- ==== Proof.Products.Attention.lean ====
/- The gradient of the stick-breaking attention's result: one product per block, rounded. -/
module

public import proofs.«01_k».proof.Defs
public import proofs.«01_k».proof.Proof.Products.Blocks
public import proofs.«01_k».proof.Proof.Gen.AttentionGradIdeal.Value
public import proofs.«01_k».proof.Proof.Gen.AttentionGradReferenceIdeal.Run

@[expose] public section

set_option maxRecDepth 16384

noncomputable section

namespace Cert.Products.Attention

open Cert.AttentionGradIdeal Cert.AttentionGradIdeal.Gen Cert.AttentionGradIdeal.Value
open Idealize.ShloMosaic Idealize.ShloMosaic.TcCoe Idealize.SL.Sem Idealize.ShloMosaic.ValueIdx

theorem out_eq {F : FTy → Type} [FloatOps F] (x : Vec F S1024x2048 .bf16) (y : Vec F S1024x2048 .bf16) :
    out0_2 x y = truncf .bf16 (matmul (DotDims.transposedRhs 1024 2048 1024) none x y (constant (Mat 1024 1024) .f32 0x00000000#32)) bitsLt_bf16_f32 := by
  unfold out0_2
  rw [View.canon_unit_zero at_origin]
  unfold k0_pay1
  simp only [View.ld_unit_zero (S := S1024x2048) at_origin, shapeCast_self]
  rfl

theorem index_facts : ∀ t : Fin cfg0.N, (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

/-- The array the kernel leaves, its gradient holding `f` and its weight `g`. -/
theorem holds_kernel (m : (ℓ : Loc nD τ sig) → Buf (Elt Ideal) ℓ) (c : Dev nD) {f g : ℕ → ℕ → EReal}
    (hf : Holds (n := 4096) (m := 2048) (m ((c : Thread nD τ).loc main_arg1)) f)
    (hg : Holds (n := 2048) (m := 2048) (m ((c : Thread nD τ).loc main_arg0)) g) :
    Holds (n := 4096) (m := 2048) ((dats m 0 c).arrAt 2 cfg0.N) fun r k => ∑ s ∈ Finset.range 2048, f r s * g k s := by
  have hf' : Holds (n := 4096) (m := 2048) (V m c main_arg1) f := by rw [V_main_arg1]; exact hf
  have hg' : Holds (n := 2048) (m := 2048) (V m c main_arg0) g := by rw [V_main_arg0]; exact hg
  refine assemble_blocks (p := 1024) (q := 1024) (I := 4) (J := 2) (e := fun t y => ((cfg0.win 2).blk t).view.emb y) rfl rfl N_0
    (fun t => (index_facts t).2.2.1) (fun t => (index_facts t).2.2.2) (fun t i => rfl) (fun t i => rfl) fun t j => ?_
  have x : Holds (n := 1024) (m := 2048) (iblk m c 0 t) _ :=
    hf'.tile (e := fun y => ((cfg0.win 0).blk t).view.emb y) (index_facts t).1.1 (index_facts t).1.2 (fun _ => rfl) (fun _ => rfl)
  have y : Holds (n := 1024) (m := 2048) (iblk m c 1 t) _ :=
    hg'.tile (e := fun y => ((cfg0.win 1).blk t).view.emb y) (index_facts t).2.1.1 (index_facts t).2.1.2 (fun _ => rfl) (fun _ => rfl)
  refine (congrFun ((blocks2 m c t (flush0_2 t)).trans (flushed2 m c t)) j).trans ?_
  refine ((congrFun (out_eq (iblk m c 0 t) (iblk m c 1 t)) j).trans ((Holds.cols (φ₁ := .bf16) (φ₂ := .bf16) x y).truncf bitsLt_bf16_f32 j)).trans ?_
  simp only [Nat.mul_zero, Nat.zero_add]

theorem algebraic : Cert.algebraic_AttentionGradIdeal_AttentionGradReferenceIdeal (hAttentionGradIdeal := Cert.AttentionGradIdeal.Gen.facts)
    (hAttentionGradReferenceIdeal := Cert.AttentionGradReferenceIdeal.Gen.facts) := by
  intro m g m' g' _ hargs
  refine ⟨fun c => (dats m 0 c).arrAt 2 cfg0.N, Cert.AttentionGradIdeal.Value.run_blocks m g, ?_⟩
  refine (θ_run Cert.AttentionGradReferenceIdeal.defs _ _).mono (fun r h c => ?_) (Cert.AttentionGradReferenceIdeal.Value.run m' g')
  obtain ⟨h0, k⟩ := h c
  obtain ⟨e0, e1⟩ := hargs c
  rw [e0, e1] at h0
  exact ⟨h0.trans (((Holds.hostCols (φ₁ := .f32) (φ₂ := .f32) (holds_entries _) (holds_entries _)).truncf bitsLt_bf16_f32).eq
    (holds_kernel m c (holds_entries _) (holds_entries _))), k⟩

end Cert.Products.Attention

end
-- ==== Proof.Products.Mixers.lean ====
/- The gradient of the mixers' joined results: one product per block. -/
module

public import proofs.«01_k».proof.Defs
public import proofs.«01_k».proof.Proof.Products.Blocks
public import proofs.«01_k».proof.Proof.Gen.MixersGradIdeal.Value
public import proofs.«01_k».proof.Proof.Gen.MixersGradReferenceIdeal.Run

@[expose] public section

set_option maxRecDepth 16384

noncomputable section

namespace Cert.Products.Mixers

open Cert.MixersGradIdeal Cert.MixersGradIdeal.Gen Cert.MixersGradIdeal.Value
open Idealize.ShloMosaic Idealize.ShloMosaic.TcCoe Idealize.SL.Sem Idealize.ShloMosaic.ValueIdx

theorem out_eq {F : FTy → Type} [FloatOps F] (x : Vec F S1024x2048 .bf16) (y : Vec F S1024x2048 .bf16) :
    out0_2 x y = matmul (DotDims.transposedRhs 1024 2048 1024) none x y (constant (Mat 1024 1024) .f32 0x00000000#32) := by
  unfold out0_2
  rw [View.canon_unit_zero at_origin]
  unfold k0_pay1
  simp only [View.ld_unit_zero (S := S1024x2048) at_origin, shapeCast_self]
  rfl

theorem index_facts : ∀ t : Fin cfg0.N, (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

/-- The array the kernel leaves, its gradient holding `f` and its weight `g`. -/
theorem holds_kernel (m : (ℓ : Loc nD τ sig) → Buf (Elt Ideal) ℓ) (c : Dev nD) {f g : ℕ → ℕ → EReal}
    (hf : Holds (n := 4096) (m := 2048) (m ((c : Thread nD τ).loc main_arg1)) f)
    (hg : Holds (n := 2048) (m := 2048) (m ((c : Thread nD τ).loc main_arg0)) g) :
    Holds (n := 4096) (m := 2048) ((dats m 0 c).arrAt 2 cfg0.N) fun r k => ∑ s ∈ Finset.range 2048, f r s * g k s := by
  have hf' : Holds (n := 4096) (m := 2048) (V m c main_arg1) f := by rw [V_main_arg1]; exact hf
  have hg' : Holds (n := 2048) (m := 2048) (V m c main_arg0) g := by rw [V_main_arg0]; exact hg
  refine assemble_blocks (p := 1024) (q := 1024) (I := 4) (J := 2) (e := fun t y => ((cfg0.win 2).blk t).view.emb y) rfl rfl N_0
    (fun t => (index_facts t).2.2.1) (fun t => (index_facts t).2.2.2) (fun t i => rfl) (fun t i => rfl) fun t j => ?_
  have x : Holds (n := 1024) (m := 2048) (iblk m c 0 t) _ :=
    hf'.tile (e := fun y => ((cfg0.win 0).blk t).view.emb y) (index_facts t).1.1 (index_facts t).1.2 (fun _ => rfl) (fun _ => rfl)
  have y : Holds (n := 1024) (m := 2048) (iblk m c 1 t) _ :=
    hg'.tile (e := fun y => ((cfg0.win 1).blk t).view.emb y) (index_facts t).2.1.1 (index_facts t).2.1.2 (fun _ => rfl) (fun _ => rfl)
  refine (congrFun ((blocks2 m c t (flush0_2 t)).trans (flushed2 m c t)) j).trans ?_
  refine ((congrFun (out_eq (iblk m c 0 t) (iblk m c 1 t)) j).trans (Holds.cols (φ₁ := .bf16) (φ₂ := .bf16) x y j)).trans ?_
  simp only [Nat.mul_zero, Nat.zero_add]

theorem algebraic : Cert.algebraic_MixersGradIdeal_MixersGradReferenceIdeal (hMixersGradIdeal := Cert.MixersGradIdeal.Gen.facts)
    (hMixersGradReferenceIdeal := Cert.MixersGradReferenceIdeal.Gen.facts) := by
  intro m g m' g' _ hargs
  refine ⟨fun c => (dats m 0 c).arrAt 2 cfg0.N, Cert.MixersGradIdeal.Value.run_blocks m g, ?_⟩
  refine (θ_run Cert.MixersGradReferenceIdeal.defs _ _).mono (fun r h c => ?_) (Cert.MixersGradReferenceIdeal.Value.run m' g')
  obtain ⟨h0, k⟩ := h c
  obtain ⟨e0, e1⟩ := hargs c
  rw [e0, e1] at h0
  exact ⟨h0.trans ((Holds.hostCols (φ₁ := .f32) (φ₂ := .f32) (holds_entries _) (holds_entries _)).eq
    (holds_kernel m c (holds_entries _) (holds_entries _))), k⟩

end Cert.Products.Mixers

end
-- ==== Proof.Products.QkvWeight.lean ====
/- The gradient of the stick-breaking attention's input weight: its array holds the sums of the reference's. -/
module

public import proofs.«01_k».proof.Defs
public import proofs.«01_k».proof.Proof.Products.Sums
public import proofs.«01_k».proof.Proof.Gen.QkvWeightGradIdeal.Value
public import proofs.«01_k».proof.Proof.Gen.QkvWeightGradReferenceIdeal.Run

@[expose] public section

set_option maxRecDepth 16384

noncomputable section

namespace Cert.Products.QkvWeight

open Cert.QkvWeightGradIdeal Cert.QkvWeightGradIdeal.Gen Cert.QkvWeightGradIdeal.Value
open Idealize.ShloMosaic Idealize.ShloMosaic.TcCoe Idealize.SL.Sem Idealize.ShloMosaic.ValueIdx

/-! ### What a point leaves -/

section

variable {F : FTy → Type} [FloatOps F]
  (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec F S2048x1024 .bf16) (y : Vec F S2048x1024 .bf16)

/-- The product of two tiles. -/
abbrev tiles (x : Vec F S2048x1024 .bf16) (y : Vec F S2048x1024 .bf16) : Vec F S1024x1024 .f32 :=
  matmul (rowsDims 2048 1024 1024) none x y (constant (Mat 1024 1024) .f32 0x00000000#32)

theorem sum_first (hc0 : cond0_0 i) (hc1 : ¬cond0_1 i) :
    sout0_A_0 c i a3 h3 a4 h4 a5 h5 a6 h6 hc0 hc1 x y =
      addf (broadcast (Mat 1024 1024) (Scalar.ofBits .f32 0x00000000#32)) (tiles x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at_origin, View.readCov_unit_zero (S := S1024x1024) _ at_origin]
  unfold k0_pay2 k0_pay1
  simp only [View.readAt_eq_ld, h3.read_unread, h4.read_unread, View.ld_unit_zero (S := S2048x1024) at_origin, shapeCast_self]
  rfl

theorem sum_last (hc0 : ¬cond0_0 i) (hc1 : cond0_1 i) (s : Vec F S1024x1024 .f32) :
    sout0_B_0 c i a3 h3 a4 h4 a5 h5 a6 h6 hc0 hc1 x y s = addf s (tiles x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero at_origin]
  unfold k0_pay2
  simp only [View.readAt_eq_ld, h3.read_unread, h4.read_unread, h6.read_unread, View.ld_unit_zero (S := S2048x1024) at_origin,
    View.ld_unit_zero (S := S1024x1024) at_origin, shapeCast_self]
  rfl

theorem out_last (hc0 : ¬cond0_0 i) (hc1 : cond0_1 i) (s : Vec F S1024x1024 .f32) :
    out0_B_2 c i a3 h3 a4 h4 a5 h5 a6 h6 hc0 hc1 x y s =
      truncf .bf16 (sout0_B_0 c i a3 h3 a4 h4 a5 h5 a6 h6 hc0 hc1 x y s) bitsLt_bf16_f32 := by
  rw [sum_last]
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero at_origin, View.readCov_unit_zero (S := S1024x1024) _ at_origin]
  unfold k0_pay3 k0_pay2
  simp only [View.readAt_eq_ld, h3.read_unread, h4.read_unread, h6.read_unread, View.ld_unit_zero (S := S2048x1024) at_origin,
    View.ld_unit_zero (S := S1024x1024) at_origin, shapeCast_self]
  rfl

variable (m : (ℓ : Loc nD τ sig) → Buf (Elt F) ℓ)

theorem first (t : ℕ) (h : t < cfg0.N) (z : t % 2 = 0) : (outsAt0 m c t h).2 =
    addf (broadcast (Mat 1024 1024) (Scalar.ofBits .f32 0x00000000#32)) (tiles (iblk m c 0 ⟨t, h⟩) (iblk m c 1 ⟨t, h⟩)) := by
  rw [outsAt0_A m c ⟨t, h⟩ z (by dsimp only; omega)]
  dsimp only
  rw [sum_first]

theorem next (t : ℕ) (h : t + 1 < cfg0.N) (z : (t + 1) % 2 ≠ 0) : (outsAt0 m c (t + 1) h).2 =
    addf (outsAt0 m c t (Nat.lt_of_succ_lt h)).2 (tiles (iblk m c 0 ⟨t + 1, h⟩) (iblk m c 1 ⟨t + 1, h⟩)) := by
  rw [outsAt0_B m c ⟨t + 1, h⟩ z (by dsimp only; omega)]
  dsimp only
  rw [sum_last]
  rfl

/-- The last point of a block writes back its running sum. -/
theorem last_rounds (t : ℕ) (h : t < cfg0.N) (z : t % 2 + 1 = 2) :
    (outsAt0 m c t h).1 = truncf .bf16 (outsAt0 m c t h).2 bitsLt_bf16_f32 := by
  rw [outsAt0_B m c ⟨t, h⟩ (by dsimp only; omega) (by dsimp only; omega)]
  dsimp only
  rw [out_last]

end

theorem index_facts : ∀ t : Fin cfg0.N, (win0_0.index t (0 : Fin 2) = t.val % 2 ∧ win0_0.index t (1 : Fin 2) = t.val / 2 / 6)
    ∧ (win0_1.index t (0 : Fin 2) = t.val % 2 ∧ win0_1.index t (1 : Fin 2) = t.val / 2 % 6) :=
  (by decide +kernel : ∀ t : Fin grid0.N, _)

/-- The array the kernel leaves, its two arguments holding `f` and `g`. -/
theorem holds_kernel (m : (ℓ : Loc nD τ sig) → Buf (Elt Ideal) ℓ) (c : Dev nD) {f g : ℕ → ℕ → EReal}
    (hf : Holds (n := 4096) (m := 2048) (m ((c : Thread nD τ).loc main_arg0)) f)
    (hg : Holds (n := 4096) (m := 6144) (m ((c : Thread nD τ).loc main_arg1)) g) :
    Holds (n := 2048) (m := 6144) (G2 m c) fun r k => ∑ s ∈ Finset.range 4096, f s r * g s k :=
  rows_array (N := cfg0.N) (B := 2048) (p := 1024) (s := 1024) (q := 2) (J := 6) (φ₁ := .bf16) (φ₂ := .bf16) (ψ := .bf16)
    (S := fun t h => (outsAt0 m c t h).2) (O := fun t h => (outsAt0 m c t h).1) (x := fun t => iblk m c 0 t) (y := fun t => iblk m c 1 t)
    (by decide) rfl
    (fun t => hf.tile (e := fun y => ((cfg0.win 0).blk t).view.emb y) (index_facts t).1.1 (index_facts t).1.2 (fun _ => rfl) (fun _ => rfl))
    (fun t => hg.tile (e := fun y => ((cfg0.win 1).blk t).view.emb y) (index_facts t).2.1 (index_facts t).2.2 (fun _ => rfl) (fun _ => rfl))
    (first c m) (next c m)
    (fun t h u z w => by beta_reduce; rw [last_rounds c m t h z]; exact w.truncf bitsLt_bf16_f32)
    fun i => by
      have l0 : (i 0).val < 2048 := (i 0).isLt
      have l1 : (i 1).val < 6144 := (i 1).isLt
      have p : pt2Of i < cfg0.N := lt_of_lt_of_eq (by dsimp only [pt2Of, run2Of]; omega) N_0.symm
      refine ⟨⟨pt2Of i, p⟩, loc2Of i, by dsimp only [pt2Of, run2Of]; omega, ?_, ?_, ?_⟩
      · unfold G2
        rw [dif_pos p, ← outsAt0_sweep m c (pt2Of i) p]
      · show 1024 * (pt2Of i / 2 / 6) + (i 0).val % 1024 = (i 0).val
        dsimp only [pt2Of, run2Of]; omega
      · show 1024 * (pt2Of i / 2 % 6) + (i 1).val % 1024 = (i 1).val
        dsimp only [pt2Of, run2Of]; omega

theorem algebraic : Cert.algebraic_QkvWeightGradIdeal_QkvWeightGradReferenceIdeal (hQkvWeightGradIdeal := Cert.QkvWeightGradIdeal.Gen.facts)
    (hQkvWeightGradReferenceIdeal := Cert.QkvWeightGradReferenceIdeal.Gen.facts) := by
  intro m g m' g' _ hargs
  refine ⟨fun c => G2 m c, Cert.QkvWeightGradIdeal.Value.run m g, ?_⟩
  refine (θ_run Cert.QkvWeightGradReferenceIdeal.defs _ _).mono (fun r h c => ?_) (Cert.QkvWeightGradReferenceIdeal.Value.run m' g')
  obtain ⟨h0, k⟩ := h c
  obtain ⟨e0, e1⟩ := hargs c
  rw [e0, e1] at h0
  exact ⟨h0.trans ((holds_reference (holds_entries _) (holds_entries _) _ _).eq (holds_kernel m c (holds_entries _) (holds_entries _))), k⟩

end Cert.Products.QkvWeight

end
-- ==== Proof.Products.QkvInput.lean ====
/- The gradient of the stick-breaking attention's input: its array holds the sums of the reference's. -/
module

public import proofs.«01_k».proof.Defs
public import proofs.«01_k».proof.Proof.Products.Sums
public import proofs.«01_k».proof.Proof.Gen.QkvGradIdeal.Value
public import proofs.«01_k».proof.Proof.Gen.QkvGradReferenceIdeal.Run

@[expose] public section

set_option maxRecDepth 16384

noncomputable section

namespace Cert.Products.QkvInput

open Cert.QkvGradIdeal Cert.QkvGradIdeal.Gen Cert.QkvGradIdeal.Value
open Idealize.ShloMosaic Idealize.ShloMosaic.TcCoe Idealize.SL.Sem Idealize.ShloMosaic.ValueIdx

/-! ### What a point leaves -/

section

variable {F : FTy → Type} [FloatOps F]
  (c : Dev nD) (i : grid0.Coords) (a3 : Memref sig .tc .vmem S1024x2048 .bf16) (h3 : a3.IsWhole)
  (a4 : Memref sig .tc .vmem S1024x2048 .bf16) (h4 : a4.IsWhole) (a5 : Memref sig .tc .vmem S1024x1024 .f32) (h5 : a5.IsWhole)
  (a6 : Memref sig .tc .vmem S1024x1024 .f32) (h6 : a6.IsWhole) (x : Vec F S1024x2048 .bf16) (y : Vec F S1024x2048 .bf16)

/-- The product of two tiles. -/
abbrev tiles (x : Vec F S1024x2048 .bf16) (y : Vec F S1024x2048 .bf16) : Vec F S1024x1024 .f32 :=
  matmul (DotDims.transposedRhs 1024 2048 1024) none x y (constant (Mat 1024 1024) .f32 0x00000000#32)

theorem sum_first (hc0 : cond0_0 i) (hc1 : ¬cond0_1 i) :
    sout0_A_0 c i a3 h3 a4 h4 a5 h5 a6 h6 hc0 hc1 x y =
      addf (broadcast (Mat 1024 1024) (Scalar.ofBits .f32 0x00000000#32)) (tiles x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at_origin, View.readCov_unit_zero (S := S1024x1024) _ at_origin]
  unfold k0_pay2 k0_pay1
  simp only [View.readAt_eq_ld, h3.read_unread, h4.read_unread, View.ld_unit_zero (S := S1024x2048) at_origin, shapeCast_self]
  rfl

theorem sum_middle (hc0 : ¬cond0_0 i) (hc1 : ¬cond0_1 i) (s : Vec F S1024x1024 .f32) :
    sout0_B_0 c i a3 h3 a4 h4 a5 h5 a6 h6 hc0 hc1 x y s = addf s (tiles x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero at_origin]
  unfold k0_pay2
  simp only [View.readAt_eq_ld, h3.read_unread, h4.read_unread, h6.read_unread, View.ld_unit_zero (S := S1024x2048) at_origin,
    View.ld_unit_zero (S := S1024x1024) at_origin, shapeCast_self]
  rfl

theorem sum_last (hc0 : ¬cond0_0 i) (hc1 : cond0_1 i) (s : Vec F S1024x1024 .f32) :
    sout0_C_0 c i a3 h3 a4 h4 a5 h5 a6 h6 hc0 hc1 x y s = addf s (tiles x y) := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero at_origin]
  unfold k0_pay2
  simp only [View.readAt_eq_ld, h3.read_unread, h4.read_unread, h6.read_unread, View.ld_unit_zero (S := S1024x2048) at_origin,
    View.ld_unit_zero (S := S1024x1024) at_origin, shapeCast_self]
  rfl

theorem out_last (hc0 : ¬cond0_0 i) (hc1 : cond0_1 i) (s : Vec F S1024x1024 .f32) :
    out0_C_2 c i a3 h3 a4 h4 a5 h5 a6 h6 hc0 hc1 x y s = sout0_C_0 c i a3 h3 a4 h4 a5 h5 a6 h6 hc0 hc1 x y s := by
  rw [sum_last]
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero at_origin, View.readCov_unit_zero (S := S1024x1024) _ at_origin]
  unfold k0_pay2
  simp only [View.readAt_eq_ld, h3.read_unread, h4.read_unread, h6.read_unread, View.ld_unit_zero (S := S1024x2048) at_origin,
    View.ld_unit_zero (S := S1024x1024) at_origin, shapeCast_self]
  rfl

variable (m : (ℓ : Loc nD τ sig) → Buf (Elt F) ℓ)

theorem first (t : ℕ) (h : t < cfg0.N) (z : t % 3 = 0) : (outsAt0 m c t h).2 =
    addf (broadcast (Mat 1024 1024) (Scalar.ofBits .f32 0x00000000#32)) (tiles (iblk m c 0 ⟨t, h⟩) (iblk m c 1 ⟨t, h⟩)) := by
  rw [outsAt0_A m c ⟨t, h⟩ z (by dsimp only; omega)]
  dsimp only
  rw [sum_first]

/-- Every point but the first of a block adds to the sum the point before left. -/
theorem next (t : ℕ) (h : t + 1 < cfg0.N) (z : (t + 1) % 3 ≠ 0) : (outsAt0 m c (t + 1) h).2 =
    addf (outsAt0 m c t (Nat.lt_of_succ_lt h)).2 (tiles (iblk m c 0 ⟨t + 1, h⟩) (iblk m c 1 ⟨t + 1, h⟩)) := by
  by_cases l : (t + 1) % 3 = 2
  · rw [outsAt0_C m c ⟨t + 1, h⟩ z l]
    dsimp only
    rw [sum_last]
    rfl
  · rw [outsAt0_B m c ⟨t + 1, h⟩ z l]
    dsimp only
    rw [sum_middle]
    rfl

/-- The last point of a block writes back its running sum. -/
theorem last_sums (t : ℕ) (h : t < cfg0.N) (z : t % 3 + 1 = 3) : (outsAt0 m c t h).1 = (outsAt0 m c t h).2 := by
  rw [outsAt0_C m c ⟨t, h⟩ (by dsimp only; omega) (by dsimp only; omega)]
  dsimp only
  rw [out_last]

end

theorem index_facts : ∀ t : Fin cfg0.N, (win0_0.index t (0 : Fin 2) = t.val / 3 / 2 ∧ win0_0.index t (1 : Fin 2) = t.val % 3)
    ∧ (win0_1.index t (0 : Fin 2) = t.val / 3 % 2 ∧ win0_1.index t (1 : Fin 2) = t.val % 3) :=
  (by decide +kernel : ∀ t : Fin grid0.N, _)

/-- The array the kernel leaves, the gradient handed in holding `f` and the weight `g`. -/
theorem holds_kernel (m : (ℓ : Loc nD τ sig) → Buf (Elt Ideal) ℓ) (c : Dev nD) {f g : ℕ → ℕ → EReal}
    (hf : Holds (n := 4096) (m := 6144) (m ((c : Thread nD τ).loc main_arg1)) f)
    (hg : Holds (n := 2048) (m := 6144) (m ((c : Thread nD τ).loc main_arg0)) g) :
    Holds (n := 4096) (m := 2048) (G2 m c) fun r k => ∑ s ∈ Finset.range 6144, f r s * g k s :=
  cols_array (N := cfg0.N) (B := 2048) (p := 1024) (s := 1024) (q := 3) (J := 2) (φ₁ := .bf16) (φ₂ := .bf16) (ψ := .f32)
    (S := fun t h => (outsAt0 m c t h).2) (O := fun t h => (outsAt0 m c t h).1) (x := fun t => iblk m c 0 t) (y := fun t => iblk m c 1 t)
    (by decide) rfl
    (fun t => hf.tile (e := fun y => ((cfg0.win 0).blk t).view.emb y) (index_facts t).1.1 (index_facts t).1.2 (fun _ => rfl) (fun _ => rfl))
    (fun t => hg.tile (e := fun y => ((cfg0.win 1).blk t).view.emb y) (index_facts t).2.1 (index_facts t).2.2 (fun _ => rfl) (fun _ => rfl))
    (first c m) (next c m)
    (fun t h u z w => by beta_reduce; rw [last_sums c m t h z]; exact w)
    fun i => by
      have l0 : (i 0).val < 4096 := (i 0).isLt
      have l1 : (i 1).val < 2048 := (i 1).isLt
      have p : pt2Of i < cfg0.N := lt_of_lt_of_eq (by dsimp only [pt2Of, run2Of]; omega) N_0.symm
      refine ⟨⟨pt2Of i, p⟩, loc2Of i, by dsimp only [pt2Of, run2Of]; omega, ?_, ?_, ?_⟩
      · unfold G2
        rw [dif_pos p, ← outsAt0_sweep m c (pt2Of i) p]
      · show 1024 * (pt2Of i / 3 / 2) + (i 0).val % 1024 = (i 0).val
        dsimp only [pt2Of, run2Of]; omega
      · show 1024 * (pt2Of i / 3 % 2) + (i 1).val % 1024 = (i 1).val
        dsimp only [pt2Of, run2Of]; omega

theorem algebraic : Cert.algebraic_QkvGradIdeal_QkvGradReferenceIdeal (hQkvGradIdeal := Cert.QkvGradIdeal.Gen.facts)
    (hQkvGradReferenceIdeal := Cert.QkvGradReferenceIdeal.Gen.facts) := by
  intro m g m' g' _ hargs
  refine ⟨fun c => G2 m c, Cert.QkvGradIdeal.Value.run m g, ?_⟩
  refine (θ_run Cert.QkvGradReferenceIdeal.defs _ _).mono (fun r h c => ?_) (Cert.QkvGradReferenceIdeal.Value.run m' g')
  obtain ⟨h0, k⟩ := h c
  obtain ⟨e0, e1⟩ := hargs c
  rw [e0, e1] at h0
  exact ⟨h0.trans ((Holds.hostCols (φ₁ := .f32) (φ₂ := .f32) (holds_entries _) (holds_entries _)).eq
    (holds_kernel m c (holds_entries _) (holds_entries _))), k⟩

end Cert.Products.QkvInput

end
-- ==== Proof.Products.MixWeight.lean ====
/- The gradient of the parallel mixers' input weight: its array holds the sums of the reference's. -/
module

public import proofs.«01_k».proof.Defs
public import proofs.«01_k».proof.Proof.Products.Sums
public import proofs.«01_k».proof.Proof.Gen.MixWeightGradIdeal.Value
public import proofs.«01_k».proof.Proof.Gen.MixWeightGradReferenceIdeal.Run

@[expose] public section

set_option maxRecDepth 16384

noncomputable section

namespace Cert.Products.MixWeight

open Cert.MixWeightGradIdeal Cert.MixWeightGradIdeal.Gen Cert.MixWeightGradIdeal.Value
open Idealize.ShloMosaic Idealize.ShloMosaic.TcCoe Idealize.SL.Sem Idealize.ShloMosaic.ValueIdx

/-! ### What a point leaves -/

section

variable {F : FTy → Type} [FloatOps F]
  (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec F S2048x1024 .bf16) (y : Vec F S2048x1024 .bf16)

/-- The product of two tiles. -/
abbrev tiles (x : Vec F S2048x1024 .bf16) (y : Vec F S2048x1024 .bf16) : Vec F S1024x1024 .f32 :=
  matmul (rowsDims 2048 1024 1024) none x y (constant (Mat 1024 1024) .f32 0x00000000#32)

theorem sum_first (hc0 : cond0_0 i) (hc1 : ¬cond0_1 i) :
    sout0_A_0 c i a3 h3 a4 h4 a5 h5 a6 h6 hc0 hc1 x y =
      addf (broadcast (Mat 1024 1024) (Scalar.ofBits .f32 0x00000000#32)) (tiles x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at_origin, View.readCov_unit_zero (S := S1024x1024) _ at_origin]
  unfold k0_pay2 k0_pay1
  simp only [View.readAt_eq_ld, h3.read_unread, h4.read_unread, View.ld_unit_zero (S := S2048x1024) at_origin, shapeCast_self]
  rfl

theorem sum_last (hc0 : ¬cond0_0 i) (hc1 : cond0_1 i) (s : Vec F S1024x1024 .f32) :
    sout0_B_0 c i a3 h3 a4 h4 a5 h5 a6 h6 hc0 hc1 x y s = addf s (tiles x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero at_origin]
  unfold k0_pay2
  simp only [View.readAt_eq_ld, h3.read_unread, h4.read_unread, h6.read_unread, View.ld_unit_zero (S := S2048x1024) at_origin,
    View.ld_unit_zero (S := S1024x1024) at_origin, shapeCast_self]
  rfl

theorem out_last (hc0 : ¬cond0_0 i) (hc1 : cond0_1 i) (s : Vec F S1024x1024 .f32) :
    out0_B_2 c i a3 h3 a4 h4 a5 h5 a6 h6 hc0 hc1 x y s =
      truncf .bf16 (sout0_B_0 c i a3 h3 a4 h4 a5 h5 a6 h6 hc0 hc1 x y s) bitsLt_bf16_f32 := by
  rw [sum_last]
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero at_origin, View.readCov_unit_zero (S := S1024x1024) _ at_origin]
  unfold k0_pay3 k0_pay2
  simp only [View.readAt_eq_ld, h3.read_unread, h4.read_unread, h6.read_unread, View.ld_unit_zero (S := S2048x1024) at_origin,
    View.ld_unit_zero (S := S1024x1024) at_origin, shapeCast_self]
  rfl

variable (m : (ℓ : Loc nD τ sig) → Buf (Elt F) ℓ)

theorem first (t : ℕ) (h : t < cfg0.N) (z : t % 2 = 0) : (outsAt0 m c t h).2 =
    addf (broadcast (Mat 1024 1024) (Scalar.ofBits .f32 0x00000000#32)) (tiles (iblk m c 0 ⟨t, h⟩) (iblk m c 1 ⟨t, h⟩)) := by
  rw [outsAt0_A m c ⟨t, h⟩ z (by dsimp only; omega)]
  dsimp only
  rw [sum_first]

theorem next (t : ℕ) (h : t + 1 < cfg0.N) (z : (t + 1) % 2 ≠ 0) : (outsAt0 m c (t + 1) h).2 =
    addf (outsAt0 m c t (Nat.lt_of_succ_lt h)).2 (tiles (iblk m c 0 ⟨t + 1, h⟩) (iblk m c 1 ⟨t + 1, h⟩)) := by
  rw [outsAt0_B m c ⟨t + 1, h⟩ z (by dsimp only; omega)]
  dsimp only
  rw [sum_last]
  rfl

/-- The last point of a block writes back its running sum. -/
theorem last_rounds (t : ℕ) (h : t < cfg0.N) (z : t % 2 + 1 = 2) :
    (outsAt0 m c t h).1 = truncf .bf16 (outsAt0 m c t h).2 bitsLt_bf16_f32 := by
  rw [outsAt0_B m c ⟨t, h⟩ (by dsimp only; omega) (by dsimp only; omega)]
  dsimp only
  rw [out_last]

end

theorem index_facts : ∀ t : Fin cfg0.N, (win0_0.index t (0 : Fin 2) = t.val % 2 ∧ win0_0.index t (1 : Fin 2) = t.val / 2 / 5)
    ∧ (win0_1.index t (0 : Fin 2) = t.val % 2 ∧ win0_1.index t (1 : Fin 2) = t.val / 2 % 5) :=
  (by decide +kernel : ∀ t : Fin grid0.N, _)

/-- The array the kernel leaves, its two arguments holding `f` and `g`. -/
theorem holds_kernel (m : (ℓ : Loc nD τ sig) → Buf (Elt Ideal) ℓ) (c : Dev nD) {f g : ℕ → ℕ → EReal}
    (hf : Holds (n := 4096) (m := 2048) (m ((c : Thread nD τ).loc main_arg0)) f)
    (hg : Holds (n := 4096) (m := 5120) (m ((c : Thread nD τ).loc main_arg1)) g) :
    Holds (n := 2048) (m := 5120) (G2 m c) fun r k => ∑ s ∈ Finset.range 4096, f s r * g s k :=
  rows_array (N := cfg0.N) (B := 2048) (p := 1024) (s := 1024) (q := 2) (J := 5) (φ₁ := .bf16) (φ₂ := .bf16) (ψ := .bf16)
    (S := fun t h => (outsAt0 m c t h).2) (O := fun t h => (outsAt0 m c t h).1) (x := fun t => iblk m c 0 t) (y := fun t => iblk m c 1 t)
    (by decide) rfl
    (fun t => hf.tile (e := fun y => ((cfg0.win 0).blk t).view.emb y) (index_facts t).1.1 (index_facts t).1.2 (fun _ => rfl) (fun _ => rfl))
    (fun t => hg.tile (e := fun y => ((cfg0.win 1).blk t).view.emb y) (index_facts t).2.1 (index_facts t).2.2 (fun _ => rfl) (fun _ => rfl))
    (first c m) (next c m)
    (fun t h u z w => by beta_reduce; rw [last_rounds c m t h z]; exact w.truncf bitsLt_bf16_f32)
    fun i => by
      have l0 : (i 0).val < 2048 := (i 0).isLt
      have l1 : (i 1).val < 5120 := (i 1).isLt
      have p : pt2Of i < cfg0.N := lt_of_lt_of_eq (by dsimp only [pt2Of, run2Of]; omega) N_0.symm
      refine ⟨⟨pt2Of i, p⟩, loc2Of i, by dsimp only [pt2Of, run2Of]; omega, ?_, ?_, ?_⟩
      · unfold G2
        rw [dif_pos p, ← outsAt0_sweep m c (pt2Of i) p]
      · show 1024 * (pt2Of i / 2 / 5) + (i 0).val % 1024 = (i 0).val
        dsimp only [pt2Of, run2Of]; omega
      · show 1024 * (pt2Of i / 2 % 5) + (i 1).val % 1024 = (i 1).val
        dsimp only [pt2Of, run2Of]; omega

theorem algebraic : Cert.algebraic_MixWeightGradIdeal_MixWeightGradReferenceIdeal (hMixWeightGradIdeal := Cert.MixWeightGradIdeal.Gen.facts)
    (hMixWeightGradReferenceIdeal := Cert.MixWeightGradReferenceIdeal.Gen.facts) := by
  intro m g m' g' _ hargs
  refine ⟨fun c => G2 m c, Cert.MixWeightGradIdeal.Value.run m g, ?_⟩
  refine (θ_run Cert.MixWeightGradReferenceIdeal.defs _ _).mono (fun r h c => ?_) (Cert.MixWeightGradReferenceIdeal.Value.run m' g')
  obtain ⟨h0, k⟩ := h c
  obtain ⟨e0, e1⟩ := hargs c
  rw [e0, e1] at h0
  exact ⟨h0.trans ((holds_reference (holds_entries _) (holds_entries _) _ _).eq (holds_kernel m c (holds_entries _) (holds_entries _))), k⟩

end Cert.Products.MixWeight

end
-- ==== Proof.Products.MixInput.lean ====
/- The gradient of the parallel mixers' input: its array holds the sums of the reference's. -/
module

public import proofs.«01_k».proof.Defs
public import proofs.«01_k».proof.Proof.Products.Sums
public import proofs.«01_k».proof.Proof.Gen.MixGradIdeal.Value
public import proofs.«01_k».proof.Proof.Gen.MixGradReferenceIdeal.Run

@[expose] public section

set_option maxRecDepth 16384

noncomputable section

namespace Cert.Products.MixInput

open Cert.MixGradIdeal Cert.MixGradIdeal.Gen Cert.MixGradIdeal.Value
open Idealize.ShloMosaic Idealize.ShloMosaic.TcCoe Idealize.SL.Sem Idealize.ShloMosaic.ValueIdx

/-! ### What a point leaves -/

section

variable {F : FTy → Type} [FloatOps F]
  (c : Dev nD) (i : grid0.Coords) (a3 : Memref sig .tc .vmem S1024x1280 .bf16) (h3 : a3.IsWhole)
  (a4 : Memref sig .tc .vmem S1024x1280 .bf16) (h4 : a4.IsWhole) (a5 : Memref sig .tc .vmem S1024x1024 .f32) (h5 : a5.IsWhole)
  (a6 : Memref sig .tc .vmem S1024x1024 .f32) (h6 : a6.IsWhole) (x : Vec F S1024x1280 .bf16) (y : Vec F S1024x1280 .bf16)

/-- The product of two tiles. -/
abbrev tiles (x : Vec F S1024x1280 .bf16) (y : Vec F S1024x1280 .bf16) : Vec F S1024x1024 .f32 :=
  matmul (DotDims.transposedRhs 1024 1280 1024) none x y (constant (Mat 1024 1024) .f32 0x00000000#32)

theorem sum_first (hc0 : cond0_0 i) (hc1 : ¬cond0_1 i) :
    sout0_A_0 c i a3 h3 a4 h4 a5 h5 a6 h6 hc0 hc1 x y =
      addf (broadcast (Mat 1024 1024) (Scalar.ofBits .f32 0x00000000#32)) (tiles x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at_origin, View.readCov_unit_zero (S := S1024x1024) _ at_origin]
  unfold k0_pay2 k0_pay1
  simp only [View.readAt_eq_ld, h3.read_unread, h4.read_unread, View.ld_unit_zero (S := S1024x1280) at_origin, shapeCast_self]
  rfl

theorem sum_middle (hc0 : ¬cond0_0 i) (hc1 : ¬cond0_1 i) (s : Vec F S1024x1024 .f32) :
    sout0_B_0 c i a3 h3 a4 h4 a5 h5 a6 h6 hc0 hc1 x y s = addf s (tiles x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero at_origin]
  unfold k0_pay2
  simp only [View.readAt_eq_ld, h3.read_unread, h4.read_unread, h6.read_unread, View.ld_unit_zero (S := S1024x1280) at_origin,
    View.ld_unit_zero (S := S1024x1024) at_origin, shapeCast_self]
  rfl

theorem sum_last (hc0 : ¬cond0_0 i) (hc1 : cond0_1 i) (s : Vec F S1024x1024 .f32) :
    sout0_C_0 c i a3 h3 a4 h4 a5 h5 a6 h6 hc0 hc1 x y s = addf s (tiles x y) := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero at_origin]
  unfold k0_pay2
  simp only [View.readAt_eq_ld, h3.read_unread, h4.read_unread, h6.read_unread, View.ld_unit_zero (S := S1024x1280) at_origin,
    View.ld_unit_zero (S := S1024x1024) at_origin, shapeCast_self]
  rfl

theorem out_last (hc0 : ¬cond0_0 i) (hc1 : cond0_1 i) (s : Vec F S1024x1024 .f32) :
    out0_C_2 c i a3 h3 a4 h4 a5 h5 a6 h6 hc0 hc1 x y s = sout0_C_0 c i a3 h3 a4 h4 a5 h5 a6 h6 hc0 hc1 x y s := by
  rw [sum_last]
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero at_origin, View.readCov_unit_zero (S := S1024x1024) _ at_origin]
  unfold k0_pay2
  simp only [View.readAt_eq_ld, h3.read_unread, h4.read_unread, h6.read_unread, View.ld_unit_zero (S := S1024x1280) at_origin,
    View.ld_unit_zero (S := S1024x1024) at_origin, shapeCast_self]
  rfl

variable (m : (ℓ : Loc nD τ sig) → Buf (Elt F) ℓ)

theorem first (t : ℕ) (h : t < cfg0.N) (z : t % 4 = 0) : (outsAt0 m c t h).2 =
    addf (broadcast (Mat 1024 1024) (Scalar.ofBits .f32 0x00000000#32)) (tiles (iblk m c 0 ⟨t, h⟩) (iblk m c 1 ⟨t, h⟩)) := by
  rw [outsAt0_A m c ⟨t, h⟩ z (by dsimp only; omega)]
  dsimp only
  rw [sum_first]

/-- Every point but the first of a block adds to the sum the point before left. -/
theorem next (t : ℕ) (h : t + 1 < cfg0.N) (z : (t + 1) % 4 ≠ 0) : (outsAt0 m c (t + 1) h).2 =
    addf (outsAt0 m c t (Nat.lt_of_succ_lt h)).2 (tiles (iblk m c 0 ⟨t + 1, h⟩) (iblk m c 1 ⟨t + 1, h⟩)) := by
  by_cases l : (t + 1) % 4 = 3
  · rw [outsAt0_C m c ⟨t + 1, h⟩ z l]
    dsimp only
    rw [sum_last]
    rfl
  · rw [outsAt0_B m c ⟨t + 1, h⟩ z l]
    dsimp only
    rw [sum_middle]
    rfl

/-- The last point of a block writes back its running sum. -/
theorem last_sums (t : ℕ) (h : t < cfg0.N) (z : t % 4 + 1 = 4) : (outsAt0 m c t h).1 = (outsAt0 m c t h).2 := by
  rw [outsAt0_C m c ⟨t, h⟩ (by dsimp only; omega) (by dsimp only; omega)]
  dsimp only
  rw [out_last]

end

theorem index_facts : ∀ t : Fin cfg0.N, (win0_0.index t (0 : Fin 2) = t.val / 4 / 2 ∧ win0_0.index t (1 : Fin 2) = t.val % 4)
    ∧ (win0_1.index t (0 : Fin 2) = t.val / 4 % 2 ∧ win0_1.index t (1 : Fin 2) = t.val % 4) :=
  (by decide +kernel : ∀ t : Fin grid0.N, _)

/-- The array the kernel leaves, the gradient handed in holding `f` and the weight `g`. -/
theorem holds_kernel (m : (ℓ : Loc nD τ sig) → Buf (Elt Ideal) ℓ) (c : Dev nD) {f g : ℕ → ℕ → EReal}
    (hf : Holds (n := 4096) (m := 5120) (m ((c : Thread nD τ).loc main_arg1)) f)
    (hg : Holds (n := 2048) (m := 5120) (m ((c : Thread nD τ).loc main_arg0)) g) :
    Holds (n := 4096) (m := 2048) (G2 m c) fun r k => ∑ s ∈ Finset.range 5120, f r s * g k s :=
  cols_array (N := cfg0.N) (B := 1280) (p := 1024) (s := 1024) (q := 4) (J := 2) (φ₁ := .bf16) (φ₂ := .bf16) (ψ := .f32)
    (S := fun t h => (outsAt0 m c t h).2) (O := fun t h => (outsAt0 m c t h).1) (x := fun t => iblk m c 0 t) (y := fun t => iblk m c 1 t)
    (by decide) rfl
    (fun t => hf.tile (e := fun y => ((cfg0.win 0).blk t).view.emb y) (index_facts t).1.1 (index_facts t).1.2 (fun _ => rfl) (fun _ => rfl))
    (fun t => hg.tile (e := fun y => ((cfg0.win 1).blk t).view.emb y) (index_facts t).2.1 (index_facts t).2.2 (fun _ => rfl) (fun _ => rfl))
    (first c m) (next c m)
    (fun t h u z w => by beta_reduce; rw [last_sums c m t h z]; exact w)
    fun i => by
      have l0 : (i 0).val < 4096 := (i 0).isLt
      have l1 : (i 1).val < 2048 := (i 1).isLt
      have p : pt2Of i < cfg0.N := lt_of_lt_of_eq (by dsimp only [pt2Of, run2Of]; omega) N_0.symm
      refine ⟨⟨pt2Of i, p⟩, loc2Of i, by dsimp only [pt2Of, run2Of]; omega, ?_, ?_, ?_⟩
      · unfold G2
        rw [dif_pos p, ← outsAt0_sweep m c (pt2Of i) p]
      · show 1024 * (pt2Of i / 4 / 2) + (i 0).val % 1024 = (i 0).val
        dsimp only [pt2Of, run2Of]; omega
      · show 1024 * (pt2Of i / 4 % 2) + (i 1).val % 1024 = (i 1).val
        dsimp only [pt2Of, run2Of]; omega

theorem algebraic : Cert.algebraic_MixGradIdeal_MixGradReferenceIdeal (hMixGradIdeal := Cert.MixGradIdeal.Gen.facts)
    (hMixGradReferenceIdeal := Cert.MixGradReferenceIdeal.Gen.facts) := by
  intro m g m' g' _ hargs
  refine ⟨fun c => G2 m c, Cert.MixGradIdeal.Value.run m g, ?_⟩
  refine (θ_run Cert.MixGradReferenceIdeal.defs _ _).mono (fun r h c => ?_) (Cert.MixGradReferenceIdeal.Value.run m' g')
  obtain ⟨h0, k⟩ := h c
  obtain ⟨e0, e1⟩ := hargs c
  rw [e0, e1] at h0
  exact ⟨h0.trans ((Holds.hostCols (φ₁ := .f32) (φ₂ := .f32) (holds_entries _) (holds_entries _)).eq
    (holds_kernel m c (holds_entries _) (holds_entries _))), k⟩

end Cert.Products.MixInput

end
-- ==== Proof.Products.Forward.lean ====
/- The forward pass into the feed-forward network's hidden layer: one product per block, its rectified square and twice its
   rectified value. -/
module

public import proofs.«01_k».proof.Defs
public import proofs.«01_k».proof.Proof.Products.Blocks
public import proofs.«01_k».proof.Proof.Gen.HiddenOfIdeal.Value
public import proofs.«01_k».proof.Proof.Gen.HiddenOfReferenceIdeal.Run

@[expose] public section

set_option maxRecDepth 16384

noncomputable section

namespace Cert.Products.Forward

open Cert.HiddenOfIdeal Cert.HiddenOfIdeal.Gen Cert.HiddenOfIdeal.Value
open Idealize.ShloMosaic Idealize.ShloMosaic.TcCoe Idealize.SL.Sem Idealize.ShloMosaic.ValueIdx

/-! ### What a point writes back -/

section

variable {F : FTy → Type} [FloatOps F] (x : Vec F S1024x2048 .bf16) (y : Vec F S2048x1024 .bf16)

/-- The rectified product of two tiles. -/
abbrev rectified : FVec F (Mat 1024 1024) .f32 :=
  maximumf (matmul (DotDims.plain 1024 2048 1024) none x y (constant (Mat 1024 1024) .f32 0x00000000#32))
    (broadcast (Mat 1024 1024) (Scalar.ofBits .f32 0x00000000#32))

theorem square_eq : out0_2 x y = truncf .bf16 (mulf (rectified x y) (rectified x y)) bitsLt_bf16_f32 := by
  unfold out0_2
  rw [View.canon_unit_zero at_origin]
  unfold k0_pay2 k0_pay1
  simp only [View.ld_unit_zero (S := S1024x2048) at_origin, View.ld_unit_zero (S := S2048x1024) at_origin, shapeCast_self]
  rfl

theorem twice_eq : out0_3 x y =
    truncf .bf16 (mulf (broadcast (Mat 1024 1024) (Scalar.ofBits .f32 0x40000000#32)) (rectified x y)) bitsLt_bf16_f32 := by
  unfold out0_3
  rw [View.canon_unit_zero at_origin]
  unfold k0_pay3 k0_pay1
  simp only [View.ld_unit_zero (S := S1024x2048) at_origin, View.ld_unit_zero (S := S2048x1024) at_origin, shapeCast_self]
  rfl

end

theorem index_facts : ∀ t : Fin cfg0.N, (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = t.val % 8)
    ∧ (win0_3.index t (0 : Fin 2) = t.val / 8 ∧ win0_3.index t (1 : Fin 2) = t.val % 8) :=
  (by decide +kernel : ∀ t : Fin grid0.N, _)

/-! ### The two arrays -/

/-- The rectified layer, where the input holds `f` and the weight `g`. -/
abbrev layer (f g : ℕ → ℕ → EReal) (r k : ℕ) : EReal :=
  max (∑ s ∈ Finset.range 2048, f r s * g s k) (Scalar.ofBits (F := Ideal) .f32 0x00000000#32)

section

variable {m : (ℓ : Loc nD τ sig) → Buf (Elt Ideal) ℓ} {c : Dev nD} {f g : ℕ → ℕ → EReal}

theorem holds_rectified (hf : Holds (n := 4096) (m := 2048) (m ((c : Thread nD τ).loc main_arg0)) f)
    (hg : Holds (n := 2048) (m := 8192) (m ((c : Thread nD τ).loc main_arg1)) g) (t : Fin cfg0.N) :
    Holds (rectified (F := Ideal) (iblk m c 0 t) (iblk m c 1 t)) fun r k => layer f g (1024 * (t.val / 8) + r) (1024 * (t.val % 8) + k) := by
  have hf' : Holds (n := 4096) (m := 2048) (V m c main_arg0) f := by rw [V_main_arg0]; exact hf
  have hg' : Holds (n := 2048) (m := 8192) (V m c main_arg1) g := by rw [V_main_arg1]; exact hg
  have x : Holds (n := 1024) (m := 2048) (iblk m c 0 t) _ :=
    hf'.tile (e := fun y => ((cfg0.win 0).blk t).view.emb y) (index_facts t).1.1 (index_facts t).1.2 (fun _ => rfl) (fun _ => rfl)
  have y : Holds (n := 2048) (m := 1024) (iblk m c 1 t) _ :=
    hg'.tile (e := fun y => ((cfg0.win 1).blk t).view.emb y) (index_facts t).2.1.1 (index_facts t).2.1.2 (fun _ => rfl) (fun _ => rfl)
  refine ((Holds.plain (φ₁ := .bf16) (φ₂ := .bf16) x y).maximumf (holds_broadcast _)).congr fun r _ k _ => ?_
  simp only [Nat.mul_zero, Nat.zero_add]

theorem holds_square (hf : Holds (n := 4096) (m := 2048) (m ((c : Thread nD τ).loc main_arg0)) f)
    (hg : Holds (n := 2048) (m := 8192) (m ((c : Thread nD τ).loc main_arg1)) g) :
    Holds (n := 4096) (m := 8192) ((dats m 0 c).arrAt 2 cfg0.N) fun r k => layer f g r k * layer f g r k :=
  assemble_blocks (p := 1024) (q := 1024) (I := 4) (J := 8) (e := fun t y => ((cfg0.win 2).blk t).view.emb y) rfl rfl N_0
    (fun t => (index_facts t).2.2.1.1) (fun t => (index_facts t).2.2.1.2) (fun _ _ => rfl) (fun _ _ => rfl) fun t j =>
    (congrFun ((blocks2 m c t (flush0_2 t)).trans (flushed2 m c t)) j).trans
      ((congrFun (square_eq (iblk m c 0 t) (iblk m c 1 t)) j).trans
        (((holds_rectified hf hg t).mulf (holds_rectified hf hg t)).truncf bitsLt_bf16_f32 j))

theorem holds_twice (hf : Holds (n := 4096) (m := 2048) (m ((c : Thread nD τ).loc main_arg0)) f)
    (hg : Holds (n := 2048) (m := 8192) (m ((c : Thread nD τ).loc main_arg1)) g) :
    Holds (n := 4096) (m := 8192) ((dats m 0 c).arrAt 3 cfg0.N) fun r k => Scalar.ofBits (F := Ideal) .f32 0x40000000#32 * layer f g r k :=
  assemble_blocks (p := 1024) (q := 1024) (I := 4) (J := 8) (e := fun t y => ((cfg0.win 3).blk t).view.emb y) rfl rfl N_0
    (fun t => (index_facts t).2.2.2.1) (fun t => (index_facts t).2.2.2.2) (fun _ _ => rfl) (fun _ _ => rfl) fun t j =>
    (congrFun ((blocks3 m c t (flush0_3 t)).trans (flushed3 m c t)) j).trans
      ((congrFun (twice_eq (iblk m c 0 t) (iblk m c 1 t)) j).trans
        (((holds_broadcast _).mulf (holds_rectified hf hg t)).truncf bitsLt_bf16_f32 j))

end

/-- The rectified layer on the host. -/
theorem holds_layer {f g : ℕ → ℕ → EReal} {x : FVec Ideal (Mat 4096 2048) .f32} {y : FVec Ideal (Mat 2048 8192) .f32}
    (hx : Holds x f) (hy : Holds y g) (b : (⟨0, ![]⟩ : Shape).BroadcastsInDim (Mat 4096 8192) ![]) :
    Holds (maximumf (Host.dotGeneral (DotDims.plain 4096 2048 8192) none x y)
      (broadcastInDim (Mat 4096 8192) ![] b (constant (F := Ideal) (⟨0, ![]⟩ : Shape) .f32 0x00000000#32))) (layer f g) :=
  (hx.hostPlain hy).maximumf (holds_broadcastInDim _ b)

theorem algebraic : Cert.algebraic_HiddenOfIdeal_HiddenOfReferenceIdeal (hHiddenOfIdeal := Cert.HiddenOfIdeal.Gen.facts)
    (hHiddenOfReferenceIdeal := Cert.HiddenOfReferenceIdeal.Gen.facts) := by
  intro m g m' g' _ hargs
  refine ⟨fun c => (dats m 0 c).arrAt 2 cfg0.N, fun c => (dats m 0 c).arrAt 3 cfg0.N, Cert.HiddenOfIdeal.Value.run_blocks m g, ?_⟩
  refine (θ_run Cert.HiddenOfReferenceIdeal.defs _ _).mono (fun r h c => ?_) (Cert.HiddenOfReferenceIdeal.Value.run m' g')
  obtain ⟨h0, h1, k⟩ := h c
  obtain ⟨e0, e1⟩ := hargs c
  rw [e0, e1] at h0 h1
  have l := holds_layer (holds_entries (m ((c : Thread nD τ).loc main_arg0))) (holds_entries (m ((c : Thread nD τ).loc main_arg1)))
  exact ⟨h0.trans ((((l _).mulf (l _)).truncf bitsLt_bf16_f32).eq (holds_square (holds_entries _) (holds_entries _))),
    h1.trans ((((holds_broadcastInDim _ _).mulf (l _)).truncf bitsLt_bf16_f32).eq (holds_twice (holds_entries _) (holds_entries _))), k⟩

end Cert.Products.Forward

end
-- ==== Proof.Products.MlpOutput.lean ====
/- What the MLP gives back, its second product: its array holds the sums of the reference's. -/
module

public import proofs.«01_k».proof.Defs
public import proofs.«01_k».proof.Proof.Products.Sums
public import proofs.«01_k».proof.Proof.Gen.MlpOutIdeal.Value
public import proofs.«01_k».proof.Proof.Gen.MlpOutReferenceIdeal.Run

@[expose] public section

set_option maxRecDepth 16384

noncomputable section

namespace Cert.Products.MlpOutput

open Cert.MlpOutIdeal Cert.MlpOutIdeal.Gen Cert.MlpOutIdeal.Value
open Idealize.ShloMosaic Idealize.ShloMosaic.TcCoe Idealize.SL.Sem Idealize.ShloMosaic.ValueIdx

/-! ### What a point leaves -/

section

variable {F : FTy → Type} [FloatOps F]
  (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole) (x : Vec F S1024x2048 .bf16) (y : Vec F S2048x1024 .bf16)

/-- The product of two tiles. -/
abbrev tiles (x : Vec F S1024x2048 .bf16) (y : Vec F S2048x1024 .bf16) : Vec F S1024x1024 .f32 :=
  matmul (DotDims.plain 1024 2048 1024) none x y (constant (Mat 1024 1024) .f32 0x00000000#32)

theorem sum_first (hc0 : cond0_0 i) (hc1 : ¬cond0_1 i) :
    sout0_A_0 c i a3 h3 a4 h4 a5 h5 a6 h6 hc0 hc1 x y =
      addf (broadcast (Mat 1024 1024) (Scalar.ofBits .f32 0x00000000#32)) (tiles x y) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at_origin, View.readCov_unit_zero (S := S1024x1024) _ at_origin]
  unfold k0_pay2 k0_pay1
  simp only [View.readAt_eq_ld, h3.read_unread, h4.read_unread, View.ld_unit_zero (S := S1024x2048) at_origin, View.ld_unit_zero (S := S2048x1024) at_origin, shapeCast_self]
  rfl

theorem sum_middle (hc0 : ¬cond0_0 i) (hc1 : ¬cond0_1 i) (s : Vec F S1024x1024 .f32) :
    sout0_B_0 c i a3 h3 a4 h4 a5 h5 a6 h6 hc0 hc1 x y s = addf s (tiles x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero at_origin]
  unfold k0_pay2
  simp only [View.readAt_eq_ld, h3.read_unread, h4.read_unread, h6.read_unread, View.ld_unit_zero (S := S1024x2048) at_origin, View.ld_unit_zero (S := S2048x1024) at_origin,
    View.ld_unit_zero (S := S1024x1024) at_origin, shapeCast_self]
  rfl

theorem sum_last (hc0 : ¬cond0_0 i) (hc1 : cond0_1 i) (s : Vec F S1024x1024 .f32) :
    sout0_C_0 c i a3 h3 a4 h4 a5 h5 a6 h6 hc0 hc1 x y s = addf s (tiles x y) := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero at_origin]
  unfold k0_pay2
  simp only [View.readAt_eq_ld, h3.read_unread, h4.read_unread, h6.read_unread, View.ld_unit_zero (S := S1024x2048) at_origin, View.ld_unit_zero (S := S2048x1024) at_origin,
    View.ld_unit_zero (S := S1024x1024) at_origin, shapeCast_self]
  rfl

theorem out_last (hc0 : ¬cond0_0 i) (hc1 : cond0_1 i) (s : Vec F S1024x1024 .f32) :
    out0_C_2 c i a3 h3 a4 h4 a5 h5 a6 h6 hc0 hc1 x y s = sout0_C_0 c i a3 h3 a4 h4 a5 h5 a6 h6 hc0 hc1 x y s := by
  rw [sum_last]
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero at_origin, View.readCov_unit_zero (S := S1024x1024) _ at_origin]
  unfold k0_pay2
  simp only [View.readAt_eq_ld, h3.read_unread, h4.read_unread, h6.read_unread, View.ld_unit_zero (S := S1024x2048) at_origin, View.ld_unit_zero (S := S2048x1024) at_origin,
    View.ld_unit_zero (S := S1024x1024) at_origin, shapeCast_self]
  rfl

variable (m : (ℓ : Loc nD τ sig) → Buf (Elt F) ℓ)

theorem first (t : ℕ) (h : t < cfg0.N) (z : t % 4 = 0) : (outsAt0 m c t h).2 =
    addf (broadcast (Mat 1024 1024) (Scalar.ofBits .f32 0x00000000#32)) (tiles (iblk m c 0 ⟨t, h⟩) (iblk m c 1 ⟨t, h⟩)) := by
  rw [outsAt0_A m c ⟨t, h⟩ z (by dsimp only; omega)]
  dsimp only
  rw [sum_first]

/-- Every point but the first of a block adds to the sum the point before left. -/
theorem next (t : ℕ) (h : t + 1 < cfg0.N) (z : (t + 1) % 4 ≠ 0) : (outsAt0 m c (t + 1) h).2 =
    addf (outsAt0 m c t (Nat.lt_of_succ_lt h)).2 (tiles (iblk m c 0 ⟨t + 1, h⟩) (iblk m c 1 ⟨t + 1, h⟩)) := by
  by_cases l : (t + 1) % 4 = 3
  · rw [outsAt0_C m c ⟨t + 1, h⟩ z l]
    dsimp only
    rw [sum_last]
    rfl
  · rw [outsAt0_B m c ⟨t + 1, h⟩ z l]
    dsimp only
    rw [sum_middle]
    rfl

/-- The last point of a block writes back its running sum. -/
theorem last_sums (t : ℕ) (h : t < cfg0.N) (z : t % 4 + 1 = 4) : (outsAt0 m c t h).1 = (outsAt0 m c t h).2 := by
  rw [outsAt0_C m c ⟨t, h⟩ (by dsimp only; omega) (by dsimp only; omega)]
  dsimp only
  rw [out_last]

end

theorem index_facts : ∀ t : Fin cfg0.N, (win0_0.index t (0 : Fin 2) = t.val / 4 / 2 ∧ win0_0.index t (1 : Fin 2) = t.val % 4)
    ∧ (win0_1.index t (0 : Fin 2) = t.val % 4 ∧ win0_1.index t (1 : Fin 2) = t.val / 4 % 2) :=
  (by decide +kernel : ∀ t : Fin grid0.N, _)

/-- The array the kernel leaves, the squared activation handed in holding `f` and the weight `g`. -/
theorem holds_kernel (m : (ℓ : Loc nD τ sig) → Buf (Elt Ideal) ℓ) (c : Dev nD) {f g : ℕ → ℕ → EReal}
    (hf : Holds (n := 4096) (m := 8192) (m ((c : Thread nD τ).loc main_arg0)) f)
    (hg : Holds (n := 8192) (m := 2048) (m ((c : Thread nD τ).loc main_arg1)) g) :
    Holds (n := 4096) (m := 2048) (G2 m c) fun r k => ∑ s ∈ Finset.range 8192, f r s * g s k :=
  plain_array (N := cfg0.N) (B := 2048) (p := 1024) (s := 1024) (q := 4) (J := 2) (φ₁ := .bf16) (φ₂ := .bf16) (ψ := .f32)
    (S := fun t h => (outsAt0 m c t h).2) (O := fun t h => (outsAt0 m c t h).1) (x := fun t => iblk m c 0 t) (y := fun t => iblk m c 1 t)
    (by decide) rfl
    (fun t => hf.tile (e := fun y => ((cfg0.win 0).blk t).view.emb y) (index_facts t).1.1 (index_facts t).1.2 (fun _ => rfl) (fun _ => rfl))
    (fun t => hg.tile (e := fun y => ((cfg0.win 1).blk t).view.emb y) (index_facts t).2.1 (index_facts t).2.2 (fun _ => rfl) (fun _ => rfl))
    (first c m) (next c m)
    (fun t h u z w => by beta_reduce; rw [last_sums c m t h z]; exact w)
    fun i => by
      have l0 : (i 0).val < 4096 := (i 0).isLt
      have l1 : (i 1).val < 2048 := (i 1).isLt
      have p : pt2Of i < cfg0.N := lt_of_lt_of_eq (by dsimp only [pt2Of, run2Of]; omega) N_0.symm
      refine ⟨⟨pt2Of i, p⟩, loc2Of i, by dsimp only [pt2Of, run2Of]; omega, ?_, ?_, ?_⟩
      · unfold G2
        rw [dif_pos p, ← outsAt0_sweep m c (pt2Of i) p]
      · show 1024 * (pt2Of i / 4 / 2) + (i 0).val % 1024 = (i 0).val
        dsimp only [pt2Of, run2Of]; omega
      · show 1024 * (pt2Of i / 4 % 2) + (i 1).val % 1024 = (i 1).val
        dsimp only [pt2Of, run2Of]; omega

theorem algebraic : Cert.algebraic_MlpOutIdeal_MlpOutReferenceIdeal (hMlpOutIdeal := Cert.MlpOutIdeal.Gen.facts)
    (hMlpOutReferenceIdeal := Cert.MlpOutReferenceIdeal.Gen.facts) := by
  intro m g m' g' _ hargs
  refine ⟨fun c => G2 m c, Cert.MlpOutIdeal.Value.run m g, ?_⟩
  refine (θ_run Cert.MlpOutReferenceIdeal.defs _ _).mono (fun r h c => ?_) (Cert.MlpOutReferenceIdeal.Value.run m' g')
  obtain ⟨h0, k⟩ := h c
  obtain ⟨e0, e1⟩ := hargs c
  rw [e0, e1] at h0
  exact ⟨h0.trans ((Holds.hostPlain (φ₁ := .f32) (φ₂ := .f32) (holds_entries _) (holds_entries _)).eq
    (holds_kernel m c (holds_entries _) (holds_entries _))), k⟩

end Cert.Products.MlpOutput

end
-- ==== Proof.Products.Qkv.lean ====
/- What the stick-breaking attention takes in: one product per block, the queries' columns times a number. -/
module

public import proofs.«01_k».proof.Defs
public import proofs.«01_k».proof.Proof.Products.Blocks
public import proofs.«01_k».proof.Proof.Gen.QkvOfIdeal.Value
public import proofs.«01_k».proof.Proof.Gen.QkvOfReferenceIdeal.Run

@[expose] public section

set_option maxRecDepth 16384

noncomputable section

namespace Cert.Products

open Idealize.ShloMosaic Idealize.ShloMosaic.ValueIdx

section

variable {n m q : ℕ} {φ : FTy} {f g h : ℕ → ℕ → EReal}

/-- Some columns of a matrix. -/
theorem Holds.columns {x : FVec Ideal (Mat n m) φ} (hx : Holds x f) {C : ℕ} (s : (Mat n m).Slices ![0, C] (Mat n q)) :
    Holds (extractStridedSlice (Mat n q) ![0, C] x s) fun r c => f r (C + c) := fun j => by
  have b : C + (j 1).val < m := lt_of_lt_of_le (Nat.add_lt_add_left (j 1).isLt C) (s.2 1)
  refine (extractStridedSlice_apply ![0, C] x s j (ix2 (⟨(j 0).val, (j 0).isLt⟩ : Fin n) (⟨C + (j 1).val, b⟩ : Fin m)) ?_).trans (hx _)
  exact fun a => match a with | ⟨0, _⟩ => (Nat.zero_add _).symm | ⟨1, _⟩ => rfl

/-- Three matrices side by side. -/
theorem Holds.beside {x y z : FVec Ideal (Mat n q) φ} (hx : Holds x f) (hy : Holds y g) (hz : Holds z h) (hm : m = q + q + q)
    (w : Shape.Concatenates [Mat n q, Mat n q, Mat n q] (Mat n m) 1) :
    Holds (concatenate (Mat n m) 1 [⟨Mat n q, x⟩, ⟨Mat n q, y⟩, ⟨Mat n q, z⟩] w)
      fun r c => if c < q then f r c else if c < q + q then g r (c - q) else h r (c - (q + q)) := fun j => by
  have l : (j 1).val < q + q + q := lt_of_lt_of_eq (j 1).isLt hm
  have off : ∀ (k : Fin q) (b : Fin 2), b ≠ 1 → ((ix2 (⟨(j 0).val, (j 0).isLt⟩ : Fin n) k : (Mat n q).Idx) b).val = (j b).val := fun k b hb =>
    match b, hb with
    | ⟨0, _⟩, _ => rfl
    | ⟨1, _⟩, hb => absurd rfl hb
  beta_reduce
  by_cases a : (j 1).val < q
  · rw [if_pos a]
    exact (concatenate_apply_piece (t := Mat n m) 1 [⟨Mat n q, x⟩, ⟨Mat n q, y⟩, ⟨Mat n q, z⟩] w j 0 (by show 0 < 3; omega) (Mat n q) x rfl rfl 0 rfl
      (ix2 (⟨(j 0).val, (j 0).isLt⟩ : Fin n) (⟨(j 1).val, a⟩ : Fin q)) (off _) (Nat.zero_add _)).trans (hx _)
  · rw [if_neg a]
    by_cases b : (j 1).val < q + q
    · rw [if_pos b]
      exact (concatenate_apply_piece (t := Mat n m) 1 [⟨Mat n q, x⟩, ⟨Mat n q, y⟩, ⟨Mat n q, z⟩] w j 1 (by show 1 < 3; omega) (Mat n q) y rfl rfl q
        (Nat.add_zero q) (ix2 (⟨(j 0).val, (j 0).isLt⟩ : Fin n) (⟨(j 1).val - q, by omega⟩ : Fin q)) (off _)
        (Nat.add_sub_cancel' (Nat.le_of_not_lt a))).trans (hy _)
    · rw [if_neg b]
      exact (concatenate_apply_piece (t := Mat n m) 1 [⟨Mat n q, x⟩, ⟨Mat n q, y⟩, ⟨Mat n q, z⟩] w j 2 (by show 2 < 3; omega) (Mat n q) z rfl rfl (q + q)
        (congrArg (q + ·) (Nat.add_zero q)) (ix2 (⟨(j 0).val, (j 0).isLt⟩ : Fin n) (⟨(j 1).val - (q + q), by omega⟩ : Fin q)) (off _)
        (Nat.add_sub_cancel' (Nat.le_of_not_lt b))).trans (hz _)

end

end Cert.Products

namespace Cert.Products.Qkv

open Cert.QkvOfIdeal Cert.QkvOfIdeal.Gen Cert.QkvOfIdeal.Value
open Idealize.ShloMosaic Idealize.ShloMosaic.TcCoe Idealize.SL.Sem Idealize.ShloMosaic.ValueIdx

/-- The number the queries' columns are multiplied by. -/
def scale : EReal := Scalar.ofBits (F := Ideal) .f32 0x3DB504F3#32

/-- Entries of the product, those of the first 2048 columns scaled. -/
def result (f g : ℕ → ℕ → EReal) (r c : ℕ) : EReal :=
  if c < 2048 then (∑ s ∈ Finset.range 2048, f r s * g s c) * scale else ∑ s ∈ Finset.range 2048, f r s * g s c

abbrev tiles {F : FTy → Type} [FloatOps F] (x : Vec F S1024x2048 .bf16) (y : Vec F S2048x1024 .bf16) : FVec F (Mat 1024 1024) .f32 :=
  matmul (DotDims.plain 1024 2048 1024) none x y (constant (Mat 1024 1024) .f32 0x00000000#32)

theorem out_eq {F : FTy → Type} [FloatOps F] (i : grid0.Coords) (x : Vec F S1024x2048 .bf16) (y : Vec F S2048x1024 .bf16) :
    out0_2 i x y = truncf .bf16 (Scalar.select (Scalar.cmpi .slt (BitVec.ofNat 32 (i 1).val) 2#32)
      (mulf (tiles x y) (broadcast (Mat 1024 1024) (Scalar.ofBits .f32 0x3DB504F3#32))) (tiles x y)) bitsLt_bf16_f32 := by
  unfold out0_2
  rw [View.canon_unit_zero at_origin]
  unfold k0_pay1
  simp only [View.ld_unit_zero (S := S1024x2048) at_origin, View.ld_unit_zero (S := S2048x1024) at_origin, shapeCast_self]
  rfl

theorem index_facts : ∀ t : Fin cfg0.N, (win0_0.index t (0 : Fin 2) = t.val / 6 ∧ win0_0.index t (1 : Fin 2) = 0)
    ∧ (win0_1.index t (0 : Fin 2) = 0 ∧ win0_1.index t (1 : Fin 2) = t.val % 6)
    ∧ (win0_2.index t (0 : Fin 2) = t.val / 6 ∧ win0_2.index t (1 : Fin 2) = t.val % 6) :=
  (by decide +kernel : ∀ t : Fin grid0.N, _)

/-- Which blocks are scaled: those of the first two columns of blocks. -/
theorem scaled : ∀ t : Fin cfg0.N, (Scalar.cmpi .slt (BitVec.ofNat 32 (grid0.coords t 1).val) 2#32 = 1) ↔ t.val % 6 < 2 :=
  (by decide +kernel : ∀ t : Fin grid0.N, _)

/-- The array the kernel leaves, its input holding `f` and its weight `g`. -/
theorem holds_kernel (m : (ℓ : Loc nD τ sig) → Buf (Elt Ideal) ℓ) (c : Dev nD) {f g : ℕ → ℕ → EReal}
    (hf : Holds (n := 4096) (m := 2048) (m ((c : Thread nD τ).loc main_arg0)) f)
    (hg : Holds (n := 2048) (m := 6144) (m ((c : Thread nD τ).loc main_arg1)) g) :
    Holds (n := 4096) (m := 6144) ((dats m 0 c).arrAt 2 cfg0.N) (result f g) := by
  have hf' : Holds (n := 4096) (m := 2048) (V m c main_arg0) f := by rw [V_main_arg0]; exact hf
  have hg' : Holds (n := 2048) (m := 6144) (V m c main_arg1) g := by rw [V_main_arg1]; exact hg
  refine assemble_blocks (p := 1024) (q := 1024) (I := 4) (J := 6) (e := fun t y => ((cfg0.win 2).blk t).view.emb y) rfl rfl N_0
    (fun t => (index_facts t).2.2.1) (fun t => (index_facts t).2.2.2) (fun t i => rfl) (fun t i => rfl) fun t j => ?_
  have x : Holds (n := 1024) (m := 2048) (iblk m c 0 t) _ :=
    hf'.tile (e := fun y => ((cfg0.win 0).blk t).view.emb y) (index_facts t).1.1 (index_facts t).1.2 (fun _ => rfl) (fun _ => rfl)
  have y : Holds (n := 2048) (m := 1024) (iblk m c 1 t) _ :=
    hg'.tile (e := fun y => ((cfg0.win 1).blk t).view.emb y) (index_facts t).2.1.1 (index_facts t).2.1.2 (fun _ => rfl) (fun _ => rfl)
  have p := Holds.plain (φ₁ := .bf16) (φ₂ := .bf16) x y
  have l : (j 1).val < 1024 := (j 1).isLt
  refine (congrFun ((blocks2 m c t (flush0_2 t)).trans (flushed2 m c t)) j).trans ?_
  refine (congrFun (out_eq (grid0.coords t) (iblk m c 0 t) (iblk m c 1 t)) j).trans ?_
  show Scalar.select (α := FVec Ideal (Mat 1024 1024) .f32) _ _ _ j = result f g _ _
  unfold result Scalar.select
  by_cases z : t.val % 6 < 2
  · rw [if_pos ((scaled t).2 z), if_pos (by omega)]
    refine ((p.mulf (holds_broadcast _)) j).trans ?_
    simp only [Nat.mul_zero, Nat.zero_add]
    rfl
  · rw [if_neg fun e => z ((scaled t).1 e), if_neg (by omega)]
    refine (p j).trans ?_
    simp only [Nat.mul_zero, Nat.zero_add]

/-- The reference's array: the product's columns scaled where they are the queries', and put together again. -/
theorem holds_reference {x : FVec Ideal (Mat 4096 2048) .f32} {y : FVec Ideal (Mat 2048 6144) .f32} {f g : ℕ → ℕ → EReal}
    (hx : Holds x f) (hy : Holds y g) (s0 : (Mat 4096 6144).Slices ![0, 0] (Mat 4096 2048))
    (s1 : (Mat 4096 6144).Slices ![0, 2048] (Mat 4096 2048)) (s2 : (Mat 4096 6144).Slices ![0, 4096] (Mat 4096 2048))
    (b : (⟨0, ![]⟩ : Shape).BroadcastsInDim (Mat 4096 2048) ![])
    (w : Shape.Concatenates [Mat 4096 2048, Mat 4096 2048, Mat 4096 2048] (Mat 4096 6144) 1) (l : FTy.bits .bf16 < FTy.bits .f32) :
    Holds (truncf .bf16 (concatenate (Mat 4096 6144) 1
      [⟨Mat 4096 2048, mulf (extractStridedSlice (Mat 4096 2048) ![0, 0] (Host.dotGeneral (DotDims.plain 4096 2048 6144) none x y) s0)
          (broadcastInDim (Mat 4096 2048) ![] b (constant (F := Ideal) (⟨0, ![]⟩ : Shape) .f32 0x3DB504F3#32))⟩,
        ⟨Mat 4096 2048, extractStridedSlice (Mat 4096 2048) ![0, 2048] (Host.dotGeneral (DotDims.plain 4096 2048 6144) none x y) s1⟩,
        ⟨Mat 4096 2048, extractStridedSlice (Mat 4096 2048) ![0, 4096] (Host.dotGeneral (DotDims.plain 4096 2048 6144) none x y) s2⟩] w
      : FVec Ideal (Mat 4096 6144) .f32) l) (result f g) :=
  have p := hx.hostPlain hy
  (((p.columns s0).mulf (holds_broadcastInDim _ b)).beside (p.columns s1) (p.columns s2) rfl w).congr fun r _ c _ => by
    unfold result
    by_cases u : c < 2048
    · rw [if_pos u, if_pos u, Nat.zero_add]
      rfl
    · rw [if_neg u, if_neg u]
      by_cases v : c < 2048 + 2048
      · rw [if_pos v, Nat.add_sub_cancel' (Nat.le_of_not_lt u)]
      · rw [if_neg v, Nat.add_sub_cancel' (Nat.le_of_not_lt v : 4096 ≤ c)]

theorem algebraic : Cert.algebraic_QkvOfIdeal_QkvOfReferenceIdeal (hQkvOfIdeal := Cert.QkvOfIdeal.Gen.facts)
    (hQkvOfReferenceIdeal := Cert.QkvOfReferenceIdeal.Gen.facts) := by
  intro m g m' g' _ hargs
  refine ⟨fun c => (dats m 0 c).arrAt 2 cfg0.N, Cert.QkvOfIdeal.Value.run_blocks m g, ?_⟩
  refine (θ_run Cert.QkvOfReferenceIdeal.defs _ _).mono (fun r h c => ?_) (Cert.QkvOfReferenceIdeal.Value.run m' g')
  obtain ⟨h0, k⟩ := h c
  obtain ⟨e0, e1⟩ := hargs c
  rw [e0, e1] at h0
  exact ⟨h0.trans ((holds_reference (holds_entries _) (holds_entries _) _ _ _ _ _ _).eq
    (holds_kernel m c (holds_entries _) (holds_entries _))), k⟩

end Cert.Products.Qkv

end
-- ==== Proof.Products.Mix.lean ====
/- What the two parallel mixers take in: one product per block. -/
module

public import proofs.«01_k».proof.Defs
public import proofs.«01_k».proof.Proof.Products.Blocks
public import proofs.«01_k».proof.Proof.Gen.MixOfIdeal.Value
public import proofs.«01_k».proof.Proof.Gen.MixOfReferenceIdeal.Run

@[expose] public section

set_option maxRecDepth 16384

noncomputable section

namespace Cert.Products.Mix

open Cert.MixOfIdeal Cert.MixOfIdeal.Gen Cert.MixOfIdeal.Value
open Idealize.ShloMosaic Idealize.ShloMosaic.TcCoe Idealize.SL.Sem Idealize.ShloMosaic.ValueIdx

theorem out_eq {F : FTy → Type} [FloatOps F] (x : Vec F S1024x2048 .bf16) (y : Vec F S2048x1024 .bf16) :
    out0_2 x y = matmul (DotDims.plain 1024 2048 1024) none x y (constant (Mat 1024 1024) .f32 0x00000000#32) := by
  unfold out0_2
  rw [View.canon_unit_zero at_origin]
  unfold k0_pay1
  simp only [View.ld_unit_zero (S := S1024x2048) at_origin, View.ld_unit_zero (S := S2048x1024) at_origin, shapeCast_self]
  rfl

theorem index_facts : ∀ t : Fin cfg0.N, (win0_0.index t (0 : Fin 2) = t.val / 5 ∧ win0_0.index t (1 : Fin 2) = 0)
    ∧ (win0_1.index t (0 : Fin 2) = 0 ∧ win0_1.index t (1 : Fin 2) = t.val % 5)
    ∧ (win0_2.index t (0 : Fin 2) = t.val / 5 ∧ win0_2.index t (1 : Fin 2) = t.val % 5) :=
  (by decide +kernel : ∀ t : Fin grid0.N, _)

/-- The array the kernel leaves, its input holding `f` and its weight `g`. -/
theorem holds_kernel (m : (ℓ : Loc nD τ sig) → Buf (Elt Ideal) ℓ) (c : Dev nD) {f g : ℕ → ℕ → EReal}
    (hf : Holds (n := 4096) (m := 2048) (m ((c : Thread nD τ).loc main_arg0)) f)
    (hg : Holds (n := 2048) (m := 5120) (m ((c : Thread nD τ).loc main_arg1)) g) :
    Holds (n := 4096) (m := 5120) ((dats m 0 c).arrAt 2 cfg0.N) fun r k => ∑ s ∈ Finset.range 2048, f r s * g s k := by
  have hf' : Holds (n := 4096) (m := 2048) (V m c main_arg0) f := by rw [V_main_arg0]; exact hf
  have hg' : Holds (n := 2048) (m := 5120) (V m c main_arg1) g := by rw [V_main_arg1]; exact hg
  refine assemble_blocks (p := 1024) (q := 1024) (I := 4) (J := 5) (e := fun t y => ((cfg0.win 2).blk t).view.emb y) rfl rfl N_0
    (fun t => (index_facts t).2.2.1) (fun t => (index_facts t).2.2.2) (fun t i => rfl) (fun t i => rfl) fun t j => ?_
  have x : Holds (n := 1024) (m := 2048) (iblk m c 0 t) _ :=
    hf'.tile (e := fun y => ((cfg0.win 0).blk t).view.emb y) (index_facts t).1.1 (index_facts t).1.2 (fun _ => rfl) (fun _ => rfl)
  have y : Holds (n := 2048) (m := 1024) (iblk m c 1 t) _ :=
    hg'.tile (e := fun y => ((cfg0.win 1).blk t).view.emb y) (index_facts t).2.1.1 (index_facts t).2.1.2 (fun _ => rfl) (fun _ => rfl)
  refine (congrFun ((blocks2 m c t (flush0_2 t)).trans (flushed2 m c t)) j).trans ?_
  refine ((congrFun (out_eq (iblk m c 0 t) (iblk m c 1 t)) j).trans (Holds.plain (φ₁ := .bf16) (φ₂ := .bf16) x y j)).trans ?_
  simp only [Nat.mul_zero, Nat.zero_add]

theorem algebraic : Cert.algebraic_MixOfIdeal_MixOfReferenceIdeal (hMixOfIdeal := Cert.MixOfIdeal.Gen.facts)
    (hMixOfReferenceIdeal := Cert.MixOfReferenceIdeal.Gen.facts) := by
  intro m g m' g' _ hargs
  refine ⟨fun c => (dats m 0 c).arrAt 2 cfg0.N, Cert.MixOfIdeal.Value.run_blocks m g, ?_⟩
  refine (θ_run Cert.MixOfReferenceIdeal.defs _ _).mono (fun r h c => ?_) (Cert.MixOfReferenceIdeal.Value.run m' g')
  obtain ⟨h0, k⟩ := h c
  obtain ⟨e0, e1⟩ := hargs c
  rw [e0, e1] at h0
  exact ⟨h0.trans ((Holds.hostPlain (φ₁ := .f32) (φ₂ := .f32) (holds_entries _) (holds_entries _)).eq
    (holds_kernel m c (holds_entries _) (holds_entries _))), k⟩

end Cert.Products.Mix

end
-- ==== Proof.Products.Out.lean ====
/- What the output projections give: one product per block. -/
module

public import proofs.«01_k».proof.Defs
public import proofs.«01_k».proof.Proof.Products.Blocks
public import proofs.«01_k».proof.Proof.Gen.OutOfIdeal.Value
public import proofs.«01_k».proof.Proof.Gen.OutOfReferenceIdeal.Run

@[expose] public section

set_option maxRecDepth 16384

noncomputable section

namespace Cert.Products.Out

open Cert.OutOfIdeal Cert.OutOfIdeal.Gen Cert.OutOfIdeal.Value
open Idealize.ShloMosaic Idealize.ShloMosaic.TcCoe Idealize.SL.Sem Idealize.ShloMosaic.ValueIdx

theorem out_eq {F : FTy → Type} [FloatOps F] (x : Vec F S1024x2048 .bf16) (y : Vec F S2048x1024 .bf16) :
    out0_2 x y = matmul (DotDims.plain 1024 2048 1024) none x y (constant (Mat 1024 1024) .f32 0x00000000#32) := by
  unfold out0_2
  rw [View.canon_unit_zero at_origin]
  unfold k0_pay1
  simp only [View.ld_unit_zero (S := S1024x2048) at_origin, View.ld_unit_zero (S := S2048x1024) at_origin, shapeCast_self]
  rfl

theorem index_facts : ∀ t : Fin cfg0.N, (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

/-- The array the kernel leaves, its input holding `f` and its weight `g`. -/
theorem holds_kernel (m : (ℓ : Loc nD τ sig) → Buf (Elt Ideal) ℓ) (c : Dev nD) {f g : ℕ → ℕ → EReal}
    (hf : Holds (n := 4096) (m := 2048) (m ((c : Thread nD τ).loc main_arg0)) f)
    (hg : Holds (n := 2048) (m := 2048) (m ((c : Thread nD τ).loc main_arg1)) g) :
    Holds (n := 4096) (m := 2048) ((dats m 0 c).arrAt 2 cfg0.N) fun r k => ∑ s ∈ Finset.range 2048, f r s * g s k := by
  have hf' : Holds (n := 4096) (m := 2048) (V m c main_arg0) f := by rw [V_main_arg0]; exact hf
  have hg' : Holds (n := 2048) (m := 2048) (V m c main_arg1) g := by rw [V_main_arg1]; exact hg
  refine assemble_blocks (p := 1024) (q := 1024) (I := 4) (J := 2) (e := fun t y => ((cfg0.win 2).blk t).view.emb y) rfl rfl N_0
    (fun t => (index_facts t).2.2.1) (fun t => (index_facts t).2.2.2) (fun t i => rfl) (fun t i => rfl) fun t j => ?_
  have x : Holds (n := 1024) (m := 2048) (iblk m c 0 t) _ :=
    hf'.tile (e := fun y => ((cfg0.win 0).blk t).view.emb y) (index_facts t).1.1 (index_facts t).1.2 (fun _ => rfl) (fun _ => rfl)
  have y : Holds (n := 2048) (m := 1024) (iblk m c 1 t) _ :=
    hg'.tile (e := fun y => ((cfg0.win 1).blk t).view.emb y) (index_facts t).2.1.1 (index_facts t).2.1.2 (fun _ => rfl) (fun _ => rfl)
  refine (congrFun ((blocks2 m c t (flush0_2 t)).trans (flushed2 m c t)) j).trans ?_
  refine ((congrFun (out_eq (iblk m c 0 t) (iblk m c 1 t)) j).trans (Holds.plain (φ₁ := .bf16) (φ₂ := .bf16) x y j)).trans ?_
  simp only [Nat.mul_zero, Nat.zero_add]

theorem algebraic : Cert.algebraic_OutOfIdeal_OutOfReferenceIdeal (hOutOfIdeal := Cert.OutOfIdeal.Gen.facts)
    (hOutOfReferenceIdeal := Cert.OutOfReferenceIdeal.Gen.facts) := by
  intro m g m' g' _ hargs
  refine ⟨fun c => (dats m 0 c).arrAt 2 cfg0.N, Cert.OutOfIdeal.Value.run_blocks m g, ?_⟩
  refine (θ_run Cert.OutOfReferenceIdeal.defs _ _).mono (fun r h c => ?_) (Cert.OutOfReferenceIdeal.Value.run m' g')
  obtain ⟨h0, k⟩ := h c
  obtain ⟨e0, e1⟩ := hargs c
  rw [e0, e1] at h0
  exact ⟨h0.trans ((Holds.hostPlain (φ₁ := .f32) (φ₂ := .f32) (holds_entries _) (holds_entries _)).eq
    (holds_kernel m c (holds_entries _) (holds_entries _))), k⟩

end Cert.Products.Out

end
-- ==== Proof.Products.RowNorm.lean ====
/- A matrix whose rows are divided by the root of their mean square and multiplied by a gain: the vector operations that a
   kernel takes for it and the host's hold the same entries. -/
module

public import proofs.«01_k».proof.Proof.Products.Blocks
public import Idealize.ShloMosaic.Lib.IdealHost
public import Idealize.ShloMosaic.Lib.Pointwise.Reduce

@[expose] public section

noncomputable section

namespace Cert.Products

open Idealize.ShloMosaic Idealize.ShloMosaic.ValueIdx
open scoped BigOperators

/-- What a row is multiplied by: the reciprocal root of its mean square over `m` columns, the number `a` of columns and the
    number `e` that is added to the mean given by their bits. -/
abbrev scaling (m : ℕ) (a e : BitVec 32) (f : ℕ → ℕ → EReal) (r : ℕ) : EReal :=
  Ideal.rsqrt (Ideal.div (∑ k ∈ Finset.range m, f r k * f r k) (Scalar.ofBits (F := Ideal) .f32 a) + Scalar.ofBits (F := Ideal) .f32 e)

/-- The matrix of `f` with its rows scaled and its columns multiplied by the gain `g`. -/
abbrev normed (m : ℕ) (a e : BitVec 32) (f g : ℕ → ℕ → EReal) (r c : ℕ) : EReal := f r c * scaling m a e f r * g 0 c

variable {n m : ℕ} {f g : ℕ → ℕ → EReal}

/-- A matrix of `n` entries in a row. -/
abbrev Row (n : ℕ) : Shape := ⟨1, ![n]⟩

/-! ### The kernel's operations -/

theorem holds_sums {x : FVec Ideal (Mat n m) .f32} (hx : Holds x f) (h : (Mat n m).Reduces [1] (Row n)) (s : (Row n).ShapeCasts (Mat n 1)) :
    Holds (shapeCast (Mat n 1) (multiReduction .add [1] (Row n) x 0x00000000#32 h (.inl rfl) rfl) s)
      fun r _ => ∑ k ∈ Finset.range m, f r k := fun y => by
  have l : (y 1).val < 1 := (y 1).isLt
  refine (shapeCast_apply _ s y (ValueIdx.ix1 (⟨(y 0).val, (y 0).isLt⟩ : Fin n)) (by
    rw [Shape.rowMajor_val_one, Shape.rowMajor_val_two]
    show (y 0).val = (y 0).val * 1 + (y 1).val
    omega)).trans ?_
  refine (Ideal.reduceAdd_r2_a1 h x _).trans ?_
  exact (Finset.sum_congr rfl fun k _ => hx _).trans (sum_fin m fun k => f (y 0).val k)

theorem holds_columns {x : FVec Ideal (Mat n 1) .f32} (hx : Holds x f) (h : (Mat n 1).Broadcasts (Mat n m)) :
    Holds (broadcastTo (Mat n m) x h) fun r _ => f r 0 := fun y => by
  have l : (y 0).val < n := (y 0).isLt
  refine (broadcastTo_apply x h y (ValueIdx.ix2 (⟨(y 0).val, l⟩ : Fin n) (0 : Fin 1)) fun a => ?_).trans (hx _)
  match a with
  | ⟨0, _⟩ => show (y 0).val = if n = 1 then 0 else (y 0).val; split <;> omega
  | ⟨1, _⟩ => show 0 = if (1 : ℕ) = 1 then 0 else (y 1).val; rw [if_pos rfl]

theorem holds_rows {x : FVec Ideal (Mat 1 m) .f32} (hx : Holds x f) (h : (Mat 1 m).Broadcasts (Mat n m)) :
    Holds (broadcastTo (Mat n m) x h) fun _ c => f 0 c := fun y => by
  have l : (y 1).val < m := (y 1).isLt
  refine (broadcastTo_apply x h y (ValueIdx.ix2 (0 : Fin 1) (⟨(y 1).val, l⟩ : Fin m)) fun a => ?_).trans (hx _)
  match a with
  | ⟨0, _⟩ => show 0 = if (1 : ℕ) = 1 then 0 else (y 0).val; rw [if_pos rfl]
  | ⟨1, _⟩ => show (y 1).val = if m = 1 then 0 else (y 1).val; split <;> omega

/-- A block's rows scaled and multiplied by the gain. -/
abbrev normedBlock {F : FTy → Type} [FloatOps F] (a e : BitVec 32) (h : (Mat n m).Reduces [1] (Row n)) (s : (Row n).ShapeCasts (Mat n 1))
    (b : (Mat n 1).Broadcasts (Mat n m)) (b' : (Mat 1 m).Broadcasts (Mat n m)) (x : FVec F (Mat n m) .f32) (y : FVec F (Mat 1 m) .f32) :
    FVec F (Mat n m) .f32 :=
  mulf (mulf x (broadcastTo (Mat n m) (rsqrt (addf (divf
    (shapeCast (Mat n 1) (multiReduction .add [1] (Row n) (mulf x x) 0x00000000#32 h (.inl rfl) rfl) s)
    (broadcast (Mat n 1) (Scalar.ofBits .f32 a))) (broadcast (Mat n 1) (Scalar.ofBits .f32 e)))) b)) (broadcastTo (Mat n m) y b')

theorem holds_normedBlock (a e : BitVec 32) (h : (Mat n m).Reduces [1] (Row n)) (s : (Row n).ShapeCasts (Mat n 1))
    (b : (Mat n 1).Broadcasts (Mat n m)) (b' : (Mat 1 m).Broadcasts (Mat n m)) {x : FVec Ideal (Mat n m) .f32}
    {y : FVec Ideal (Mat 1 m) .f32} (hx : Holds x f) (hy : Holds y g) : Holds (normedBlock a e h s b b' x y) (normed m a e f g) := by
  have w : Holds (rsqrt (addf (divf
      (shapeCast (Mat n 1) (multiReduction .add [1] (Row n) (mulf x x) 0x00000000#32 h (.inl rfl) rfl) s)
      (broadcast (Mat n 1) (Scalar.ofBits (F := Ideal) .f32 a))) (broadcast (Mat n 1) (Scalar.ofBits (F := Ideal) .f32 e))))
      fun r _ => scaling m a e f r := fun i =>
    congrArg (fun z => Ideal.rsqrt (Ideal.div z (Scalar.ofBits (F := Ideal) .f32 a) + Scalar.ofBits (F := Ideal) .f32 e))
      (holds_sums (hx.mulf hx) h s i)
  exact (hx.mulf (holds_columns w b)).mulf (holds_rows hy b')

/-! ### The host's operations -/

theorem holds_hostSums {x : FVec Ideal (Mat n m) .f32} (hx : Holds x f) (h : (Mat n m).ReducesTo [1] (Row n))
    (u : 0 < (⟨0, ![]⟩ : Shape).numel) (s : (Row n).BroadcastsInDim (Mat n 1) ![0]) :
    Holds (broadcastInDim (Mat n 1) ![0] s (Host.reduceAdd x (constant (F := Ideal) (⟨0, ![]⟩ : Shape) .f32 0x00000000#32) h u))
      fun r _ => ∑ k ∈ Finset.range m, f r k := fun y => by
  have l : (y 0).val < n := (y 0).isLt
  refine (broadcastInDim_apply _ s _ y (ValueIdx.ix1 (⟨(y 0).val, l⟩ : Fin n)) (fun a => by
    match a with
    | ⟨0, _⟩ => show (y 0).val = if n = 1 then 0 else (y 0).val; split <;> omega)).trans ?_
  refine (hostReduceAdd_apply x _ h u _).trans ((Ideal.hostReduceAdd_r2_a1 h x _ _).trans ?_)
  have z : constant (F := Ideal) (⟨0, ![]⟩ : Shape) .f32 0x00000000#32 (Shape.Idx.first u) = (0 : EReal) := Ideal.ofBits_zero_f32
  rw [z, zero_add]
  exact (Finset.sum_congr rfl fun k _ => hx _).trans (sum_fin m fun k => f (y 0).val k)

theorem holds_hostColumns {x : FVec Ideal (Mat n 1) .f32} (hx : Holds x f) (h : (Mat n 1).BroadcastsInDim (Mat n m) ![0, 1]) :
    Holds (broadcastInDim (Mat n m) ![0, 1] h x) fun r _ => f r 0 := fun y => by
  have l : (y 0).val < n := (y 0).isLt
  refine (broadcastInDim_apply _ h x y (ValueIdx.ix2 (⟨(y 0).val, l⟩ : Fin n) (0 : Fin 1)) fun a => ?_).trans (hx _)
  match a with
  | ⟨0, _⟩ => show (y 0).val = if n = 1 then 0 else (y 0).val; split <;> omega
  | ⟨1, _⟩ => show 0 = if (1 : ℕ) = 1 then 0 else (y 1).val; rw [if_pos rfl]

theorem holds_hostRows {x : FVec Ideal (Mat 1 m) .f32} (hx : Holds x f) (s : (Mat 1 m).ShapeCasts (Row m))
    (h : (Row m).BroadcastsInDim (Mat 1 m) ![1]) (h' : (Mat 1 m).BroadcastsInDim (Mat n m) ![0, 1]) :
    Holds (broadcastInDim (Mat n m) ![0, 1] h' (broadcastInDim (Mat 1 m) ![1] h (shapeCast (Row m) x s))) fun _ c => f 0 c := fun y => by
  have l : (y 1).val < m := (y 1).isLt
  refine (broadcastInDim_apply _ h' _ y (ValueIdx.ix2 (0 : Fin 1) (⟨(y 1).val, l⟩ : Fin m)) (fun a => by
    match a with
    | ⟨0, _⟩ => show 0 = if (1 : ℕ) = 1 then 0 else (y 0).val; rw [if_pos rfl]
    | ⟨1, _⟩ => show (y 1).val = if m = 1 then 0 else (y 1).val; split <;> omega)).trans ?_
  refine (broadcastInDim_apply _ h _ _ (ValueIdx.ix1 (⟨(y 1).val, l⟩ : Fin m)) (fun a => by
    match a with
    | ⟨0, _⟩ => show (y 1).val = if m = 1 then 0 else (y 1).val; split <;> omega)).trans ?_
  refine (shapeCast_apply x s _ (ValueIdx.ix2 (0 : Fin 1) (⟨(y 1).val, l⟩ : Fin m)) (by
    rw [Shape.rowMajor_val_one, Shape.rowMajor_val_two]
    show 0 * m + (y 1).val = (y 1).val
    omega)).trans (hx _)

/-- The same rows on the host. -/
abbrev normedHost {F : FTy → Type} [FloatOps F] (a e : BitVec 32) (h : (Mat n m).ReducesTo [1] (Row n)) (u : 0 < (⟨0, ![]⟩ : Shape).numel)
    (s : (Row n).BroadcastsInDim (Mat n 1) ![0]) (o : (⟨0, ![]⟩ : Shape).BroadcastsInDim (Mat n 1) ![])
    (b : (Mat n 1).BroadcastsInDim (Mat n m) ![0, 1]) (t : (Mat 1 m).ShapeCasts (Row m)) (d : (Row m).BroadcastsInDim (Mat 1 m) ![1])
    (b' : (Mat 1 m).BroadcastsInDim (Mat n m) ![0, 1]) (x : FVec F (Mat n m) .f32) (y : FVec F (Mat 1 m) .f32) : FVec F (Mat n m) .f32 :=
  mulf (mulf x (broadcastInDim (Mat n m) ![0, 1] b (Host.rsqrt (addf (Host.divf
    (broadcastInDim (Mat n 1) ![0] s (Host.reduceAdd (mulf x x) (constant (⟨0, ![]⟩ : Shape) .f32 0x00000000#32) h u))
    (broadcastInDim (Mat n 1) ![] o (constant (⟨0, ![]⟩ : Shape) .f32 a))) (broadcastInDim (Mat n 1) ![] o (constant (⟨0, ![]⟩ : Shape) .f32 e))))))
    (broadcastInDim (Mat n m) ![0, 1] b' (broadcastInDim (Mat 1 m) ![1] d (shapeCast (Row m) y t)))

theorem holds_normedHost (a e : BitVec 32) (h : (Mat n m).ReducesTo [1] (Row n)) (u : 0 < (⟨0, ![]⟩ : Shape).numel)
    (s : (Row n).BroadcastsInDim (Mat n 1) ![0]) (o : (⟨0, ![]⟩ : Shape).BroadcastsInDim (Mat n 1) ![])
    (b : (Mat n 1).BroadcastsInDim (Mat n m) ![0, 1]) (t : (Mat 1 m).ShapeCasts (Row m)) (d : (Row m).BroadcastsInDim (Mat 1 m) ![1])
    (b' : (Mat 1 m).BroadcastsInDim (Mat n m) ![0, 1]) {x : FVec Ideal (Mat n m) .f32} {y : FVec Ideal (Mat 1 m) .f32}
    (hx : Holds x f) (hy : Holds y g) : Holds (normedHost a e h u s o b t d b' x y) (normed m a e f g) := by
  have w : Holds (Host.rsqrt (addf (Host.divf
      (broadcastInDim (Mat n 1) ![0] s (Host.reduceAdd (mulf x x) (constant (F := Ideal) (⟨0, ![]⟩ : Shape) .f32 0x00000000#32) h u))
      (broadcastInDim (Mat n 1) ![] o (constant (F := Ideal) (⟨0, ![]⟩ : Shape) .f32 a)))
      (broadcastInDim (Mat n 1) ![] o (constant (F := Ideal) (⟨0, ![]⟩ : Shape) .f32 e))))
      fun r _ => scaling m a e f r := fun i =>
    congrArg (fun z => Ideal.rsqrt (Ideal.div z (Scalar.ofBits (F := Ideal) .f32 a) + Scalar.ofBits (F := Ideal) .f32 e))
      (holds_hostSums (hx.mulf hx) h u s i)
  exact (hx.mulf (holds_hostColumns w b)).mulf (holds_hostRows hy t d b')

/-- The gain's only row, as a block of itself. -/
theorem Holds.whole {z : (Mat 1 m).Idx → EReal} (hz : Holds z f) {e : (Mat 1 m).Idx → (Mat 1 m).Idx} {A B : ℕ}
    (hA : A = 0) (hB : B = 0) (h0 : ∀ i, (e i 0).val = A * 1 + 1 * (i 0).val) (h1 : ∀ i, (e i 1).val = B * m + 1 * (i 1).val) :
    Holds (fun i => z (e i)) f :=
  (hz.tile (e := e) hA hB h0 h1).congr fun r _ c _ => by simp only [Nat.mul_zero, Nat.zero_add]

end Cert.Products

end
-- ==== Proof.Products.Norm.lean ====
/- The norm before a layer: each block's rows are divided by the root of their mean square and multiplied by the gain. -/
module

public import proofs.«01_k».proof.Defs
public import proofs.«01_k».proof.Proof.Products.RowNorm
public import proofs.«01_k».proof.Proof.Gen.NormOfIdeal.Value
public import proofs.«01_k».proof.Proof.Gen.NormOfReferenceIdeal.Run

@[expose] public section

set_option maxRecDepth 16384

noncomputable section

namespace Cert.Products.Norm

open Cert.NormOfIdeal Cert.NormOfIdeal.Gen Cert.NormOfIdeal.Value
open Idealize.ShloMosaic Idealize.ShloMosaic.TcCoe Idealize.SL.Sem Idealize.ShloMosaic.ValueIdx

theorem out_eq {F : FTy → Type} [FloatOps F] (x : Vec F S512x2048 .f32) (y : Vec F S1x2048 .f32) :
    out0_2 x y = truncf .bf16 (normedBlock (n := 512) (m := 2048) 0x45000000#32 0x358637BD#32 reduces_S512x2048_S512 shapeCasts_S512_S512x1
      broadcasts_S512x1_S512x2048 broadcasts_S1x2048_S512x2048 x y) bitsLt_bf16_f32 := by
  unfold out0_2
  rw [View.canon_unit_zero at_origin]
  unfold k0_pay1
  simp only [View.ld_unit_zero (S := S512x2048) at_origin, View.ld_unit_zero (S := S1x2048) at_origin]

theorem index_facts : ∀ t : Fin cfg0.N, (win0_0.index t (0 : Fin 2) = t.val / 1 ∧ win0_0.index t (1 : Fin 2) = t.val % 1)
    ∧ (win0_1.index t (0 : Fin 2) = 0 ∧ win0_1.index t (1 : Fin 2) = 0)
    ∧ (win0_2.index t (0 : Fin 2) = t.val / 1 ∧ win0_2.index t (1 : Fin 2) = t.val % 1) :=
  (by decide +kernel : ∀ t : Fin grid0.N, _)

/-- The array the kernel leaves, its input holding `f` and its gain `g`. -/
theorem holds_kernel (m : (ℓ : Loc nD τ sig) → Buf (Elt Ideal) ℓ) (c : Dev nD) {f g : ℕ → ℕ → EReal}
    (hf : Holds (n := 4096) (m := 2048) (m ((c : Thread nD τ).loc main_arg0)) f)
    (hg : Holds (n := 1) (m := 2048) (m ((c : Thread nD τ).loc main_arg1)) g) :
    Holds (n := 4096) (m := 2048) ((dats m 0 c).arrAt 2 cfg0.N) (normed 2048 0x45000000#32 0x358637BD#32 f g) := by
  have hf' : Holds (n := 4096) (m := 2048) (V m c main_arg0) f := by rw [V_main_arg0]; exact hf
  have hg' : Holds (n := 1) (m := 2048) (V m c main_arg1) g := by rw [V_main_arg1]; exact hg
  refine assemble_blocks (p := 512) (q := 2048) (I := 8) (J := 1) (e := fun t y => ((cfg0.win 2).blk t).view.emb y) rfl rfl N_0
    (fun t => (index_facts t).2.2.1) (fun t => (index_facts t).2.2.2) (fun t i => rfl) (fun t i => rfl) fun t j => ?_
  have x : Holds (n := 512) (m := 2048) (iblk m c 0 t) _ :=
    hf'.tile (e := fun y => ((cfg0.win 0).blk t).view.emb y) (index_facts t).1.1 (index_facts t).1.2 (fun _ => rfl) (fun _ => rfl)
  have y : Holds (n := 1) (m := 2048) (iblk m c 1 t) g :=
    hg'.whole (e := fun y => ((cfg0.win 1).blk t).view.emb y) (index_facts t).2.1.1 (index_facts t).2.1.2 (fun _ => rfl) (fun _ => rfl)
  refine (congrFun ((blocks2 m c t (flush0_2 t)).trans (flushed2 m c t)) j).trans ?_
  refine ((congrFun (out_eq (iblk m c 0 t) (iblk m c 1 t)) j).trans ((holds_normedBlock _ _ _ _ _ _ x y).truncf bitsLt_bf16_f32 j)).trans ?_
  simp only [normed, scaling, Nat.mod_one, Nat.mul_zero, Nat.zero_add]

theorem algebraic : Cert.algebraic_NormOfIdeal_NormOfReferenceIdeal (hNormOfIdeal := Cert.NormOfIdeal.Gen.facts)
    (hNormOfReferenceIdeal := Cert.NormOfReferenceIdeal.Gen.facts) := by
  intro m g m' g' _ hargs
  refine ⟨fun c => (dats m 0 c).arrAt 2 cfg0.N, Cert.NormOfIdeal.Value.run_blocks m g, ?_⟩
  refine (θ_run Cert.NormOfReferenceIdeal.defs _ _).mono (fun r h c => ?_) (Cert.NormOfReferenceIdeal.Value.run m' g')
  obtain ⟨h0, k⟩ := h c
  obtain ⟨e0, e1⟩ := hargs c
  rw [e0, e1] at h0
  exact ⟨h0.trans (((holds_normedHost (n := 4096) (m := 2048) _ _ _ _ _ _ _ _ _ _ (holds_entries _) (holds_entries _)).truncf
    bitsLt_bf16_f32).eq (holds_kernel m c (holds_entries _) (holds_entries _))), k⟩

end Cert.Products.Norm

end
-- ==== Proof.Products.NormPair.lean ====
/- The norm after a layer, added to the layer's input, and the norm before the next layer, in one call of two results. -/
module

public import proofs.«01_k».proof.Defs
public import proofs.«01_k».proof.Proof.Products.RowNorm
public import proofs.«01_k».proof.Proof.Gen.NormsOfIdeal.Value
public import proofs.«01_k».proof.Proof.Gen.NormsOfReferenceIdeal.Run

@[expose] public section

set_option maxRecDepth 16384

noncomputable section

namespace Cert.Products.NormPair

open Cert.NormsOfIdeal Cert.NormsOfIdeal.Gen Cert.NormsOfIdeal.Value
open Idealize.ShloMosaic Idealize.ShloMosaic.TcCoe Idealize.SL.Sem Idealize.ShloMosaic.ValueIdx

/-! ### What a point writes back -/

section

variable {F : FTy → Type} [FloatOps F] (x y : Vec F S512x2048 .f32) (u v : Vec F S1x2048 .f32)

/-- A block's normed rows. -/
abbrev rows (x : FVec F (Mat 512 2048) .f32) (u : FVec F (Mat 1 2048) .f32) : FVec F (Mat 512 2048) .f32 :=
  normedBlock (n := 512) (m := 2048) 0x45000000#32 0x358637BD#32 reduces_S512x2048_S512 shapeCasts_S512_S512x1
    broadcasts_S512x1_S512x2048 broadcasts_S1x2048_S512x2048 x u

theorem sum_eq : out0_4 x y u v = addf (F := F) (s := S512x2048) (φ := .f32) x (rows y u) := by
  unfold out0_4
  rw [View.canon_unit_zero at_origin]
  unfold k0_pay1
  simp only [View.ld_unit_zero (S := S512x2048) at_origin, View.ld_unit_zero (S := S1x2048) at_origin]

theorem next_eq : out0_5 x y u v = truncf .bf16 (rows (addf (F := F) (s := S512x2048) (φ := .f32) x (rows y u)) v) bitsLt_bf16_f32 := by
  unfold out0_5
  rw [View.canon_unit_zero at_origin]
  unfold k0_pay2 k0_pay1
  simp only [View.ld_unit_zero (S := S512x2048) at_origin, View.ld_unit_zero (S := S1x2048) at_origin]

end

theorem index_facts : ∀ t : Fin cfg0.N, (win0_0.index t (0 : Fin 2) = t.val / 1 ∧ win0_0.index t (1 : Fin 2) = t.val % 1)
    ∧ (win0_1.index t (0 : Fin 2) = t.val / 1 ∧ win0_1.index t (1 : Fin 2) = t.val % 1)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val / 1 ∧ win0_4.index t (1 : Fin 2) = t.val % 1)
    ∧ (win0_5.index t (0 : Fin 2) = t.val / 1 ∧ win0_5.index t (1 : Fin 2) = t.val % 1) :=
  (by decide +kernel : ∀ t : Fin grid0.N, _)

/-! ### The two arrays -/

/-- The layer's input plus its normed output, -/
abbrev added (f g p : ℕ → ℕ → EReal) (r c : ℕ) : EReal := f r c + normed 2048 0x45000000#32 0x358637BD#32 g p r c

/-- and its norm in turn. -/
abbrev next (f g p q : ℕ → ℕ → EReal) : ℕ → ℕ → EReal := normed 2048 0x45000000#32 0x358637BD#32 (added f g p) q

section

variable {m : (ℓ : Loc nD τ sig) → Buf (Elt Ideal) ℓ} {c : Dev nD} {f g p q : ℕ → ℕ → EReal}

theorem block (hf : Holds (n := 4096) (m := 2048) (m ((c : Thread nD τ).loc main_arg0)) f) (t : Fin cfg0.N) :
    Holds (n := 512) (m := 2048) (iblk m c 0 t) fun r k => f (512 * (t.val / 1) + r) (2048 * (t.val % 1) + k) := by
  have h : Holds (n := 4096) (m := 2048) (V m c main_arg0) f := by rw [V_main_arg0]; exact hf
  exact h.tile (e := fun y => ((cfg0.win 0).blk t).view.emb y) (index_facts t).1.1 (index_facts t).1.2 (fun _ => rfl) (fun _ => rfl)

theorem block' (hg : Holds (n := 4096) (m := 2048) (m ((c : Thread nD τ).loc main_arg1)) g) (t : Fin cfg0.N) :
    Holds (n := 512) (m := 2048) (iblk m c 1 t) fun r k => g (512 * (t.val / 1) + r) (2048 * (t.val % 1) + k) := by
  have h : Holds (n := 4096) (m := 2048) (V m c main_arg1) g := by rw [V_main_arg1]; exact hg
  exact h.tile (e := fun y => ((cfg0.win 1).blk t).view.emb y) (index_facts t).2.1.1 (index_facts t).2.1.2 (fun _ => rfl) (fun _ => rfl)

theorem gain (hp : Holds (n := 1) (m := 2048) (m ((c : Thread nD τ).loc main_arg2)) p) (t : Fin cfg0.N) :
    Holds (n := 1) (m := 2048) (iblk m c 2 t) p := by
  have h : Holds (n := 1) (m := 2048) (V m c main_arg2) p := by rw [V_main_arg2]; exact hp
  exact h.whole (e := fun y => ((cfg0.win 2).blk t).view.emb y) (index_facts t).2.2.1.1 (index_facts t).2.2.1.2 (fun _ => rfl) (fun _ => rfl)

theorem gain' (hq : Holds (n := 1) (m := 2048) (m ((c : Thread nD τ).loc main_arg3)) q) (t : Fin cfg0.N) :
    Holds (n := 1) (m := 2048) (iblk m c 3 t) q := by
  have h : Holds (n := 1) (m := 2048) (V m c main_arg3) q := by rw [V_main_arg3]; exact hq
  exact h.whole (e := fun y => ((cfg0.win 3).blk t).view.emb y) (index_facts t).2.2.2.1.1 (index_facts t).2.2.2.1.2 (fun _ => rfl) (fun _ => rfl)

theorem holds_sum (hf : Holds (n := 4096) (m := 2048) (m ((c : Thread nD τ).loc main_arg0)) f)
    (hg : Holds (n := 4096) (m := 2048) (m ((c : Thread nD τ).loc main_arg1)) g)
    (hp : Holds (n := 1) (m := 2048) (m ((c : Thread nD τ).loc main_arg2)) p) :
    Holds (n := 4096) (m := 2048) ((dats m 0 c).arrAt 4 cfg0.N) (added f g p) := by
  refine assemble_blocks (p := 512) (q := 2048) (I := 8) (J := 1) (e := fun t y => ((cfg0.win 4).blk t).view.emb y) rfl rfl N_0
    (fun t => (index_facts t).2.2.2.2.1.1) (fun t => (index_facts t).2.2.2.2.1.2) (fun _ _ => rfl) (fun _ _ => rfl) fun t j => ?_
  refine (congrFun ((blocks4 m c t (flush0_4 t)).trans (flushed4 m c t)) j).trans ?_
  refine ((congrFun (sum_eq (iblk m c 0 t) (iblk m c 1 t) (iblk m c 2 t) (iblk m c 3 t)) j).trans
    (((block hf t).addf (holds_normedBlock _ _ _ _ _ _ (block' hg t) (gain hp t))) j)).trans ?_
  simp only [added, normed, scaling, Nat.mod_one, Nat.mul_zero, Nat.zero_add]

theorem holds_next (hf : Holds (n := 4096) (m := 2048) (m ((c : Thread nD τ).loc main_arg0)) f)
    (hg : Holds (n := 4096) (m := 2048) (m ((c : Thread nD τ).loc main_arg1)) g)
    (hp : Holds (n := 1) (m := 2048) (m ((c : Thread nD τ).loc main_arg2)) p)
    (hq : Holds (n := 1) (m := 2048) (m ((c : Thread nD τ).loc main_arg3)) q) :
    Holds (n := 4096) (m := 2048) ((dats m 0 c).arrAt 5 cfg0.N) (next f g p q) := by
  refine assemble_blocks (p := 512) (q := 2048) (I := 8) (J := 1) (e := fun t y => ((cfg0.win 5).blk t).view.emb y) rfl rfl N_0
    (fun t => (index_facts t).2.2.2.2.2.1) (fun t => (index_facts t).2.2.2.2.2.2) (fun _ _ => rfl) (fun _ _ => rfl) fun t j => ?_
  refine (congrFun ((blocks5 m c t (flush0_5 t)).trans (flushed5 m c t)) j).trans ?_
  refine ((congrFun (next_eq (iblk m c 0 t) (iblk m c 1 t) (iblk m c 2 t) (iblk m c 3 t)) j).trans
    ((holds_normedBlock _ _ _ _ _ _ ((block hf t).addf (holds_normedBlock _ _ _ _ _ _ (block' hg t) (gain hp t))) (gain' hq t)).truncf
      bitsLt_bf16_f32 j)).trans ?_
  simp only [next, added, normed, scaling, Nat.mod_one, Nat.mul_zero, Nat.zero_add]

end

theorem algebraic : Cert.algebraic_NormsOfIdeal_NormsOfReferenceIdeal (hNormsOfIdeal := Cert.NormsOfIdeal.Gen.facts)
    (hNormsOfReferenceIdeal := Cert.NormsOfReferenceIdeal.Gen.facts) := by
  intro m g m' g' _ hargs
  refine ⟨fun c => (dats m 0 c).arrAt 4 cfg0.N, fun c => (dats m 0 c).arrAt 5 cfg0.N, Cert.NormsOfIdeal.Value.run_blocks m g, ?_⟩
  refine (θ_run Cert.NormsOfReferenceIdeal.defs _ _).mono (fun r h c => ?_) (Cert.NormsOfReferenceIdeal.Value.run m' g')
  obtain ⟨h0, h1, k⟩ := h c
  obtain ⟨e0, e1, e2, e3⟩ := hargs c
  rw [e0, e1, e2] at h0
  rw [e0, e1, e2, e3] at h1
  have s := (holds_entries (n := 4096) (m := 2048) (m ((c : Thread nD τ).loc main_arg0))).addf (φ := .f32)
    (holds_normedHost (n := 4096) (m := 2048) 0x45000000#32 0x358637BD#32 Cert.NormsOfReferenceIdeal.Gen.facts.reducesTo_S4096x2048_S4096_d1
      Cert.NormsOfReferenceIdeal.Gen.facts.h_S_ Cert.NormsOfReferenceIdeal.Gen.facts.bcast_S4096_S4096x1_0
      Cert.NormsOfReferenceIdeal.Gen.facts.bcast_S_S4096x1 Cert.NormsOfReferenceIdeal.Gen.facts.bcast_S4096x1_S4096x2048_0_1
      Cert.NormsOfReferenceIdeal.Gen.facts.shapeCasts_S1x2048_S2048 Cert.NormsOfReferenceIdeal.Gen.facts.bcast_S2048_S1x2048_1
      Cert.NormsOfReferenceIdeal.Gen.facts.bcast_S1x2048_S4096x2048_0_1
      (holds_entries (m ((c : Thread nD τ).loc main_arg1))) (holds_entries (m ((c : Thread nD τ).loc main_arg2))))
  exact ⟨h0.trans (s.eq (holds_sum (holds_entries _) (holds_entries _) (holds_entries _))),
    h1.trans (((holds_normedHost (n := 4096) (m := 2048) _ _ _ _ _ _ _ _ _ _ s (holds_entries _)).truncf bitsLt_bf16_f32).eq
      (holds_next (holds_entries _) (holds_entries _) (holds_entries _) (holds_entries _))), k⟩

end Cert.Products.NormPair

end
-- ==== Proof.lean ====
/- The proof of the claims: the frames of the programs (Proof/Frames.lean, Proof/Products/Frames.lean); that the gradient of
   the stick-breaking attention is, over the extended reals and on finite arguments, that of the attention written plainly
   (Proof/Algebraic.lean); and that the products of the backward and of the forward pass and the forward pass's norms are,
   over the extended reals, those of the layers written plainly and of their gradients (Proof/Products/). -/
module

public import proofs.«01_k».proof.Proof.Frames
public import proofs.«01_k».proof.Proof.Algebraic
public import proofs.«01_k».proof.Proof.Products.Frames
public import proofs.«01_k».proof.Proof.Products.Hidden
public import proofs.«01_k».proof.Proof.Products.Input
public import proofs.«01_k».proof.Proof.Products.InWeight
public import proofs.«01_k».proof.Proof.Products.OutWeight
public import proofs.«01_k».proof.Proof.Products.OutWeights
public import proofs.«01_k».proof.Proof.Products.Attention
public import proofs.«01_k».proof.Proof.Products.Mixers
public import proofs.«01_k».proof.Proof.Products.QkvWeight
public import proofs.«01_k».proof.Proof.Products.QkvInput
public import proofs.«01_k».proof.Proof.Products.MixWeight
public import proofs.«01_k».proof.Proof.Products.MixInput
public import proofs.«01_k».proof.Proof.Products.Forward
public import proofs.«01_k».proof.Proof.Products.MlpOutput
public import proofs.«01_k».proof.Proof.Products.Qkv
public import proofs.«01_k».proof.Proof.Products.Mix
public import proofs.«01_k».proof.Proof.Products.Out
public import proofs.«01_k».proof.Proof.Products.Norm
public import proofs.«01_k».proof.Proof.Products.NormPair

@[expose] public section

namespace Cert.Proof

open Cert.Products

theorem claim : Cert.Claim :=
  ⟨Cert.Kernel.Gen.facts, Cert.KernelIdeal.Gen.facts, Cert.ReferenceIdeal.Gen.facts,
    Cert.HiddenGrad.Gen.facts, Cert.HiddenGradIdeal.Gen.facts, Cert.HiddenGradReferenceIdeal.Gen.facts,
    Cert.InputGrad.Gen.facts, Cert.InputGradIdeal.Gen.facts, Cert.InputGradReferenceIdeal.Gen.facts,
    Cert.InWeightGrad.Gen.facts, Cert.InWeightGradIdeal.Gen.facts, Cert.InWeightGradReferenceIdeal.Gen.facts,
    Cert.OutWeightGrad.Gen.facts, Cert.OutWeightGradIdeal.Gen.facts, Cert.OutWeightGradReferenceIdeal.Gen.facts,
    Cert.OutWeightGrads.Gen.facts, Cert.OutWeightGradsIdeal.Gen.facts, Cert.OutWeightGradsReferenceIdeal.Gen.facts,
    Cert.AttentionGrad.Gen.facts, Cert.AttentionGradIdeal.Gen.facts, Cert.AttentionGradReferenceIdeal.Gen.facts,
    Cert.MixersGrad.Gen.facts, Cert.MixersGradIdeal.Gen.facts, Cert.MixersGradReferenceIdeal.Gen.facts,
    Cert.QkvWeightGrad.Gen.facts, Cert.QkvWeightGradIdeal.Gen.facts, Cert.QkvWeightGradReferenceIdeal.Gen.facts,
    Cert.QkvGrad.Gen.facts, Cert.QkvGradIdeal.Gen.facts, Cert.QkvGradReferenceIdeal.Gen.facts,
    Cert.MixWeightGrad.Gen.facts, Cert.MixWeightGradIdeal.Gen.facts, Cert.MixWeightGradReferenceIdeal.Gen.facts,
    Cert.MixGrad.Gen.facts, Cert.MixGradIdeal.Gen.facts, Cert.MixGradReferenceIdeal.Gen.facts,
    Cert.HiddenOf.Gen.facts, Cert.HiddenOfIdeal.Gen.facts, Cert.HiddenOfReferenceIdeal.Gen.facts,
    Cert.MlpOut.Gen.facts, Cert.MlpOutIdeal.Gen.facts, Cert.MlpOutReferenceIdeal.Gen.facts,
    Cert.QkvOf.Gen.facts, Cert.QkvOfIdeal.Gen.facts, Cert.QkvOfReferenceIdeal.Gen.facts,
    Cert.MixOf.Gen.facts, Cert.MixOfIdeal.Gen.facts, Cert.MixOfReferenceIdeal.Gen.facts,
    Cert.OutOf.Gen.facts, Cert.OutOfIdeal.Gen.facts, Cert.OutOfReferenceIdeal.Gen.facts,
    Cert.NormOf.Gen.facts, Cert.NormOfIdeal.Gen.facts, Cert.NormOfReferenceIdeal.Gen.facts,
    Cert.NormsOf.Gen.facts, Cert.NormsOfIdeal.Gen.facts, Cert.NormsOfReferenceIdeal.Gen.facts,
    facts_finite, frame_kernel,
    frame_kernelIdeal, fun m ρ _ => frame_kernelIdeal m ρ trivial, frame_referenceIdeal,
    fun m ρ _ => frame_referenceIdeal m ρ trivial,
    fun m ρ _ => Cert.HiddenGrad.Gen.frame m ρ, fun m ρ _ => Cert.HiddenGradIdeal.Gen.frame m ρ,
    fun m ρ _ => ends (by decide) (Cert.HiddenGradReferenceIdeal.Value.run m ρ),
    fun m ρ _ => Cert.InputGrad.Gen.frame m ρ, fun m ρ _ => Cert.InputGradIdeal.Gen.frame m ρ,
    fun m ρ _ => ends (by decide) (Cert.InputGradReferenceIdeal.Value.run m ρ),
    fun m ρ _ => Cert.InWeightGrad.Gen.frame m ρ, fun m ρ _ => Cert.InWeightGradIdeal.Gen.frame m ρ,
    fun m ρ _ => ends (by decide) (Cert.InWeightGradReferenceIdeal.Value.run m ρ),
    fun m ρ _ => Cert.OutWeightGrad.Gen.frame m ρ, fun m ρ _ => Cert.OutWeightGradIdeal.Gen.frame m ρ,
    fun m ρ _ => ends (by decide) (Cert.OutWeightGradReferenceIdeal.Value.run m ρ),
    fun m ρ _ => Cert.OutWeightGrads.Gen.frame m ρ, fun m ρ _ => Cert.OutWeightGradsIdeal.Gen.frame m ρ,
    fun m ρ _ => ends (by decide) (Cert.OutWeightGradsReferenceIdeal.Value.run m ρ),
    fun m ρ _ => Cert.AttentionGrad.Gen.frame m ρ, fun m ρ _ => Cert.AttentionGradIdeal.Gen.frame m ρ,
    fun m ρ _ => ends (by decide) (Cert.AttentionGradReferenceIdeal.Value.run m ρ),
    fun m ρ _ => Cert.MixersGrad.Gen.frame m ρ, fun m ρ _ => Cert.MixersGradIdeal.Gen.frame m ρ,
    fun m ρ _ => ends (by decide) (Cert.MixersGradReferenceIdeal.Value.run m ρ),
    fun m ρ _ => Cert.QkvWeightGrad.Gen.frame m ρ, fun m ρ _ => Cert.QkvWeightGradIdeal.Gen.frame m ρ,
    fun m ρ _ => ends (by decide) (Cert.QkvWeightGradReferenceIdeal.Value.run m ρ),
    fun m ρ _ => Cert.QkvGrad.Gen.frame m ρ, fun m ρ _ => Cert.QkvGradIdeal.Gen.frame m ρ,
    fun m ρ _ => ends (by decide) (Cert.QkvGradReferenceIdeal.Value.run m ρ),
    fun m ρ _ => Cert.MixWeightGrad.Gen.frame m ρ, fun m ρ _ => Cert.MixWeightGradIdeal.Gen.frame m ρ,
    fun m ρ _ => ends (by decide) (Cert.MixWeightGradReferenceIdeal.Value.run m ρ),
    fun m ρ _ => Cert.MixGrad.Gen.frame m ρ, fun m ρ _ => Cert.MixGradIdeal.Gen.frame m ρ,
    fun m ρ _ => ends (by decide) (Cert.MixGradReferenceIdeal.Value.run m ρ),
    fun m ρ _ => Cert.HiddenOf.Gen.frame m ρ, fun m ρ _ => Cert.HiddenOfIdeal.Gen.frame m ρ,
    fun m ρ _ => ends_two (by decide) (Cert.HiddenOfReferenceIdeal.Value.run m ρ),
    fun m ρ _ => Cert.MlpOut.Gen.frame m ρ, fun m ρ _ => Cert.MlpOutIdeal.Gen.frame m ρ,
    fun m ρ _ => ends (by decide) (Cert.MlpOutReferenceIdeal.Value.run m ρ),
    fun m ρ _ => Cert.QkvOf.Gen.frame m ρ, fun m ρ _ => Cert.QkvOfIdeal.Gen.frame m ρ,
    fun m ρ _ => ends (by decide) (Cert.QkvOfReferenceIdeal.Value.run m ρ),
    fun m ρ _ => Cert.MixOf.Gen.frame m ρ, fun m ρ _ => Cert.MixOfIdeal.Gen.frame m ρ,
    fun m ρ _ => ends (by decide) (Cert.MixOfReferenceIdeal.Value.run m ρ),
    fun m ρ _ => Cert.OutOf.Gen.frame m ρ, fun m ρ _ => Cert.OutOfIdeal.Gen.frame m ρ,
    fun m ρ _ => ends (by decide) (Cert.OutOfReferenceIdeal.Value.run m ρ),
    fun m ρ _ => Cert.NormOf.Gen.frame m ρ, fun m ρ _ => Cert.NormOfIdeal.Gen.frame m ρ,
    fun m ρ _ => ends (by decide) (Cert.NormOfReferenceIdeal.Value.run m ρ),
    fun m ρ _ => Cert.NormsOf.Gen.frame m ρ, fun m ρ _ => Cert.NormsOfIdeal.Gen.frame m ρ,
    fun m ρ _ => ends_two (by decide) (Cert.NormsOfReferenceIdeal.Value.run m ρ),
    trivial, algebraic, trivial, Hidden.algebraic, trivial, Input.algebraic, trivial, InWeight.algebraic, trivial, OutWeight.algebraic,
    trivial, OutWeights.algebraic, trivial, Attention.algebraic, trivial, Mixers.algebraic, trivial, QkvWeight.algebraic,
    trivial, QkvInput.algebraic, trivial, MixWeight.algebraic, trivial, MixInput.algebraic, trivial, Forward.algebraic,
    trivial, MlpOutput.algebraic, trivial, Qkv.algebraic, trivial, Mix.algebraic, trivial, Out.algebraic,
    trivial, Norm.algebraic, trivial, NormPair.algebraic⟩

end Cert.Proof
